-- ==== Defs.lean ====
def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_dx_finite [hPre_dx_finite : Cert.Pre_dx_finite.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_dx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_dx_finite [hPre_dx_finite : Cert.Pre_dx_finite.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_dx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))) = (fun _ => 1#1)

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxIdeal_mixin_finite [hPre_mixin_finite : Cert.Pre_mixin_finite.Facts] (m : (ℓ : Loc Cert.MixDxIdeal.nD Cert.MixDxIdeal.τ Cert.MixDxIdeal.sig) → Buf (Elt Ideal) ℓ) : Prop :=
  ∀ c : Dev Cert.MixDxIdeal.nD,
    (Cert.Pre_mixin_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5))) = (fun _ => 1#1)

def Pre_MixDxRefIdeal (m : (ℓ : Loc Cert.MixDxRefIdeal.nD Cert.MixDxRefIdeal.τ Cert.MixDxRefIdeal.sig) → Buf (Elt Ideal) ℓ) : Prop :=
  True

def Pre_MixDxRefIdeal_mixin_finite [hPre_mixin_finite : Cert.Pre_mixin_finite.Facts] (m : (ℓ : Loc Cert.MixDxRefIdeal.nD Cert.MixDxRefIdeal.τ Cert.MixDxRefIdeal.sig) → Buf (Elt Ideal) ℓ) : Prop :=
  ∀ c : Dev Cert.MixDxRefIdeal.nD,
    (Cert.Pre_mixin_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5))) = (fun _ => 1#1)

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutIdeal_sso_finite [hPre_sso_finite : Cert.Pre_sso_finite.Facts] (m : (ℓ : Loc Cert.SsmOutIdeal.nD Cert.SsmOutIdeal.τ Cert.SsmOutIdeal.sig) → Buf (Elt Ideal) ℓ) : Prop :=
  ∀ c : Dev Cert.SsmOutIdeal.nD,
    (Cert.Pre_sso_finite.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5)) (m ((c.tc : Thread Cert.SsmOutIdeal.nD Cert.SsmOutIdeal.τ).loc Cert.SsmOutIdeal.main_arg6)) (m ((c.tc : Thread Cert.SsmOutIdeal.nD Cert.SsmOutIdeal.τ).loc Cert.SsmOutIdeal.main_arg7)) (m ((c.tc : Thread Cert.SsmOutIdeal.nD Cert.SsmOutIdeal.τ).loc Cert.SsmOutIdeal.main_arg8)) (m ((c.tc : Thread Cert.SsmOutIdeal.nD Cert.SsmOutIdeal.τ).loc Cert.SsmOutIdeal.main_arg9))) = (fun _ => 1#1)

def Pre_SsmOutRefIdeal (m : (ℓ : Loc Cert.SsmOutRefIdeal.nD Cert.SsmOutRefIdeal.τ Cert.SsmOutRefIdeal.sig) → Buf (Elt Ideal) ℓ) : Prop :=
  True

def Pre_SsmOutRefIdeal_sso_finite [hPre_sso_finite : Cert.Pre_sso_finite.Facts] (m : (ℓ : Loc Cert.SsmOutRefIdeal.nD Cert.SsmOutRefIdeal.τ Cert.SsmOutRefIdeal.sig) → Buf (Elt Ideal) ℓ) : Prop :=
  ∀ c : Dev Cert.SsmOutRefIdeal.nD,
    (Cert.Pre_sso_finite.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5)) (m ((c.tc : Thread Cert.SsmOutRefIdeal.nD Cert.SsmOutRefIdeal.τ).loc Cert.SsmOutRefIdeal.main_arg6)) (m ((c.tc : Thread Cert.SsmOutRefIdeal.nD Cert.SsmOutRefIdeal.τ).loc Cert.SsmOutRefIdeal.main_arg7)) (m ((c.tc : Thread Cert.SsmOutRefIdeal.nD Cert.SsmOutRefIdeal.τ).loc Cert.SsmOutRefIdeal.main_arg8)) (m ((c.tc : Thread Cert.SsmOutRefIdeal.nD Cert.SsmOutRefIdeal.τ).loc Cert.SsmOutRefIdeal.main_arg9))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_hid_finite [hPre_hid_finite : Cert.Pre_hid_finite.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_hid_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4)) (m ((c.tc : Thread Cert.HiddenIdeal.nD Cert.HiddenIdeal.τ).loc Cert.HiddenIdeal.main_arg5))) = (fun _ => 1#1)

def Pre_HiddenRefIdeal (m : (ℓ : Loc Cert.HiddenRefIdeal.nD Cert.HiddenRefIdeal.τ Cert.HiddenRefIdeal.sig) → Buf (Elt Ideal) ℓ) : Prop :=
  True

def Pre_HiddenRefIdeal_hid_finite [hPre_hid_finite : Cert.Pre_hid_finite.Facts] (m : (ℓ : Loc Cert.HiddenRefIdeal.nD Cert.HiddenRefIdeal.τ Cert.HiddenRefIdeal.sig) → Buf (Elt Ideal) ℓ) : Prop :=
  ∀ c : Dev Cert.HiddenRefIdeal.nD,
    (Cert.Pre_hid_finite.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3)) (m ((c.tc : Thread Cert.HiddenRefIdeal.nD Cert.HiddenRefIdeal.τ).loc Cert.HiddenRefIdeal.main_arg4)) (m ((c.tc : Thread Cert.HiddenRefIdeal.nD Cert.HiddenRefIdeal.τ).loc Cert.HiddenRefIdeal.main_arg5))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_head_finite [hPre_head_finite : Cert.Pre_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_head_finite [hPre_head_finite : Cert.Pre_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Param (m : (ℓ : Loc Cert.Param.nD Cert.Param.τ Cert.Param.sig) → Buf (Elt Bits) ℓ) : Prop :=
  True

def Pre_ParamIdeal (m : (ℓ : Loc Cert.ParamIdeal.nD Cert.ParamIdeal.τ Cert.ParamIdeal.sig) → Buf (Elt Ideal) ℓ) : Prop :=
  True

def Pre_ParamIdeal_par_finite [hPre_par_finite : Cert.Pre_par_finite.Facts] (m : (ℓ : Loc Cert.ParamIdeal.nD Cert.ParamIdeal.τ Cert.ParamIdeal.sig) → Buf (Elt Ideal) ℓ) : Prop :=
  ∀ c : Dev Cert.ParamIdeal.nD,
    (Cert.Pre_par_finite.fn (F := Ideal) (m ((c.tc : Thread Cert.ParamIdeal.nD Cert.ParamIdeal.τ).loc Cert.ParamIdeal.main_arg0)) (m ((c.tc : Thread Cert.ParamIdeal.nD Cert.ParamIdeal.τ).loc Cert.ParamIdeal.main_arg1)) (m ((c.tc : Thread Cert.ParamIdeal.nD Cert.ParamIdeal.τ).loc Cert.ParamIdeal.main_arg2)) (m ((c.tc : Thread Cert.ParamIdeal.nD Cert.ParamIdeal.τ).loc Cert.ParamIdeal.main_arg3)) (m ((c.tc : Thread Cert.ParamIdeal.nD Cert.ParamIdeal.τ).loc Cert.ParamIdeal.main_arg4)) (m ((c.tc : Thread Cert.ParamIdeal.nD Cert.ParamIdeal.τ).loc Cert.ParamIdeal.main_arg5)) (m ((c.tc : Thread Cert.ParamIdeal.nD Cert.ParamIdeal.τ).loc Cert.ParamIdeal.main_arg6)) (m ((c.tc : Thread Cert.ParamIdeal.nD Cert.ParamIdeal.τ).loc Cert.ParamIdeal.main_arg7)) (m ((c.tc : Thread Cert.ParamIdeal.nD Cert.ParamIdeal.τ).loc Cert.ParamIdeal.main_arg8))) = (fun _ => 1#1)

def Pre_ParamRefIdeal (m : (ℓ : Loc Cert.ParamRefIdeal.nD Cert.ParamRefIdeal.τ Cert.ParamRefIdeal.sig) → Buf (Elt Ideal) ℓ) : Prop :=
  True

def Pre_ParamRefIdeal_par_finite [hPre_par_finite : Cert.Pre_par_finite.Facts] (m : (ℓ : Loc Cert.ParamRefIdeal.nD Cert.ParamRefIdeal.τ Cert.ParamRefIdeal.sig) → Buf (Elt Ideal) ℓ) : Prop :=
  ∀ c : Dev Cert.ParamRefIdeal.nD,
    (Cert.Pre_par_finite.fn (F := Ideal) (m ((c.tc : Thread Cert.ParamRefIdeal.nD Cert.ParamRefIdeal.τ).loc Cert.ParamRefIdeal.main_arg0)) (m ((c.tc : Thread Cert.ParamRefIdeal.nD Cert.ParamRefIdeal.τ).loc Cert.ParamRefIdeal.main_arg1)) (m ((c.tc : Thread Cert.ParamRefIdeal.nD Cert.ParamRefIdeal.τ).loc Cert.ParamRefIdeal.main_arg2)) (m ((c.tc : Thread Cert.ParamRefIdeal.nD Cert.ParamRefIdeal.τ).loc Cert.ParamRefIdeal.main_arg3)) (m ((c.tc : Thread Cert.ParamRefIdeal.nD Cert.ParamRefIdeal.τ).loc Cert.ParamRefIdeal.main_arg4)) (m ((c.tc : Thread Cert.ParamRefIdeal.nD Cert.ParamRefIdeal.τ).loc Cert.ParamRefIdeal.main_arg5)) (m ((c.tc : Thread Cert.ParamRefIdeal.nD Cert.ParamRefIdeal.τ).loc Cert.ParamRefIdeal.main_arg6)) (m ((c.tc : Thread Cert.ParamRefIdeal.nD Cert.ParamRefIdeal.τ).loc Cert.ParamRefIdeal.main_arg7)) (m ((c.tc : Thread Cert.ParamRefIdeal.nD Cert.ParamRefIdeal.τ).loc Cert.ParamRefIdeal.main_arg8))) = (fun _ => 1#1)

def Pre_Dbb (m : (ℓ : Loc Cert.Dbb.nD Cert.Dbb.τ Cert.Dbb.sig) → Buf (Elt Bits) ℓ) : Prop :=
  True

def Pre_DbbIdeal (m : (ℓ : Loc Cert.DbbIdeal.nD Cert.DbbIdeal.τ Cert.DbbIdeal.sig) → Buf (Elt Ideal) ℓ) : Prop :=
  True

def Pre_DbbRefIdeal (m : (ℓ : Loc Cert.DbbRefIdeal.nD Cert.DbbRefIdeal.τ Cert.DbbRefIdeal.sig) → Buf (Elt Ideal) ℓ) : Prop :=
  True

def Pre_Dc (m : (ℓ : Loc Cert.Dc.nD Cert.Dc.τ Cert.Dc.sig) → Buf (Elt Bits) ℓ) : Prop :=
  True

def Pre_DcIdeal (m : (ℓ : Loc Cert.DcIdeal.nD Cert.DcIdeal.τ Cert.DcIdeal.sig) → Buf (Elt Ideal) ℓ) : Prop :=
  True

def Pre_DcIdeal_dc_finite [hPre_dc_finite : Cert.Pre_dc_finite.Facts] (m : (ℓ : Loc Cert.DcIdeal.nD Cert.DcIdeal.τ Cert.DcIdeal.sig) → Buf (Elt Ideal) ℓ) : Prop :=
  ∀ c : Dev Cert.DcIdeal.nD,
    (Cert.Pre_dc_finite.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1))) = (fun _ => 1#1)

def Pre_DcRefIdeal (m : (ℓ : Loc Cert.DcRefIdeal.nD Cert.DcRefIdeal.τ Cert.DcRefIdeal.sig) → Buf (Elt Ideal) ℓ) : Prop :=
  True

def Pre_DcRefIdeal_dc_finite [hPre_dc_finite : Cert.Pre_dc_finite.Facts] (m : (ℓ : Loc Cert.DcRefIdeal.nD Cert.DcRefIdeal.τ Cert.DcRefIdeal.sig) → Buf (Elt Ideal) ℓ) : Prop :=
  ∀ c : Dev Cert.DcRefIdeal.nD,
    (Cert.Pre_dc_finite.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxIdeal_pre_dx_finite [hFfnDxIdeal : Cert.FfnDxIdeal.Facts] [hPre_dx_finite : Cert.Pre_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_dx_finite m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_FfnDxRefIdeal_pre_dx_finite [hFfnDxRefIdeal : Cert.FfnDxRefIdeal.Facts] [hPre_dx_finite : Cert.Pre_dx_finite.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_dx_finite m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4)
      ∧ r.2.mem ((c.tc : Thread Cert.MixDx.nD Cert.MixDx.τ).loc Cert.MixDx.main_arg5) = m ((c.tc : Thread Cert.MixDx.nD Cert.MixDx.τ).loc Cert.MixDx.main_arg5))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5))
      ∧ r.2.sem = fun _ => 0)

def quiescent_MixDxIdeal_pre_mixin_finite [hMixDxIdeal : Cert.MixDxIdeal.Facts] [hPre_mixin_finite : Cert.Pre_mixin_finite.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal_mixin_finite m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5))
      ∧ r.2.sem = fun _ => 0)

def quiescent_MixDxRefIdeal_pre_mixin_finite [hMixDxRefIdeal : Cert.MixDxRefIdeal.Facts] [hPre_mixin_finite : Cert.Pre_mixin_finite.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal_mixin_finite m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3)
      ∧ r.2.mem ((c.tc : Thread Cert.SsmOut.nD Cert.SsmOut.τ).loc Cert.SsmOut.main_arg4) = m ((c.tc : Thread Cert.SsmOut.nD Cert.SsmOut.τ).loc Cert.SsmOut.main_arg4)
      ∧ r.2.mem ((c.tc : Thread Cert.SsmOut.nD Cert.SsmOut.τ).loc Cert.SsmOut.main_arg5) = m ((c.tc : Thread Cert.SsmOut.nD Cert.SsmOut.τ).loc Cert.SsmOut.main_arg5)
      ∧ r.2.mem ((c.tc : Thread Cert.SsmOut.nD Cert.SsmOut.τ).loc Cert.SsmOut.main_arg6) = m ((c.tc : Thread Cert.SsmOut.nD Cert.SsmOut.τ).loc Cert.SsmOut.main_arg6)
      ∧ r.2.mem ((c.tc : Thread Cert.SsmOut.nD Cert.SsmOut.τ).loc Cert.SsmOut.main_arg7) = m ((c.tc : Thread Cert.SsmOut.nD Cert.SsmOut.τ).loc Cert.SsmOut.main_arg7)
      ∧ r.2.mem ((c.tc : Thread Cert.SsmOut.nD Cert.SsmOut.τ).loc Cert.SsmOut.main_arg8) = m ((c.tc : Thread Cert.SsmOut.nD Cert.SsmOut.τ).loc Cert.SsmOut.main_arg8)
      ∧ r.2.mem ((c.tc : Thread Cert.SsmOut.nD Cert.SsmOut.τ).loc Cert.SsmOut.main_arg9) = m ((c.tc : Thread Cert.SsmOut.nD Cert.SsmOut.τ).loc Cert.SsmOut.main_arg9))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5)
      ∧ r.2.mem ((c.tc : Thread Cert.SsmOutIdeal.nD Cert.SsmOutIdeal.τ).loc Cert.SsmOutIdeal.main_arg6) = m ((c.tc : Thread Cert.SsmOutIdeal.nD Cert.SsmOutIdeal.τ).loc Cert.SsmOutIdeal.main_arg6)
      ∧ r.2.mem ((c.tc : Thread Cert.SsmOutIdeal.nD Cert.SsmOutIdeal.τ).loc Cert.SsmOutIdeal.main_arg7) = m ((c.tc : Thread Cert.SsmOutIdeal.nD Cert.SsmOutIdeal.τ).loc Cert.SsmOutIdeal.main_arg7)
      ∧ r.2.mem ((c.tc : Thread Cert.SsmOutIdeal.nD Cert.SsmOutIdeal.τ).loc Cert.SsmOutIdeal.main_arg8) = m ((c.tc : Thread Cert.SsmOutIdeal.nD Cert.SsmOutIdeal.τ).loc Cert.SsmOutIdeal.main_arg8)
      ∧ r.2.mem ((c.tc : Thread Cert.SsmOutIdeal.nD Cert.SsmOutIdeal.τ).loc Cert.SsmOutIdeal.main_arg9) = m ((c.tc : Thread Cert.SsmOutIdeal.nD Cert.SsmOutIdeal.τ).loc Cert.SsmOutIdeal.main_arg9))
      ∧ r.2.sem = fun _ => 0)

def quiescent_SsmOutIdeal_pre_sso_finite [hSsmOutIdeal : Cert.SsmOutIdeal.Facts] [hPre_sso_finite : Cert.Pre_sso_finite.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal_sso_finite m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5)
      ∧ r.2.mem ((c.tc : Thread Cert.SsmOutIdeal.nD Cert.SsmOutIdeal.τ).loc Cert.SsmOutIdeal.main_arg6) = m ((c.tc : Thread Cert.SsmOutIdeal.nD Cert.SsmOutIdeal.τ).loc Cert.SsmOutIdeal.main_arg6)
      ∧ r.2.mem ((c.tc : Thread Cert.SsmOutIdeal.nD Cert.SsmOutIdeal.τ).loc Cert.SsmOutIdeal.main_arg7) = m ((c.tc : Thread Cert.SsmOutIdeal.nD Cert.SsmOutIdeal.τ).loc Cert.SsmOutIdeal.main_arg7)
      ∧ r.2.mem ((c.tc : Thread Cert.SsmOutIdeal.nD Cert.SsmOutIdeal.τ).loc Cert.SsmOutIdeal.main_arg8) = m ((c.tc : Thread Cert.SsmOutIdeal.nD Cert.SsmOutIdeal.τ).loc Cert.SsmOutIdeal.main_arg8)
      ∧ r.2.mem ((c.tc : Thread Cert.SsmOutIdeal.nD Cert.SsmOutIdeal.τ).loc Cert.SsmOutIdeal.main_arg9) = m ((c.tc : Thread Cert.SsmOutIdeal.nD Cert.SsmOutIdeal.τ).loc Cert.SsmOutIdeal.main_arg9))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3)
      ∧ r.2.mem ((c.tc : Thread Cert.SsmOutRefIdeal.nD Cert.SsmOutRefIdeal.τ).loc Cert.SsmOutRefIdeal.main_arg4) = m ((c.tc : Thread Cert.SsmOutRefIdeal.nD Cert.SsmOutRefIdeal.τ).loc Cert.SsmOutRefIdeal.main_arg4)
      ∧ r.2.mem ((c.tc : Thread Cert.SsmOutRefIdeal.nD Cert.SsmOutRefIdeal.τ).loc Cert.SsmOutRefIdeal.main_arg5) = m ((c.tc : Thread Cert.SsmOutRefIdeal.nD Cert.SsmOutRefIdeal.τ).loc Cert.SsmOutRefIdeal.main_arg5)
      ∧ r.2.mem ((c.tc : Thread Cert.SsmOutRefIdeal.nD Cert.SsmOutRefIdeal.τ).loc Cert.SsmOutRefIdeal.main_arg6) = m ((c.tc : Thread Cert.SsmOutRefIdeal.nD Cert.SsmOutRefIdeal.τ).loc Cert.SsmOutRefIdeal.main_arg6)
      ∧ r.2.mem ((c.tc : Thread Cert.SsmOutRefIdeal.nD Cert.SsmOutRefIdeal.τ).loc Cert.SsmOutRefIdeal.main_arg7) = m ((c.tc : Thread Cert.SsmOutRefIdeal.nD Cert.SsmOutRefIdeal.τ).loc Cert.SsmOutRefIdeal.main_arg7)
      ∧ r.2.mem ((c.tc : Thread Cert.SsmOutRefIdeal.nD Cert.SsmOutRefIdeal.τ).loc Cert.SsmOutRefIdeal.main_arg8) = m ((c.tc : Thread Cert.SsmOutRefIdeal.nD Cert.SsmOutRefIdeal.τ).loc Cert.SsmOutRefIdeal.main_arg8)
      ∧ r.2.mem ((c.tc : Thread Cert.SsmOutRefIdeal.nD Cert.SsmOutRefIdeal.τ).loc Cert.SsmOutRefIdeal.main_arg9) = m ((c.tc : Thread Cert.SsmOutRefIdeal.nD Cert.SsmOutRefIdeal.τ).loc Cert.SsmOutRefIdeal.main_arg9))
      ∧ r.2.sem = fun _ => 0)

def quiescent_SsmOutRefIdeal_pre_sso_finite [hSsmOutRefIdeal : Cert.SsmOutRefIdeal.Facts] [hPre_sso_finite : Cert.Pre_sso_finite.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal_sso_finite m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3)
      ∧ r.2.mem ((c.tc : Thread Cert.SsmOutRefIdeal.nD Cert.SsmOutRefIdeal.τ).loc Cert.SsmOutRefIdeal.main_arg4) = m ((c.tc : Thread Cert.SsmOutRefIdeal.nD Cert.SsmOutRefIdeal.τ).loc Cert.SsmOutRefIdeal.main_arg4)
      ∧ r.2.mem ((c.tc : Thread Cert.SsmOutRefIdeal.nD Cert.SsmOutRefIdeal.τ).loc Cert.SsmOutRefIdeal.main_arg5) = m ((c.tc : Thread Cert.SsmOutRefIdeal.nD Cert.SsmOutRefIdeal.τ).loc Cert.SsmOutRefIdeal.main_arg5)
      ∧ r.2.mem ((c.tc : Thread Cert.SsmOutRefIdeal.nD Cert.SsmOutRefIdeal.τ).loc Cert.SsmOutRefIdeal.main_arg6) = m ((c.tc : Thread Cert.SsmOutRefIdeal.nD Cert.SsmOutRefIdeal.τ).loc Cert.SsmOutRefIdeal.main_arg6)
      ∧ r.2.mem ((c.tc : Thread Cert.SsmOutRefIdeal.nD Cert.SsmOutRefIdeal.τ).loc Cert.SsmOutRefIdeal.main_arg7) = m ((c.tc : Thread Cert.SsmOutRefIdeal.nD Cert.SsmOutRefIdeal.τ).loc Cert.SsmOutRefIdeal.main_arg7)
      ∧ r.2.mem ((c.tc : Thread Cert.SsmOutRefIdeal.nD Cert.SsmOutRefIdeal.τ).loc Cert.SsmOutRefIdeal.main_arg8) = m ((c.tc : Thread Cert.SsmOutRefIdeal.nD Cert.SsmOutRefIdeal.τ).loc Cert.SsmOutRefIdeal.main_arg8)
      ∧ r.2.mem ((c.tc : Thread Cert.SsmOutRefIdeal.nD Cert.SsmOutRefIdeal.τ).loc Cert.SsmOutRefIdeal.main_arg9) = m ((c.tc : Thread Cert.SsmOutRefIdeal.nD Cert.SsmOutRefIdeal.τ).loc Cert.SsmOutRefIdeal.main_arg9))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4)
      ∧ r.2.mem ((c.tc : Thread Cert.Hidden.nD Cert.Hidden.τ).loc Cert.Hidden.main_arg5) = m ((c.tc : Thread Cert.Hidden.nD Cert.Hidden.τ).loc Cert.Hidden.main_arg5))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ r.2.sem = fun _ => 0)

def quiescent_HiddenIdeal_pre_hid_finite [hHiddenIdeal : Cert.HiddenIdeal.Facts] [hPre_hid_finite : Cert.Pre_hid_finite.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_hid_finite m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5))
      ∧ r.2.sem = fun _ => 0)

def quiescent_HiddenRefIdeal_pre_hid_finite [hHiddenRefIdeal : Cert.HiddenRefIdeal.Facts] [hPre_hid_finite : Cert.Pre_hid_finite.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal_hid_finite m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3)
      ∧ r.2.mem ((c.tc : Thread Cert.HiddenRefIdeal.nD Cert.HiddenRefIdeal.τ).loc Cert.HiddenRefIdeal.main_arg4) = m ((c.tc : Thread Cert.HiddenRefIdeal.nD Cert.HiddenRefIdeal.τ).loc Cert.HiddenRefIdeal.main_arg4)
      ∧ r.2.mem ((c.tc : Thread Cert.HiddenRefIdeal.nD Cert.HiddenRefIdeal.τ).loc Cert.HiddenRefIdeal.main_arg5) = m ((c.tc : Thread Cert.HiddenRefIdeal.nD Cert.HiddenRefIdeal.τ).loc Cert.HiddenRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5)
      ∧ r.2.mem ((c.tc : Thread Cert.LossHead.nD Cert.LossHead.τ).loc Cert.LossHead.main_arg6) = m ((c.tc : Thread Cert.LossHead.nD Cert.LossHead.τ).loc Cert.LossHead.main_arg6))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadIdeal_pre_head_finite [hLossHeadIdeal : Cert.LossHeadIdeal.Facts] [hPre_head_finite : Cert.Pre_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_LossHeadRefIdeal_pre_head_finite [hLossHeadRefIdeal : Cert.LossHeadRefIdeal.Facts] [hPre_head_finite : Cert.Pre_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_Param [hParam : Cert.Param.Facts] : Prop :=
  ∀ (m : (ℓ : Loc Cert.Param.nD Cert.Param.τ Cert.Param.sig) → Buf (Elt Bits) ℓ) (g : Dev Cert.Param.nD → PrngReg), Pre_Param m →
    θ_run (Cert.Param.defs (F := Bits)) (onTc (τ := Cert.Param.τ) (Cert.Param.main (F := Bits))) ⟨m, fun _ => 0, g⟩ (fun r => (∀ c : Dev Cert.Param.nD,
      r.2.mem ((c.tc : Thread Cert.Param.nD Cert.Param.τ).loc Cert.Param.main_arg0) = m ((c.tc : Thread Cert.Param.nD Cert.Param.τ).loc Cert.Param.main_arg0)
      ∧ r.2.mem ((c.tc : Thread Cert.Param.nD Cert.Param.τ).loc Cert.Param.main_arg1) = m ((c.tc : Thread Cert.Param.nD Cert.Param.τ).loc Cert.Param.main_arg1)
      ∧ r.2.mem ((c.tc : Thread Cert.Param.nD Cert.Param.τ).loc Cert.Param.main_arg2) = m ((c.tc : Thread Cert.Param.nD Cert.Param.τ).loc Cert.Param.main_arg2)
      ∧ r.2.mem ((c.tc : Thread Cert.Param.nD Cert.Param.τ).loc Cert.Param.main_arg3) = m ((c.tc : Thread Cert.Param.nD Cert.Param.τ).loc Cert.Param.main_arg3)
      ∧ r.2.mem ((c.tc : Thread Cert.Param.nD Cert.Param.τ).loc Cert.Param.main_arg4) = m ((c.tc : Thread Cert.Param.nD Cert.Param.τ).loc Cert.Param.main_arg4)
      ∧ r.2.mem ((c.tc : Thread Cert.Param.nD Cert.Param.τ).loc Cert.Param.main_arg5) = m ((c.tc : Thread Cert.Param.nD Cert.Param.τ).loc Cert.Param.main_arg5)
      ∧ r.2.mem ((c.tc : Thread Cert.Param.nD Cert.Param.τ).loc Cert.Param.main_arg6) = m ((c.tc : Thread Cert.Param.nD Cert.Param.τ).loc Cert.Param.main_arg6)
      ∧ r.2.mem ((c.tc : Thread Cert.Param.nD Cert.Param.τ).loc Cert.Param.main_arg7) = m ((c.tc : Thread Cert.Param.nD Cert.Param.τ).loc Cert.Param.main_arg7)
      ∧ r.2.mem ((c.tc : Thread Cert.Param.nD Cert.Param.τ).loc Cert.Param.main_arg8) = m ((c.tc : Thread Cert.Param.nD Cert.Param.τ).loc Cert.Param.main_arg8))
      ∧ r.2.sem = fun _ => 0)

def quiescent_ParamIdeal [hParamIdeal : Cert.ParamIdeal.Facts] : Prop :=
  ∀ (m : (ℓ : Loc Cert.ParamIdeal.nD Cert.ParamIdeal.τ Cert.ParamIdeal.sig) → Buf (Elt Ideal) ℓ) (g : Dev Cert.ParamIdeal.nD → PrngReg), Pre_ParamIdeal m →
    θ_run (Cert.ParamIdeal.defs (F := Ideal)) (onTc (τ := Cert.ParamIdeal.τ) (Cert.ParamIdeal.main (F := Ideal))) ⟨m, fun _ => 0, g⟩ (fun r => (∀ c : Dev Cert.ParamIdeal.nD,
      r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
      ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
      ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
      ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
      ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
      ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
      ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
      ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
      ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ r.2.sem = fun _ => 0)

def quiescent_ParamIdeal_pre_par_finite [hParamIdeal : Cert.ParamIdeal.Facts] [hPre_par_finite : Cert.Pre_par_finite.Facts] : Prop :=
  ∀ (m : (ℓ : Loc Cert.ParamIdeal.nD Cert.ParamIdeal.τ Cert.ParamIdeal.sig) → Buf (Elt Ideal) ℓ) (g : Dev Cert.ParamIdeal.nD → PrngReg), Pre_ParamIdeal_par_finite m →
    θ_run (Cert.ParamIdeal.defs (F := Ideal)) (onTc (τ := Cert.ParamIdeal.τ) (Cert.ParamIdeal.main (F := Ideal))) ⟨m, fun _ => 0, g⟩ (fun r => (∀ c : Dev Cert.ParamIdeal.nD,
      r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
      ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
      ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
      ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
      ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
      ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
      ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
      ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
      ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ r.2.sem = fun _ => 0)

def quiescent_ParamRefIdeal [hParamRefIdeal : Cert.ParamRefIdeal.Facts] : Prop :=
  ∀ (m : (ℓ : Loc Cert.ParamRefIdeal.nD Cert.ParamRefIdeal.τ Cert.ParamRefIdeal.sig) → Buf (Elt Ideal) ℓ) (g : Dev Cert.ParamRefIdeal.nD → PrngReg), Pre_ParamRefIdeal m →
    θ_run (Cert.ParamRefIdeal.defs (F := Ideal)) (onTc (τ := Cert.ParamRefIdeal.τ) (Cert.ParamRefIdeal.main (F := Ideal))) ⟨m, fun _ => 0, g⟩ (fun r => (∀ c : Dev Cert.ParamRefIdeal.nD,
      r.2.mem ((c.tc : Thread Cert.ParamRefIdeal.nD Cert.ParamRefIdeal.τ).loc Cert.ParamRefIdeal.main_arg0) = m ((c.tc : Thread Cert.ParamRefIdeal.nD Cert.ParamRefIdeal.τ).loc Cert.ParamRefIdeal.main_arg0)
      ∧ r.2.mem ((c.tc : Thread Cert.ParamRefIdeal.nD Cert.ParamRefIdeal.τ).loc Cert.ParamRefIdeal.main_arg1) = m ((c.tc : Thread Cert.ParamRefIdeal.nD Cert.ParamRefIdeal.τ).loc Cert.ParamRefIdeal.main_arg1)
      ∧ r.2.mem ((c.tc : Thread Cert.ParamRefIdeal.nD Cert.ParamRefIdeal.τ).loc Cert.ParamRefIdeal.main_arg2) = m ((c.tc : Thread Cert.ParamRefIdeal.nD Cert.ParamRefIdeal.τ).loc Cert.ParamRefIdeal.main_arg2)
      ∧ r.2.mem ((c.tc : Thread Cert.ParamRefIdeal.nD Cert.ParamRefIdeal.τ).loc Cert.ParamRefIdeal.main_arg3) = m ((c.tc : Thread Cert.ParamRefIdeal.nD Cert.ParamRefIdeal.τ).loc Cert.ParamRefIdeal.main_arg3)
      ∧ r.2.mem ((c.tc : Thread Cert.ParamRefIdeal.nD Cert.ParamRefIdeal.τ).loc Cert.ParamRefIdeal.main_arg4) = m ((c.tc : Thread Cert.ParamRefIdeal.nD Cert.ParamRefIdeal.τ).loc Cert.ParamRefIdeal.main_arg4)
      ∧ r.2.mem ((c.tc : Thread Cert.ParamRefIdeal.nD Cert.ParamRefIdeal.τ).loc Cert.ParamRefIdeal.main_arg5) = m ((c.tc : Thread Cert.ParamRefIdeal.nD Cert.ParamRefIdeal.τ).loc Cert.ParamRefIdeal.main_arg5)
      ∧ r.2.mem ((c.tc : Thread Cert.ParamRefIdeal.nD Cert.ParamRefIdeal.τ).loc Cert.ParamRefIdeal.main_arg6) = m ((c.tc : Thread Cert.ParamRefIdeal.nD Cert.ParamRefIdeal.τ).loc Cert.ParamRefIdeal.main_arg6)
      ∧ r.2.mem ((c.tc : Thread Cert.ParamRefIdeal.nD Cert.ParamRefIdeal.τ).loc Cert.ParamRefIdeal.main_arg7) = m ((c.tc : Thread Cert.ParamRefIdeal.nD Cert.ParamRefIdeal.τ).loc Cert.ParamRefIdeal.main_arg7)
      ∧ r.2.mem ((c.tc : Thread Cert.ParamRefIdeal.nD Cert.ParamRefIdeal.τ).loc Cert.ParamRefIdeal.main_arg8) = m ((c.tc : Thread Cert.ParamRefIdeal.nD Cert.ParamRefIdeal.τ).loc Cert.ParamRefIdeal.main_arg8))
      ∧ r.2.sem = fun _ => 0)

def quiescent_ParamRefIdeal_pre_par_finite [hParamRefIdeal : Cert.ParamRefIdeal.Facts] [hPre_par_finite : Cert.Pre_par_finite.Facts] : Prop :=
  ∀ (m : (ℓ : Loc Cert.ParamRefIdeal.nD Cert.ParamRefIdeal.τ Cert.ParamRefIdeal.sig) → Buf (Elt Ideal) ℓ) (g : Dev Cert.ParamRefIdeal.nD → PrngReg), Pre_ParamRefIdeal_par_finite m →
    θ_run (Cert.ParamRefIdeal.defs (F := Ideal)) (onTc (τ := Cert.ParamRefIdeal.τ) (Cert.ParamRefIdeal.main (F := Ideal))) ⟨m, fun _ => 0, g⟩ (fun r => (∀ c : Dev Cert.ParamRefIdeal.nD,
      r.2.mem ((c.tc : Thread Cert.ParamRefIdeal.nD Cert.ParamRefIdeal.τ).loc Cert.ParamRefIdeal.main_arg0) = m ((c.tc : Thread Cert.ParamRefIdeal.nD Cert.ParamRefIdeal.τ).loc Cert.ParamRefIdeal.main_arg0)
      ∧ r.2.mem ((c.tc : Thread Cert.ParamRefIdeal.nD Cert.ParamRefIdeal.τ).loc Cert.ParamRefIdeal.main_arg1) = m ((c.tc : Thread Cert.ParamRefIdeal.nD Cert.ParamRefIdeal.τ).loc Cert.ParamRefIdeal.main_arg1)
      ∧ r.2.mem ((c.tc : Thread Cert.ParamRefIdeal.nD Cert.ParamRefIdeal.τ).loc Cert.ParamRefIdeal.main_arg2) = m ((c.tc : Thread Cert.ParamRefIdeal.nD Cert.ParamRefIdeal.τ).loc Cert.ParamRefIdeal.main_arg2)
      ∧ r.2.mem ((c.tc : Thread Cert.ParamRefIdeal.nD Cert.ParamRefIdeal.τ).loc Cert.ParamRefIdeal.main_arg3) = m ((c.tc : Thread Cert.ParamRefIdeal.nD Cert.ParamRefIdeal.τ).loc Cert.ParamRefIdeal.main_arg3)
      ∧ r.2.mem ((c.tc : Thread Cert.ParamRefIdeal.nD Cert.ParamRefIdeal.τ).loc Cert.ParamRefIdeal.main_arg4) = m ((c.tc : Thread Cert.ParamRefIdeal.nD Cert.ParamRefIdeal.τ).loc Cert.ParamRefIdeal.main_arg4)
      ∧ r.2.mem ((c.tc : Thread Cert.ParamRefIdeal.nD Cert.ParamRefIdeal.τ).loc Cert.ParamRefIdeal.main_arg5) = m ((c.tc : Thread Cert.ParamRefIdeal.nD Cert.ParamRefIdeal.τ).loc Cert.ParamRefIdeal.main_arg5)
      ∧ r.2.mem ((c.tc : Thread Cert.ParamRefIdeal.nD Cert.ParamRefIdeal.τ).loc Cert.ParamRefIdeal.main_arg6) = m ((c.tc : Thread Cert.ParamRefIdeal.nD Cert.ParamRefIdeal.τ).loc Cert.ParamRefIdeal.main_arg6)
      ∧ r.2.mem ((c.tc : Thread Cert.ParamRefIdeal.nD Cert.ParamRefIdeal.τ).loc Cert.ParamRefIdeal.main_arg7) = m ((c.tc : Thread Cert.ParamRefIdeal.nD Cert.ParamRefIdeal.τ).loc Cert.ParamRefIdeal.main_arg7)
      ∧ r.2.mem ((c.tc : Thread Cert.ParamRefIdeal.nD Cert.ParamRefIdeal.τ).loc Cert.ParamRefIdeal.main_arg8) = m ((c.tc : Thread Cert.ParamRefIdeal.nD Cert.ParamRefIdeal.τ).loc Cert.ParamRefIdeal.main_arg8))
      ∧ r.2.sem = fun _ => 0)

def quiescent_Dbb [hDbb : Cert.Dbb.Facts] : Prop :=
  ∀ (m : (ℓ : Loc Cert.Dbb.nD Cert.Dbb.τ Cert.Dbb.sig) → Buf (Elt Bits) ℓ) (g : Dev Cert.Dbb.nD → PrngReg), Pre_Dbb m →
    θ_run (Cert.Dbb.defs (F := Bits)) (onTc (τ := Cert.Dbb.τ) (Cert.Dbb.main (F := Bits))) ⟨m, fun _ => 0, g⟩ (fun r => (∀ c : Dev Cert.Dbb.nD,
      r.2.mem ((c.tc : Thread Cert.Dbb.nD Cert.Dbb.τ).loc Cert.Dbb.main_arg0) = m ((c.tc : Thread Cert.Dbb.nD Cert.Dbb.τ).loc Cert.Dbb.main_arg0)
      ∧ r.2.mem ((c.tc : Thread Cert.Dbb.nD Cert.Dbb.τ).loc Cert.Dbb.main_arg1) = m ((c.tc : Thread Cert.Dbb.nD Cert.Dbb.τ).loc Cert.Dbb.main_arg1))
      ∧ r.2.sem = fun _ => 0)

def quiescent_DbbIdeal [hDbbIdeal : Cert.DbbIdeal.Facts] : Prop :=
  ∀ (m : (ℓ : Loc Cert.DbbIdeal.nD Cert.DbbIdeal.τ Cert.DbbIdeal.sig) → Buf (Elt Ideal) ℓ) (g : Dev Cert.DbbIdeal.nD → PrngReg), Pre_DbbIdeal m →
    θ_run (Cert.DbbIdeal.defs (F := Ideal)) (onTc (τ := Cert.DbbIdeal.τ) (Cert.DbbIdeal.main (F := Ideal))) ⟨m, fun _ => 0, g⟩ (fun r => (∀ c : Dev Cert.DbbIdeal.nD,
      r.2.mem ((c.tc : Thread Cert.DbbIdeal.nD Cert.DbbIdeal.τ).loc Cert.DbbIdeal.main_arg0) = m ((c.tc : Thread Cert.DbbIdeal.nD Cert.DbbIdeal.τ).loc Cert.DbbIdeal.main_arg0)
      ∧ r.2.mem ((c.tc : Thread Cert.DbbIdeal.nD Cert.DbbIdeal.τ).loc Cert.DbbIdeal.main_arg1) = m ((c.tc : Thread Cert.DbbIdeal.nD Cert.DbbIdeal.τ).loc Cert.DbbIdeal.main_arg1))
      ∧ r.2.sem = fun _ => 0)

def quiescent_DbbRefIdeal [hDbbRefIdeal : Cert.DbbRefIdeal.Facts] : Prop :=
  ∀ (m : (ℓ : Loc Cert.DbbRefIdeal.nD Cert.DbbRefIdeal.τ Cert.DbbRefIdeal.sig) → Buf (Elt Ideal) ℓ) (g : Dev Cert.DbbRefIdeal.nD → PrngReg), Pre_DbbRefIdeal m →
    θ_run (Cert.DbbRefIdeal.defs (F := Ideal)) (onTc (τ := Cert.DbbRefIdeal.τ) (Cert.DbbRefIdeal.main (F := Ideal))) ⟨m, fun _ => 0, g⟩ (fun r => (∀ c : Dev Cert.DbbRefIdeal.nD,
      r.2.mem ((c.tc : Thread Cert.DbbRefIdeal.nD Cert.DbbRefIdeal.τ).loc Cert.DbbRefIdeal.main_arg0) = m ((c.tc : Thread Cert.DbbRefIdeal.nD Cert.DbbRefIdeal.τ).loc Cert.DbbRefIdeal.main_arg0)
      ∧ r.2.mem ((c.tc : Thread Cert.DbbRefIdeal.nD Cert.DbbRefIdeal.τ).loc Cert.DbbRefIdeal.main_arg1) = m ((c.tc : Thread Cert.DbbRefIdeal.nD Cert.DbbRefIdeal.τ).loc Cert.DbbRefIdeal.main_arg1))
      ∧ r.2.sem = fun _ => 0)

def quiescent_Dc [hDc : Cert.Dc.Facts] : Prop :=
  ∀ (m : (ℓ : Loc Cert.Dc.nD Cert.Dc.τ Cert.Dc.sig) → Buf (Elt Bits) ℓ) (g : Dev Cert.Dc.nD → PrngReg), Pre_Dc m →
    θ_run (Cert.Dc.defs (F := Bits)) (onTc (τ := Cert.Dc.τ) (Cert.Dc.main (F := Bits))) ⟨m, fun _ => 0, g⟩ (fun r => (∀ c : Dev Cert.Dc.nD,
      r.2.mem ((c.tc : Thread Cert.Dc.nD Cert.Dc.τ).loc Cert.Dc.main_arg0) = m ((c.tc : Thread Cert.Dc.nD Cert.Dc.τ).loc Cert.Dc.main_arg0)
      ∧ r.2.mem ((c.tc : Thread Cert.Dc.nD Cert.Dc.τ).loc Cert.Dc.main_arg1) = m ((c.tc : Thread Cert.Dc.nD Cert.Dc.τ).loc Cert.Dc.main_arg1))
      ∧ r.2.sem = fun _ => 0)

def quiescent_DcIdeal [hDcIdeal : Cert.DcIdeal.Facts] : Prop :=
  ∀ (m : (ℓ : Loc Cert.DcIdeal.nD Cert.DcIdeal.τ Cert.DcIdeal.sig) → Buf (Elt Ideal) ℓ) (g : Dev Cert.DcIdeal.nD → PrngReg), Pre_DcIdeal m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1))
      ∧ r.2.sem = fun _ => 0)

def quiescent_DcIdeal_pre_dc_finite [hDcIdeal : Cert.DcIdeal.Facts] [hPre_dc_finite : Cert.Pre_dc_finite.Facts] : Prop :=
  ∀ (m : (ℓ : Loc Cert.DcIdeal.nD Cert.DcIdeal.τ Cert.DcIdeal.sig) → Buf (Elt Ideal) ℓ) (g : Dev Cert.DcIdeal.nD → PrngReg), Pre_DcIdeal_dc_finite m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1))
      ∧ r.2.sem = fun _ => 0)

def quiescent_DcRefIdeal [hDcRefIdeal : Cert.DcRefIdeal.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1))
      ∧ r.2.sem = fun _ => 0)

def quiescent_DcRefIdeal_pre_dc_finite [hDcRefIdeal : Cert.DcRefIdeal.Facts] [hPre_dc_finite : Cert.Pre_dc_finite.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal_dc_finite m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_FfnDx_FfnDxIdeal : Prop :=
  True

def algebraic_FfnDxIdeal_FfnDxRefIdeal_pre_dx_finite [hFfnDxIdeal : Cert.FfnDxIdeal.Facts] [hFfnDxRefIdeal : Cert.FfnDxRefIdeal.Facts] [hPre_dx_finite : Cert.Pre_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_dx_finite m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)
      ∧ m' ((c.tc : Thread Cert.FfnDxRefIdeal.nD Cert.FfnDxRefIdeal.τ).loc Cert.FfnDxRefIdeal.main_arg5) = m ((c.tc : Thread Cert.FfnDxIdeal.nD Cert.FfnDxIdeal.τ).loc Cert.FfnDxIdeal.main_arg5)
      ∧ m' ((c.tc : Thread Cert.FfnDxRefIdeal.nD Cert.FfnDxRefIdeal.τ).loc Cert.FfnDxRefIdeal.main_arg6) = m ((c.tc : Thread Cert.FfnDxIdeal.nD Cert.FfnDxIdeal.τ).loc Cert.FfnDxIdeal.main_arg6)) →
    ∃ (v0 : (c : Dev Cert.FfnDxIdeal.nD) → Buf (Elt Ideal) ((c.tc : Thread Cert.FfnDxIdeal.nD Cert.FfnDxIdeal.τ).loc Cert.FfnDxIdeal.main_v12_0)) (v1 : (c : Dev Cert.FfnDxIdeal.nD) → Buf (Elt Ideal) ((c.tc : Thread Cert.FfnDxIdeal.nD Cert.FfnDxIdeal.τ).loc Cert.FfnDxIdeal.main_v12_1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v12_0) = v0 c
          ∧ r.2.mem ((c.tc : Thread Cert.FfnDxIdeal.nD Cert.FfnDxIdeal.τ).loc Cert.FfnDxIdeal.main_v12_1) = v1 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v46) = v0 c
          ∧ r.2.mem ((c.tc : Thread Cert.FfnDxRefIdeal.nD Cert.FfnDxRefIdeal.τ).loc Cert.FfnDxRefIdeal.main_v45) = v1 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4)
          ∧ r.2.mem ((c.tc : Thread Cert.FfnDxRefIdeal.nD Cert.FfnDxRefIdeal.τ).loc Cert.FfnDxRefIdeal.main_arg5) = m' ((c.tc : Thread Cert.FfnDxRefIdeal.nD Cert.FfnDxRefIdeal.τ).loc Cert.FfnDxRefIdeal.main_arg5)
          ∧ r.2.mem ((c.tc : Thread Cert.FfnDxRefIdeal.nD Cert.FfnDxRefIdeal.τ).loc Cert.FfnDxRefIdeal.main_arg6) = m' ((c.tc : Thread Cert.FfnDxRefIdeal.nD Cert.FfnDxRefIdeal.τ).loc Cert.FfnDxRefIdeal.main_arg6))

def preserves_MixDx_MixDxIdeal : Prop :=
  True

def algebraic_MixDxIdeal_MixDxRefIdeal_pre_mixin_finite [hMixDxIdeal : Cert.MixDxIdeal.Facts] [hMixDxRefIdeal : Cert.MixDxRefIdeal.Facts] [hPre_mixin_finite : Cert.Pre_mixin_finite.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal_mixin_finite m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)
      ∧ m' ((c.tc : Thread Cert.MixDxRefIdeal.nD Cert.MixDxRefIdeal.τ).loc Cert.MixDxRefIdeal.main_arg5) = m ((c.tc : Thread Cert.MixDxIdeal.nD Cert.MixDxIdeal.τ).loc Cert.MixDxIdeal.main_arg5)) →
    ∃ (v0 : (c : Dev Cert.MixDxIdeal.nD) → Buf (Elt Ideal) ((c.tc : Thread Cert.MixDxIdeal.nD Cert.MixDxIdeal.τ).loc Cert.MixDxIdeal.main_v9_0)) (v1 : (c : Dev Cert.MixDxIdeal.nD) → Buf (Elt Ideal) ((c.tc : Thread Cert.MixDxIdeal.nD Cert.MixDxIdeal.τ).loc Cert.MixDxIdeal.main_v9_1)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v9_0) = v0 c
          ∧ r.2.mem ((c.tc : Thread Cert.MixDxIdeal.nD Cert.MixDxIdeal.τ).loc Cert.MixDxIdeal.main_v9_1) = v1 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
          ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v43) = v0 c
          ∧ r.2.mem ((c.tc : Thread Cert.MixDxRefIdeal.nD Cert.MixDxRefIdeal.τ).loc Cert.MixDxRefIdeal.main_v42) = v1 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4)
          ∧ r.2.mem ((c.tc : Thread Cert.MixDxRefIdeal.nD Cert.MixDxRefIdeal.τ).loc Cert.MixDxRefIdeal.main_arg5) = m' ((c.tc : Thread Cert.MixDxRefIdeal.nD Cert.MixDxRefIdeal.τ).loc Cert.MixDxRefIdeal.main_arg5))

def preserves_SsmOut_SsmOutIdeal : Prop :=
  IdealRules.named_const.Statement Cert.SsmOutIdeal.κ "gelu_c" .f32 0x3D372713#32 ((8943 / 200000 : ℝ) : EReal)
  ∧ IdealRules.named_const.Statement Cert.SsmOutIdeal.κ "gelu_3c" .f32 0x3E095D4F#32 ((26829 / 200000 : ℝ) : EReal)

def algebraic_SsmOutIdeal_SsmOutRefIdeal_pre_sso_finite [hSsmOutIdeal : Cert.SsmOutIdeal.Facts] [hSsmOutRefIdeal : Cert.SsmOutRefIdeal.Facts] [hPre_sso_finite : Cert.Pre_sso_finite.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal_sso_finite m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)
      ∧ m' ((c.tc : Thread Cert.SsmOutRefIdeal.nD Cert.SsmOutRefIdeal.τ).loc Cert.SsmOutRefIdeal.main_arg4) = m ((c.tc : Thread Cert.SsmOutIdeal.nD Cert.SsmOutIdeal.τ).loc Cert.SsmOutIdeal.main_arg4)
      ∧ m' ((c.tc : Thread Cert.SsmOutRefIdeal.nD Cert.SsmOutRefIdeal.τ).loc Cert.SsmOutRefIdeal.main_arg5) = m ((c.tc : Thread Cert.SsmOutIdeal.nD Cert.SsmOutIdeal.τ).loc Cert.SsmOutIdeal.main_arg5)
      ∧ m' ((c.tc : Thread Cert.SsmOutRefIdeal.nD Cert.SsmOutRefIdeal.τ).loc Cert.SsmOutRefIdeal.main_arg6) = m ((c.tc : Thread Cert.SsmOutIdeal.nD Cert.SsmOutIdeal.τ).loc Cert.SsmOutIdeal.main_arg6)
      ∧ m' ((c.tc : Thread Cert.SsmOutRefIdeal.nD Cert.SsmOutRefIdeal.τ).loc Cert.SsmOutRefIdeal.main_arg7) = m ((c.tc : Thread Cert.SsmOutIdeal.nD Cert.SsmOutIdeal.τ).loc Cert.SsmOutIdeal.main_arg7)
      ∧ m' ((c.tc : Thread Cert.SsmOutRefIdeal.nD Cert.SsmOutRefIdeal.τ).loc Cert.SsmOutRefIdeal.main_arg8) = m ((c.tc : Thread Cert.SsmOutIdeal.nD Cert.SsmOutIdeal.τ).loc Cert.SsmOutIdeal.main_arg8)
      ∧ m' ((c.tc : Thread Cert.SsmOutRefIdeal.nD Cert.SsmOutRefIdeal.τ).loc Cert.SsmOutRefIdeal.main_arg9) = m ((c.tc : Thread Cert.SsmOutIdeal.nD Cert.SsmOutIdeal.τ).loc Cert.SsmOutIdeal.main_arg9)) →
    ∃ (v0 : (c : Dev Cert.SsmOutIdeal.nD) → Buf (Elt Ideal) ((c.tc : Thread Cert.SsmOutIdeal.nD Cert.SsmOutIdeal.τ).loc Cert.SsmOutIdeal.main_v9_1)) (v1 : (c : Dev Cert.SsmOutIdeal.nD) → Buf (Elt Ideal) ((c.tc : Thread Cert.SsmOutIdeal.nD Cert.SsmOutIdeal.τ).loc Cert.SsmOutIdeal.main_v9_2)) (v2 : (c : Dev Cert.SsmOutIdeal.nD) → Buf (Elt Ideal) ((c.tc : Thread Cert.SsmOutIdeal.nD Cert.SsmOutIdeal.τ).loc Cert.SsmOutIdeal.main_v11_0)) (v3 : (c : Dev Cert.SsmOutIdeal.nD) → Buf (Elt Ideal) ((c.tc : Thread Cert.SsmOutIdeal.nD Cert.SsmOutIdeal.τ).loc Cert.SsmOutIdeal.main_v11_1)) (v4 : (c : Dev Cert.SsmOutIdeal.nD) → Buf (Elt Ideal) ((c.tc : Thread Cert.SsmOutIdeal.nD Cert.SsmOutIdeal.τ).loc Cert.SsmOutIdeal.main_v11_2)) (v5 : (c : Dev Cert.SsmOutIdeal.nD) → Buf (Elt Ideal) ((c.tc : Thread Cert.SsmOutIdeal.nD Cert.SsmOutIdeal.τ).loc Cert.SsmOutIdeal.main_v11_3)) (v6 : (c : Dev Cert.SsmOutIdeal.nD) → Buf (Elt Ideal) ((c.tc : Thread Cert.SsmOutIdeal.nD Cert.SsmOutIdeal.τ).loc Cert.SsmOutIdeal.main_v11_4)) (v7 : (c : Dev Cert.SsmOutIdeal.nD) → Buf (Elt Ideal) ((c.tc : Thread Cert.SsmOutIdeal.nD Cert.SsmOutIdeal.τ).loc Cert.SsmOutIdeal.main_v11_5)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v9_1) = v0 c
          ∧ r.2.mem ((c.tc : Thread Cert.SsmOutIdeal.nD Cert.SsmOutIdeal.τ).loc Cert.SsmOutIdeal.main_v9_2) = v1 c
          ∧ r.2.mem ((c.tc : Thread Cert.SsmOutIdeal.nD Cert.SsmOutIdeal.τ).loc Cert.SsmOutIdeal.main_v11_0) = v2 c
          ∧ r.2.mem ((c.tc : Thread Cert.SsmOutIdeal.nD Cert.SsmOutIdeal.τ).loc Cert.SsmOutIdeal.main_v11_1) = v3 c
          ∧ r.2.mem ((c.tc : Thread Cert.SsmOutIdeal.nD Cert.SsmOutIdeal.τ).loc Cert.SsmOutIdeal.main_v11_2) = v4 c
          ∧ r.2.mem ((c.tc : Thread Cert.SsmOutIdeal.nD Cert.SsmOutIdeal.τ).loc Cert.SsmOutIdeal.main_v11_3) = v5 c
          ∧ r.2.mem ((c.tc : Thread Cert.SsmOutIdeal.nD Cert.SsmOutIdeal.τ).loc Cert.SsmOutIdeal.main_v11_4) = v6 c
          ∧ r.2.mem ((c.tc : Thread Cert.SsmOutIdeal.nD Cert.SsmOutIdeal.τ).loc Cert.SsmOutIdeal.main_v11_5) = v7 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
          ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
          ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5)
          ∧ r.2.mem ((c.tc : Thread Cert.SsmOutIdeal.nD Cert.SsmOutIdeal.τ).loc Cert.SsmOutIdeal.main_arg6) = m ((c.tc : Thread Cert.SsmOutIdeal.nD Cert.SsmOutIdeal.τ).loc Cert.SsmOutIdeal.main_arg6)
          ∧ r.2.mem ((c.tc : Thread Cert.SsmOutIdeal.nD Cert.SsmOutIdeal.τ).loc Cert.SsmOutIdeal.main_arg7) = m ((c.tc : Thread Cert.SsmOutIdeal.nD Cert.SsmOutIdeal.τ).loc Cert.SsmOutIdeal.main_arg7)
          ∧ r.2.mem ((c.tc : Thread Cert.SsmOutIdeal.nD Cert.SsmOutIdeal.τ).loc Cert.SsmOutIdeal.main_arg8) = m ((c.tc : Thread Cert.SsmOutIdeal.nD Cert.SsmOutIdeal.τ).loc Cert.SsmOutIdeal.main_arg8)
          ∧ r.2.mem ((c.tc : Thread Cert.SsmOutIdeal.nD Cert.SsmOutIdeal.τ).loc Cert.SsmOutIdeal.main_arg9) = m ((c.tc : Thread Cert.SsmOutIdeal.nD Cert.SsmOutIdeal.τ).loc Cert.SsmOutIdeal.main_arg9))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v115) = v0 c
          ∧ r.2.mem ((c.tc : Thread Cert.SsmOutRefIdeal.nD Cert.SsmOutRefIdeal.τ).loc Cert.SsmOutRefIdeal.main_v116) = v1 c
          ∧ r.2.mem ((c.tc : Thread Cert.SsmOutRefIdeal.nD Cert.SsmOutRefIdeal.τ).loc Cert.SsmOutRefIdeal.main_v118) = v2 c
          ∧ r.2.mem ((c.tc : Thread Cert.SsmOutRefIdeal.nD Cert.SsmOutRefIdeal.τ).loc Cert.SsmOutRefIdeal.main_v119) = v3 c
          ∧ r.2.mem ((c.tc : Thread Cert.SsmOutRefIdeal.nD Cert.SsmOutRefIdeal.τ).loc Cert.SsmOutRefIdeal.main_v89) = v4 c
          ∧ r.2.mem ((c.tc : Thread Cert.SsmOutRefIdeal.nD Cert.SsmOutRefIdeal.τ).loc Cert.SsmOutRefIdeal.main_v120) = v5 c
          ∧ r.2.mem ((c.tc : Thread Cert.SsmOutRefIdeal.nD Cert.SsmOutRefIdeal.τ).loc Cert.SsmOutRefIdeal.main_v121) = v6 c
          ∧ r.2.mem ((c.tc : Thread Cert.SsmOutRefIdeal.nD Cert.SsmOutRefIdeal.τ).loc Cert.SsmOutRefIdeal.main_v122) = v7 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3)
          ∧ r.2.mem ((c.tc : Thread Cert.SsmOutRefIdeal.nD Cert.SsmOutRefIdeal.τ).loc Cert.SsmOutRefIdeal.main_arg4) = m' ((c.tc : Thread Cert.SsmOutRefIdeal.nD Cert.SsmOutRefIdeal.τ).loc Cert.SsmOutRefIdeal.main_arg4)
          ∧ r.2.mem ((c.tc : Thread Cert.SsmOutRefIdeal.nD Cert.SsmOutRefIdeal.τ).loc Cert.SsmOutRefIdeal.main_arg5) = m' ((c.tc : Thread Cert.SsmOutRefIdeal.nD Cert.SsmOutRefIdeal.τ).loc Cert.SsmOutRefIdeal.main_arg5)
          ∧ r.2.mem ((c.tc : Thread Cert.SsmOutRefIdeal.nD Cert.SsmOutRefIdeal.τ).loc Cert.SsmOutRefIdeal.main_arg6) = m' ((c.tc : Thread Cert.SsmOutRefIdeal.nD Cert.SsmOutRefIdeal.τ).loc Cert.SsmOutRefIdeal.main_arg6)
          ∧ r.2.mem ((c.tc : Thread Cert.SsmOutRefIdeal.nD Cert.SsmOutRefIdeal.τ).loc Cert.SsmOutRefIdeal.main_arg7) = m' ((c.tc : Thread Cert.SsmOutRefIdeal.nD Cert.SsmOutRefIdeal.τ).loc Cert.SsmOutRefIdeal.main_arg7)
          ∧ r.2.mem ((c.tc : Thread Cert.SsmOutRefIdeal.nD Cert.SsmOutRefIdeal.τ).loc Cert.SsmOutRefIdeal.main_arg8) = m' ((c.tc : Thread Cert.SsmOutRefIdeal.nD Cert.SsmOutRefIdeal.τ).loc Cert.SsmOutRefIdeal.main_arg8)
          ∧ r.2.mem ((c.tc : Thread Cert.SsmOutRefIdeal.nD Cert.SsmOutRefIdeal.τ).loc Cert.SsmOutRefIdeal.main_arg9) = m' ((c.tc : Thread Cert.SsmOutRefIdeal.nD Cert.SsmOutRefIdeal.τ).loc Cert.SsmOutRefIdeal.main_arg9))

def preserves_Hidden_HiddenIdeal : Prop :=
  True

def algebraic_HiddenIdeal_HiddenRefIdeal_pre_hid_finite [hHiddenIdeal : Cert.HiddenIdeal.Facts] [hHiddenRefIdeal : Cert.HiddenRefIdeal.Facts] [hPre_hid_finite : Cert.Pre_hid_finite.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal_hid_finite m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)
      ∧ m' ((c.tc : Thread Cert.HiddenRefIdeal.nD Cert.HiddenRefIdeal.τ).loc Cert.HiddenRefIdeal.main_arg4) = m ((c.tc : Thread Cert.HiddenIdeal.nD Cert.HiddenIdeal.τ).loc Cert.HiddenIdeal.main_arg4)
      ∧ m' ((c.tc : Thread Cert.HiddenRefIdeal.nD Cert.HiddenRefIdeal.τ).loc Cert.HiddenRefIdeal.main_arg5) = m ((c.tc : Thread Cert.HiddenIdeal.nD Cert.HiddenIdeal.τ).loc Cert.HiddenIdeal.main_arg5)) →
    ∃ (v0 : (c : Dev Cert.HiddenIdeal.nD) → Buf (Elt Ideal) ((c.tc : Thread Cert.HiddenIdeal.nD Cert.HiddenIdeal.τ).loc Cert.HiddenIdeal.main_v11_0)) (v1 : (c : Dev Cert.HiddenIdeal.nD) → Buf (Elt Ideal) ((c.tc : Thread Cert.HiddenIdeal.nD Cert.HiddenIdeal.τ).loc Cert.HiddenIdeal.main_v11_1)) (v2 : (c : Dev Cert.HiddenIdeal.nD) → Buf (Elt Ideal) ((c.tc : Thread Cert.HiddenIdeal.nD Cert.HiddenIdeal.τ).loc Cert.HiddenIdeal.main_v11_2)) (v3 : (c : Dev Cert.HiddenIdeal.nD) → Buf (Elt Ideal) ((c.tc : Thread Cert.HiddenIdeal.nD Cert.HiddenIdeal.τ).loc Cert.HiddenIdeal.main_v11_3)) (v4 : (c : Dev Cert.HiddenIdeal.nD) → Buf (Elt Ideal) ((c.tc : Thread Cert.HiddenIdeal.nD Cert.HiddenIdeal.τ).loc Cert.HiddenIdeal.main_v12)) (v5 : (c : Dev Cert.HiddenIdeal.nD) → Buf (Elt Ideal) ((c.tc : Thread Cert.HiddenIdeal.nD Cert.HiddenIdeal.τ).loc Cert.HiddenIdeal.main_v9_1)) (v6 : (c : Dev Cert.HiddenIdeal.nD) → Buf (Elt Ideal) ((c.tc : Thread Cert.HiddenIdeal.nD Cert.HiddenIdeal.τ).loc Cert.HiddenIdeal.main_v9_2)) (v7 : (c : Dev Cert.HiddenIdeal.nD) → Buf (Elt Ideal) ((c.tc : Thread Cert.HiddenIdeal.nD Cert.HiddenIdeal.τ).loc Cert.HiddenIdeal.main_v9_3)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v11_0) = v0 c
          ∧ r.2.mem ((c.tc : Thread Cert.HiddenIdeal.nD Cert.HiddenIdeal.τ).loc Cert.HiddenIdeal.main_v11_1) = v1 c
          ∧ r.2.mem ((c.tc : Thread Cert.HiddenIdeal.nD Cert.HiddenIdeal.τ).loc Cert.HiddenIdeal.main_v11_2) = v2 c
          ∧ r.2.mem ((c.tc : Thread Cert.HiddenIdeal.nD Cert.HiddenIdeal.τ).loc Cert.HiddenIdeal.main_v11_3) = v3 c
          ∧ r.2.mem ((c.tc : Thread Cert.HiddenIdeal.nD Cert.HiddenIdeal.τ).loc Cert.HiddenIdeal.main_v12) = v4 c
          ∧ r.2.mem ((c.tc : Thread Cert.HiddenIdeal.nD Cert.HiddenIdeal.τ).loc Cert.HiddenIdeal.main_v9_1) = v5 c
          ∧ r.2.mem ((c.tc : Thread Cert.HiddenIdeal.nD Cert.HiddenIdeal.τ).loc Cert.HiddenIdeal.main_v9_2) = v6 c
          ∧ r.2.mem ((c.tc : Thread Cert.HiddenIdeal.nD Cert.HiddenIdeal.τ).loc Cert.HiddenIdeal.main_v9_3) = v7 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
          ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v35) = v0 c
          ∧ r.2.mem ((c.tc : Thread Cert.HiddenRefIdeal.nD Cert.HiddenRefIdeal.τ).loc Cert.HiddenRefIdeal.main_v37) = v1 c
          ∧ r.2.mem ((c.tc : Thread Cert.HiddenRefIdeal.nD Cert.HiddenRefIdeal.τ).loc Cert.HiddenRefIdeal.main_v39) = v2 c
          ∧ r.2.mem ((c.tc : Thread Cert.HiddenRefIdeal.nD Cert.HiddenRefIdeal.τ).loc Cert.HiddenRefIdeal.main_v41) = v3 c
          ∧ r.2.mem ((c.tc : Thread Cert.HiddenRefIdeal.nD Cert.HiddenRefIdeal.τ).loc Cert.HiddenRefIdeal.main_v54) = v4 c
          ∧ r.2.mem ((c.tc : Thread Cert.HiddenRefIdeal.nD Cert.HiddenRefIdeal.τ).loc Cert.HiddenRefIdeal.main_v43) = v5 c
          ∧ r.2.mem ((c.tc : Thread Cert.HiddenRefIdeal.nD Cert.HiddenRefIdeal.τ).loc Cert.HiddenRefIdeal.main_v45) = v6 c
          ∧ r.2.mem ((c.tc : Thread Cert.HiddenRefIdeal.nD Cert.HiddenRefIdeal.τ).loc Cert.HiddenRefIdeal.main_v47) = v7 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3)
          ∧ r.2.mem ((c.tc : Thread Cert.HiddenRefIdeal.nD Cert.HiddenRefIdeal.τ).loc Cert.HiddenRefIdeal.main_arg4) = m' ((c.tc : Thread Cert.HiddenRefIdeal.nD Cert.HiddenRefIdeal.τ).loc Cert.HiddenRefIdeal.main_arg4)
          ∧ r.2.mem ((c.tc : Thread Cert.HiddenRefIdeal.nD Cert.HiddenRefIdeal.τ).loc Cert.HiddenRefIdeal.main_arg5) = m' ((c.tc : Thread Cert.HiddenRefIdeal.nD Cert.HiddenRefIdeal.τ).loc Cert.HiddenRefIdeal.main_arg5))

def preserves_LossHead_LossHeadIdeal : Prop :=
  True

def algebraic_LossHeadIdeal_LossHeadRefIdeal_pre_head_finite [hLossHeadIdeal : Cert.LossHeadIdeal.Facts] [hLossHeadRefIdeal : Cert.LossHeadRefIdeal.Facts] [hPre_head_finite : Cert.Pre_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)
      ∧ m' ((c.tc : Thread Cert.LossHeadRefIdeal.nD Cert.LossHeadRefIdeal.τ).loc Cert.LossHeadRefIdeal.main_arg6) = m ((c.tc : Thread Cert.LossHeadIdeal.nD Cert.LossHeadIdeal.τ).loc Cert.LossHeadIdeal.main_arg6)) →
    ∃ (v0 : (c : Dev Cert.LossHeadIdeal.nD) → Buf (Elt Ideal) ((c.tc : Thread Cert.LossHeadIdeal.nD Cert.LossHeadIdeal.τ).loc Cert.LossHeadIdeal.main_v11_0)) (v1 : (c : Dev Cert.LossHeadIdeal.nD) → Buf (Elt Ideal) ((c.tc : Thread Cert.LossHeadIdeal.nD Cert.LossHeadIdeal.τ).loc Cert.LossHeadIdeal.main_v11_1)) (v2 : (c : Dev Cert.LossHeadIdeal.nD) → Buf (Elt Ideal) ((c.tc : Thread Cert.LossHeadIdeal.nD Cert.LossHeadIdeal.τ).loc Cert.LossHeadIdeal.main_v11_2)) (v3 : (c : Dev Cert.LossHeadIdeal.nD) → Buf (Elt Ideal) ((c.tc : Thread Cert.LossHeadIdeal.nD Cert.LossHeadIdeal.τ).loc Cert.LossHeadIdeal.main_v11_3)) (v4 : (c : Dev Cert.LossHeadIdeal.nD) → Buf (Elt Ideal) ((c.tc : Thread Cert.LossHeadIdeal.nD Cert.LossHeadIdeal.τ).loc Cert.LossHeadIdeal.main_v11_4)) (v5 : (c : Dev Cert.LossHeadIdeal.nD) → Buf (Elt Ideal) ((c.tc : Thread Cert.LossHeadIdeal.nD Cert.LossHeadIdeal.τ).loc Cert.LossHeadIdeal.main_v11_5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v11_0) = v0 c
          ∧ r.2.mem ((c.tc : Thread Cert.LossHeadIdeal.nD Cert.LossHeadIdeal.τ).loc Cert.LossHeadIdeal.main_v11_1) = v1 c
          ∧ r.2.mem ((c.tc : Thread Cert.LossHeadIdeal.nD Cert.LossHeadIdeal.τ).loc Cert.LossHeadIdeal.main_v11_2) = v2 c
          ∧ r.2.mem ((c.tc : Thread Cert.LossHeadIdeal.nD Cert.LossHeadIdeal.τ).loc Cert.LossHeadIdeal.main_v11_3) = v3 c
          ∧ r.2.mem ((c.tc : Thread Cert.LossHeadIdeal.nD Cert.LossHeadIdeal.τ).loc Cert.LossHeadIdeal.main_v11_4) = v4 c
          ∧ r.2.mem ((c.tc : Thread Cert.LossHeadIdeal.nD Cert.LossHeadIdeal.τ).loc Cert.LossHeadIdeal.main_v11_5) = v5 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
          ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v76) = v0 c
          ∧ r.2.mem ((c.tc : Thread Cert.LossHeadRefIdeal.nD Cert.LossHeadRefIdeal.τ).loc Cert.LossHeadRefIdeal.main_v78) = v1 c
          ∧ r.2.mem ((c.tc : Thread Cert.LossHeadRefIdeal.nD Cert.LossHeadRefIdeal.τ).loc Cert.LossHeadRefIdeal.main_v80) = v2 c
          ∧ r.2.mem ((c.tc : Thread Cert.LossHeadRefIdeal.nD Cert.LossHeadRefIdeal.τ).loc Cert.LossHeadRefIdeal.main_v82) = v3 c
          ∧ r.2.mem ((c.tc : Thread Cert.LossHeadRefIdeal.nD Cert.LossHeadRefIdeal.τ).loc Cert.LossHeadRefIdeal.main_v83) = v4 c
          ∧ r.2.mem ((c.tc : Thread Cert.LossHeadRefIdeal.nD Cert.LossHeadRefIdeal.τ).loc Cert.LossHeadRefIdeal.main_v84) = v5 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5)
          ∧ r.2.mem ((c.tc : Thread Cert.LossHeadRefIdeal.nD Cert.LossHeadRefIdeal.τ).loc Cert.LossHeadRefIdeal.main_arg6) = m' ((c.tc : Thread Cert.LossHeadRefIdeal.nD Cert.LossHeadRefIdeal.τ).loc Cert.LossHeadRefIdeal.main_arg6))

def preserves_Conv_ConvIdeal : Prop :=
  True

def preserves_Param_ParamIdeal : Prop :=
  True

def algebraic_ParamIdeal_ParamRefIdeal_pre_par_finite [hParamIdeal : Cert.ParamIdeal.Facts] [hParamRefIdeal : Cert.ParamRefIdeal.Facts] [hPre_par_finite : Cert.Pre_par_finite.Facts] : Prop :=
  ∀ (m : (ℓ : Loc Cert.ParamIdeal.nD Cert.ParamIdeal.τ Cert.ParamIdeal.sig) → Buf (Elt Ideal) ℓ) (g : Dev Cert.ParamIdeal.nD → PrngReg)
    (m' : (ℓ : Loc Cert.ParamRefIdeal.nD Cert.ParamRefIdeal.τ Cert.ParamRefIdeal.sig) → Buf (Elt Ideal) ℓ) (g' : Dev Cert.ParamRefIdeal.nD → PrngReg), Pre_ParamIdeal_par_finite m →
    (∀ c : Dev Cert.ParamIdeal.nD,
      m' ((c.tc : Thread Cert.ParamRefIdeal.nD Cert.ParamRefIdeal.τ).loc Cert.ParamRefIdeal.main_arg0) = m ((c.tc : Thread Cert.ParamIdeal.nD Cert.ParamIdeal.τ).loc Cert.ParamIdeal.main_arg0)
      ∧ m' ((c.tc : Thread Cert.ParamRefIdeal.nD Cert.ParamRefIdeal.τ).loc Cert.ParamRefIdeal.main_arg1) = m ((c.tc : Thread Cert.ParamIdeal.nD Cert.ParamIdeal.τ).loc Cert.ParamIdeal.main_arg1)
      ∧ m' ((c.tc : Thread Cert.ParamRefIdeal.nD Cert.ParamRefIdeal.τ).loc Cert.ParamRefIdeal.main_arg2) = m ((c.tc : Thread Cert.ParamIdeal.nD Cert.ParamIdeal.τ).loc Cert.ParamIdeal.main_arg2)
      ∧ m' ((c.tc : Thread Cert.ParamRefIdeal.nD Cert.ParamRefIdeal.τ).loc Cert.ParamRefIdeal.main_arg3) = m ((c.tc : Thread Cert.ParamIdeal.nD Cert.ParamIdeal.τ).loc Cert.ParamIdeal.main_arg3)
      ∧ m' ((c.tc : Thread Cert.ParamRefIdeal.nD Cert.ParamRefIdeal.τ).loc Cert.ParamRefIdeal.main_arg4) = m ((c.tc : Thread Cert.ParamIdeal.nD Cert.ParamIdeal.τ).loc Cert.ParamIdeal.main_arg4)
      ∧ m' ((c.tc : Thread Cert.ParamRefIdeal.nD Cert.ParamRefIdeal.τ).loc Cert.ParamRefIdeal.main_arg5) = m ((c.tc : Thread Cert.ParamIdeal.nD Cert.ParamIdeal.τ).loc Cert.ParamIdeal.main_arg5)
      ∧ m' ((c.tc : Thread Cert.ParamRefIdeal.nD Cert.ParamRefIdeal.τ).loc Cert.ParamRefIdeal.main_arg6) = m ((c.tc : Thread Cert.ParamIdeal.nD Cert.ParamIdeal.τ).loc Cert.ParamIdeal.main_arg6)
      ∧ m' ((c.tc : Thread Cert.ParamRefIdeal.nD Cert.ParamRefIdeal.τ).loc Cert.ParamRefIdeal.main_arg7) = m ((c.tc : Thread Cert.ParamIdeal.nD Cert.ParamIdeal.τ).loc Cert.ParamIdeal.main_arg7)
      ∧ m' ((c.tc : Thread Cert.ParamRefIdeal.nD Cert.ParamRefIdeal.τ).loc Cert.ParamRefIdeal.main_arg8) = m ((c.tc : Thread Cert.ParamIdeal.nD Cert.ParamIdeal.τ).loc Cert.ParamIdeal.main_arg8)) →
    ∃ (v0 : (c : Dev Cert.ParamIdeal.nD) → Buf (Elt Ideal) ((c.tc : Thread Cert.ParamIdeal.nD Cert.ParamIdeal.τ).loc Cert.ParamIdeal.main_v21_0)) (v1 : (c : Dev Cert.ParamIdeal.nD) → Buf (Elt Ideal) ((c.tc : Thread Cert.ParamIdeal.nD Cert.ParamIdeal.τ).loc Cert.ParamIdeal.main_v21_1)) (v2 : (c : Dev Cert.ParamIdeal.nD) → Buf (Elt Ideal) ((c.tc : Thread Cert.ParamIdeal.nD Cert.ParamIdeal.τ).loc Cert.ParamIdeal.main_v21_2)) (v3 : (c : Dev Cert.ParamIdeal.nD) → Buf (Elt Ideal) ((c.tc : Thread Cert.ParamIdeal.nD Cert.ParamIdeal.τ).loc Cert.ParamIdeal.main_v21_3)) (v4 : (c : Dev Cert.ParamIdeal.nD) → Buf (Elt Ideal) ((c.tc : Thread Cert.ParamIdeal.nD Cert.ParamIdeal.τ).loc Cert.ParamIdeal.main_v21_4)),
      θ_run (Cert.ParamIdeal.defs (F := Ideal)) (onTc (τ := Cert.ParamIdeal.τ) (Cert.ParamIdeal.main (F := Ideal))) ⟨m, fun _ => 0, g⟩ (fun r => ∀ c : Dev Cert.ParamIdeal.nD,
          r.2.mem ((c.tc : Thread Cert.ParamIdeal.nD Cert.ParamIdeal.τ).loc Cert.ParamIdeal.main_v21_0) = v0 c
          ∧ r.2.mem ((c.tc : Thread Cert.ParamIdeal.nD Cert.ParamIdeal.τ).loc Cert.ParamIdeal.main_v21_1) = v1 c
          ∧ r.2.mem ((c.tc : Thread Cert.ParamIdeal.nD Cert.ParamIdeal.τ).loc Cert.ParamIdeal.main_v21_2) = v2 c
          ∧ r.2.mem ((c.tc : Thread Cert.ParamIdeal.nD Cert.ParamIdeal.τ).loc Cert.ParamIdeal.main_v21_3) = v3 c
          ∧ r.2.mem ((c.tc : Thread Cert.ParamIdeal.nD Cert.ParamIdeal.τ).loc Cert.ParamIdeal.main_v21_4) = v4 c
          ∧ r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
          ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
          ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
          ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
          ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
          ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
          ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
          ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
          ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ θ_run (Cert.ParamRefIdeal.defs (F := Ideal)) (onTc (τ := Cert.ParamRefIdeal.τ) (Cert.ParamRefIdeal.main (F := Ideal))) ⟨m', fun _ => 0, g'⟩ (fun r => ∀ c : Dev Cert.ParamRefIdeal.nD,
          r.2.mem ((c.tc : Thread Cert.ParamRefIdeal.nD Cert.ParamRefIdeal.τ).loc Cert.ParamRefIdeal.main_v139) = v0 c
          ∧ r.2.mem ((c.tc : Thread Cert.ParamRefIdeal.nD Cert.ParamRefIdeal.τ).loc Cert.ParamRefIdeal.main_v132) = v1 c
          ∧ r.2.mem ((c.tc : Thread Cert.ParamRefIdeal.nD Cert.ParamRefIdeal.τ).loc Cert.ParamRefIdeal.main_v142) = v2 c
          ∧ r.2.mem ((c.tc : Thread Cert.ParamRefIdeal.nD Cert.ParamRefIdeal.τ).loc Cert.ParamRefIdeal.main_v144) = v3 c
          ∧ r.2.mem ((c.tc : Thread Cert.ParamRefIdeal.nD Cert.ParamRefIdeal.τ).loc Cert.ParamRefIdeal.main_v146) = v4 c
          ∧ r.2.mem ((c.tc : Thread Cert.ParamRefIdeal.nD Cert.ParamRefIdeal.τ).loc Cert.ParamRefIdeal.main_arg0) = m' ((c.tc : Thread Cert.ParamRefIdeal.nD Cert.ParamRefIdeal.τ).loc Cert.ParamRefIdeal.main_arg0)
          ∧ r.2.mem ((c.tc : Thread Cert.ParamRefIdeal.nD Cert.ParamRefIdeal.τ).loc Cert.ParamRefIdeal.main_arg1) = m' ((c.tc : Thread Cert.ParamRefIdeal.nD Cert.ParamRefIdeal.τ).loc Cert.ParamRefIdeal.main_arg1)
          ∧ r.2.mem ((c.tc : Thread Cert.ParamRefIdeal.nD Cert.ParamRefIdeal.τ).loc Cert.ParamRefIdeal.main_arg2) = m' ((c.tc : Thread Cert.ParamRefIdeal.nD Cert.ParamRefIdeal.τ).loc Cert.ParamRefIdeal.main_arg2)
          ∧ r.2.mem ((c.tc : Thread Cert.ParamRefIdeal.nD Cert.ParamRefIdeal.τ).loc Cert.ParamRefIdeal.main_arg3) = m' ((c.tc : Thread Cert.ParamRefIdeal.nD Cert.ParamRefIdeal.τ).loc Cert.ParamRefIdeal.main_arg3)
          ∧ r.2.mem ((c.tc : Thread Cert.ParamRefIdeal.nD Cert.ParamRefIdeal.τ).loc Cert.ParamRefIdeal.main_arg4) = m' ((c.tc : Thread Cert.ParamRefIdeal.nD Cert.ParamRefIdeal.τ).loc Cert.ParamRefIdeal.main_arg4)
          ∧ r.2.mem ((c.tc : Thread Cert.ParamRefIdeal.nD Cert.ParamRefIdeal.τ).loc Cert.ParamRefIdeal.main_arg5) = m' ((c.tc : Thread Cert.ParamRefIdeal.nD Cert.ParamRefIdeal.τ).loc Cert.ParamRefIdeal.main_arg5)
          ∧ r.2.mem ((c.tc : Thread Cert.ParamRefIdeal.nD Cert.ParamRefIdeal.τ).loc Cert.ParamRefIdeal.main_arg6) = m' ((c.tc : Thread Cert.ParamRefIdeal.nD Cert.ParamRefIdeal.τ).loc Cert.ParamRefIdeal.main_arg6)
          ∧ r.2.mem ((c.tc : Thread Cert.ParamRefIdeal.nD Cert.ParamRefIdeal.τ).loc Cert.ParamRefIdeal.main_arg7) = m' ((c.tc : Thread Cert.ParamRefIdeal.nD Cert.ParamRefIdeal.τ).loc Cert.ParamRefIdeal.main_arg7)
          ∧ r.2.mem ((c.tc : Thread Cert.ParamRefIdeal.nD Cert.ParamRefIdeal.τ).loc Cert.ParamRefIdeal.main_arg8) = m' ((c.tc : Thread Cert.ParamRefIdeal.nD Cert.ParamRefIdeal.τ).loc Cert.ParamRefIdeal.main_arg8))

def preserves_Dbb_DbbIdeal : Prop :=
  True

def algebraic_DbbIdeal_DbbRefIdeal [hDbbIdeal : Cert.DbbIdeal.Facts] [hDbbRefIdeal : Cert.DbbRefIdeal.Facts] : Prop :=
  ∀ (m : (ℓ : Loc Cert.DbbIdeal.nD Cert.DbbIdeal.τ Cert.DbbIdeal.sig) → Buf (Elt Ideal) ℓ) (g : Dev Cert.DbbIdeal.nD → PrngReg)
    (m' : (ℓ : Loc Cert.DbbRefIdeal.nD Cert.DbbRefIdeal.τ Cert.DbbRefIdeal.sig) → Buf (Elt Ideal) ℓ) (g' : Dev Cert.DbbRefIdeal.nD → PrngReg), Pre_DbbIdeal m →
    (∀ c : Dev Cert.DbbIdeal.nD,
      m' ((c.tc : Thread Cert.DbbRefIdeal.nD Cert.DbbRefIdeal.τ).loc Cert.DbbRefIdeal.main_arg0) = m ((c.tc : Thread Cert.DbbIdeal.nD Cert.DbbIdeal.τ).loc Cert.DbbIdeal.main_arg0)
      ∧ m' ((c.tc : Thread Cert.DbbRefIdeal.nD Cert.DbbRefIdeal.τ).loc Cert.DbbRefIdeal.main_arg1) = m ((c.tc : Thread Cert.DbbIdeal.nD Cert.DbbIdeal.τ).loc Cert.DbbIdeal.main_arg1)) →
    ∃ (v0 : (c : Dev Cert.DbbIdeal.nD) → Buf (Elt Ideal) ((c.tc : Thread Cert.DbbIdeal.nD Cert.DbbIdeal.τ).loc Cert.DbbIdeal.main_v33)) (v1 : (c : Dev Cert.DbbIdeal.nD) → Buf (Elt Ideal) ((c.tc : Thread Cert.DbbIdeal.nD Cert.DbbIdeal.τ).loc Cert.DbbIdeal.main_v64)),
      θ_run (Cert.DbbIdeal.defs (F := Ideal)) (onTc (τ := Cert.DbbIdeal.τ) (Cert.DbbIdeal.main (F := Ideal))) ⟨m, fun _ => 0, g⟩ (fun r => ∀ c : Dev Cert.DbbIdeal.nD,
          r.2.mem ((c.tc : Thread Cert.DbbIdeal.nD Cert.DbbIdeal.τ).loc Cert.DbbIdeal.main_v33) = v0 c
          ∧ r.2.mem ((c.tc : Thread Cert.DbbIdeal.nD Cert.DbbIdeal.τ).loc Cert.DbbIdeal.main_v64) = v1 c
          ∧ r.2.mem ((c.tc : Thread Cert.DbbIdeal.nD Cert.DbbIdeal.τ).loc Cert.DbbIdeal.main_arg0) = m ((c.tc : Thread Cert.DbbIdeal.nD Cert.DbbIdeal.τ).loc Cert.DbbIdeal.main_arg0)
          ∧ r.2.mem ((c.tc : Thread Cert.DbbIdeal.nD Cert.DbbIdeal.τ).loc Cert.DbbIdeal.main_arg1) = m ((c.tc : Thread Cert.DbbIdeal.nD Cert.DbbIdeal.τ).loc Cert.DbbIdeal.main_arg1))
      ∧ θ_run (Cert.DbbRefIdeal.defs (F := Ideal)) (onTc (τ := Cert.DbbRefIdeal.τ) (Cert.DbbRefIdeal.main (F := Ideal))) ⟨m', fun _ => 0, g'⟩ (fun r => ∀ c : Dev Cert.DbbRefIdeal.nD,
          r.2.mem ((c.tc : Thread Cert.DbbRefIdeal.nD Cert.DbbRefIdeal.τ).loc Cert.DbbRefIdeal.main_v18) = v0 c
          ∧ r.2.mem ((c.tc : Thread Cert.DbbRefIdeal.nD Cert.DbbRefIdeal.τ).loc Cert.DbbRefIdeal.main_v20) = v1 c
          ∧ r.2.mem ((c.tc : Thread Cert.DbbRefIdeal.nD Cert.DbbRefIdeal.τ).loc Cert.DbbRefIdeal.main_arg0) = m' ((c.tc : Thread Cert.DbbRefIdeal.nD Cert.DbbRefIdeal.τ).loc Cert.DbbRefIdeal.main_arg0)
          ∧ r.2.mem ((c.tc : Thread Cert.DbbRefIdeal.nD Cert.DbbRefIdeal.τ).loc Cert.DbbRefIdeal.main_arg1) = m' ((c.tc : Thread Cert.DbbRefIdeal.nD Cert.DbbRefIdeal.τ).loc Cert.DbbRefIdeal.main_arg1))

def preserves_Dc_DcIdeal : Prop :=
  True

def algebraic_DcIdeal_DcRefIdeal_pre_dc_finite [hDcIdeal : Cert.DcIdeal.Facts] [hDcRefIdeal : Cert.DcRefIdeal.Facts] [hPre_dc_finite : Cert.Pre_dc_finite.Facts] : Prop :=
  ∀ (m : (ℓ : Loc Cert.DcIdeal.nD Cert.DcIdeal.τ Cert.DcIdeal.sig) → Buf (Elt Ideal) ℓ) (g : Dev Cert.DcIdeal.nD → PrngReg)
    (m' : (ℓ : Loc Cert.DcRefIdeal.nD Cert.DcRefIdeal.τ Cert.DcRefIdeal.sig) → Buf (Elt Ideal) ℓ) (g' : Dev Cert.DcRefIdeal.nD → PrngReg), Pre_DcIdeal_dc_finite m →
    (∀ c : Dev Cert.DcIdeal.nD,
      m' ((c.tc : Thread Cert.DcRefIdeal.nD Cert.DcRefIdeal.τ).loc Cert.DcRefIdeal.main_arg0) = m ((c.tc : Thread Cert.DcIdeal.nD Cert.DcIdeal.τ).loc Cert.DcIdeal.main_arg0)
      ∧ m' ((c.tc : Thread Cert.DcRefIdeal.nD Cert.DcRefIdeal.τ).loc Cert.DcRefIdeal.main_arg1) = m ((c.tc : Thread Cert.DcIdeal.nD Cert.DcIdeal.τ).loc Cert.DcIdeal.main_arg1)) →
    ∃ (v0 : (c : Dev Cert.DcIdeal.nD) → Buf (Elt Ideal) ((c.tc : Thread Cert.DcIdeal.nD Cert.DcIdeal.τ).loc Cert.DcIdeal.main_v33)) (v1 : (c : Dev Cert.DcIdeal.nD) → Buf (Elt Ideal) ((c.tc : Thread Cert.DcIdeal.nD Cert.DcIdeal.τ).loc Cert.DcIdeal.main_v65)),
      θ_run (Cert.DcIdeal.defs (F := Ideal)) (onTc (τ := Cert.DcIdeal.τ) (Cert.DcIdeal.main (F := Ideal))) ⟨m, fun _ => 0, g⟩ (fun r => ∀ c : Dev Cert.DcIdeal.nD,
          r.2.mem ((c.tc : Thread Cert.DcIdeal.nD Cert.DcIdeal.τ).loc Cert.DcIdeal.main_v33) = v0 c
          ∧ r.2.mem ((c.tc : Thread Cert.DcIdeal.nD Cert.DcIdeal.τ).loc Cert.DcIdeal.main_v65) = v1 c
          ∧ r.2.mem ((c.tc : Thread Cert.DcIdeal.nD Cert.DcIdeal.τ).loc Cert.DcIdeal.main_arg0) = m ((c.tc : Thread Cert.DcIdeal.nD Cert.DcIdeal.τ).loc Cert.DcIdeal.main_arg0)
          ∧ r.2.mem ((c.tc : Thread Cert.DcIdeal.nD Cert.DcIdeal.τ).loc Cert.DcIdeal.main_arg1) = m ((c.tc : Thread Cert.DcIdeal.nD Cert.DcIdeal.τ).loc Cert.DcIdeal.main_arg1))
      ∧ θ_run (Cert.DcRefIdeal.defs (F := Ideal)) (onTc (τ := Cert.DcRefIdeal.τ) (Cert.DcRefIdeal.main (F := Ideal))) ⟨m', fun _ => 0, g'⟩ (fun r => ∀ c : Dev Cert.DcRefIdeal.nD,
          r.2.mem ((c.tc : Thread Cert.DcRefIdeal.nD Cert.DcRefIdeal.τ).loc Cert.DcRefIdeal.main_v19) = v0 c
          ∧ r.2.mem ((c.tc : Thread Cert.DcRefIdeal.nD Cert.DcRefIdeal.τ).loc Cert.DcRefIdeal.main_v20) = v1 c
          ∧ r.2.mem ((c.tc : Thread Cert.DcRefIdeal.nD Cert.DcRefIdeal.τ).loc Cert.DcRefIdeal.main_arg0) = m' ((c.tc : Thread Cert.DcRefIdeal.nD Cert.DcRefIdeal.τ).loc Cert.DcRefIdeal.main_arg0)
          ∧ r.2.mem ((c.tc : Thread Cert.DcRefIdeal.nD Cert.DcRefIdeal.τ).loc Cert.DcRefIdeal.main_arg1) = m' ((c.tc : Thread Cert.DcRefIdeal.nD Cert.DcRefIdeal.τ).loc Cert.DcRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v16) = v0 c
          ∧ r.2.mem ((c.tc : Thread Cert.MixFwdRefIdeal.nD Cert.MixFwdRefIdeal.τ).loc Cert.MixFwdRefIdeal.main_v18) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v17_0)) (v1 : (c : Dev Cert.PrepIdeal.nD) → Buf (Elt Ideal) ((c.tc : Thread Cert.PrepIdeal.nD Cert.PrepIdeal.τ).loc Cert.PrepIdeal.main_v17_1)) (v2 : (c : Dev Cert.PrepIdeal.nD) → Buf (Elt Ideal) ((c.tc : Thread Cert.PrepIdeal.nD Cert.PrepIdeal.τ).loc Cert.PrepIdeal.main_v17_2)) (v3 : (c : Dev Cert.PrepIdeal.nD) → Buf (Elt Ideal) ((c.tc : Thread Cert.PrepIdeal.nD Cert.PrepIdeal.τ).loc Cert.PrepIdeal.main_v17_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v17_0) = v0 c
          ∧ r.2.mem ((c.tc : Thread Cert.PrepIdeal.nD Cert.PrepIdeal.τ).loc Cert.PrepIdeal.main_v17_1) = v1 c
          ∧ r.2.mem ((c.tc : Thread Cert.PrepIdeal.nD Cert.PrepIdeal.τ).loc Cert.PrepIdeal.main_v17_2) = v2 c
          ∧ r.2.mem ((c.tc : Thread Cert.PrepIdeal.nD Cert.PrepIdeal.τ).loc Cert.PrepIdeal.main_v17_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v66) = v0 c
          ∧ r.2.mem ((c.tc : Thread Cert.PrepRefIdeal.nD Cert.PrepRefIdeal.τ).loc Cert.PrepRefIdeal.main_v68) = v1 c
          ∧ r.2.mem ((c.tc : Thread Cert.PrepRefIdeal.nD Cert.PrepRefIdeal.τ).loc Cert.PrepRefIdeal.main_v70) = v2 c
          ∧ r.2.mem ((c.tc : Thread Cert.PrepRefIdeal.nD Cert.PrepRefIdeal.τ).loc Cert.PrepRefIdeal.main_v72) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)
      ∧ m' ((c.tc : Thread Cert.ConvFwdRefIdeal.nD Cert.ConvFwdRefIdeal.τ).loc Cert.ConvFwdRefIdeal.main_arg5) = m ((c.tc : Thread Cert.ConvFwdIdeal.nD Cert.ConvFwdIdeal.τ).loc Cert.ConvFwdIdeal.main_arg5)) →
    ∃ (v0 : (c : Dev Cert.ConvFwdIdeal.nD) → Buf (Elt Ideal) ((c.tc : Thread Cert.ConvFwdIdeal.nD Cert.ConvFwdIdeal.τ).loc Cert.ConvFwdIdeal.main_v2_0)) (v1 : (c : Dev Cert.ConvFwdIdeal.nD) → Buf (Elt Ideal) ((c.tc : Thread Cert.ConvFwdIdeal.nD Cert.ConvFwdIdeal.τ).loc Cert.ConvFwdIdeal.main_v2_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2_0) = v0 c
          ∧ r.2.mem ((c.tc : Thread Cert.ConvFwdIdeal.nD Cert.ConvFwdIdeal.τ).loc Cert.ConvFwdIdeal.main_v2_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
          ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v303) = v0 c
          ∧ r.2.mem ((c.tc : Thread Cert.ConvFwdRefIdeal.nD Cert.ConvFwdRefIdeal.τ).loc Cert.ConvFwdRefIdeal.main_v263) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4)
          ∧ r.2.mem ((c.tc : Thread Cert.ConvFwdRefIdeal.nD Cert.ConvFwdRefIdeal.τ).loc Cert.ConvFwdRefIdeal.main_arg5) = m' ((c.tc : Thread Cert.ConvFwdRefIdeal.nD Cert.ConvFwdRefIdeal.τ).loc Cert.ConvFwdRefIdeal.main_arg5))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v7) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v4) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v2) = v0 c
          ∧ r.2.mem ((c.tc : Thread Cert.AdamwRefIdeal.nD Cert.AdamwRefIdeal.τ).loc Cert.AdamwRefIdeal.main_v26) = v1 c
          ∧ r.2.mem ((c.tc : Thread Cert.AdamwRefIdeal.nD Cert.AdamwRefIdeal.τ).loc Cert.AdamwRefIdeal.main_v7) = v2 c
          ∧ r.2.mem ((c.tc : Thread Cert.AdamwRefIdeal.nD Cert.AdamwRefIdeal.τ).loc Cert.AdamwRefIdeal.main_v13) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hFfnDx : Cert.FfnDx.Facts) (hFfnDxIdeal : Cert.FfnDxIdeal.Facts) (hFfnDxRefIdeal : Cert.FfnDxRefIdeal.Facts) (hMixDx : Cert.MixDx.Facts) (hMixDxIdeal : Cert.MixDxIdeal.Facts) (hMixDxRefIdeal : Cert.MixDxRefIdeal.Facts) (hSsmOut : Cert.SsmOut.Facts) (hSsmOutIdeal : Cert.SsmOutIdeal.Facts) (hSsmOutRefIdeal : Cert.SsmOutRefIdeal.Facts) (hHidden : Cert.Hidden.Facts) (hHiddenIdeal : Cert.HiddenIdeal.Facts) (hHiddenRefIdeal : Cert.HiddenRefIdeal.Facts) (hLossHead : Cert.LossHead.Facts) (hLossHeadIdeal : Cert.LossHeadIdeal.Facts) (hLossHeadRefIdeal : Cert.LossHeadRefIdeal.Facts) (hConv : Cert.Conv.Facts) (hConvIdeal : Cert.ConvIdeal.Facts) (hConvRefIdeal : Cert.ConvRefIdeal.Facts) (hParam : Cert.Param.Facts) (hParamIdeal : Cert.ParamIdeal.Facts) (hParamRefIdeal : Cert.ParamRefIdeal.Facts) (hDbb : Cert.Dbb.Facts) (hDbbIdeal : Cert.DbbIdeal.Facts) (hDbbRefIdeal : Cert.DbbRefIdeal.Facts) (hDc : Cert.Dc.Facts) (hDcIdeal : Cert.DcIdeal.Facts) (hDcRefIdeal : Cert.DcRefIdeal.Facts) (hMixFwd : Cert.MixFwd.Facts) (hMixFwdIdeal : Cert.MixFwdIdeal.Facts) (hMixFwdRefIdeal : Cert.MixFwdRefIdeal.Facts) (hPrep : Cert.Prep.Facts) (hPrepIdeal : Cert.PrepIdeal.Facts) (hPrepRefIdeal : Cert.PrepRefIdeal.Facts) (hConvFwd : Cert.ConvFwd.Facts) (hConvFwdIdeal : Cert.ConvFwdIdeal.Facts) (hConvFwdRefIdeal : Cert.ConvFwdRefIdeal.Facts) (hWeightGrad : Cert.WeightGrad.Facts) (hWeightGradIdeal : Cert.WeightGradIdeal.Facts) (hWeightGradRefIdeal : Cert.WeightGradRefIdeal.Facts) (hMixOut : Cert.MixOut.Facts) (hMixOutIdeal : Cert.MixOutIdeal.Facts) (hMixOutRefIdeal : Cert.MixOutRefIdeal.Facts) (hAdamw : Cert.Adamw.Facts) (hAdamwIdeal : Cert.AdamwIdeal.Facts) (hAdamwRefIdeal : Cert.AdamwRefIdeal.Facts) (hPre_dx_finite : Cert.Pre_dx_finite.Facts) (hPre_mixin_finite : Cert.Pre_mixin_finite.Facts) (hPre_sso_finite : Cert.Pre_sso_finite.Facts) (hPre_hid_finite : Cert.Pre_hid_finite.Facts) (hPre_head_finite : Cert.Pre_head_finite.Facts) (hPre_par_finite : Cert.Pre_par_finite.Facts) (hPre_dc_finite : Cert.Pre_dc_finite.Facts) (hPre_prep_finite : Cert.Pre_prep_finite.Facts),
    quiescent_FfnDx (hFfnDx := hFfnDx)
    ∧ quiescent_FfnDxIdeal (hFfnDxIdeal := hFfnDxIdeal)
    ∧ quiescent_FfnDxIdeal_pre_dx_finite (hFfnDxIdeal := hFfnDxIdeal) (hPre_dx_finite := hPre_dx_finite)
    ∧ quiescent_FfnDxRefIdeal (hFfnDxRefIdeal := hFfnDxRefIdeal)
    ∧ quiescent_FfnDxRefIdeal_pre_dx_finite (hFfnDxRefIdeal := hFfnDxRefIdeal) (hPre_dx_finite := hPre_dx_finite)
    ∧ quiescent_MixDx (hMixDx := hMixDx)
    ∧ quiescent_MixDxIdeal (hMixDxIdeal := hMixDxIdeal)
    ∧ quiescent_MixDxIdeal_pre_mixin_finite (hMixDxIdeal := hMixDxIdeal) (hPre_mixin_finite := hPre_mixin_finite)
    ∧ quiescent_MixDxRefIdeal (hMixDxRefIdeal := hMixDxRefIdeal)
    ∧ quiescent_MixDxRefIdeal_pre_mixin_finite (hMixDxRefIdeal := hMixDxRefIdeal) (hPre_mixin_finite := hPre_mixin_finite)
    ∧ quiescent_SsmOut (hSsmOut := hSsmOut)
    ∧ quiescent_SsmOutIdeal (hSsmOutIdeal := hSsmOutIdeal)
    ∧ quiescent_SsmOutIdeal_pre_sso_finite (hSsmOutIdeal := hSsmOutIdeal) (hPre_sso_finite := hPre_sso_finite)
    ∧ quiescent_SsmOutRefIdeal (hSsmOutRefIdeal := hSsmOutRefIdeal)
    ∧ quiescent_SsmOutRefIdeal_pre_sso_finite (hSsmOutRefIdeal := hSsmOutRefIdeal) (hPre_sso_finite := hPre_sso_finite)
    ∧ quiescent_Hidden (hHidden := hHidden)
    ∧ quiescent_HiddenIdeal (hHiddenIdeal := hHiddenIdeal)
    ∧ quiescent_HiddenIdeal_pre_hid_finite (hHiddenIdeal := hHiddenIdeal) (hPre_hid_finite := hPre_hid_finite)
    ∧ quiescent_HiddenRefIdeal (hHiddenRefIdeal := hHiddenRefIdeal)
    ∧ quiescent_HiddenRefIdeal_pre_hid_finite (hHiddenRefIdeal := hHiddenRefIdeal) (hPre_hid_finite := hPre_hid_finite)
    ∧ quiescent_LossHead (hLossHead := hLossHead)
    ∧ quiescent_LossHeadIdeal (hLossHeadIdeal := hLossHeadIdeal)
    ∧ quiescent_LossHeadIdeal_pre_head_finite (hLossHeadIdeal := hLossHeadIdeal) (hPre_head_finite := hPre_head_finite)
    ∧ quiescent_LossHeadRefIdeal (hLossHeadRefIdeal := hLossHeadRefIdeal)
    ∧ quiescent_LossHeadRefIdeal_pre_head_finite (hLossHeadRefIdeal := hLossHeadRefIdeal) (hPre_head_finite := hPre_head_finite)
    ∧ quiescent_Conv (hConv := hConv)
    ∧ quiescent_ConvIdeal (hConvIdeal := hConvIdeal)
    ∧ quiescent_ConvRefIdeal (hConvRefIdeal := hConvRefIdeal)
    ∧ quiescent_Param (hParam := hParam)
    ∧ quiescent_ParamIdeal (hParamIdeal := hParamIdeal)
    ∧ quiescent_ParamIdeal_pre_par_finite (hParamIdeal := hParamIdeal) (hPre_par_finite := hPre_par_finite)
    ∧ quiescent_ParamRefIdeal (hParamRefIdeal := hParamRefIdeal)
    ∧ quiescent_ParamRefIdeal_pre_par_finite (hParamRefIdeal := hParamRefIdeal) (hPre_par_finite := hPre_par_finite)
    ∧ quiescent_Dbb (hDbb := hDbb)
    ∧ quiescent_DbbIdeal (hDbbIdeal := hDbbIdeal)
    ∧ quiescent_DbbRefIdeal (hDbbRefIdeal := hDbbRefIdeal)
    ∧ quiescent_Dc (hDc := hDc)
    ∧ quiescent_DcIdeal (hDcIdeal := hDcIdeal)
    ∧ quiescent_DcIdeal_pre_dc_finite (hDcIdeal := hDcIdeal) (hPre_dc_finite := hPre_dc_finite)
    ∧ quiescent_DcRefIdeal (hDcRefIdeal := hDcRefIdeal)
    ∧ quiescent_DcRefIdeal_pre_dc_finite (hDcRefIdeal := hDcRefIdeal) (hPre_dc_finite := hPre_dc_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_FfnDx_FfnDxIdeal
    ∧ algebraic_FfnDxIdeal_FfnDxRefIdeal_pre_dx_finite (hFfnDxIdeal := hFfnDxIdeal) (hFfnDxRefIdeal := hFfnDxRefIdeal) (hPre_dx_finite := hPre_dx_finite)
    ∧ preserves_MixDx_MixDxIdeal
    ∧ algebraic_MixDxIdeal_MixDxRefIdeal_pre_mixin_finite (hMixDxIdeal := hMixDxIdeal) (hMixDxRefIdeal := hMixDxRefIdeal) (hPre_mixin_finite := hPre_mixin_finite)
    ∧ preserves_SsmOut_SsmOutIdeal
    ∧ algebraic_SsmOutIdeal_SsmOutRefIdeal_pre_sso_finite (hSsmOutIdeal := hSsmOutIdeal) (hSsmOutRefIdeal := hSsmOutRefIdeal) (hPre_sso_finite := hPre_sso_finite)
    ∧ preserves_Hidden_HiddenIdeal
    ∧ algebraic_HiddenIdeal_HiddenRefIdeal_pre_hid_finite (hHiddenIdeal := hHiddenIdeal) (hHiddenRefIdeal := hHiddenRefIdeal) (hPre_hid_finite := hPre_hid_finite)
    ∧ preserves_LossHead_LossHeadIdeal
    ∧ algebraic_LossHeadIdeal_LossHeadRefIdeal_pre_head_finite (hLossHeadIdeal := hLossHeadIdeal) (hLossHeadRefIdeal := hLossHeadRefIdeal) (hPre_head_finite := hPre_head_finite)
    ∧ preserves_Conv_ConvIdeal
    ∧ preserves_Param_ParamIdeal
    ∧ algebraic_ParamIdeal_ParamRefIdeal_pre_par_finite (hParamIdeal := hParamIdeal) (hParamRefIdeal := hParamRefIdeal) (hPre_par_finite := hPre_par_finite)
    ∧ preserves_Dbb_DbbIdeal
    ∧ algebraic_DbbIdeal_DbbRefIdeal (hDbbIdeal := hDbbIdeal) (hDbbRefIdeal := hDbbRefIdeal)
    ∧ preserves_Dc_DcIdeal
    ∧ algebraic_DcIdeal_DcRefIdeal_pre_dc_finite (hDcIdeal := hDcIdeal) (hDcRefIdeal := hDcRefIdeal) (hPre_dc_finite := hPre_dc_finite)
    ∧ preserves_MixFwd_MixFwdIdeal
    ∧ algebraic_MixFwdIdeal_MixFwdRefIdeal (hMixFwdIdeal := hMixFwdIdeal) (hMixFwdRefIdeal := hMixFwdRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_WeightGrad_WeightGradIdeal
    ∧ algebraic_WeightGradIdeal_WeightGradRefIdeal (hWeightGradIdeal := hWeightGradIdeal) (hWeightGradRefIdeal := hWeightGradRefIdeal)
    ∧ preserves_MixOut_MixOutIdeal
    ∧ algebraic_MixOutIdeal_MixOutRefIdeal (hMixOutIdeal := hMixOutIdeal) (hMixOutRefIdeal := hMixOutRefIdeal)
    ∧ preserves_Adamw_AdamwIdeal
    ∧ algebraic_AdamwIdeal_AdamwRefIdeal (hAdamwIdeal := hAdamwIdeal) (hAdamwRefIdeal := hAdamwRefIdeal)
-- ==== Pre_dc_finite.lean ====
abbrev S2x4096x512 : Shape := ⟨3, ![2, 4096, 512]⟩
abbrev S2x4096x4096 : Shape := ⟨3, ![2, 4096, 4096]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_

variable [Facts]

def fn {F : FTy → Type} [FloatOps F] (main_arg0 : FVec F S2x4096x512 .bf16) (main_arg1 : FVec F S2x4096x4096 .bf16) : IVec S_ 1 :=
  let main_v0 : FVec F S2x4096x512 .f32 := (extf .f32 · bitsLt_bf16_f32) main_arg0
  let main_v1 : FVec F S2x4096x4096 .f32 := (extf .f32 · bitsLt_bf16_f32) main_arg1
  let main_v2 : FVec F S2x4096x512 .f32 := Host.absf main_v0
  let main_cst : FVec F S_ .f32 := constant S_ .f32 0x7F800000#32
  let main_v3 : FVec F S2x4096x512 .f32 := broadcastInDim S2x4096x512 ![] bcast_S_S2x4096x512 main_cst
  let main_v4 : IVec S2x4096x512 1 := cmpf .olt main_v2 main_v3
  let main_c : IVec S_ 1 := constantI S_ 1 1#1
  let main_v5 : IVec S_ 1 := (fun x v => Host.reduce IntOp.andi x v reducesTo_S2x4096x512_S_d0_1_2 h_S_) main_v4 main_c
  let main_v6 : FVec F S2x4096x4096 .f32 := Host.absf main_v1
  let main_cst_0 : FVec F S_ .f32 := constant S_ .f32 0x7F800000#32
  let main_v7 : FVec F S2x4096x4096 .f32 := broadcastInDim S2x4096x4096 ![] bcast_S_S2x4096x4096 main_cst_0
  let main_v8 : IVec S2x4096x4096 1 := cmpf .olt main_v6 main_v7
  let main_c_1 : IVec S_ 1 := constantI S_ 1 1#1
  let main_v9 : IVec S_ 1 := (fun x v => Host.reduce IntOp.andi x v reducesTo_S2x4096x4096_S_d0_1_2 h_S_) main_v8 main_c_1
  let main_v10 : IVec S_ 1 := andi main_v5 main_v9
  main_v10
-- ==== Pre_dx_finite.lean ====
abbrev S2x4096x1024 : Shape := ⟨3, ![2, 4096, 1024]⟩
abbrev S1x1024 : Shape := ⟨2, ![1, 1024]⟩
abbrev S1x1024x2816 : Shape := ⟨3, ![1, 1024, 2816]⟩
abbrev S2x4096x2816 : Shape := ⟨3, ![2, 4096, 2816]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn_part1 {F : FTy → Type} [FloatOps F] (main_arg4 : FVec F S2x4096x2816 .f32) (main_arg5 : FVec F S2x4096x2816 .f32) (main_v3 : IVec S_ 1) (main_v7 : IVec S_ 1) (main_v11 : IVec S_ 1) (main_v15 : IVec S_ 1) : IVec S_ 1 :=
  let main_v16 : FVec F S2x4096x2816 .f32 := Host.absf main_arg4
  let main_cst_6 : FVec F S_ .f32 := constant S_ .f32 0x7F800000#32
  let main_v17 : FVec F S2x4096x2816 .f32 := broadcastInDim S2x4096x2816 ![] bcast_S_S2x4096x2816 main_cst_6
  let main_v18 : IVec S2x4096x2816 1 := cmpf .olt main_v16 main_v17
  let main_c_7 : IVec S_ 1 := constantI S_ 1 1#1
  let main_v19 : IVec S_ 1 := (fun x v => Host.reduce IntOp.andi x v reducesTo_S2x4096x2816_S_d0_1_2 h_S_) main_v18 main_c_7
  let main_v20 : FVec F S2x4096x2816 .f32 := Host.absf main_arg5
  let main_cst_8 : FVec F S_ .f32 := constant S_ .f32 0x7F800000#32
  let main_v21 : FVec F S2x4096x2816 .f32 := broadcastInDim S2x4096x2816 ![] bcast_S_S2x4096x2816 main_cst_8
  let main_v22 : IVec S2x4096x2816 1 := cmpf .olt main_v20 main_v21
  let main_c_9 : IVec S_ 1 := constantI S_ 1 1#1
  let main_v23 : IVec S_ 1 := (fun x v => Host.reduce IntOp.andi x v reducesTo_S2x4096x2816_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x4096x1024 .f32) (main_arg1 : FVec F S1x1024 .f32) (main_arg2 : FVec F S1x1024x2816 .f32) (main_arg3 : FVec F S1x1024x2816 .f32) (main_arg4 : FVec F S2x4096x2816 .f32) (main_arg5 : FVec F S2x4096x2816 .f32) (main_arg6 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x1024x2816 .f32 := Host.absf main_arg3
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_v12 main_v13
  let main_c_5 : IVec S_ 1 := constantI S_ 1 1#1
  let main_v15 : IVec S_ 1 := (fun x v => Host.reduce IntOp.andi x v reducesTo_S1x1024x2816_S_d0_1_2 h_S_) main_v14 main_c_5
  fn_part1 (F := F) main_arg4 main_arg5 main_v3 main_v7 main_v11 main_v15
-- ==== Pre_head_finite.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S2x4096x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S2x4096x1024 .f32 := Host.absf main_arg6
  let main_cst_10 : FVec F S_ .f32 := constant S_ .f32 0x7F800000#32
  let main_v25 : FVec F S2x4096x1024 .f32 := broadcastInDim S2x4096x1024 ![] bcast_S_S2x4096x1024 main_cst_10
  let main_v26 : IVec S2x4096x1024 1 := cmpf .olt main_v24 main_v25
  let main_c_11 : IVec S_ 1 := constantI S_ 1 1#1
  let main_v27 : IVec S_ 1 := (fun x v => Host.reduce IntOp.andi x v reducesTo_S2x4096x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x1024x2816 .f32 := Host.absf main_arg3
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_v12 main_v13
  let main_c_5 : IVec S_ 1 := constantI S_ 1 1#1
  let main_v15 : IVec S_ 1 := (fun x v => Host.reduce IntOp.andi x v reducesTo_S1x1024x2816_S_d0_1_2 h_S_) main_v14 main_c_5
  fn_part1 (F := F) main_arg4 main_arg5 main_arg6 main_v3 main_v7 main_v11 main_v15
-- ==== Pre_hid_finite.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S2x4096x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S2x4096x1024 .f32 := Host.absf main_arg5
  let main_cst_8 : FVec F S_ .f32 := constant S_ .f32 0x7F800000#32
  let main_v21 : FVec F S2x4096x1024 .f32 := broadcastInDim S2x4096x1024 ![] bcast_S_S2x4096x1024 main_cst_8
  let main_v22 : IVec S2x4096x1024 1 := cmpf .olt main_v20 main_v21
  let main_c_9 : IVec S_ 1 := constantI S_ 1 1#1
  let main_v23 : IVec S_ 1 := (fun x v => Host.reduce IntOp.andi x v reducesTo_S2x4096x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x4096x1024 .f32) (main_arg1 : FVec F S1x1024 .f32) (main_arg2 : FVec F S1x1024x2816 .f32) (main_arg3 : FVec F S1x1024x2816 .f32) (main_arg4 : FVec F S1x2816x1024 .f32) (main_arg5 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2816 .f32 := Host.absf main_arg2
  let main_cst_2 : FVec F S_ .f32 := constant S_ .f32 0x7F800000#32
  let main_v9 : FVec F S1x1024x2816 .f32 := broadcastInDim S1x1024x2816 ![] bcast_S_S1x1024x2816 main_cst_2
  let main_v10 : IVec S1x1024x2816 1 := cmpf .olt main_v8 main_v9
  let main_c_3 : IVec S_ 1 := constantI S_ 1 1#1
  let main_v11 : IVec S_ 1 := (fun x v => Host.reduce IntOp.andi x v reducesTo_S1x1024x2816_S_d0_1_2 h_S_) main_v10 main_c_3
  let main_v12 : FVec F S1x1024x2816 .f32 := Host.absf main_arg3
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_v12 main_v13
  let main_c_5 : IVec S_ 1 := constantI S_ 1 1#1
  let main_v15 : IVec S_ 1 := (fun x v => Host.reduce IntOp.andi x v reducesTo_S1x1024x2816_S_d0_1_2 h_S_) main_v14 main_c_5
  fn_part1 (F := F) main_arg4 main_arg5 main_v3 main_v7 main_v11 main_v15
-- ==== Pre_mixin_finite.lean ====
abbrev S2x4096x1024 : Shape := ⟨3, ![2, 4096, 1024]⟩
abbrev S1x1024 : Shape := ⟨2, ![1, 1024]⟩
abbrev S1x1024x1536 : Shape := ⟨3, ![1, 1024, 1536]⟩
abbrev S2x4096x512 : Shape := ⟨3, ![2, 4096, 512]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S2x4096x512 : S_.BroadcastsInDim S2x4096x512 (![] : Fin 0 → Fin S2x4096x512.rank)
  reducesTo_S2x4096x512_S_d0_1_2 : S2x4096x512.ReducesTo [0, 1, 2] S_

variable [Facts]

def fn_part1 {F : FTy → Type} [FloatOps F] (main_arg4 : FVec F S2x4096x512 .f32) (main_v3 : IVec S_ 1) (main_v7 : IVec S_ 1) (main_v11 : IVec S_ 1) (main_v15 : IVec S_ 1) : IVec S_ 1 :=
  let main_v16 : FVec F S2x4096x512 .f32 := Host.absf main_arg4
  let main_cst_6 : FVec F S_ .f32 := constant S_ .f32 0x7F800000#32
  let main_v17 : FVec F S2x4096x512 .f32 := broadcastInDim S2x4096x512 ![] bcast_S_S2x4096x512 main_cst_6
  let main_v18 : IVec S2x4096x512 1 := cmpf .olt main_v16 main_v17
  let main_c_7 : IVec S_ 1 := constantI S_ 1 1#1
  let main_v19 : IVec S_ 1 := (fun x v => Host.reduce IntOp.andi x v reducesTo_S2x4096x512_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x4096x1024 .f32) (main_arg1 : FVec F S1x1024 .f32) (main_arg2 : FVec F S1x1024x1536 .f32) (main_arg3 : FVec F S2x4096x1024 .f32) (main_arg4 : FVec F S2x4096x512 .f32) (main_arg5 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x1536 .f32 := Host.absf main_arg2
  let main_cst_2 : FVec F S_ .f32 := constant S_ .f32 0x7F800000#32
  let main_v9 : FVec F S1x1024x1536 .f32 := broadcastInDim S1x1024x1536 ![] bcast_S_S1x1024x1536 main_cst_2
  let main_v10 : IVec S1x1024x1536 1 := cmpf .olt main_v8 main_v9
  let main_c_3 : IVec S_ 1 := constantI S_ 1 1#1
  let main_v11 : IVec S_ 1 := (fun x v => Host.reduce IntOp.andi x v reducesTo_S1x1024x1536_S_d0_1_2 h_S_) main_v10 main_c_3
  let main_v12 : FVec F S2x4096x1024 .f32 := Host.absf main_arg3
  let main_cst_4 : FVec F S_ .f32 := constant S_ .f32 0x7F800000#32
  let main_v13 : FVec F S2x4096x1024 .f32 := broadcastInDim S2x4096x1024 ![] bcast_S_S2x4096x1024 main_cst_4
  let main_v14 : IVec S2x4096x1024 1 := cmpf .olt main_v12 main_v13
  let main_c_5 : IVec S_ 1 := constantI S_ 1 1#1
  let main_v15 : IVec S_ 1 := (fun x v => Host.reduce IntOp.andi x v reducesTo_S2x4096x1024_S_d0_1_2 h_S_) main_v14 main_c_5
  fn_part1 (F := F) main_arg4 main_v3 main_v7 main_v11 main_v15
-- ==== Pre_par_finite.lean ====
abbrev S1x32x64 : Shape := ⟨3, ![1, 32, 64]⟩
abbrev S1x32 : Shape := ⟨2, ![1, 32]⟩
abbrev S1x32x64x16 : Shape := ⟨4, ![1, 32, 64, 16]⟩
abbrev S8x32x64 : Shape := ⟨3, ![8, 32, 64]⟩
abbrev S32x64x16 : Shape := ⟨3, ![32, 64, 16]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_
  bcast_S_S8x32x64 : S_.BroadcastsInDim S8x32x64 (![] : Fin 0 → Fin S8x32x64.rank)
  reducesTo_S8x32x64_S_d0_1_2 : S8x32x64.ReducesTo [0, 1, 2] S_
  bcast_S_S32x64x16 : S_.BroadcastsInDim S32x64x16 (![] : Fin 0 → Fin S32x64x16.rank)
  reducesTo_S32x64x16_S_d0_1_2 : S32x64x16.ReducesTo [0, 1, 2] S_

variable [Facts]

def fn_part2 {F : FTy → Type} [FloatOps F] (main_arg0 : FVec F S1x32x64 .f32) (main_arg1 : FVec F S1x32x64 .f32) (main_arg8 : FVec F S32x64x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S32x64x16 .f32 := Host.absf main_arg8
  let main_cst_14 : FVec F S_ .f32 := constant S_ .f32 0x7F800000#32
  let main_v33 : FVec F S32x64x16 .f32 := broadcastInDim S32x64x16 ![] bcast_S_S32x64x16 main_cst_14
  let main_v34 : IVec S32x64x16 1 := cmpf .olt main_v32 main_v33
  let main_c_15 : IVec S_ 1 := constantI S_ 1 1#1
  let main_v35 : IVec S_ 1 := (fun x v => Host.reduce IntOp.andi x v reducesTo_S32x64x16_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_v44 : FVec F S1x32x64 .f32 := mulf main_arg0 main_arg0
  let main_v45 : FVec F S1x32x64 .f32 := mulf main_arg1 main_arg1
  let main_v46 : FVec F S1x32x64 .f32 := addf main_v44 main_v45
  let main_cst_16 : FVec F S_ .f32 := constant S_ .f32 0x00000000#32
  let main_v47 : FVec F S1x32x64 .f32 := broadcastInDim S1x32x64 ![] bcast_S_S1x32x64 main_cst_16
  let main_v48 : IVec S1x32x64 1 := cmpf .ogt main_v46 main_v47
  let main_c_17 : IVec S_ 1 := constantI S_ 1 1#1
  let main_v49 : IVec S_ 1 := (fun x v => Host.reduce IntOp.andi x v reducesTo_S1x32x64_S_d0_1_2 h_S_) main_v48 main_c_17
  let main_v50 : IVec S_ 1 := andi main_v43 main_v49
  main_v50

def fn_part1 {F : FTy → Type} [FloatOps F] (main_arg0 : FVec F S1x32x64 .f32) (main_arg1 : FVec F S1x32x64 .f32) (main_arg4 : FVec F S1x32x64x16 .f32) (main_arg5 : FVec F S8x32x64 .f32) (main_arg6 : FVec F S8x32x64 .f32) (main_arg7 : FVec F S32x64x16 .f32) (main_arg8 : FVec F S32x64x16 .f32) (main_v3 : IVec S_ 1) (main_v7 : IVec S_ 1) (main_v11 : IVec S_ 1) (main_v15 : IVec S_ 1) : IVec S_ 1 :=
  let main_v16 : FVec F S1x32x64x16 .f32 := Host.absf main_arg4
  let main_cst_6 : FVec F S_ .f32 := constant S_ .f32 0x7F800000#32
  let main_v17 : FVec F S1x32x64x16 .f32 := broadcastInDim S1x32x64x16 ![] bcast_S_S1x32x64x16 main_cst_6
  let main_v18 : IVec S1x32x64x16 1 := cmpf .olt main_v16 main_v17
  let main_c_7 : IVec S_ 1 := constantI S_ 1 1#1
  let main_v19 : IVec S_ 1 := (fun x v => Host.reduce IntOp.andi x v reducesTo_S1x32x64x16_S_d0_1_2_3 h_S_) main_v18 main_c_7
  let main_v20 : FVec F S8x32x64 .f32 := Host.absf main_arg5
  let main_cst_8 : FVec F S_ .f32 := constant S_ .f32 0x7F800000#32
  let main_v21 : FVec F S8x32x64 .f32 := broadcastInDim S8x32x64 ![] bcast_S_S8x32x64 main_cst_8
  let main_v22 : IVec S8x32x64 1 := cmpf .olt main_v20 main_v21
  let main_c_9 : IVec S_ 1 := constantI S_ 1 1#1
  let main_v23 : IVec S_ 1 := (fun x v => Host.reduce IntOp.andi x v reducesTo_S8x32x64_S_d0_1_2 h_S_) main_v22 main_c_9
  let main_v24 : FVec F S8x32x64 .f32 := Host.absf main_arg6
  let main_cst_10 : FVec F S_ .f32 := constant S_ .f32 0x7F800000#32
  let main_v25 : FVec F S8x32x64 .f32 := broadcastInDim S8x32x64 ![] bcast_S_S8x32x64 main_cst_10
  let main_v26 : IVec S8x32x64 1 := cmpf .olt main_v24 main_v25
  let main_c_11 : IVec S_ 1 := constantI S_ 1 1#1
  let main_v27 : IVec S_ 1 := (fun x v => Host.reduce IntOp.andi x v reducesTo_S8x32x64_S_d0_1_2 h_S_) main_v26 main_c_11
  let main_v28 : FVec F S32x64x16 .f32 := Host.absf main_arg7
  let main_cst_12 : FVec F S_ .f32 := constant S_ .f32 0x7F800000#32
  let main_v29 : FVec F S32x64x16 .f32 := broadcastInDim S32x64x16 ![] bcast_S_S32x64x16 main_cst_12
  let main_v30 : IVec S32x64x16 1 := cmpf .olt main_v28 main_v29
  let main_c_13 : IVec S_ 1 := constantI S_ 1 1#1
  let main_v31 : IVec S_ 1 := (fun x v => Host.reduce IntOp.andi x v reducesTo_S32x64x16_S_d0_1_2 h_S_) main_v30 main_c_13
  fn_part2 (F := F) main_arg0 main_arg1 main_arg8 main_v3 main_v7 main_v11 main_v15 main_v19 main_v23 main_v27 main_v31

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) (main_arg5 : FVec F S8x32x64 .f32) (main_arg6 : FVec F S8x32x64 .f32) (main_arg7 : FVec F S32x64x16 .f32) (main_arg8 : FVec F S32x64x16 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : FVec F S1x32 .f32 := Host.absf main_arg2
  let main_cst_2 : FVec F S_ .f32 := constant S_ .f32 0x7F800000#32
  let main_v9 : FVec F S1x32 .f32 := broadcastInDim S1x32 ![] bcast_S_S1x32 main_cst_2
  let main_v10 : IVec S1x32 1 := cmpf .olt main_v8 main_v9
  let main_c_3 : IVec S_ 1 := constantI S_ 1 1#1
  let main_v11 : IVec S_ 1 := (fun x v => Host.reduce IntOp.andi x v reducesTo_S1x32_S_d0_1 h_S_) main_v10 main_c_3
  let main_v12 : FVec F S1x32x64x16 .f32 := Host.absf main_arg3
  let main_cst_4 : FVec F S_ .f32 := constant S_ .f32 0x7F800000#32
  let main_v13 : FVec F S1x32x64x16 .f32 := broadcastInDim S1x32x64x16 ![] bcast_S_S1x32x64x16 main_cst_4
  let main_v14 : IVec S1x32x64x16 1 := cmpf .olt main_v12 main_v13
  let main_c_5 : IVec S_ 1 := constantI S_ 1 1#1
  let main_v15 : IVec S_ 1 := (fun x v => Host.reduce IntOp.andi x v reducesTo_S1x32x64x16_S_d0_1_2_3 h_S_) main_v14 main_c_5
  fn_part1 (F := F) main_arg0 main_arg1 main_arg4 main_arg5 main_arg6 main_arg7 main_arg8 main_v3 main_v7 main_v11 main_v15
-- ==== Pre_prep_finite.lean ====
abbrev S1x32x64 : Shape := ⟨3, ![1, 32, 64]⟩
abbrev S1x32 : Shape := ⟨2, ![1, 32]⟩
abbrev S1x32x64x16 : Shape := ⟨4, ![1, 32, 64, 16]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : FVec F S1x32 .f32 := Host.absf main_arg2
  let main_cst_2 : FVec F S_ .f32 := constant S_ .f32 0x7F800000#32
  let main_v9 : FVec F S1x32 .f32 := broadcastInDim S1x32 ![] bcast_S_S1x32 main_cst_2
  let main_v10 : IVec S1x32 1 := cmpf .olt main_v8 main_v9
  let main_c_3 : IVec S_ 1 := constantI S_ 1 1#1
  let main_v11 : IVec S_ 1 := (fun x v => Host.reduce IntOp.andi x v reducesTo_S1x32_S_d0_1 h_S_) main_v10 main_c_3
  let main_v12 : IVec S_ 1 := andi main_v3 main_v7
  let main_v13 : IVec S_ 1 := andi main_v12 main_v11
  main_v13
-- ==== Pre_sso_finite.lean ====
abbrev S2x4096x512 : Shape := ⟨3, ![2, 4096, 512]⟩
abbrev S2x4096x1536 : Shape := ⟨3, ![2, 4096, 1536]⟩
abbrev S1x512 : Shape := ⟨2, ![1, 512]⟩
abbrev S1x512x512 : Shape := ⟨3, ![1, 512, 512]⟩
abbrev S2x4096x1024 : Shape := ⟨3, ![2, 4096, 1024]⟩
abbrev S1x1024x1024 : Shape := ⟨3, ![1, 1024, 1024]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x1536 : S_.BroadcastsInDim S2x4096x1536 (![] : Fin 0 → Fin S2x4096x1536.rank)
  reducesTo_S2x4096x1536_S_d0_1_2 : S2x4096x1536.ReducesTo [0, 1, 2] S_
  bcast_S_S1x512 : S_.BroadcastsInDim S1x512 (![] : Fin 0 → Fin S1x512.rank)
  reducesTo_S1x512_S_d0_1 : S1x512.ReducesTo [0, 1] S_
  bcast_S_S1x512x512 : S_.BroadcastsInDim S1x512x512 (![] : Fin 0 → Fin S1x512x512.rank)
  reducesTo_S1x512x512_S_d0_1_2 : S1x512x512.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part1 {F : FTy → Type} [FloatOps F] (main_arg4 : FVec F S1x512 .f32) (main_arg5 : FVec F S1x512 .f32) (main_arg9 : FVec F S2x4096x1024 .f32) (main_v3 : IVec S_ 1) (main_v7 : IVec S_ 1) (main_v11 : IVec S_ 1) (main_v15 : IVec S_ 1) : IVec S_ 1 :=
  let main_v16 : FVec F S1x512 .f32 := Host.absf main_arg4
  let main_cst_6 : FVec F S_ .f32 := constant S_ .f32 0x7F800000#32
  let main_v17 : FVec F S1x512 .f32 := broadcastInDim S1x512 ![] bcast_S_S1x512 main_cst_6
  let main_v18 : IVec S1x512 1 := cmpf .olt main_v16 main_v17
  let main_c_7 : IVec S_ 1 := constantI S_ 1 1#1
  let main_v19 : IVec S_ 1 := (fun x v => Host.reduce IntOp.andi x v reducesTo_S1x512_S_d0_1 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S2x4096x1024 .f32 := Host.absf main_arg9
  let main_cst_10 : FVec F S_ .f32 := constant S_ .f32 0x7F800000#32
  let main_v25 : FVec F S2x4096x1024 .f32 := broadcastInDim S2x4096x1024 ![] bcast_S_S2x4096x1024 main_cst_10
  let main_v26 : IVec S2x4096x1024 1 := cmpf .olt main_v24 main_v25
  let main_c_11 : IVec S_ 1 := constantI S_ 1 1#1
  let main_v27 : IVec S_ 1 := (fun x v => Host.reduce IntOp.andi x v reducesTo_S2x4096x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x512 .f32) (main_arg1 : FVec F S2x4096x1536 .f32) (main_arg2 : FVec F S1x512 .f32) (main_arg3 : FVec F S1x512x512 .f32) (main_arg4 : FVec F S1x512 .f32) (main_arg5 : FVec F S1x512 .f32) (main_arg6 : FVec F S2x4096x1024 .f32) (main_arg7 : FVec F S2x4096x512 .f32) (main_arg8 : FVec F S1x1024x1024 .f32) (main_arg9 : FVec F S2x4096x1024 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x1536 .f32 := Host.absf main_arg1
  let main_cst_0 : FVec F S_ .f32 := constant S_ .f32 0x7F800000#32
  let main_v5 : FVec F S2x4096x1536 .f32 := broadcastInDim S2x4096x1536 ![] bcast_S_S2x4096x1536 main_cst_0
  let main_v6 : IVec S2x4096x1536 1 := cmpf .olt main_v4 main_v5
  let main_c_1 : IVec S_ 1 := constantI S_ 1 1#1
  let main_v7 : IVec S_ 1 := (fun x v => Host.reduce IntOp.andi x v reducesTo_S2x4096x1536_S_d0_1_2 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512x512 .f32 := Host.absf main_arg3
  let main_cst_4 : FVec F S_ .f32 := constant S_ .f32 0x7F800000#32
  let main_v13 : FVec F S1x512x512 .f32 := broadcastInDim S1x512x512 ![] bcast_S_S1x512x512 main_cst_4
  let main_v14 : IVec S1x512x512 1 := cmpf .olt main_v12 main_v13
  let main_c_5 : IVec S_ 1 := constantI S_ 1 1#1
  let main_v15 : IVec S_ 1 := (fun x v => Host.reduce IntOp.andi x v reducesTo_S1x512x512_S_d0_1_2 h_S_) main_v14 main_c_5
  fn_part1 (F := F) main_arg4 main_arg5 main_arg9 main_v3 main_v7 main_v11 main_v15
-- ==== FfnDx.lean ====
abbrev S2x4096x1024 : Shape := ⟨3, ![2, 4096, 1024]⟩
abbrev S1x1024 : Shape := ⟨2, ![1, 1024]⟩
abbrev S1x1024x2816 : Shape := ⟨3, ![1, 1024, 2816]⟩
abbrev S2x4096x2816 : Shape := ⟨3, ![2, 4096, 2816]⟩
abbrev S1024x2816 : Shape := ⟨2, ![1024, 2816]⟩
abbrev S2816x1024 : Shape := ⟨2, ![2816, 1024]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S2x4096x2816, .f32⟩
  | .hbm, ⟨5, _⟩ => ⟨S2x4096x2816, .f32⟩
  | .hbm, ⟨6, _⟩ => ⟨S2x4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S8192x2816, .f32⟩
  | .hbm, ⟨14, _⟩ => ⟨S8192x2816, .bf16⟩
  | .hbm, ⟨15, _⟩ => ⟨S8192x2816, .f32⟩
  | .hbm, ⟨16, _⟩ => ⟨S8192x2816, .bf16⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDxRefIdeal.lean ====
abbrev S2x4096x1024 : Shape := ⟨3, ![2, 4096, 1024]⟩
abbrev S1x1024 : Shape := ⟨2, ![1, 1024]⟩
abbrev S1x1024x2816 : Shape := ⟨3, ![1, 1024, 2816]⟩
abbrev S2x4096x2816 : Shape := ⟨3, ![2, 4096, 2816]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x2816 : Shape := ⟨2, ![1024, 2816]⟩
abbrev S8192x1024 : Shape := ⟨2, ![8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S2x4096x2816, .f32⟩
  | .hbm, ⟨5, _⟩ => ⟨S2x4096x2816, .f32⟩
  | .hbm, ⟨6, _⟩ => ⟨S2x4096x1024, .f32⟩
  | .hbm, ⟨7, _⟩ => ⟨S1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1024, .f32⟩
  | .hbm, ⟨24, _⟩ => ⟨S2x4096x1024, .f32⟩
  | .hbm, ⟨25, _⟩ => ⟨S1x1x1024, .f32⟩
  | .hbm, ⟨26, _⟩ => ⟨S2x4096x1024, .f32⟩
  | .hbm, ⟨27, _⟩ => ⟨S2x4096x1024, .f32⟩
  | .hbm, ⟨28, _⟩ => ⟨S1024x2816, .f32⟩
  | .hbm, ⟨29, _⟩ => ⟨S2x4096x2816, .f32⟩
  | .hbm, ⟨30, _⟩ => ⟨S1024x2816, .f32⟩
  | .hbm, ⟨31, _⟩ => ⟨S2x4096x2816, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S1024, .f32⟩
  | .hbm, ⟨43, _⟩ => ⟨S2x4096x1024, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S1x1024, .f32⟩
  | .hbm, ⟨62, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MixDx.lean ====
abbrev S2x4096x1024 : Shape := ⟨3, ![2, 4096, 1024]⟩
abbrev S1x1024 : Shape := ⟨2, ![1, 1024]⟩
abbrev S1x1024x1536 : Shape := ⟨3, ![1, 1024, 1536]⟩
abbrev S2x4096x512 : Shape := ⟨3, ![2, 4096, 512]⟩
abbrev S1024x1536 : Shape := ⟨2, ![1024, 1536]⟩
abbrev S1536x1024 : Shape := ⟨2, ![1536, 1024]⟩
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x1536, .f32⟩
  | .hbm, ⟨3, _⟩ => ⟨S2x4096x1024, .f32⟩
  | .hbm, ⟨4, _⟩ => ⟨S2x4096x512, .f32⟩
  | .hbm, ⟨5, _⟩ => ⟨S2x4096x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | .hbm, ⟨9, _⟩ => ⟨S8192x1024, .f32⟩
  | .hbm, ⟨10, _⟩ => ⟨S8192x1024, .bf16⟩
  | .hbm, ⟨11, _⟩ => ⟨S8192x512, .f32⟩
  | .hbm, ⟨12, _⟩ => ⟨S8192x512, .bf16⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixDxRefIdeal.lean ====
abbrev S2x4096x1024 : Shape := ⟨3, ![2, 4096, 1024]⟩
abbrev S1x1024 : Shape := ⟨2, ![1, 1024]⟩
abbrev S1x1024x1536 : Shape := ⟨3, ![1, 1024, 1536]⟩
abbrev S2x4096x512 : Shape := ⟨3, ![2, 4096, 512]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x1536 : Shape := ⟨2, ![1024, 1536]⟩
abbrev S2x4096x1536 : Shape := ⟨3, ![2, 4096, 1536]⟩
abbrev S8192x1024 : Shape := ⟨2, ![8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x1536, .f32⟩
  | .hbm, ⟨3, _⟩ => ⟨S2x4096x1024, .f32⟩
  | .hbm, ⟨4, _⟩ => ⟨S2x4096x512, .f32⟩
  | .hbm, ⟨5, _⟩ => ⟨S2x4096x1024, .f32⟩
  | .hbm, ⟨6, _⟩ => ⟨S1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S1024x1536, .f32⟩
  | .hbm, ⟨28, _⟩ => ⟨S2x4096x1536, .f32⟩
  | .hbm, ⟨29, _⟩ => ⟨S2x4096x1536, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S1024, .f32⟩
  | .hbm, ⟨39, _⟩ => ⟨S2x4096x1024, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S1x1024, .f32⟩
  | .hbm, ⟨58, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== SsmOut.lean ====
abbrev S2x4096x512 : Shape := ⟨3, ![2, 4096, 512]⟩
abbrev S2x4096x1536 : Shape := ⟨3, ![2, 4096, 1536]⟩
abbrev S1x512 : Shape := ⟨2, ![1, 512]⟩
abbrev S1x512x512 : Shape := ⟨3, ![1, 512, 512]⟩
abbrev S2x4096x1024 : Shape := ⟨3, ![2, 4096, 1024]⟩
abbrev S1x1024x1024 : Shape := ⟨3, ![1, 1024, 1024]⟩
abbrev S8192x1536 : Shape := ⟨2, ![8192, 1536]⟩
abbrev S512x512 : Shape := ⟨2, ![512, 512]⟩
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩
abbrev S512 : Shape := ⟨1, ![512]⟩

abbrev nBuf : Space → Nat
  | .hbm => 29
  | .vmem => 37
  | .smem => 0
  | _ => 0

abbrev bufTy : (tb : Table) → Fin (tcTables nBuf tb) → BufTy
  | .hbm, ⟨0, _⟩ => ⟨S2x4096x512, .f32⟩
  | .hbm, ⟨1, _⟩ => ⟨S2x4096x1536, .f32⟩
  | .hbm, ⟨2, _⟩ => ⟨S1x512, .f32⟩
  | .hbm, ⟨3, _⟩ => ⟨S1x512x512, .f32⟩
  | .hbm, ⟨4, _⟩ => ⟨S1x512, .f32⟩
  | .hbm, ⟨5, _⟩ => ⟨S1x512, .f32⟩
  | .hbm, ⟨6, _⟩ => ⟨S2x4096x1024, .f32⟩
  | .hbm, ⟨7, _⟩ => ⟨S2x4096x512, .f32⟩
  | .hbm, ⟨8, _⟩ => ⟨S1x1024x1024, .f32⟩
  | .hbm, ⟨9, _⟩ => ⟨S2x4096x1024, .f32⟩
  | .hbm, ⟨10, _⟩ => ⟨S8192x1536, .f32⟩
  | .hbm, ⟨11, _⟩ => ⟨S512x512, .f32⟩
  | .hbm, ⟨12, _⟩ => ⟨S512x512, .bf16⟩
  | .hbm, ⟨13, _⟩ => ⟨S8192x512, .f32⟩
  | .hbm, ⟨14, _⟩ => ⟨S8192x1024, .f32⟩
  | .hbm, ⟨15, _⟩ => ⟨S8192x512, .f32⟩
  | .hbm, ⟨16, _⟩ => ⟨S8192x512, .bf16⟩
  | .hbm, ⟨17, _⟩ => ⟨S1024x1024, .f32⟩
  | .hbm, ⟨18, _⟩ => ⟨S1024x1024, .bf16⟩
  | .hbm, ⟨19, _⟩ => ⟨S8192x512, .f32⟩
  | .hbm, ⟨20, _⟩ => ⟨S8192x512, .bf16⟩
  | .hbm, ⟨21, _⟩ => ⟨S8192x1024, .f32⟩
  | .hbm, ⟨22, _⟩ => ⟨S8192x1024, .f32⟩
  | .hbm, ⟨23, _⟩ => ⟨S8192x512, .bf16⟩
  | .hbm, ⟨24, _⟩ => ⟨S8192x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x1024, .f32⟩
  | .local _ .vmem, ⟨18, _⟩ => ⟨S1024x1024, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1x512, .f32⟩
  | .local _ .vmem, ⟨26, _⟩ => ⟨S512x512, .bf16⟩
  | .local _ .vmem, ⟨27, _⟩ => ⟨S1x512, .f32⟩
  | .local _ .vmem, ⟨28, _⟩ => ⟨S1x512, .f32⟩
  | .local _ .vmem, ⟨29, _⟩ => ⟨S1024x512, .bf16⟩
  | .local _ .vmem, ⟨30, _⟩ => ⟨S1024x512, .bf16⟩
  | .local _ .vmem, ⟨31, _⟩ => ⟨S1024x512, .f32⟩
  | .local _ .vmem, ⟨32, _⟩ => ⟨S1024x512, .f32⟩
  | .local _ .vmem, ⟨33, _⟩ => ⟨S512x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem10_0 : DmaSem sig := 34
abbrev cc1_sem11_0 : DmaSem sig := 35
abbrev cc1_sem12_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== SsmOutIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== SsmOutRefIdeal.lean ====
abbrev S2x4096x512 : Shape := ⟨3, ![2, 4096, 512]⟩
abbrev S2x4096x1536 : Shape := ⟨3, ![2, 4096, 1536]⟩
abbrev S1x512 : Shape := ⟨2, ![1, 512]⟩
abbrev S1x512x512 : Shape := ⟨3, ![1, 512, 512]⟩
abbrev S2x4096x1024 : Shape := ⟨3, ![2, 4096, 1024]⟩
abbrev S1x1024x1024 : Shape := ⟨3, ![1, 1024, 1024]⟩
abbrev S512 : Shape := ⟨1, ![512]⟩
abbrev S512x512 : Shape := ⟨2, ![512, 512]⟩
abbrev S1x1x512 : Shape := ⟨3, ![1, 1, 512]⟩
abbrev S_ : Shape := ⟨0, ![]⟩
abbrev S2x4096 : Shape := ⟨2, ![2, 4096]⟩
abbrev S2x4096x1 : Shape := ⟨3, ![2, 4096, 1]⟩
abbrev S1024x1024 : Shape := ⟨2, ![1024, 1024]⟩
abbrev S8192x512 : Shape := ⟨2, ![8192, 512]⟩
abbrev S8192x1024 : Shape := ⟨2, ![8192, 1024]⟩

abbrev nBuf : Space → Nat
  | .hbm => 159
  | .vmem => 0
  | .smem => 0
  | _ => 0

abbrev hbmTy0_0 (i : Nat) : BufTy := match i % 128 with
  | 0 => ⟨S2x4096x512, .f32⟩
  | 1 => ⟨S2x4096x1536, .f32⟩
  | 2 => ⟨S1x512, .f32⟩
  | 3 => ⟨S1x512x512, .f32⟩
  | 4 => ⟨S1x512, .f32⟩
  | 5 => ⟨S1x512, .f32⟩
  | 6 => ⟨S2x4096x1024, .f32⟩
  | 7 => ⟨S2x4096x512, .f32⟩
  | 8 => ⟨S1x1024x1024, .f32⟩
  | 9 => ⟨S2x4096x1024, .f32⟩
  | 10 => ⟨S2x4096x512, .f32⟩
  | 11 => ⟨S512, .f32⟩
  | 12 => ⟨S512x512, .f32⟩
  | 13 => ⟨S512, .f32⟩
  | 14 => ⟨S512, .f32⟩
  | 15 => ⟨S1x1x512, .f32⟩
  | 16 => ⟨S2x4096x512, .f32⟩
  | 17 => ⟨S2x4096x512, .f32⟩
  | 18 => ⟨S2x4096x512, .f32⟩
  | 19 => ⟨S_, .f32⟩
  | 20 => ⟨S_, .f32⟩
  | 21 => ⟨S_, .f32⟩
  | 22 => ⟨S2x4096x512, .f32⟩
  | 23 => ⟨S2x4096x512, .f32⟩
  | 24 => ⟨S2x4096x512, .f32⟩
  | 25 => ⟨S_, .f32⟩
  | 26 => ⟨S2x4096x512, .f32⟩
  | 27 => ⟨S2x4096x512, .f32⟩
  | 28 => ⟨S2x4096x512, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S2x4096x512, .f32⟩
  | 35 => ⟨S_, .f32⟩
  | 36 => ⟨S2x4096x512, .f32⟩
  | 37 => ⟨S2x4096x512, .f32⟩
  | 38 => ⟨S_, .f32⟩
  | 39 => ⟨S2x4096x512, .f32⟩
  | 40 => ⟨S2x4096x512, .f32⟩
  | 41 => ⟨S2x4096x512, .f32⟩
  | 42 => ⟨S_, .f32⟩
  | 43 => ⟨S2x4096x512, .f32⟩
  | 44 => ⟨S2x4096x512, .f32⟩
  | 45 => ⟨S_, .f32⟩
  | 46 => ⟨S2x4096x512, .f32⟩
  | 47 => ⟨S2x4096x512, .f32⟩
  | 48 => ⟨S2x4096x512, .f32⟩
  | 49 => ⟨S2x4096x512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S_, .f32⟩
  | 56 => ⟨S2x4096x512, .f32⟩
  | 57 => ⟨S2x4096x512, .f32⟩
  | 58 => ⟨S_, .f32⟩
  | 59 => ⟨S2x4096x512, .f32⟩
  | 60 => ⟨S2x4096x512, .f32⟩
  | 61 => ⟨S_, .f32⟩
  | 62 => ⟨S2x4096x512, .f32⟩
  | 63 => ⟨S2x4096x512, .f32⟩
  | 64 => ⟨S2x4096x512, .f32⟩
  | 65 => ⟨S2x4096x512, .f32⟩
  | 66 => ⟨S2x4096x512, .f32⟩
  | 67 => ⟨S_, .f32⟩
  | 68 => ⟨S2x4096, .f32⟩
  | 69 => ⟨S2x4096x1, .f32⟩
  | 70 => ⟨S_, .f32⟩
  | 71 => ⟨S2x4096x1, .f32⟩
  | 72 => ⟨S2x4096x1, .f32⟩
  | 73 => ⟨S_, .f32⟩
  | 74 => ⟨S2x4096x1, .f32⟩
  | 75 => ⟨S2x4096x1, .f32⟩
  | 76 => ⟨S2x4096x1, .f32⟩
  | 77 => ⟨S2x4096x1, .f32⟩
  | 78 => ⟨S_, .f32⟩
  | 79 => ⟨S2x4096x1, .f32⟩
  | 80 => ⟨S2x4096x1, .f32⟩
  | 81 => ⟨S2x4096x512, .f32⟩
  | 82 => ⟨S2x4096x512, .f32⟩
  | 83 => ⟨S1x1x512, .f32⟩
  | 84 => ⟨S2x4096x512, .f32⟩
  | 85 => ⟨S2x4096x512, .f32⟩
  | 86 => ⟨S2x4096x512, .f32⟩
  | 87 => ⟨S2x4096x512, .f32⟩
  | 88 => ⟨S_, .f32⟩
  | 89 => ⟨S512, .f32⟩
  | 90 => ⟨S1x1x512, .f32⟩
  | 91 => ⟨S2x4096x512, .f32⟩
  | 92 => ⟨S2x4096x512, .f32⟩
  | 93 => ⟨S_, .f32⟩
  | 94 => ⟨S512, .f32⟩
  | 95 => ⟨S2x4096x512, .f32⟩
  | 96 => ⟨S_, .f32⟩
  | 97 => ⟨S2x4096, .f32⟩
  | 98 => ⟨S2x4096x1, .f32⟩
  | 99 => ⟨S2x4096x512, .f32⟩
  | 100 => ⟨S2x4096x512, .f32⟩
  | 101 => ⟨S2x4096x1, .f32⟩
  | 102 => ⟨S_, .f32⟩
  | 103 => ⟨S2x4096x1, .f32⟩
  | 104 => ⟨S2x4096x1, .f32⟩
  | 105 => ⟨S_, .f32⟩
  | 106 => ⟨S2x4096, .f32⟩
  | 107 => ⟨S2x4096x512, .f32⟩
  | 108 => ⟨S2x4096x512, .f32⟩
  | 109 => ⟨S2x4096x512, .f32⟩
  | 110 => ⟨S2x4096x512, .f32⟩
  | 111 => ⟨S2x4096x512, .f32⟩
  | 112 => ⟨S2x4096x512, .f32⟩
  | 113 => ⟨S2x4096x512, .f32⟩
  | 114 => ⟨S2x4096x512, .f32⟩
  | 115 => ⟨S_, .f32⟩
  | 116 => ⟨S512, .f32⟩
  | 117 => ⟨S1x1x512, .f32⟩
  | 118 => ⟨S_, .f32⟩
  | 119 => ⟨S512, .f32⟩
  | 120 => ⟨S512x512, .f32⟩
  | 121 => ⟨S512x512, .f32⟩
  | 122 => ⟨S2x4096x512, .f32⟩
  | 123 => ⟨S2x4096x512, .f32⟩
  | 124 => ⟨S2x4096x512, .f32⟩
  | 125 => ⟨S2x4096x512, .f32⟩
  | 126 => ⟨S_, .f32⟩
  | 127 => ⟨S2x4096x512, .f32⟩
  | _ => ⟨S2x4096x512, .f32⟩

abbrev hbmTy0_1 (i : Nat) : BufTy := match i % 128 with
  | 0 => ⟨S2x4096x512, .f32⟩
  | 1 => ⟨S2x4096x512, .f32⟩
  | 2 => ⟨S_, .f32⟩
  | 3 => ⟨S2x4096x512, .f32⟩
  | 4 => ⟨S2x4096x512, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S2x4096x512, .f32⟩
  | 12 => ⟨S2x4096x512, .f32⟩
  | 13 => ⟨S_, .f32⟩
  | 14 => ⟨S512, .f32⟩
  | 15 => ⟨S1x1x512, .f32⟩
  | 16 => ⟨S_, .f32⟩
  | 17 => ⟨S512, .f32⟩
  | 18 => ⟨S2x4096x1024, .f32⟩
  | 19 => ⟨S1024x1024, .f32⟩
  | 20 => ⟨S2x4096x1024, .f32⟩
  | 21 => ⟨S2x4096x1024, .f32⟩
  | 22 => ⟨S8192x512, .f32⟩
  | 23 => ⟨S8192x512, .bf16⟩
  | 24 => ⟨S8192x1024, .f32⟩
  | 25 => ⟨S8192x512, .f32⟩
  | 26 => ⟨S8192x512, .bf16⟩
  | 27 => ⟨S8192x512, .f32⟩
  | 28 => ⟨S1x512, .f32⟩
  | 29 => ⟨S1x512, .f32⟩
  | 30 => ⟨S1x512, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_22 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_23 : Ref sig .tc := ⟨.hbm, 141, rfl⟩
abbrev main_v107 : Ref sig .tc := ⟨.hbm, 142, rfl⟩
abbrev main_v108 : Ref sig .tc := ⟨.hbm, 143, rfl⟩
abbrev main_cst_24 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== Hidden.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 25
  | .vmem => 29
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x1024, .bf16⟩
  | .hbm, ⟨19, _⟩ => ⟨S8192x1024, .f32⟩
  | .hbm, ⟨20, _⟩ => ⟨S8192x2816, .bf16⟩
  | .hbm, ⟨21, _⟩ => ⟨S8192x2816, .bf16⟩
  | .hbm, ⟨22, _⟩ => ⟨S8192x2816, .bf16⟩
  | .hbm, ⟨23, _⟩ => ⟨S8192x1024, .bf16⟩
  | .hbm, ⟨24, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S2816x1024, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x1024, .bf16⟩
  | .local _ .vmem, ⟨28, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2816 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== HiddenRefIdeal.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x2816 : Shape := ⟨2, ![1024, 2816]⟩
abbrev S2x4096x2816 : Shape := ⟨3, ![2, 4096, 2816]⟩
abbrev S2816x1024 : Shape := ⟨2, ![2816, 1024]⟩
abbrev S8192x2816 : Shape := ⟨2, ![8192, 2816]⟩
abbrev S8192x1024 : Shape := ⟨2, ![8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x4096x1024, .f32⟩
  | .hbm, ⟨6, _⟩ => ⟨S1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S1024x2816, .f32⟩
  | .hbm, ⟨24, _⟩ => ⟨S2x4096x2816, .f32⟩
  | .hbm, ⟨25, _⟩ => ⟨S1024x2816, .f32⟩
  | .hbm, ⟨26, _⟩ => ⟨S2x4096x2816, .f32⟩
  | .hbm, ⟨27, _⟩ => ⟨S2x4096x2816, .f32⟩
  | .hbm, ⟨28, _⟩ => ⟨S2x4096x2816, .f32⟩
  | .hbm, ⟨29, _⟩ => ⟨S_, .f32⟩
  | .hbm, ⟨30, _⟩ => ⟨S2x4096x2816, .f32⟩
  | .hbm, ⟨31, _⟩ => ⟨S2x4096x2816, .f32⟩
  | .hbm, ⟨32, _⟩ => ⟨S_, .f32⟩
  | .hbm, ⟨33, _⟩ => ⟨S2x4096x2816, .f32⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S_, .f32⟩
  | .hbm, ⟨40, _⟩ => ⟨S2x4096x2816, .f32⟩
  | .hbm, ⟨41, _⟩ => ⟨S2x4096x2816, .f32⟩
  | .hbm, ⟨42, _⟩ => ⟨S_, .f32⟩
  | .hbm, ⟨43, _⟩ => ⟨S2x4096x2816, .f32⟩
  | .hbm, ⟨44, _⟩ => ⟨S2x4096x2816, .f32⟩
  | .hbm, ⟨45, _⟩ => ⟨S_, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x2816, .f32⟩
  | .hbm, ⟨50, _⟩ => ⟨S2x4096x2816, .f32⟩
  | .hbm, ⟨51, _⟩ => ⟨S2816x1024, .f32⟩
  | .hbm, ⟨52, _⟩ => ⟨S2x4096x1024, .f32⟩
  | .hbm, ⟨53, _⟩ => ⟨S_, .f32⟩
  | .hbm, ⟨54, _⟩ => ⟨S2x4096x1024, .f32⟩
  | .hbm, ⟨55, _⟩ => ⟨S2x4096x1024, .f32⟩
  | .hbm, ⟨56, _⟩ => ⟨S_, .f32⟩
  | .hbm, ⟨57, _⟩ => ⟨S2x4096x1024, .f32⟩
  | .hbm, ⟨58, _⟩ => ⟨S2x4096x1024, .f32⟩
  | .hbm, ⟨59, _⟩ => ⟨S2x4096x2816, .f32⟩
  | .hbm, ⟨60, _⟩ => ⟨S2x4096x2816, .f32⟩
  | .hbm, ⟨61, _⟩ => ⟨S2x4096x2816, .f32⟩
  | .hbm, ⟨62, _⟩ => ⟨S2x4096x2816, .f32⟩
  | .hbm, ⟨63, _⟩ => ⟨S2x4096x2816, .f32⟩
  | .hbm, ⟨64, _⟩ => ⟨S2x4096x2816, .f32⟩
  | .hbm, ⟨65, _⟩ => ⟨S2x4096x2816, .f32⟩
  | .hbm, ⟨66, _⟩ => ⟨S_, .f32⟩
  | .hbm, ⟨67, _⟩ => ⟨S2x4096x1024, .f32⟩
  | .hbm, ⟨68, _⟩ => ⟨S2x4096x1024, .f32⟩
  | .hbm, ⟨69, _⟩ => ⟨S8192x2816, .f32⟩
  | .hbm, ⟨70, _⟩ => ⟨S8192x2816, .bf16⟩
  | .hbm, ⟨71, _⟩ => ⟨S8192x2816, .f32⟩
  | .hbm, ⟨72, _⟩ => ⟨S8192x2816, .bf16⟩
  | .hbm, ⟨73, _⟩ => ⟨S8192x2816, .f32⟩
  | .hbm, ⟨74, _⟩ => ⟨S8192x2816, .bf16⟩
  | .hbm, ⟨75, _⟩ => ⟨S8192x1024, .f32⟩
  | .hbm, ⟨76, _⟩ => ⟨S8192x1024, .bf16⟩
  | .hbm, ⟨77, _⟩ => ⟨S8192x2816, .f32⟩
  | .hbm, ⟨78, _⟩ => ⟨S8192x2816, .bf16⟩
  | .hbm, ⟨79, _⟩ => ⟨S8192x2816, .f32⟩
  | .hbm, ⟨80, _⟩ => ⟨S8192x2816, .bf16⟩
  | .hbm, ⟨81, _⟩ => ⟨S8192x1024, .f32⟩
  | .hbm, ⟨82, _⟩ => ⟨S8192x1024, .bf16⟩
  | .hbm, ⟨83, _⟩ => ⟨S2x4096x2816, .f32⟩
  | .hbm, ⟨84, _⟩ => ⟨S2x4096x2816, .f32⟩
  | .hbm, ⟨85, _⟩ => ⟨S_, .f32⟩
  | .hbm, ⟨86, _⟩ => ⟨S2x4096x2816, .f32⟩
  | .hbm, ⟨87, _⟩ => ⟨S2x4096x2816, .f32⟩
  | .hbm, ⟨88, _⟩ => ⟨S_, .f32⟩
  | .hbm, ⟨89, _⟩ => ⟨S2x4096x2816, .f32⟩
  | .hbm, ⟨90, _⟩ => ⟨S2x4096x2816, .f32⟩
  | .hbm, ⟨91, _⟩ => ⟨S2x4096x2816, .f32⟩
  | .hbm, ⟨92, _⟩ => ⟨S2x4096x2816, .f32⟩
  | .hbm, ⟨93, _⟩ => ⟨S2816x1024, .f32⟩
  | .hbm, ⟨94, _⟩ => ⟨S2x4096x1024, .f32⟩
  | .hbm, ⟨95, _⟩ => ⟨S_, .f32⟩
  | .hbm, ⟨96, _⟩ => ⟨S2x4096x1024, .f32⟩
  | .hbm, ⟨97, _⟩ => ⟨S2x4096x1024, .f32⟩
  | .hbm, ⟨98, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_v20_2 : Ref sig .tc := ⟨.hbm, 44, rfl⟩
abbrev main_call1_cst_1 : Ref sig .tc := ⟨.hbm, 45, rfl⟩
abbrev main_call1_v6 : Ref sig .tc := ⟨.hbm, 46, rfl⟩
abbrev main_call1_v7 : Ref sig .tc := ⟨.hbm, 47, rfl⟩
abbrev main_v20_1 : Ref sig .tc := ⟨.hbm, 48, rfl⟩
abbrev main_v20_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩

abbrev nD : Nat := 1
abbrev τ : Topo := Topo.v7x

variable {F : FTy → Type} [FloatOps F]
-- ==== LossHead.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 24
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2816, .bf16⟩
  | .hbm, ⟨20, _⟩ => ⟨S8192x2816, .bf16⟩
  | .hbm, ⟨21, _⟩ => ⟨S8192x1024, .bf16⟩
  | .hbm, ⟨22, _⟩ => ⟨S8x128, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | .local _ .vmem, ⟨18, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossHeadRefIdeal.lean ====
abbrev S2x4096x1024 : Shape := ⟨3, ![2, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x2816 : Shape := ⟨2, ![1024, 2816]⟩
abbrev S2x4096x2816 : Shape := ⟨3, ![2, 4096, 2816]⟩
abbrev S2816x1024 : Shape := ⟨2, ![2816, 1024]⟩
abbrev S8192x1024 : Shape := ⟨2, ![8192, 1024]⟩
abbrev S8192x2816 : Shape := ⟨2, ![8192, 2816]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x4096x1024, .f32⟩
  | .hbm, ⟨7, _⟩ => ⟨S1024, .f32⟩
  | .hbm, ⟨8, _⟩ => ⟨S2x4096x1024, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S1024x2816, .f32⟩
  | .hbm, ⟨25, _⟩ => ⟨S2x4096x2816, .f32⟩
  | .hbm, ⟨26, _⟩ => ⟨S1024x2816, .f32⟩
  | .hbm, ⟨27, _⟩ => ⟨S2x4096x2816, .f32⟩
  | .hbm, ⟨28, _⟩ => ⟨S2x4096x2816, .f32⟩
  | .hbm, ⟨29, _⟩ => ⟨S2x4096x2816, .f32⟩
  | .hbm, ⟨30, _⟩ => ⟨S_, .f32⟩
  | .hbm, ⟨31, _⟩ => ⟨S2x4096x2816, .f32⟩
  | .hbm, ⟨32, _⟩ => ⟨S2x4096x2816, .f32⟩
  | .hbm, ⟨33, _⟩ => ⟨S_, .f32⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2816x1024, .f32⟩
  | .hbm, ⟨39, _⟩ => ⟨S2x4096x1024, .f32⟩
  | .hbm, ⟨40, _⟩ => ⟨S_, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S_, .f32⟩
  | .hbm, ⟨46, _⟩ => ⟨S2x4096, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S2x4096x1, .f32⟩
  | .hbm, ⟨55, _⟩ => ⟨S2x4096x1, .f32⟩
  | .hbm, ⟨56, _⟩ => ⟨S_, .f32⟩
  | .hbm, ⟨57, _⟩ => ⟨S2x4096x1, .f32⟩
  | .hbm, ⟨58, _⟩ => ⟨S2x4096x1, .f32⟩
  | .hbm, ⟨59, _⟩ => ⟨S2x4096x1024, .f32⟩
  | .hbm, ⟨60, _⟩ => ⟨S2x4096x1024, .f32⟩
  | .hbm, ⟨61, _⟩ => ⟨S1x1x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S_, .f32⟩
  | .hbm, ⟨67, _⟩ => ⟨S2x4096x1024, .f32⟩
  | .hbm, ⟨68, _⟩ => ⟨S2x4096x1024, .f32⟩
  | .hbm, ⟨69, _⟩ => ⟨S_, .f32⟩
  | .hbm, ⟨70, _⟩ => ⟨S2x4096, .f32⟩
  | .hbm, ⟨71, _⟩ => ⟨S_, .f32⟩
  | .hbm, ⟨72, _⟩ => ⟨S2x4096, .f32⟩
  | .hbm, ⟨73, _⟩ => ⟨S2x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x4096, .f32⟩
  | .hbm, ⟨82, _⟩ => ⟨S_, .f32⟩
  | .hbm, ⟨83, _⟩ => ⟨S2x4096, .f32⟩
  | .hbm, ⟨84, _⟩ => ⟨S2x4096, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S_, .f32⟩
  | .hbm, ⟨89, _⟩ => ⟨S1024, .f32⟩
  | .hbm, ⟨90, _⟩ => ⟨S1x1x1024, .f32⟩
  | .hbm, ⟨91, _⟩ => ⟨S2x4096x1024, .f32⟩
  | .hbm, ⟨92, _⟩ => ⟨S2x4096x1024, .f32⟩
  | .hbm, ⟨93, _⟩ => ⟨S_, .f32⟩
  | .hbm, ⟨94, _⟩ => ⟨S1024, .f32⟩
  | .hbm, ⟨95, _⟩ => ⟨S2x4096x1024, .f32⟩
  | .hbm, ⟨96, _⟩ => ⟨S_, .f32⟩
  | .hbm, ⟨97, _⟩ => ⟨S2x4096, .f32⟩
  | .hbm, ⟨98, _⟩ => ⟨S2x4096x1, .f32⟩
  | .hbm, ⟨99, _⟩ => ⟨S2x4096x1024, .f32⟩
  | .hbm, ⟨100, _⟩ => ⟨S2x4096x1024, .f32⟩
  | .hbm, ⟨101, _⟩ => ⟨S2x4096x1, .f32⟩
  | .hbm, ⟨102, _⟩ => ⟨S_, .f32⟩
  | .hbm, ⟨103, _⟩ => ⟨S2x4096x1, .f32⟩
  | .hbm, ⟨104, _⟩ => ⟨S2x4096x1, .f32⟩
  | .hbm, ⟨105, _⟩ => ⟨S_, .f32⟩
  | .hbm, ⟨106, _⟩ => ⟨S2x4096, .f32⟩
  | .hbm, ⟨107, _⟩ => ⟨S2x4096x1024, .f32⟩
  | .hbm, ⟨108, _⟩ => ⟨S2x4096x1024, .f32⟩
  | .hbm, ⟨109, _⟩ => ⟨S2x4096x1024, .f32⟩
  | .hbm, ⟨110, _⟩ => ⟨S2x4096x1024, .f32⟩
  | .hbm, ⟨111, _⟩ => ⟨S2x4096x1024, .f32⟩
  | .hbm, ⟨112, _⟩ => ⟨S8192x1024, .f32⟩
  | .hbm, ⟨113, _⟩ => ⟨S8192x2816, .f32⟩
  | .hbm, ⟨114, _⟩ => ⟨S8192x2816, .bf16⟩
  | .hbm, ⟨115, _⟩ => ⟨S8192x2816, .f32⟩
  | .hbm, ⟨116, _⟩ => ⟨S8192x2816, .bf16⟩
  | .hbm, ⟨117, _⟩ => ⟨S8192x1024, .f32⟩
  | .hbm, ⟨118, _⟩ => ⟨S8192x1024, .bf16⟩
  | .hbm, ⟨119, _⟩ => ⟨S8x128, .f32⟩
  | .hbm, ⟨120, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_cst_12 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== Conv.lean ====
abbrev S2x4096x1536 : Shape := ⟨3, ![2, 4096, 1536]⟩
abbrev S1x31x512 : Shape := ⟨3, ![1, 31, 512]⟩
abbrev S1x512 : Shape := ⟨2, ![1, 512]⟩
abbrev S2x4096x1024 : Shape := ⟨3, ![2, 4096, 1024]⟩
abbrev S31x512 : Shape := ⟨2, ![31, 512]⟩
abbrev S_ : Shape := ⟨0, ![]⟩
abbrev S32x512 : Shape := ⟨2, ![32, 512]⟩
abbrev S2x4096x512 : Shape := ⟨3, ![2, 4096, 512]⟩
abbrev S1x256x512 : Shape := ⟨3, ![1, 256, 512]⟩
abbrev S1x32x512 : Shape := ⟨3, ![1, 32, 512]⟩
abbrev S288x512 : Shape := ⟨2, ![288, 512]⟩
abbrev S264x512 : Shape := ⟨2, ![264, 512]⟩
abbrev S256x512 : Shape := ⟨2, ![256, 512]⟩
abbrev S256 : Shape := ⟨1, ![256]⟩
abbrev S256x1 : Shape := ⟨2, ![256, 1]⟩
abbrev S1x256x1024 : Shape := ⟨3, ![1, 256, 1024]⟩
abbrev S512 : Shape := ⟨1, ![512]⟩
abbrev S32 : Shape := ⟨1, ![32]⟩
abbrev S32x1 : Shape := ⟨2, ![32, 1]⟩
abbrev S8x512 : Shape := ⟨2, ![8, 512]⟩
abbrev S256x1024 : Shape := ⟨2, ![256, 1024]⟩

abbrev nBuf : Space → Nat
  | .hbm => 19
  | .vmem => 50
  | .smem => 0
  | _ => 0

abbrev bufTy : (tb : Table) → Fin (tcTables nBuf tb) → BufTy
  | .hbm, ⟨0, _⟩ => ⟨S2x4096x1536, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S2x4096x1024, .f32⟩
  | .hbm, ⟨7, _⟩ => ⟨S31x512, .f32⟩
  | .hbm, ⟨8, _⟩ => ⟨S_, .i32⟩
  | .hbm, ⟨9, _⟩ => ⟨S_, .f32⟩
  | .hbm, ⟨10, _⟩ => ⟨S32x512, .f32⟩
  | .hbm, ⟨11, _⟩ => ⟨S2x4096x512, .bf16⟩
  | .hbm, ⟨12, _⟩ => ⟨S2x4096x512, .f32⟩
  | .hbm, ⟨13, _⟩ => ⟨S2x4096x1024, .bf16⟩
  | .hbm, ⟨14, _⟩ => ⟨S32x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .f32⟩
  | .local _ .vmem, ⟨16, _⟩ => ⟨S1x256x512, .f32⟩
  | .local _ .vmem, ⟨17, _⟩ => ⟨S288x512, .f32⟩
  | .local _ .vmem, ⟨18, _⟩ => ⟨S264x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x32x512, .f32⟩
  | .local _ .vmem, ⟨24, _⟩ => ⟨S1x32x512, .f32⟩
  | .local _ .vmem, ⟨25, _⟩ => ⟨S1x32x512, .f32⟩
  | .local _ .vmem, ⟨26, _⟩ => ⟨S1x32x512, .f32⟩
  | .local _ .vmem, ⟨27, _⟩ => ⟨S1x256x512, .f32⟩
  | .local _ .vmem, ⟨28, _⟩ => ⟨S1x256x512, .f32⟩
  | .local _ .vmem, ⟨29, _⟩ => ⟨S1x32x512, .f32⟩
  | .local _ .vmem, ⟨30, _⟩ => ⟨S1x32x512, .f32⟩
  | .local _ .vmem, ⟨31, _⟩ => ⟨S1x256x512, .f32⟩
  | .local _ .vmem, ⟨32, _⟩ => ⟨S1x256x512, .f32⟩
  | .local _ .vmem, ⟨33, _⟩ => ⟨S1x32x512, .f32⟩
  | .local _ .vmem, ⟨34, _⟩ => ⟨S1x32x512, .f32⟩
  | .local _ .vmem, ⟨35, _⟩ => ⟨S32x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x256x1024, .bf16⟩
  | .local _ .vmem, ⟨40, _⟩ => ⟨S1x256x1024, .bf16⟩
  | .local _ .vmem, ⟨41, _⟩ => ⟨S32x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S288x512, .f32⟩
  | .local _ .vmem, ⟨47, _⟩ => ⟨S288x512, .f32⟩
  | .local _ .vmem, ⟨48, _⟩ => ⟨S264x512, .f32⟩
  | .local _ .vmem, ⟨49, _⟩ => ⟨S264x512, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg14_0 : Ref sig .tc := ⟨.vmem, 42, rfl⟩
abbrev cc1_stg15_0 : Ref sig .tc := ⟨.vmem, 43, rfl⟩
abbrev cc1_stg16_0 : Ref sig .tc := ⟨.vmem, 44, rfl⟩
abbrev cc1_stg17_0 : Ref sig .tc := ⟨.vmem, 45, rfl⟩
abbrev cc1_scratch0 : Ref sig .tc := ⟨.vmem, 46, rfl⟩
abbrev cc1_scratch1 : Ref sig .tc := ⟨.vmem, 47, rfl⟩
abbrev cc1_scratch2 : Ref sig .tc := ⟨.vmem, 48, rfl⟩
abbrev cc1_scratch3 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem12_0 : DmaSem sig := 37
abbrev cc1_sem12_1 : DmaSem sig := 38
abbrev cc1_sem13_0 : DmaSem sig := 39
abbrev cc1_sem14_0 : DmaSem sig := 40
abbrev cc1_sem15_0 : DmaSem sig := 41
abbrev cc1_sem16_0 : DmaSem sig := 42
abbrev cc1_sem17_0 : DmaSem sig := 43

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x32x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x32x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S32x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 1 → Memref sig .tc .vmem S32x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]
-- ==== ConvRefIdeal.lean ====
abbrev S2x4096x1536 : Shape := ⟨3, ![2, 4096, 1536]⟩
abbrev S1x31x512 : Shape := ⟨3, ![1, 31, 512]⟩
abbrev S1x512 : Shape := ⟨2, ![1, 512]⟩
abbrev S2x4096x1024 : Shape := ⟨3, ![2, 4096, 1024]⟩
abbrev S2x4096x512 : Shape := ⟨3, ![2, 4096, 512]⟩
abbrev S31x512 : Shape := ⟨2, ![31, 512]⟩
abbrev S512 : Shape := ⟨1, ![512]⟩
abbrev S_ : Shape := ⟨0, ![]⟩
abbrev S2x30x512 : Shape := ⟨3, ![2, 30, 512]⟩
abbrev S2x4126x512 : Shape := ⟨3, ![2, 4126, 512]⟩
abbrev S1x1x512 : Shape := ⟨3, ![1, 1, 512]⟩
abbrev S2x4096 : Shape := ⟨2, ![2, 4096]⟩
abbrev S2x4096x1 : Shape := ⟨3, ![2, 4096, 1]⟩
abbrev S32x512 : Shape := ⟨2, ![32, 512]⟩

abbrev nBuf : Space → Nat
  | .hbm => 871
  | .vmem => 0
  | .smem => 0
  | _ => 0

abbrev hbmTy0_0 (i : Nat) : BufTy := match i % 128 with
  | 0 => ⟨S2x4096x1536, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S2x4096x1024, .f32⟩
  | 7 => ⟨S2x4096x512, .f32⟩
  | 8 => ⟨S2x4096x512, .f32⟩
  | 9 => ⟨S31x512, .f32⟩
  | 10 => ⟨S512, .f32⟩
  | 11 => ⟨S512, .f32⟩
  | 12 => ⟨S512, .f32⟩
  | 13 => ⟨S512, .f32⟩
  | 14 => ⟨S2x4096x512, .f32⟩
  | 15 => ⟨S2x4096x512, .f32⟩
  | 16 => ⟨S_, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S2x4096x512, .f32⟩
  | 26 => ⟨S2x4096x512, .f32⟩
  | 27 => ⟨S_, .f32⟩
  | 28 => ⟨S2x30x512, .f32⟩
  | 29 => ⟨S2x4126x512, .f32⟩
  | 30 => ⟨S_, .f32⟩
  | 31 => ⟨S2x30x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S_, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S2x4096x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S1x512, .f32⟩
  | 120 => ⟨S512, .f32⟩
  | 121 => ⟨S1x1x512, .f32⟩
  | 122 => ⟨S2x4096x512, .f32⟩
  | 123 => ⟨S2x4096x512, .f32⟩
  | 124 => ⟨S2x4096x512, .f32⟩
  | 125 => ⟨S2x4096x512, .f32⟩
  | 126 => ⟨S1x512, .f32⟩
  | 127 => ⟨S512, .f32⟩
  | _ => ⟨S2x4096x1536, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S1x512, .f32⟩
  | 6 => ⟨S512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S1x512, .f32⟩
  | 13 => ⟨S512, .f32⟩
  | 14 => ⟨S1x1x512, .f32⟩
  | 15 => ⟨S2x4096x512, .f32⟩
  | 16 => ⟨S2x4096x512, .f32⟩
  | 17 => ⟨S2x4096x512, .f32⟩
  | 18 => ⟨S2x4096x512, .f32⟩
  | 19 => ⟨S1x512, .f32⟩
  | 20 => ⟨S512, .f32⟩
  | 21 => ⟨S1x1x512, .f32⟩
  | 22 => ⟨S2x4096x512, .f32⟩
  | 23 => ⟨S2x4096x512, .f32⟩
  | 24 => ⟨S2x4096x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S1x1x512, .f32⟩
  | 50 => ⟨S2x4096x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S1x1x512, .f32⟩
  | 71 => ⟨S2x4096x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S1x1x512, .f32⟩
  | 78 => ⟨S2x4096x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S1x1x512, .f32⟩
  | 106 => ⟨S2x4096x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S1x1x512, .f32⟩
  | 113 => ⟨S2x4096x512, .f32⟩
  | 114 => ⟨S2x4096x512, .f32⟩
  | 115 => ⟨S2x4096x512, .f32⟩
  | 116 => ⟨S2x4096x512, .f32⟩
  | 117 => ⟨S1x512, .f32⟩
  | 118 => ⟨S512, .f32⟩
  | 119 => ⟨S1x1x512, .f32⟩
  | 120 => ⟨S2x4096x512, .f32⟩
  | 121 => ⟨S2x4096x512, .f32⟩
  | 122 => ⟨S2x4096x512, .f32⟩
  | 123 => ⟨S1x1x512, .f32⟩
  | 124 => ⟨S2x4096x512, .f32⟩
  | 125 => ⟨S2x4096x512, .f32⟩
  | 126 => ⟨S_, .f32⟩
  | 127 => ⟨S2x4096, .f32⟩
  | _ => ⟨S2x4096x1536, .f32⟩

abbrev hbmTy0_2 (i : Nat) : BufTy := match i % 128 with
  | 0 => ⟨S2x4096x1, .f32⟩
  | 1 => ⟨S_, .f32⟩
  | 2 => ⟨S2x4096x1, .f32⟩
  | 3 => ⟨S2x4096x1, .f32⟩
  | 4 => ⟨S2x4096x512, .f32⟩
  | 5 => ⟨S2x4096x512, .f32⟩
  | 6 => ⟨S2x4096x512, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x512, .f32⟩
  | 22 => ⟨S2x4096x512, .f32⟩
  | 23 => ⟨S1x1x512, .f32⟩
  | 24 => ⟨S2x4096x512, .f32⟩
  | 25 => ⟨S2x4096x512, .f32⟩
  | 26 => ⟨S1x1x512, .f32⟩
  | 27 => ⟨S2x4096x512, .f32⟩
  | 28 => ⟨S2x4096x512, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S_, .f32⟩
  | 35 => ⟨S2x4096x512, .f32⟩
  | 36 => ⟨S2x4096x512, .f32⟩
  | 37 => ⟨S_, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S_, .f32⟩
  | 44 => ⟨S2x4096, .f32⟩
  | 45 => ⟨S2x4096x1, .f32⟩
  | 46 => ⟨S_, .f32⟩
  | 47 => ⟨S2x4096x1, .f32⟩
  | 48 => ⟨S2x4096x1, .f32⟩
  | 49 => ⟨S_, .f32⟩
  | 50 => ⟨S2x4096x1, .f32⟩
  | 51 => ⟨S2x4096x1, .f32⟩
  | 52 => ⟨S2x4096x1, .f32⟩
  | 53 => ⟨S2x4096x1, .f32⟩
  | 54 => ⟨S_, .f32⟩
  | 55 => ⟨S2x4096x1, .f32⟩
  | 56 => ⟨S2x4096x1, .f32⟩
  | 57 => ⟨S2x4096x512, .f32⟩
  | 58 => ⟨S2x4096x512, .f32⟩
  | 59 => ⟨S1x1x512, .f32⟩
  | 60 => ⟨S2x4096x512, .f32⟩
  | 61 => ⟨S2x4096x512, .f32⟩
  | 62 => ⟨S2x4096x512, .f32⟩
  | 63 => ⟨S2x4096x512, .f32⟩
  | 64 => ⟨S_, .f32⟩
  | 65 => ⟨S512, .f32⟩
  | 66 => ⟨S1x1x512, .f32⟩
  | 67 => ⟨S2x4096x512, .f32⟩
  | 68 => ⟨S2x4096x512, .f32⟩
  | 69 => ⟨S_, .f32⟩
  | 70 => ⟨S512, .f32⟩
  | 71 => ⟨S2x4096x512, .f32⟩
  | 72 => ⟨S_, .f32⟩
  | 73 => ⟨S2x4096, .f32⟩
  | 74 => ⟨S2x4096x1, .f32⟩
  | 75 => ⟨S2x4096x512, .f32⟩
  | 76 => ⟨S2x4096x512, .f32⟩
  | 77 => ⟨S2x4096x1, .f32⟩
  | 78 => ⟨S_, .f32⟩
  | 79 => ⟨S2x4096x1, .f32⟩
  | 80 => ⟨S2x4096x1, .f32⟩
  | 81 => ⟨S_, .f32⟩
  | 82 => ⟨S2x4096, .f32⟩
  | 83 => ⟨S2x4096x512, .f32⟩
  | 84 => ⟨S2x4096x512, .f32⟩
  | 85 => ⟨S2x4096x512, .f32⟩
  | 86 => ⟨S2x4096x512, .f32⟩
  | 87 => ⟨S2x4096x512, .f32⟩
  | 88 => ⟨S2x4096x512, .f32⟩
  | 89 => ⟨S2x4096x512, .f32⟩
  | 90 => ⟨S2x4096x512, .f32⟩
  | 91 => ⟨S2x4096x512, .f32⟩
  | 92 => ⟨S_, .f32⟩
  | 93 => ⟨S512, .f32⟩
  | 94 => ⟨S1x1x512, .f32⟩
  | 95 => ⟨S_, .f32⟩
  | 96 => ⟨S512, .f32⟩
  | 97 => ⟨S2x4096x512, .f32⟩
  | 98 => ⟨S_, .f32⟩
  | 99 => ⟨S512, .f32⟩
  | 100 => ⟨S1x1x512, .f32⟩
  | 101 => ⟨S2x4096x512, .f32⟩
  | 102 => ⟨S2x4096x512, .f32⟩
  | 103 => ⟨S_, .f32⟩
  | 104 => ⟨S512, .f32⟩
  | 105 => ⟨S2x4096x512, .f32⟩
  | 106 => ⟨S_, .f32⟩
  | 107 => ⟨S2x4096, .f32⟩
  | 108 => ⟨S2x4096x1, .f32⟩
  | 109 => ⟨S2x4096x512, .f32⟩
  | 110 => ⟨S2x4096x512, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096, .f32⟩
  | 117 => ⟨S2x4096x512, .f32⟩
  | 118 => ⟨S2x4096x512, .f32⟩
  | 119 => ⟨S2x4096x512, .f32⟩
  | 120 => ⟨S2x4096x512, .f32⟩
  | 121 => ⟨S2x4096x512, .f32⟩
  | 122 => ⟨S2x4096x512, .f32⟩
  | 123 => ⟨S_, .f32⟩
  | 124 => ⟨S2x4096, .f32⟩
  | 125 => ⟨S2x4096x1, .f32⟩
  | 126 => ⟨S_, .f32⟩
  | 127 => ⟨S2x4096x1, .f32⟩
  | _ => ⟨S2x4096x1536, .f32⟩

abbrev hbmTy0_3 (i : Nat) : BufTy := match i % 128 with
  | 0 => ⟨S2x4096x1, .f32⟩
  | 1 => ⟨S_, .f32⟩
  | 2 => ⟨S2x4096, .f32⟩
  | 3 => ⟨S2x4096x512, .f32⟩
  | 4 => ⟨S2x4096x512, .f32⟩
  | 5 => ⟨S_, .f32⟩
  | 6 => ⟨S512, .f32⟩
  | 7 => ⟨S1x1x512, .f32⟩
  | 8 => ⟨S_, .f32⟩
  | 9 => ⟨S512, .f32⟩
  | 10 => ⟨S2x4096x512, .f32⟩
  | 11 => ⟨S_, .f32⟩
  | 12 => ⟨S512, .f32⟩
  | 13 => ⟨S1x1x512, .f32⟩
  | 14 => ⟨S2x4096x512, .f32⟩
  | 15 => ⟨S2x4096x512, .f32⟩
  | 16 => ⟨S_, .f32⟩
  | 17 => ⟨S512, .f32⟩
  | 18 => ⟨S1x512, .f32⟩
  | 19 => ⟨S_, .f32⟩
  | 20 => ⟨S31x512, .f32⟩
  | 21 => ⟨S_, .f32⟩
  | 22 => ⟨S2x4126x512, .f32⟩
  | 23 => ⟨S2x4096x512, .f32⟩
  | 24 => ⟨S_, .f32⟩
  | 25 => ⟨S512, .f32⟩
  | 26 => ⟨S1x1x512, .f32⟩
  | 27 => ⟨S2x4096x512, .f32⟩
  | 28 => ⟨S2x4096x512, .f32⟩
  | 29 => ⟨S_, .f32⟩
  | 30 => ⟨S512, .f32⟩
  | 31 => ⟨S1x512, .f32⟩
  | 32 => ⟨S_, .f32⟩
  | 33 => ⟨S31x512, .f32⟩
  | 34 => ⟨S31x512, .f32⟩
  | 35 => ⟨S_, .f32⟩
  | 36 => ⟨S2x4126x512, .f32⟩
  | 37 => ⟨S2x4126x512, .f32⟩
  | 38 => ⟨S2x4096x512, .f32⟩
  | 39 => ⟨S_, .f32⟩
  | 40 => ⟨S512, .f32⟩
  | 41 => ⟨S1x1x512, .f32⟩
  | 42 => ⟨S2x4096x512, .f32⟩
  | 43 => ⟨S2x4096x512, .f32⟩
  | 44 => ⟨S_, .f32⟩
  | 45 => ⟨S512, .f32⟩
  | 46 => ⟨S1x512, .f32⟩
  | 47 => ⟨S_, .f32⟩
  | 48 => ⟨S31x512, .f32⟩
  | 49 => ⟨S31x512, .f32⟩
  | 50 => ⟨S_, .f32⟩
  | 51 => ⟨S2x4126x512, .f32⟩
  | 52 => ⟨S2x4126x512, .f32⟩
  | 53 => ⟨S2x4096x512, .f32⟩
  | 54 => ⟨S_, .f32⟩
  | 55 => ⟨S512, .f32⟩
  | 56 => ⟨S1x1x512, .f32⟩
  | 57 => ⟨S2x4096x512, .f32⟩
  | 58 => ⟨S2x4096x512, .f32⟩
  | 59 => ⟨S_, .f32⟩
  | 60 => ⟨S512, .f32⟩
  | 61 => ⟨S1x512, .f32⟩
  | 62 => ⟨S_, .f32⟩
  | 63 => ⟨S31x512, .f32⟩
  | 64 => ⟨S31x512, .f32⟩
  | 65 => ⟨S_, .f32⟩
  | 66 => ⟨S2x4126x512, .f32⟩
  | 67 => ⟨S2x4126x512, .f32⟩
  | 68 => ⟨S2x4096x512, .f32⟩
  | 69 => ⟨S_, .f32⟩
  | 70 => ⟨S512, .f32⟩
  | 71 => ⟨S1x1x512, .f32⟩
  | 72 => ⟨S2x4096x512, .f32⟩
  | 73 => ⟨S2x4096x512, .f32⟩
  | 74 => ⟨S_, .f32⟩
  | 75 => ⟨S512, .f32⟩
  | 76 => ⟨S1x512, .f32⟩
  | 77 => ⟨S_, .f32⟩
  | 78 => ⟨S31x512, .f32⟩
  | 79 => ⟨S31x512, .f32⟩
  | 80 => ⟨S_, .f32⟩
  | 81 => ⟨S2x4126x512, .f32⟩
  | 82 => ⟨S2x4126x512, .f32⟩
  | 83 => ⟨S2x4096x512, .f32⟩
  | 84 => ⟨S_, .f32⟩
  | 85 => ⟨S512, .f32⟩
  | 86 => ⟨S1x1x512, .f32⟩
  | 87 => ⟨S2x4096x512, .f32⟩
  | 88 => ⟨S2x4096x512, .f32⟩
  | 89 => ⟨S_, .f32⟩
  | 90 => ⟨S512, .f32⟩
  | 91 => ⟨S1x512, .f32⟩
  | 92 => ⟨S_, .f32⟩
  | 93 => ⟨S31x512, .f32⟩
  | 94 => ⟨S31x512, .f32⟩
  | 95 => ⟨S_, .f32⟩
  | 96 => ⟨S2x4126x512, .f32⟩
  | 97 => ⟨S2x4126x512, .f32⟩
  | 98 => ⟨S2x4096x512, .f32⟩
  | 99 => ⟨S_, .f32⟩
  | 100 => ⟨S512, .f32⟩
  | 101 => ⟨S1x1x512, .f32⟩
  | 102 => ⟨S2x4096x512, .f32⟩
  | 103 => ⟨S2x4096x512, .f32⟩
  | 104 => ⟨S_, .f32⟩
  | 105 => ⟨S512, .f32⟩
  | 106 => ⟨S1x512, .f32⟩
  | 107 => ⟨S_, .f32⟩
  | 108 => ⟨S31x512, .f32⟩
  | 109 => ⟨S31x512, .f32⟩
  | 110 => ⟨S_, .f32⟩
  | 111 => ⟨S2x4126x512, .f32⟩
  | 112 => ⟨S2x4126x512, .f32⟩
  | 113 => ⟨S2x4096x512, .f32⟩
  | 114 => ⟨S_, .f32⟩
  | 115 => ⟨S512, .f32⟩
  | 116 => ⟨S1x1x512, .f32⟩
  | 117 => ⟨S2x4096x512, .f32⟩
  | 118 => ⟨S2x4096x512, .f32⟩
  | 119 => ⟨S_, .f32⟩
  | 120 => ⟨S512, .f32⟩
  | 121 => ⟨S1x512, .f32⟩
  | 122 => ⟨S_, .f32⟩
  | 123 => ⟨S31x512, .f32⟩
  | 124 => ⟨S31x512, .f32⟩
  | 125 => ⟨S_, .f32⟩
  | 126 => ⟨S2x4126x512, .f32⟩
  | 127 => ⟨S2x4126x512, .f32⟩
  | _ => ⟨S2x4096x1536, .f32⟩

abbrev hbmTy0_4 (i : Nat) : BufTy := match i % 128 with
  | 0 => ⟨S2x4096x512, .f32⟩
  | 1 => ⟨S_, .f32⟩
  | 2 => ⟨S512, .f32⟩
  | 3 => ⟨S1x1x512, .f32⟩
  | 4 => ⟨S2x4096x512, .f32⟩
  | 5 => ⟨S2x4096x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S2x4126x512, .f32⟩
  | 14 => ⟨S2x4126x512, .f32⟩
  | 15 => ⟨S2x4096x512, .f32⟩
  | 16 => ⟨S_, .f32⟩
  | 17 => ⟨S512, .f32⟩
  | 18 => ⟨S1x1x512, .f32⟩
  | 19 => ⟨S2x4096x512, .f32⟩
  | 20 => ⟨S2x4096x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S2x4126x512, .f32⟩
  | 29 => ⟨S2x4126x512, .f32⟩
  | 30 => ⟨S2x4096x512, .f32⟩
  | 31 => ⟨S_, .f32⟩
  | 32 => ⟨S512, .f32⟩
  | 33 => ⟨S1x1x512, .f32⟩
  | 34 => ⟨S2x4096x512, .f32⟩
  | 35 => ⟨S2x4096x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S2x4126x512, .f32⟩
  | 44 => ⟨S2x4126x512, .f32⟩
  | 45 => ⟨S2x4096x512, .f32⟩
  | 46 => ⟨S_, .f32⟩
  | 47 => ⟨S512, .f32⟩
  | 48 => ⟨S1x1x512, .f32⟩
  | 49 => ⟨S2x4096x512, .f32⟩
  | 50 => ⟨S2x4096x512, .f32⟩
  | 51 => ⟨S_, .f32⟩
  | 52 => ⟨S512, .f32⟩
  | 53 => ⟨S1x512, .f32⟩
  | 54 => ⟨S_, .f32⟩
  | 55 => ⟨S31x512, .f32⟩
  | 56 => ⟨S31x512, .f32⟩
  | 57 => ⟨S_, .f32⟩
  | 58 => ⟨S2x4126x512, .f32⟩
  | 59 => ⟨S2x4126x512, .f32⟩
  | 60 => ⟨S2x4096x512, .f32⟩
  | 61 => ⟨S_, .f32⟩
  | 62 => ⟨S512, .f32⟩
  | 63 => ⟨S1x1x512, .f32⟩
  | 64 => ⟨S2x4096x512, .f32⟩
  | 65 => ⟨S2x4096x512, .f32⟩
  | 66 => ⟨S_, .f32⟩
  | 67 => ⟨S512, .f32⟩
  | 68 => ⟨S1x512, .f32⟩
  | 69 => ⟨S_, .f32⟩
  | 70 => ⟨S31x512, .f32⟩
  | 71 => ⟨S31x512, .f32⟩
  | 72 => ⟨S_, .f32⟩
  | 73 => ⟨S2x4126x512, .f32⟩
  | 74 => ⟨S2x4126x512, .f32⟩
  | 75 => ⟨S2x4096x512, .f32⟩
  | 76 => ⟨S_, .f32⟩
  | 77 => ⟨S512, .f32⟩
  | 78 => ⟨S1x1x512, .f32⟩
  | 79 => ⟨S2x4096x512, .f32⟩
  | 80 => ⟨S2x4096x512, .f32⟩
  | 81 => ⟨S_, .f32⟩
  | 82 => ⟨S512, .f32⟩
  | 83 => ⟨S1x512, .f32⟩
  | 84 => ⟨S_, .f32⟩
  | 85 => ⟨S31x512, .f32⟩
  | 86 => ⟨S31x512, .f32⟩
  | 87 => ⟨S_, .f32⟩
  | 88 => ⟨S2x4126x512, .f32⟩
  | 89 => ⟨S2x4126x512, .f32⟩
  | 90 => ⟨S2x4096x512, .f32⟩
  | 91 => ⟨S_, .f32⟩
  | 92 => ⟨S512, .f32⟩
  | 93 => ⟨S1x1x512, .f32⟩
  | 94 => ⟨S2x4096x512, .f32⟩
  | 95 => ⟨S2x4096x512, .f32⟩
  | 96 => ⟨S_, .f32⟩
  | 97 => ⟨S512, .f32⟩
  | 98 => ⟨S1x512, .f32⟩
  | 99 => ⟨S_, .f32⟩
  | 100 => ⟨S31x512, .f32⟩
  | 101 => ⟨S31x512, .f32⟩
  | 102 => ⟨S_, .f32⟩
  | 103 => ⟨S2x4126x512, .f32⟩
  | 104 => ⟨S2x4126x512, .f32⟩
  | 105 => ⟨S2x4096x512, .f32⟩
  | 106 => ⟨S_, .f32⟩
  | 107 => ⟨S512, .f32⟩
  | 108 => ⟨S1x1x512, .f32⟩
  | 109 => ⟨S2x4096x512, .f32⟩
  | 110 => ⟨S2x4096x512, .f32⟩
  | 111 => ⟨S_, .f32⟩
  | 112 => ⟨S512, .f32⟩
  | 113 => ⟨S1x512, .f32⟩
  | 114 => ⟨S_, .f32⟩
  | 115 => ⟨S31x512, .f32⟩
  | 116 => ⟨S31x512, .f32⟩
  | 117 => ⟨S_, .f32⟩
  | 118 => ⟨S2x4126x512, .f32⟩
  | 119 => ⟨S2x4126x512, .f32⟩
  | 120 => ⟨S2x4096x512, .f32⟩
  | 121 => ⟨S_, .f32⟩
  | 122 => ⟨S512, .f32⟩
  | 123 => ⟨S1x1x512, .f32⟩
  | 124 => ⟨S2x4096x512, .f32⟩
  | 125 => ⟨S2x4096x512, .f32⟩
  | 126 => ⟨S_, .f32⟩
  | 127 => ⟨S512, .f32⟩
  | _ => ⟨S2x4096x1536, .f32⟩

abbrev hbmTy0_5 (i : Nat) : BufTy := match i % 128 with
  | 0 => ⟨S1x512, .f32⟩
  | 1 => ⟨S_, .f32⟩
  | 2 => ⟨S31x512, .f32⟩
  | 3 => ⟨S31x512, .f32⟩
  | 4 => ⟨S_, .f32⟩
  | 5 => ⟨S2x4126x512, .f32⟩
  | 6 => ⟨S2x4126x512, .f32⟩
  | 7 => ⟨S2x4096x512, .f32⟩
  | 8 => ⟨S_, .f32⟩
  | 9 => ⟨S512, .f32⟩
  | 10 => ⟨S1x1x512, .f32⟩
  | 11 => ⟨S2x4096x512, .f32⟩
  | 12 => ⟨S2x4096x512, .f32⟩
  | 13 => ⟨S_, .f32⟩
  | 14 => ⟨S512, .f32⟩
  | 15 => ⟨S1x512, .f32⟩
  | 16 => ⟨S_, .f32⟩
  | 17 => ⟨S31x512, .f32⟩
  | 18 => ⟨S31x512, .f32⟩
  | 19 => ⟨S_, .f32⟩
  | 20 => ⟨S2x4126x512, .f32⟩
  | 21 => ⟨S2x4126x512, .f32⟩
  | 22 => ⟨S2x4096x512, .f32⟩
  | 23 => ⟨S_, .f32⟩
  | 24 => ⟨S512, .f32⟩
  | 25 => ⟨S1x1x512, .f32⟩
  | 26 => ⟨S2x4096x512, .f32⟩
  | 27 => ⟨S2x4096x512, .f32⟩
  | 28 => ⟨S_, .f32⟩
  | 29 => ⟨S512, .f32⟩
  | 30 => ⟨S1x512, .f32⟩
  | 31 => ⟨S_, .f32⟩
  | 32 => ⟨S31x512, .f32⟩
  | 33 => ⟨S31x512, .f32⟩
  | 34 => ⟨S_, .f32⟩
  | 35 => ⟨S2x4126x512, .f32⟩
  | 36 => ⟨S2x4126x512, .f32⟩
  | 37 => ⟨S2x4096x512, .f32⟩
  | 38 => ⟨S_, .f32⟩
  | 39 => ⟨S512, .f32⟩
  | 40 => ⟨S1x1x512, .f32⟩
  | 41 => ⟨S2x4096x512, .f32⟩
  | 42 => ⟨S2x4096x512, .f32⟩
  | 43 => ⟨S_, .f32⟩
  | 44 => ⟨S512, .f32⟩
  | 45 => ⟨S1x512, .f32⟩
  | 46 => ⟨S_, .f32⟩
  | 47 => ⟨S31x512, .f32⟩
  | 48 => ⟨S31x512, .f32⟩
  | 49 => ⟨S_, .f32⟩
  | 50 => ⟨S2x4126x512, .f32⟩
  | 51 => ⟨S2x4126x512, .f32⟩
  | 52 => ⟨S2x4096x512, .f32⟩
  | 53 => ⟨S_, .f32⟩
  | 54 => ⟨S512, .f32⟩
  | 55 => ⟨S1x1x512, .f32⟩
  | 56 => ⟨S2x4096x512, .f32⟩
  | 57 => ⟨S2x4096x512, .f32⟩
  | 58 => ⟨S_, .f32⟩
  | 59 => ⟨S512, .f32⟩
  | 60 => ⟨S1x512, .f32⟩
  | 61 => ⟨S_, .f32⟩
  | 62 => ⟨S31x512, .f32⟩
  | 63 => ⟨S31x512, .f32⟩
  | 64 => ⟨S_, .f32⟩
  | 65 => ⟨S2x4126x512, .f32⟩
  | 66 => ⟨S2x4126x512, .f32⟩
  | 67 => ⟨S2x4096x512, .f32⟩
  | 68 => ⟨S_, .f32⟩
  | 69 => ⟨S512, .f32⟩
  | 70 => ⟨S1x1x512, .f32⟩
  | 71 => ⟨S2x4096x512, .f32⟩
  | 72 => ⟨S2x4096x512, .f32⟩
  | 73 => ⟨S_, .f32⟩
  | 74 => ⟨S512, .f32⟩
  | 75 => ⟨S1x512, .f32⟩
  | 76 => ⟨S_, .f32⟩
  | 77 => ⟨S31x512, .f32⟩
  | 78 => ⟨S31x512, .f32⟩
  | 79 => ⟨S_, .f32⟩
  | 80 => ⟨S2x4126x512, .f32⟩
  | 81 => ⟨S2x4126x512, .f32⟩
  | 82 => ⟨S2x4096x512, .f32⟩
  | 83 => ⟨S_, .f32⟩
  | 84 => ⟨S512, .f32⟩
  | 85 => ⟨S1x1x512, .f32⟩
  | 86 => ⟨S2x4096x512, .f32⟩
  | 87 => ⟨S2x4096x512, .f32⟩
  | 88 => ⟨S_, .f32⟩
  | 89 => ⟨S512, .f32⟩
  | 90 => ⟨S1x512, .f32⟩
  | 91 => ⟨S_, .f32⟩
  | 92 => ⟨S31x512, .f32⟩
  | 93 => ⟨S31x512, .f32⟩
  | 94 => ⟨S_, .f32⟩
  | 95 => ⟨S2x4126x512, .f32⟩
  | 96 => ⟨S2x4126x512, .f32⟩
  | 97 => ⟨S2x4096x512, .f32⟩
  | 98 => ⟨S_, .f32⟩
  | 99 => ⟨S512, .f32⟩
  | 100 => ⟨S1x1x512, .f32⟩
  | 101 => ⟨S2x4096x512, .f32⟩
  | 102 => ⟨S2x4096x512, .f32⟩
  | 103 => ⟨S_, .f32⟩
  | 104 => ⟨S512, .f32⟩
  | 105 => ⟨S1x512, .f32⟩
  | 106 => ⟨S_, .f32⟩
  | 107 => ⟨S31x512, .f32⟩
  | 108 => ⟨S31x512, .f32⟩
  | 109 => ⟨S_, .f32⟩
  | 110 => ⟨S2x4126x512, .f32⟩
  | 111 => ⟨S2x4126x512, .f32⟩
  | 112 => ⟨S2x4096x512, .f32⟩
  | 113 => ⟨S_, .f32⟩
  | 114 => ⟨S512, .f32⟩
  | 115 => ⟨S1x1x512, .f32⟩
  | 116 => ⟨S2x4096x512, .f32⟩
  | 117 => ⟨S2x4096x512, .f32⟩
  | 118 => ⟨S_, .f32⟩
  | 119 => ⟨S512, .f32⟩
  | 120 => ⟨S1x512, .f32⟩
  | 121 => ⟨S_, .f32⟩
  | 122 => ⟨S31x512, .f32⟩
  | 123 => ⟨S31x512, .f32⟩
  | 124 => ⟨S_, .f32⟩
  | 125 => ⟨S2x4126x512, .f32⟩
  | 126 => ⟨S2x4126x512, .f32⟩
  | 127 => ⟨S2x4096x512, .f32⟩
  | _ => ⟨S2x4096x1536, .f32⟩

abbrev hbmTy0_6 (i : Nat) : BufTy := match i % 128 with
  | 0 => ⟨S_, .f32⟩
  | 1 => ⟨S512, .f32⟩
  | 2 => ⟨S1x1x512, .f32⟩
  | 3 => ⟨S2x4096x512, .f32⟩
  | 4 => ⟨S2x4096x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S31x512, .f32⟩
  | 11 => ⟨S_, .f32⟩
  | 12 => ⟨S2x4126x512, .f32⟩
  | 13 => ⟨S2x4126x512, .f32⟩
  | 14 => ⟨S2x4096x512, .f32⟩
  | 15 => ⟨S_, .f32⟩
  | 16 => ⟨S512, .f32⟩
  | 17 => ⟨S1x1x512, .f32⟩
  | 18 => ⟨S2x4096x512, .f32⟩
  | 19 => ⟨S2x4096x512, .f32⟩
  | 20 => ⟨S_, .f32⟩
  | 21 => ⟨S512, .f32⟩
  | 22 => ⟨S1x512, .f32⟩
  | 23 => ⟨S_, .f32⟩
  | 24 => ⟨S31x512, .f32⟩
  | 25 => ⟨S31x512, .f32⟩
  | 26 => ⟨S_, .f32⟩
  | 27 => ⟨S2x4126x512, .f32⟩
  | 28 => ⟨S2x4126x512, .f32⟩
  | 29 => ⟨S2x4096x512, .f32⟩
  | 30 => ⟨S_, .f32⟩
  | 31 => ⟨S512, .f32⟩
  | 32 => ⟨S1x1x512, .f32⟩
  | 33 => ⟨S2x4096x512, .f32⟩
  | 34 => ⟨S2x4096x512, .f32⟩
  | 35 => ⟨S_, .f32⟩
  | 36 => ⟨S512, .f32⟩
  | 37 => ⟨S1x512, .f32⟩
  | 38 => ⟨S_, .f32⟩
  | 39 => ⟨S31x512, .f32⟩
  | 40 => ⟨S31x512, .f32⟩
  | 41 => ⟨S_, .f32⟩
  | 42 => ⟨S2x4126x512, .f32⟩
  | 43 => ⟨S2x4126x512, .f32⟩
  | 44 => ⟨S2x4096x512, .f32⟩
  | 45 => ⟨S_, .f32⟩
  | 46 => ⟨S512, .f32⟩
  | 47 => ⟨S1x1x512, .f32⟩
  | 48 => ⟨S2x4096x512, .f32⟩
  | 49 => ⟨S2x4096x512, .f32⟩
  | 50 => ⟨S_, .f32⟩
  | 51 => ⟨S512, .f32⟩
  | 52 => ⟨S1x512, .f32⟩
  | 53 => ⟨S_, .f32⟩
  | 54 => ⟨S31x512, .f32⟩
  | 55 => ⟨S31x512, .f32⟩
  | 56 => ⟨S_, .f32⟩
  | 57 => ⟨S2x4126x512, .f32⟩
  | 58 => ⟨S2x4126x512, .f32⟩
  | 59 => ⟨S2x4096x512, .f32⟩
  | 60 => ⟨S_, .f32⟩
  | 61 => ⟨S512, .f32⟩
  | 62 => ⟨S1x1x512, .f32⟩
  | 63 => ⟨S2x4096x512, .f32⟩
  | 64 => ⟨S2x4096x512, .f32⟩
  | 65 => ⟨S_, .f32⟩
  | 66 => ⟨S512, .f32⟩
  | 67 => ⟨S1x512, .f32⟩
  | 68 => ⟨S_, .f32⟩
  | 69 => ⟨S31x512, .f32⟩
  | 70 => ⟨S31x512, .f32⟩
  | 71 => ⟨S_, .f32⟩
  | 72 => ⟨S2x4126x512, .f32⟩
  | 73 => ⟨S2x4126x512, .f32⟩
  | 74 => ⟨S2x4096x512, .f32⟩
  | 75 => ⟨S_, .f32⟩
  | 76 => ⟨S512, .f32⟩
  | 77 => ⟨S1x1x512, .f32⟩
  | 78 => ⟨S2x4096x512, .f32⟩
  | 79 => ⟨S2x4096x512, .f32⟩
  | 80 => ⟨S_, .f32⟩
  | 81 => ⟨S512, .f32⟩
  | 82 => ⟨S1x512, .f32⟩
  | 83 => ⟨S_, .f32⟩
  | 84 => ⟨S31x512, .f32⟩
  | 85 => ⟨S31x512, .f32⟩
  | 86 => ⟨S_, .f32⟩
  | 87 => ⟨S2x4126x512, .f32⟩
  | 88 => ⟨S2x4126x512, .f32⟩
  | 89 => ⟨S2x30x512, .f32⟩
  | 90 => ⟨S2x4096x512, .f32⟩
  | 91 => ⟨S2x4096x512, .f32⟩
  | 92 => ⟨S2x4096x512, .f32⟩
  | 93 => ⟨S2x4096x512, .f32⟩
  | 94 => ⟨S_, .i32⟩
  | 95 => ⟨S_, .f32⟩
  | 96 => ⟨S32x512, .f32⟩
  | 97 => ⟨S2x4096x1024, .f32⟩
  | 98 => ⟨S2x4096x1024, .bf16⟩
  | 99 => ⟨S1x512, .f32⟩
  | 100 => ⟨S1x512, .f32⟩
  | 101 => ⟨S1x512, .f32⟩
  | 102 => ⟨S1x512, .f32⟩
  | _ => ⟨S2x4096x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x4096x1536, .f32⟩

abbrev bufTy : (tb : Table) → Fin (tcTables nBuf tb) → BufTy
  | .hbm, ⟨i, _⟩ => hbmTy i
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_cst_5 : Ref sig .tc := ⟨.hbm, 254, rfl⟩
abbrev main_v241 : Ref sig .tc := ⟨.hbm, 255, rfl⟩
abbrev main_v242 : Ref sig .tc := ⟨.hbm, 256, rfl⟩
abbrev main_cst_6 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_7 : Ref sig .tc := ⟨.hbm, 263, rfl⟩
abbrev main_v248 : Ref sig .tc := ⟨.hbm, 264, rfl⟩
abbrev main_v249 : Ref sig .tc := ⟨.hbm, 265, rfl⟩
abbrev main_cst_8 : Ref sig .tc := ⟨.hbm, 266, rfl⟩
abbrev main_v250 : Ref sig .tc := ⟨.hbm, 267, rfl⟩
abbrev main_v251 : Ref sig .tc := ⟨.hbm, 268, rfl⟩
abbrev main_cst_9 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_cst_10 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_call0_v0 : Ref sig .tc := ⟨.hbm, 285, rfl⟩
abbrev main_call0_v1 : Ref sig .tc := ⟨.hbm, 286, rfl⟩
abbrev main_call0_cst : Ref sig .tc := ⟨.hbm, 287, rfl⟩
abbrev main_call0_v2 : Ref sig .tc := ⟨.hbm, 288, rfl⟩
abbrev main_call0_v3 : Ref sig .tc := ⟨.hbm, 289, rfl⟩
abbrev main_call0_cst_0 : Ref sig .tc := ⟨.hbm, 290, rfl⟩
abbrev main_call0_v4 : Ref sig .tc := ⟨.hbm, 291, rfl⟩
abbrev main_v266_2 : Ref sig .tc := ⟨.hbm, 292, rfl⟩
abbrev main_call0_cst_1 : Ref sig .tc := ⟨.hbm, 293, rfl⟩
abbrev main_call0_v6 : Ref sig .tc := ⟨.hbm, 294, rfl⟩
abbrev main_call0_v7 : Ref sig .tc := ⟨.hbm, 295, rfl⟩
abbrev main_v266_1 : Ref sig .tc := ⟨.hbm, 296, rfl⟩
abbrev main_v266_0 : Ref sig .tc := ⟨.hbm, 297, rfl⟩
abbrev main_v267 : Ref sig .tc := ⟨.hbm, 298, rfl⟩
abbrev main_cst_11 : Ref sig .tc := ⟨.hbm, 299, rfl⟩
abbrev main_v268 : Ref sig .tc := ⟨.hbm, 300, rfl⟩
abbrev main_v269 : Ref sig .tc := ⟨.hbm, 301, rfl⟩
abbrev main_cst_12 : Ref sig .tc := ⟨.hbm, 302, rfl⟩
abbrev main_v270 : Ref sig .tc := ⟨.hbm, 303, rfl⟩
abbrev main_v271 : Ref sig .tc := ⟨.hbm, 304, rfl⟩
abbrev main_cst_13 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_cst_14 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_cst_15 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_cst_16 : Ref sig .tc := ⟨.hbm, 325, rfl⟩
abbrev main_v289 : Ref sig .tc := ⟨.hbm, 326, rfl⟩
abbrev main_v290 : Ref sig .tc := ⟨.hbm, 327, rfl⟩
abbrev main_cst_17 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_cst_18 : Ref sig .tc := ⟨.hbm, 334, rfl⟩
abbrev main_v296 : Ref sig .tc := ⟨.hbm, 335, rfl⟩
abbrev main_v297 : Ref sig .tc := ⟨.hbm, 336, rfl⟩
abbrev main_cst_19 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_call1_v0 : Ref sig .tc := ⟨.hbm, 344, rfl⟩
abbrev main_call1_v1 : Ref sig .tc := ⟨.hbm, 345, rfl⟩
abbrev main_call1_v2 : Ref sig .tc := ⟨.hbm, 346, rfl⟩
abbrev main_v304 : Ref sig .tc := ⟨.hbm, 347, rfl⟩
abbrev main_cst_20 : Ref sig .tc := ⟨.hbm, 348, rfl⟩
abbrev main_v305 : Ref sig .tc := ⟨.hbm, 349, rfl⟩
abbrev main_v306 : Ref sig .tc := ⟨.hbm, 350, rfl⟩
abbrev main_cst_21 : Ref sig .tc := ⟨.hbm, 351, rfl⟩
abbrev main_v307 : Ref sig .tc := ⟨.hbm, 352, rfl⟩
abbrev main_v308 : Ref sig .tc := ⟨.hbm, 353, rfl⟩
abbrev main_cst_22 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_cst_23 : Ref sig .tc := ⟨.hbm, 359, rfl⟩
abbrev main_v313 : Ref sig .tc := ⟨.hbm, 360, rfl⟩
abbrev main_v314 : Ref sig .tc := ⟨.hbm, 361, rfl⟩
abbrev main_cst_24 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_cst_25 : Ref sig .tc := ⟨.hbm, 368, rfl⟩
abbrev main_v320 : Ref sig .tc := ⟨.hbm, 369, rfl⟩
abbrev main_v321 : Ref sig .tc := ⟨.hbm, 370, rfl⟩
abbrev main_cst_26 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_cst_27 : Ref sig .tc := ⟨.hbm, 379, rfl⟩
abbrev main_v329 : Ref sig .tc := ⟨.hbm, 380, rfl⟩
abbrev main_v330 : Ref sig .tc := ⟨.hbm, 381, rfl⟩
abbrev main_cst_28 : Ref sig .tc := ⟨.hbm, 382, rfl⟩
abbrev main_v331 : Ref sig .tc := ⟨.hbm, 383, rfl⟩
abbrev main_v332 : Ref sig .tc := ⟨.hbm, 384, rfl⟩
abbrev main_cst_29 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_cst_30 : Ref sig .tc := ⟨.hbm, 389, rfl⟩
abbrev main_v336 : Ref sig .tc := ⟨.hbm, 390, rfl⟩
abbrev main_v337 : Ref sig .tc := ⟨.hbm, 391, rfl⟩
abbrev main_cst_31 : Ref sig .tc := ⟨.hbm, 392, rfl⟩
abbrev main_v338 : Ref sig .tc := ⟨.hbm, 393, rfl⟩
abbrev main_v339 : Ref sig .tc := ⟨.hbm, 394, rfl⟩
abbrev main_cst_32 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_cst_33 : Ref sig .tc := ⟨.hbm, 400, rfl⟩
abbrev main_v344 : Ref sig .tc := ⟨.hbm, 401, rfl⟩
abbrev main_v345 : Ref sig .tc := ⟨.hbm, 402, rfl⟩
abbrev main_cst_34 : Ref sig .tc := ⟨.hbm, 403, rfl⟩
abbrev main_v346 : Ref sig .tc := ⟨.hbm, 404, rfl⟩
abbrev main_cst_35 : Ref sig .tc := ⟨.hbm, 405, rfl⟩
abbrev main_v347 : Ref sig .tc := ⟨.hbm, 406, rfl⟩
abbrev main_v348 : Ref sig .tc := ⟨.hbm, 407, rfl⟩
abbrev main_cst_36 : Ref sig .tc := ⟨.hbm, 408, rfl⟩
abbrev main_v349 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_cst_37 : Ref sig .tc := ⟨.hbm, 413, rfl⟩
abbrev main_v353 : Ref sig .tc := ⟨.hbm, 414, rfl⟩
abbrev main_v354 : Ref sig .tc := ⟨.hbm, 415, rfl⟩
abbrev main_cst_38 : Ref sig .tc := ⟨.hbm, 416, rfl⟩
abbrev main_v355 : Ref sig .tc := ⟨.hbm, 417, rfl⟩
abbrev main_v356 : Ref sig .tc := ⟨.hbm, 418, rfl⟩
abbrev main_cst_39 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_cst_40 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_cst_41 : Ref sig .tc := ⟨.hbm, 428, rfl⟩
abbrev main_v364 : Ref sig .tc := ⟨.hbm, 429, rfl⟩
abbrev main_v365 : Ref sig .tc := ⟨.hbm, 430, rfl⟩
abbrev main_cst_42 : Ref sig .tc := ⟨.hbm, 431, rfl⟩
abbrev main_v366 : Ref sig .tc := ⟨.hbm, 432, rfl⟩
abbrev main_v367 : Ref sig .tc := ⟨.hbm, 433, rfl⟩
abbrev main_cst_43 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_cst_44 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_cst_45 : Ref sig .tc := ⟨.hbm, 443, rfl⟩
abbrev main_v375 : Ref sig .tc := ⟨.hbm, 444, rfl⟩
abbrev main_v376 : Ref sig .tc := ⟨.hbm, 445, rfl⟩
abbrev main_cst_46 : Ref sig .tc := ⟨.hbm, 446, rfl⟩
abbrev main_v377 : Ref sig .tc := ⟨.hbm, 447, rfl⟩
abbrev main_v378 : Ref sig .tc := ⟨.hbm, 448, rfl⟩
abbrev main_cst_47 : Ref sig .tc := ⟨.hbm, 449, rfl⟩
abbrev main_v379 : Ref sig .tc := ⟨.hbm, 450, rfl⟩
abbrev main_v380 : Ref sig .tc := ⟨.hbm, 451, rfl⟩
abbrev main_v381 : Ref sig .tc := ⟨.hbm, 452, rfl⟩
abbrev main_cst_48 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_cst_49 : Ref sig .tc := ⟨.hbm, 458, rfl⟩
abbrev main_v386 : Ref sig .tc := ⟨.hbm, 459, rfl⟩
abbrev main_v387 : Ref sig .tc := ⟨.hbm, 460, rfl⟩
abbrev main_cst_50 : Ref sig .tc := ⟨.hbm, 461, rfl⟩
abbrev main_v388 : Ref sig .tc := ⟨.hbm, 462, rfl⟩
abbrev main_v389 : Ref sig .tc := ⟨.hbm, 463, rfl⟩
abbrev main_cst_51 : Ref sig .tc := ⟨.hbm, 464, rfl⟩
abbrev main_v390 : Ref sig .tc := ⟨.hbm, 465, rfl⟩
abbrev main_v391 : Ref sig .tc := ⟨.hbm, 466, rfl⟩
abbrev main_v392 : Ref sig .tc := ⟨.hbm, 467, rfl⟩
abbrev main_cst_52 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev main_v396 : Ref sig .tc := ⟨.hbm, 472, rfl⟩
abbrev main_cst_53 : Ref sig .tc := ⟨.hbm, 473, rfl⟩
abbrev main_v397 : Ref sig .tc := ⟨.hbm, 474, rfl⟩
abbrev main_v398 : Ref sig .tc := ⟨.hbm, 475, rfl⟩
abbrev main_cst_54 : Ref sig .tc := ⟨.hbm, 476, rfl⟩
abbrev main_v399 : Ref sig .tc := ⟨.hbm, 477, rfl⟩
abbrev main_v400 : Ref sig .tc := ⟨.hbm, 478, rfl⟩
abbrev main_cst_55 : Ref sig .tc := ⟨.hbm, 479, rfl⟩
abbrev main_v401 : Ref sig .tc := ⟨.hbm, 480, rfl⟩
abbrev main_v402 : Ref sig .tc := ⟨.hbm, 481, rfl⟩
abbrev main_v403 : Ref sig .tc := ⟨.hbm, 482, rfl⟩
abbrev main_cst_56 : Ref sig .tc := ⟨.hbm, 483, rfl⟩
abbrev main_v404 : Ref sig .tc := ⟨.hbm, 484, rfl⟩
abbrev main_v405 : Ref sig .tc := ⟨.hbm, 485, rfl⟩
abbrev main_v406 : Ref sig .tc := ⟨.hbm, 486, rfl⟩
abbrev main_v407 : Ref sig .tc := ⟨.hbm, 487, rfl⟩
abbrev main_cst_57 : Ref sig .tc := ⟨.hbm, 488, rfl⟩
abbrev main_v408 : Ref sig .tc := ⟨.hbm, 489, rfl⟩
abbrev main_v409 : Ref sig .tc := ⟨.hbm, 490, rfl⟩
abbrev main_cst_58 : Ref sig .tc := ⟨.hbm, 491, rfl⟩
abbrev main_v410 : Ref sig .tc := ⟨.hbm, 492, rfl⟩
abbrev main_v411 : Ref sig .tc := ⟨.hbm, 493, rfl⟩
abbrev main_cst_59 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_cst_60 : Ref sig .tc := ⟨.hbm, 498, rfl⟩
abbrev main_v415 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_cst_61 : Ref sig .tc := ⟨.hbm, 503, rfl⟩
abbrev main_v419 : Ref sig .tc := ⟨.hbm, 504, rfl⟩
abbrev main_v420 : Ref sig .tc := ⟨.hbm, 505, rfl⟩
abbrev main_cst_62 : Ref sig .tc := ⟨.hbm, 506, rfl⟩
abbrev main_v421 : Ref sig .tc := ⟨.hbm, 507, rfl⟩
abbrev main_v422 : Ref sig .tc := ⟨.hbm, 508, rfl⟩
abbrev main_cst_63 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩
abbrev main_cst_64 : Ref sig .tc := ⟨.hbm, 513, rfl⟩
abbrev main_v426 : Ref sig .tc := ⟨.hbm, 514, rfl⟩
abbrev main_v427 : Ref sig .tc := ⟨.hbm, 515, rfl⟩
abbrev main_v428 : Ref sig .tc := ⟨.hbm, 516, rfl⟩
abbrev main_v429 : Ref sig .tc := ⟨.hbm, 517, rfl⟩
abbrev main_cst_65 : Ref sig .tc := ⟨.hbm, 518, rfl⟩
abbrev main_v430 : Ref sig .tc := ⟨.hbm, 519, rfl⟩
abbrev main_v431 : Ref sig .tc := ⟨.hbm, 520, rfl⟩
abbrev main_cst_66 : Ref sig .tc := ⟨.hbm, 521, rfl⟩
abbrev main_v432 : Ref sig .tc := ⟨.hbm, 522, rfl⟩
abbrev main_v433 : Ref sig .tc := ⟨.hbm, 523, rfl⟩
abbrev main_cst_67 : Ref sig .tc := ⟨.hbm, 524, rfl⟩
abbrev main_v434 : Ref sig .tc := ⟨.hbm, 525, rfl⟩
abbrev main_v435 : Ref sig .tc := ⟨.hbm, 526, rfl⟩
abbrev main_v436 : Ref sig .tc := ⟨.hbm, 527, rfl⟩
abbrev main_cst_68 : Ref sig .tc := ⟨.hbm, 528, rfl⟩
abbrev main_v437 : Ref sig .tc := ⟨.hbm, 529, rfl⟩
abbrev main_v438 : Ref sig .tc := ⟨.hbm, 530, rfl⟩
abbrev main_v439 : Ref sig .tc := ⟨.hbm, 531, rfl⟩
abbrev main_v440 : Ref sig .tc := ⟨.hbm, 532, rfl⟩
abbrev main_cst_69 : Ref sig .tc := ⟨.hbm, 533, rfl⟩
abbrev main_v441 : Ref sig .tc := ⟨.hbm, 534, rfl⟩
abbrev main_v442 : Ref sig .tc := ⟨.hbm, 535, rfl⟩
abbrev main_cst_70 : Ref sig .tc := ⟨.hbm, 536, rfl⟩
abbrev main_v443 : Ref sig .tc := ⟨.hbm, 537, rfl⟩
abbrev main_v444 : Ref sig .tc := ⟨.hbm, 538, rfl⟩
abbrev main_cst_71 : Ref sig .tc := ⟨.hbm, 539, rfl⟩
abbrev main_v445 : Ref sig .tc := ⟨.hbm, 540, rfl⟩
abbrev main_v446 : Ref sig .tc := ⟨.hbm, 541, rfl⟩
abbrev main_v447 : Ref sig .tc := ⟨.hbm, 542, rfl⟩
abbrev main_cst_72 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_cst_73 : Ref sig .tc := ⟨.hbm, 548, rfl⟩
abbrev main_v452 : Ref sig .tc := ⟨.hbm, 549, rfl⟩
abbrev main_v453 : Ref sig .tc := ⟨.hbm, 550, rfl⟩
abbrev main_cst_74 : Ref sig .tc := ⟨.hbm, 551, rfl⟩
abbrev main_v454 : Ref sig .tc := ⟨.hbm, 552, rfl⟩
abbrev main_v455 : Ref sig .tc := ⟨.hbm, 553, rfl⟩
abbrev main_cst_75 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_cst_76 : Ref sig .tc := ⟨.hbm, 558, rfl⟩
abbrev main_v459 : Ref sig .tc := ⟨.hbm, 559, rfl⟩
abbrev main_v460 : Ref sig .tc := ⟨.hbm, 560, rfl⟩
abbrev main_v461 : Ref sig .tc := ⟨.hbm, 561, rfl⟩
abbrev main_v462 : Ref sig .tc := ⟨.hbm, 562, rfl⟩
abbrev main_cst_77 : Ref sig .tc := ⟨.hbm, 563, rfl⟩
abbrev main_v463 : Ref sig .tc := ⟨.hbm, 564, rfl⟩
abbrev main_v464 : Ref sig .tc := ⟨.hbm, 565, rfl⟩
abbrev main_cst_78 : Ref sig .tc := ⟨.hbm, 566, rfl⟩
abbrev main_v465 : Ref sig .tc := ⟨.hbm, 567, rfl⟩
abbrev main_v466 : Ref sig .tc := ⟨.hbm, 568, rfl⟩
abbrev main_cst_79 : Ref sig .tc := ⟨.hbm, 569, rfl⟩
abbrev main_v467 : Ref sig .tc := ⟨.hbm, 570, rfl⟩
abbrev main_v468 : Ref sig .tc := ⟨.hbm, 571, rfl⟩
abbrev main_v469 : Ref sig .tc := ⟨.hbm, 572, rfl⟩
abbrev main_cst_80 : Ref sig .tc := ⟨.hbm, 573, rfl⟩
abbrev main_v470 : Ref sig .tc := ⟨.hbm, 574, rfl⟩
abbrev main_v471 : Ref sig .tc := ⟨.hbm, 575, rfl⟩
abbrev main_v472 : Ref sig .tc := ⟨.hbm, 576, rfl⟩
abbrev main_v473 : Ref sig .tc := ⟨.hbm, 577, rfl⟩
abbrev main_cst_81 : Ref sig .tc := ⟨.hbm, 578, rfl⟩
abbrev main_v474 : Ref sig .tc := ⟨.hbm, 579, rfl⟩
abbrev main_v475 : Ref sig .tc := ⟨.hbm, 580, rfl⟩
abbrev main_cst_82 : Ref sig .tc := ⟨.hbm, 581, rfl⟩
abbrev main_v476 : Ref sig .tc := ⟨.hbm, 582, rfl⟩
abbrev main_v477 : Ref sig .tc := ⟨.hbm, 583, rfl⟩
abbrev main_cst_83 : Ref sig .tc := ⟨.hbm, 584, rfl⟩
abbrev main_v478 : Ref sig .tc := ⟨.hbm, 585, rfl⟩
abbrev main_v479 : Ref sig .tc := ⟨.hbm, 586, rfl⟩
abbrev main_v480 : Ref sig .tc := ⟨.hbm, 587, rfl⟩
abbrev main_cst_84 : Ref sig .tc := ⟨.hbm, 588, rfl⟩
abbrev main_v481 : Ref sig .tc := ⟨.hbm, 589, rfl⟩
abbrev main_v482 : Ref sig .tc := ⟨.hbm, 590, rfl⟩
abbrev main_v483 : Ref sig .tc := ⟨.hbm, 591, rfl⟩
abbrev main_v484 : Ref sig .tc := ⟨.hbm, 592, rfl⟩
abbrev main_cst_85 : Ref sig .tc := ⟨.hbm, 593, rfl⟩
abbrev main_v485 : Ref sig .tc := ⟨.hbm, 594, rfl⟩
abbrev main_v486 : Ref sig .tc := ⟨.hbm, 595, rfl⟩
abbrev main_cst_86 : Ref sig .tc := ⟨.hbm, 596, rfl⟩
abbrev main_v487 : Ref sig .tc := ⟨.hbm, 597, rfl⟩
abbrev main_v488 : Ref sig .tc := ⟨.hbm, 598, rfl⟩
abbrev main_cst_87 : Ref sig .tc := ⟨.hbm, 599, rfl⟩
abbrev main_v489 : Ref sig .tc := ⟨.hbm, 600, rfl⟩
abbrev main_v490 : Ref sig .tc := ⟨.hbm, 601, rfl⟩
abbrev main_v491 : Ref sig .tc := ⟨.hbm, 602, rfl⟩
abbrev main_cst_88 : Ref sig .tc := ⟨.hbm, 603, rfl⟩
abbrev main_v492 : Ref sig .tc := ⟨.hbm, 604, rfl⟩
abbrev main_v493 : Ref sig .tc := ⟨.hbm, 605, rfl⟩
abbrev main_v494 : Ref sig .tc := ⟨.hbm, 606, rfl⟩
abbrev main_v495 : Ref sig .tc := ⟨.hbm, 607, rfl⟩
abbrev main_cst_89 : Ref sig .tc := ⟨.hbm, 608, rfl⟩
abbrev main_v496 : Ref sig .tc := ⟨.hbm, 609, rfl⟩
abbrev main_v497 : Ref sig .tc := ⟨.hbm, 610, rfl⟩
abbrev main_cst_90 : Ref sig .tc := ⟨.hbm, 611, rfl⟩
abbrev main_v498 : Ref sig .tc := ⟨.hbm, 612, rfl⟩
abbrev main_v499 : Ref sig .tc := ⟨.hbm, 613, rfl⟩
abbrev main_cst_91 : Ref sig .tc := ⟨.hbm, 614, rfl⟩
abbrev main_v500 : Ref sig .tc := ⟨.hbm, 615, rfl⟩
abbrev main_v501 : Ref sig .tc := ⟨.hbm, 616, rfl⟩
abbrev main_v502 : Ref sig .tc := ⟨.hbm, 617, rfl⟩
abbrev main_cst_92 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_cst_93 : Ref sig .tc := ⟨.hbm, 623, rfl⟩
abbrev main_v507 : Ref sig .tc := ⟨.hbm, 624, rfl⟩
abbrev main_v508 : Ref sig .tc := ⟨.hbm, 625, rfl⟩
abbrev main_cst_94 : Ref sig .tc := ⟨.hbm, 626, rfl⟩
abbrev main_v509 : Ref sig .tc := ⟨.hbm, 627, rfl⟩
abbrev main_v510 : Ref sig .tc := ⟨.hbm, 628, rfl⟩
abbrev main_cst_95 : Ref sig .tc := ⟨.hbm, 629, rfl⟩
abbrev main_v511 : Ref sig .tc := ⟨.hbm, 630, rfl⟩
abbrev main_v512 : Ref sig .tc := ⟨.hbm, 631, rfl⟩
abbrev main_v513 : Ref sig .tc := ⟨.hbm, 632, rfl⟩
abbrev main_cst_96 : Ref sig .tc := ⟨.hbm, 633, rfl⟩
abbrev main_v514 : Ref sig .tc := ⟨.hbm, 634, rfl⟩
abbrev main_v515 : Ref sig .tc := ⟨.hbm, 635, rfl⟩
abbrev main_v516 : Ref sig .tc := ⟨.hbm, 636, rfl⟩
abbrev main_v517 : Ref sig .tc := ⟨.hbm, 637, rfl⟩
abbrev main_cst_97 : Ref sig .tc := ⟨.hbm, 638, rfl⟩
abbrev main_v518 : Ref sig .tc := ⟨.hbm, 639, rfl⟩
abbrev main_v519 : Ref sig .tc := ⟨.hbm, 640, rfl⟩
abbrev main_cst_98 : Ref sig .tc := ⟨.hbm, 641, rfl⟩
abbrev main_v520 : Ref sig .tc := ⟨.hbm, 642, rfl⟩
abbrev main_v521 : Ref sig .tc := ⟨.hbm, 643, rfl⟩
abbrev main_cst_99 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_cst_100 : Ref sig .tc := ⟨.hbm, 648, rfl⟩
abbrev main_v525 : Ref sig .tc := ⟨.hbm, 649, rfl⟩
abbrev main_v526 : Ref sig .tc := ⟨.hbm, 650, rfl⟩
abbrev main_v527 : Ref sig .tc := ⟨.hbm, 651, rfl⟩
abbrev main_v528 : Ref sig .tc := ⟨.hbm, 652, rfl⟩
abbrev main_cst_101 : Ref sig .tc := ⟨.hbm, 653, rfl⟩
abbrev main_v529 : Ref sig .tc := ⟨.hbm, 654, rfl⟩
abbrev main_v530 : Ref sig .tc := ⟨.hbm, 655, rfl⟩
abbrev main_cst_102 : Ref sig .tc := ⟨.hbm, 656, rfl⟩
abbrev main_v531 : Ref sig .tc := ⟨.hbm, 657, rfl⟩
abbrev main_v532 : Ref sig .tc := ⟨.hbm, 658, rfl⟩
abbrev main_cst_103 : Ref sig .tc := ⟨.hbm, 659, rfl⟩
abbrev main_v533 : Ref sig .tc := ⟨.hbm, 660, rfl⟩
abbrev main_v534 : Ref sig .tc := ⟨.hbm, 661, rfl⟩
abbrev main_v535 : Ref sig .tc := ⟨.hbm, 662, rfl⟩
abbrev main_cst_104 : Ref sig .tc := ⟨.hbm, 663, rfl⟩
abbrev main_v536 : Ref sig .tc := ⟨.hbm, 664, rfl⟩
abbrev main_v537 : Ref sig .tc := ⟨.hbm, 665, rfl⟩
abbrev main_v538 : Ref sig .tc := ⟨.hbm, 666, rfl⟩
abbrev main_v539 : Ref sig .tc := ⟨.hbm, 667, rfl⟩
abbrev main_cst_105 : Ref sig .tc := ⟨.hbm, 668, rfl⟩
abbrev main_v540 : Ref sig .tc := ⟨.hbm, 669, rfl⟩
abbrev main_v541 : Ref sig .tc := ⟨.hbm, 670, rfl⟩
abbrev main_cst_106 : Ref sig .tc := ⟨.hbm, 671, rfl⟩
abbrev main_v542 : Ref sig .tc := ⟨.hbm, 672, rfl⟩
abbrev main_v543 : Ref sig .tc := ⟨.hbm, 673, rfl⟩
abbrev main_cst_107 : Ref sig .tc := ⟨.hbm, 674, rfl⟩
abbrev main_v544 : Ref sig .tc := ⟨.hbm, 675, rfl⟩
abbrev main_v545 : Ref sig .tc := ⟨.hbm, 676, rfl⟩
abbrev main_v546 : Ref sig .tc := ⟨.hbm, 677, rfl⟩
abbrev main_cst_108 : Ref sig .tc := ⟨.hbm, 678, rfl⟩
abbrev main_v547 : Ref sig .tc := ⟨.hbm, 679, rfl⟩
abbrev main_v548 : Ref sig .tc := ⟨.hbm, 680, rfl⟩
abbrev main_v549 : Ref sig .tc := ⟨.hbm, 681, rfl⟩
abbrev main_v550 : Ref sig .tc := ⟨.hbm, 682, rfl⟩
abbrev main_cst_109 : Ref sig .tc := ⟨.hbm, 683, rfl⟩
abbrev main_v551 : Ref sig .tc := ⟨.hbm, 684, rfl⟩
abbrev main_v552 : Ref sig .tc := ⟨.hbm, 685, rfl⟩
abbrev main_cst_110 : Ref sig .tc := ⟨.hbm, 686, rfl⟩
abbrev main_v553 : Ref sig .tc := ⟨.hbm, 687, rfl⟩
abbrev main_v554 : Ref sig .tc := ⟨.hbm, 688, rfl⟩
abbrev main_cst_111 : Ref sig .tc := ⟨.hbm, 689, rfl⟩
abbrev main_v555 : Ref sig .tc := ⟨.hbm, 690, rfl⟩
abbrev main_v556 : Ref sig .tc := ⟨.hbm, 691, rfl⟩
abbrev main_v557 : Ref sig .tc := ⟨.hbm, 692, rfl⟩
abbrev main_cst_112 : Ref sig .tc := ⟨.hbm, 693, rfl⟩
abbrev main_v558 : Ref sig .tc := ⟨.hbm, 694, rfl⟩
abbrev main_v559 : Ref sig .tc := ⟨.hbm, 695, rfl⟩
abbrev main_v560 : Ref sig .tc := ⟨.hbm, 696, rfl⟩
abbrev main_v561 : Ref sig .tc := ⟨.hbm, 697, rfl⟩
abbrev main_cst_113 : Ref sig .tc := ⟨.hbm, 698, rfl⟩
abbrev main_v562 : Ref sig .tc := ⟨.hbm, 699, rfl⟩
abbrev main_v563 : Ref sig .tc := ⟨.hbm, 700, rfl⟩
abbrev main_cst_114 : Ref sig .tc := ⟨.hbm, 701, rfl⟩
abbrev main_v564 : Ref sig .tc := ⟨.hbm, 702, rfl⟩
abbrev main_v565 : Ref sig .tc := ⟨.hbm, 703, rfl⟩
abbrev main_cst_115 : Ref sig .tc := ⟨.hbm, 704, rfl⟩
abbrev main_v566 : Ref sig .tc := ⟨.hbm, 705, rfl⟩
abbrev main_v567 : Ref sig .tc := ⟨.hbm, 706, rfl⟩
abbrev main_v568 : Ref sig .tc := ⟨.hbm, 707, rfl⟩
abbrev main_cst_116 : Ref sig .tc := ⟨.hbm, 708, rfl⟩
abbrev main_v569 : Ref sig .tc := ⟨.hbm, 709, rfl⟩
abbrev main_v570 : Ref sig .tc := ⟨.hbm, 710, rfl⟩
abbrev main_v571 : Ref sig .tc := ⟨.hbm, 711, rfl⟩
abbrev main_v572 : Ref sig .tc := ⟨.hbm, 712, rfl⟩
abbrev main_cst_117 : Ref sig .tc := ⟨.hbm, 713, rfl⟩
abbrev main_v573 : Ref sig .tc := ⟨.hbm, 714, rfl⟩
abbrev main_v574 : Ref sig .tc := ⟨.hbm, 715, rfl⟩
abbrev main_cst_118 : Ref sig .tc := ⟨.hbm, 716, rfl⟩
abbrev main_v575 : Ref sig .tc := ⟨.hbm, 717, rfl⟩
abbrev main_v576 : Ref sig .tc := ⟨.hbm, 718, rfl⟩
abbrev main_cst_119 : Ref sig .tc := ⟨.hbm, 719, rfl⟩
abbrev main_v577 : Ref sig .tc := ⟨.hbm, 720, rfl⟩
abbrev main_v578 : Ref sig .tc := ⟨.hbm, 721, rfl⟩
abbrev main_v579 : Ref sig .tc := ⟨.hbm, 722, rfl⟩
abbrev main_cst_120 : Ref sig .tc := ⟨.hbm, 723, rfl⟩
abbrev main_v580 : Ref sig .tc := ⟨.hbm, 724, rfl⟩
abbrev main_v581 : Ref sig .tc := ⟨.hbm, 725, rfl⟩
abbrev main_v582 : Ref sig .tc := ⟨.hbm, 726, rfl⟩
abbrev main_v583 : Ref sig .tc := ⟨.hbm, 727, rfl⟩
abbrev main_cst_121 : Ref sig .tc := ⟨.hbm, 728, rfl⟩
abbrev main_v584 : Ref sig .tc := ⟨.hbm, 729, rfl⟩
abbrev main_v585 : Ref sig .tc := ⟨.hbm, 730, rfl⟩
abbrev main_cst_122 : Ref sig .tc := ⟨.hbm, 731, rfl⟩
abbrev main_v586 : Ref sig .tc := ⟨.hbm, 732, rfl⟩
abbrev main_v587 : Ref sig .tc := ⟨.hbm, 733, rfl⟩
abbrev main_cst_123 : Ref sig .tc := ⟨.hbm, 734, rfl⟩
abbrev main_v588 : Ref sig .tc := ⟨.hbm, 735, rfl⟩
abbrev main_v589 : Ref sig .tc := ⟨.hbm, 736, rfl⟩
abbrev main_v590 : Ref sig .tc := ⟨.hbm, 737, rfl⟩
abbrev main_cst_124 : Ref sig .tc := ⟨.hbm, 738, rfl⟩
abbrev main_v591 : Ref sig .tc := ⟨.hbm, 739, rfl⟩
abbrev main_v592 : Ref sig .tc := ⟨.hbm, 740, rfl⟩
abbrev main_v593 : Ref sig .tc := ⟨.hbm, 741, rfl⟩
abbrev main_v594 : Ref sig .tc := ⟨.hbm, 742, rfl⟩
abbrev main_cst_125 : Ref sig .tc := ⟨.hbm, 743, rfl⟩
abbrev main_v595 : Ref sig .tc := ⟨.hbm, 744, rfl⟩
abbrev main_v596 : Ref sig .tc := ⟨.hbm, 745, rfl⟩
abbrev main_cst_126 : Ref sig .tc := ⟨.hbm, 746, rfl⟩
abbrev main_v597 : Ref sig .tc := ⟨.hbm, 747, rfl⟩
abbrev main_v598 : Ref sig .tc := ⟨.hbm, 748, rfl⟩
abbrev main_cst_127 : Ref sig .tc := ⟨.hbm, 749, rfl⟩
abbrev main_v599 : Ref sig .tc := ⟨.hbm, 750, rfl⟩
abbrev main_v600 : Ref sig .tc := ⟨.hbm, 751, rfl⟩
abbrev main_v601 : Ref sig .tc := ⟨.hbm, 752, rfl⟩
abbrev main_cst_128 : Ref sig .tc := ⟨.hbm, 753, rfl⟩
abbrev main_v602 : Ref sig .tc := ⟨.hbm, 754, rfl⟩
abbrev main_v603 : Ref sig .tc := ⟨.hbm, 755, rfl⟩
abbrev main_v604 : Ref sig .tc := ⟨.hbm, 756, rfl⟩
abbrev main_v605 : Ref sig .tc := ⟨.hbm, 757, rfl⟩
abbrev main_cst_129 : Ref sig .tc := ⟨.hbm, 758, rfl⟩
abbrev main_v606 : Ref sig .tc := ⟨.hbm, 759, rfl⟩
abbrev main_v607 : Ref sig .tc := ⟨.hbm, 760, rfl⟩
abbrev main_cst_130 : Ref sig .tc := ⟨.hbm, 761, rfl⟩
abbrev main_v608 : Ref sig .tc := ⟨.hbm, 762, rfl⟩
abbrev main_v609 : Ref sig .tc := ⟨.hbm, 763, rfl⟩
abbrev main_cst_131 : Ref sig .tc := ⟨.hbm, 764, rfl⟩
abbrev main_v610 : Ref sig .tc := ⟨.hbm, 765, rfl⟩
abbrev main_v611 : Ref sig .tc := ⟨.hbm, 766, rfl⟩
abbrev main_v612 : Ref sig .tc := ⟨.hbm, 767, rfl⟩
abbrev main_cst_132 : Ref sig .tc := ⟨.hbm, 768, rfl⟩
abbrev main_v613 : Ref sig .tc := ⟨.hbm, 769, rfl⟩
abbrev main_v614 : Ref sig .tc := ⟨.hbm, 770, rfl⟩
abbrev main_v615 : Ref sig .tc := ⟨.hbm, 771, rfl⟩
abbrev main_v616 : Ref sig .tc := ⟨.hbm, 772, rfl⟩
abbrev main_cst_133 : Ref sig .tc := ⟨.hbm, 773, rfl⟩
abbrev main_v617 : Ref sig .tc := ⟨.hbm, 774, rfl⟩
abbrev main_v618 : Ref sig .tc := ⟨.hbm, 775, rfl⟩
abbrev main_cst_134 : Ref sig .tc := ⟨.hbm, 776, rfl⟩
abbrev main_v619 : Ref sig .tc := ⟨.hbm, 777, rfl⟩
abbrev main_v620 : Ref sig .tc := ⟨.hbm, 778, rfl⟩
abbrev main_cst_135 : Ref sig .tc := ⟨.hbm, 779, rfl⟩
abbrev main_v621 : Ref sig .tc := ⟨.hbm, 780, rfl⟩
abbrev main_v622 : Ref sig .tc := ⟨.hbm, 781, rfl⟩
abbrev main_v623 : Ref sig .tc := ⟨.hbm, 782, rfl⟩
abbrev main_cst_136 : Ref sig .tc := ⟨.hbm, 783, rfl⟩
abbrev main_v624 : Ref sig .tc := ⟨.hbm, 784, rfl⟩
abbrev main_v625 : Ref sig .tc := ⟨.hbm, 785, rfl⟩
abbrev main_v626 : Ref sig .tc := ⟨.hbm, 786, rfl⟩
abbrev main_v627 : Ref sig .tc := ⟨.hbm, 787, rfl⟩
abbrev main_cst_137 : Ref sig .tc := ⟨.hbm, 788, rfl⟩
abbrev main_v628 : Ref sig .tc := ⟨.hbm, 789, rfl⟩
abbrev main_v629 : Ref sig .tc := ⟨.hbm, 790, rfl⟩
abbrev main_cst_138 : Ref sig .tc := ⟨.hbm, 791, rfl⟩
abbrev main_v630 : Ref sig .tc := ⟨.hbm, 792, rfl⟩
abbrev main_v631 : Ref sig .tc := ⟨.hbm, 793, rfl⟩
abbrev main_cst_139 : Ref sig .tc := ⟨.hbm, 794, rfl⟩
abbrev main_v632 : Ref sig .tc := ⟨.hbm, 795, rfl⟩
abbrev main_v633 : Ref sig .tc := ⟨.hbm, 796, rfl⟩
abbrev main_v634 : Ref sig .tc := ⟨.hbm, 797, rfl⟩
abbrev main_cst_140 : Ref sig .tc := ⟨.hbm, 798, rfl⟩
abbrev main_v635 : Ref sig .tc := ⟨.hbm, 799, rfl⟩
abbrev main_v636 : Ref sig .tc := ⟨.hbm, 800, rfl⟩
abbrev main_v637 : Ref sig .tc := ⟨.hbm, 801, rfl⟩
abbrev main_v638 : Ref sig .tc := ⟨.hbm, 802, rfl⟩
abbrev main_cst_141 : Ref sig .tc := ⟨.hbm, 803, rfl⟩
abbrev main_v639 : Ref sig .tc := ⟨.hbm, 804, rfl⟩
abbrev main_v640 : Ref sig .tc := ⟨.hbm, 805, rfl⟩
abbrev main_cst_142 : Ref sig .tc := ⟨.hbm, 806, rfl⟩
abbrev main_v641 : Ref sig .tc := ⟨.hbm, 807, rfl⟩
abbrev main_v642 : Ref sig .tc := ⟨.hbm, 808, rfl⟩
abbrev main_cst_143 : Ref sig .tc := ⟨.hbm, 809, rfl⟩
abbrev main_v643 : Ref sig .tc := ⟨.hbm, 810, rfl⟩
abbrev main_v644 : Ref sig .tc := ⟨.hbm, 811, rfl⟩
abbrev main_v645 : Ref sig .tc := ⟨.hbm, 812, rfl⟩
abbrev main_cst_144 : Ref sig .tc := ⟨.hbm, 813, rfl⟩
abbrev main_v646 : Ref sig .tc := ⟨.hbm, 814, rfl⟩
abbrev main_v647 : Ref sig .tc := ⟨.hbm, 815, rfl⟩
abbrev main_v648 : Ref sig .tc := ⟨.hbm, 816, rfl⟩
abbrev main_v649 : Ref sig .tc := ⟨.hbm, 817, rfl⟩
abbrev main_cst_145 : Ref sig .tc := ⟨.hbm, 818, rfl⟩
abbrev main_v650 : Ref sig .tc := ⟨.hbm, 819, rfl⟩
abbrev main_v651 : Ref sig .tc := ⟨.hbm, 820, rfl⟩
abbrev main_cst_146 : Ref sig .tc := ⟨.hbm, 821, rfl⟩
abbrev main_v652 : Ref sig .tc := ⟨.hbm, 822, rfl⟩
abbrev main_v653 : Ref sig .tc := ⟨.hbm, 823, rfl⟩
abbrev main_cst_147 : Ref sig .tc := ⟨.hbm, 824, rfl⟩
abbrev main_v654 : Ref sig .tc := ⟨.hbm, 825, rfl⟩
abbrev main_v655 : Ref sig .tc := ⟨.hbm, 826, rfl⟩
abbrev main_v656 : Ref sig .tc := ⟨.hbm, 827, rfl⟩
abbrev main_cst_148 : Ref sig .tc := ⟨.hbm, 828, rfl⟩
abbrev main_v657 : Ref sig .tc := ⟨.hbm, 829, rfl⟩
abbrev main_v658 : Ref sig .tc := ⟨.hbm, 830, rfl⟩
abbrev main_v659 : Ref sig .tc := ⟨.hbm, 831, rfl⟩
abbrev main_v660 : Ref sig .tc := ⟨.hbm, 832, rfl⟩
abbrev main_cst_149 : Ref sig .tc := ⟨.hbm, 833, rfl⟩
abbrev main_v661 : Ref sig .tc := ⟨.hbm, 834, rfl⟩
abbrev main_v662 : Ref sig .tc := ⟨.hbm, 835, rfl⟩
abbrev main_cst_150 : Ref sig .tc := ⟨.hbm, 836, rfl⟩
abbrev main_v663 : Ref sig .tc := ⟨.hbm, 837, rfl⟩
abbrev main_v664 : Ref sig .tc := ⟨.hbm, 838, rfl⟩
abbrev main_cst_151 : Ref sig .tc := ⟨.hbm, 839, rfl⟩
abbrev main_v665 : Ref sig .tc := ⟨.hbm, 840, rfl⟩
abbrev main_v666 : Ref sig .tc := ⟨.hbm, 841, rfl⟩
abbrev main_v667 : Ref sig .tc := ⟨.hbm, 842, rfl⟩
abbrev main_cst_152 : Ref sig .tc := ⟨.hbm, 843, rfl⟩
abbrev main_v668 : Ref sig .tc := ⟨.hbm, 844, rfl⟩
abbrev main_v669 : Ref sig .tc := ⟨.hbm, 845, rfl⟩
abbrev main_v670 : Ref sig .tc := ⟨.hbm, 846, rfl⟩
abbrev main_v671 : Ref sig .tc := ⟨.hbm, 847, rfl⟩
abbrev main_cst_153 : Ref sig .tc := ⟨.hbm, 848, rfl⟩
abbrev main_v672 : Ref sig .tc := ⟨.hbm, 849, rfl⟩
abbrev main_v673 : Ref sig .tc := ⟨.hbm, 850, rfl⟩
abbrev main_cst_154 : Ref sig .tc := ⟨.hbm, 851, rfl⟩
abbrev main_v674 : Ref sig .tc := ⟨.hbm, 852, rfl⟩
abbrev main_v675 : Ref sig .tc := ⟨.hbm, 853, rfl⟩
abbrev main_cst_155 : Ref sig .tc := ⟨.hbm, 854, rfl⟩
abbrev main_v676 : Ref sig .tc := ⟨.hbm, 855, rfl⟩
abbrev main_v677 : Ref sig .tc := ⟨.hbm, 856, rfl⟩
abbrev main_v678 : Ref sig .tc := ⟨.hbm, 857, rfl⟩
abbrev main_v679 : Ref sig .tc := ⟨.hbm, 858, rfl⟩
abbrev main_v680 : Ref sig .tc := ⟨.hbm, 859, rfl⟩
abbrev main_v681 : Ref sig .tc := ⟨.hbm, 860, rfl⟩
abbrev main_v682 : Ref sig .tc := ⟨.hbm, 861, rfl⟩
abbrev main_c : Ref sig .tc := ⟨.hbm, 862, rfl⟩
abbrev main_call2_v0 : Ref sig .tc := ⟨.hbm, 863, rfl⟩
abbrev main_v683 : Ref sig .tc := ⟨.hbm, 864, rfl⟩
abbrev main_v684 : Ref sig .tc := ⟨.hbm, 865, rfl⟩
abbrev main_v685 : Ref sig .tc := ⟨.hbm, 866, rfl⟩
abbrev main_v686 : Ref sig .tc := ⟨.hbm, 867, rfl⟩
abbrev main_v687 : Ref sig .tc := ⟨.hbm, 868, rfl⟩
abbrev main_v688 : Ref sig .tc := ⟨.hbm, 869, rfl⟩
abbrev main_v689 : Ref sig .tc := ⟨.hbm, 870, rfl⟩

abbrev nD : Nat := 1
abbrev τ : Topo := Topo.v7x

variable {F : FTy → Type} [FloatOps F]
-- ==== Param.lean ====
abbrev S1x32x64 : Shape := ⟨3, ![1, 32, 64]⟩
abbrev S1x32 : Shape := ⟨2, ![1, 32]⟩
abbrev S1x32x64x16 : Shape := ⟨4, ![1, 32, 64, 16]⟩
abbrev S8x32x64 : Shape := ⟨3, ![8, 32, 64]⟩
abbrev S32x64x16 : Shape := ⟨3, ![32, 64, 16]⟩
abbrev S32x64 : Shape := ⟨2, ![32, 64]⟩
abbrev S32 : Shape := ⟨1, ![32]⟩
abbrev S32x1 : Shape := ⟨2, ![32, 1]⟩
abbrev S32x16x64 : Shape := ⟨3, ![32, 16, 64]⟩
abbrev S512x64 : Shape := ⟨2, ![512, 64]⟩

abbrev nBuf : Space → Nat
  | .hbm => 35
  | .vmem => 17
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S8x32x64, .f32⟩
  | .hbm, ⟨6, _⟩ => ⟨S8x32x64, .f32⟩
  | .hbm, ⟨7, _⟩ => ⟨S32x64x16, .f32⟩
  | .hbm, ⟨8, _⟩ => ⟨S32x64x16, .f32⟩
  | .hbm, ⟨9, _⟩ => ⟨S32x64, .f32⟩
  | .hbm, ⟨10, _⟩ => ⟨S32x64, .f32⟩
  | .hbm, ⟨11, _⟩ => ⟨S32, .f32⟩
  | .hbm, ⟨12, _⟩ => ⟨S32x1, .f32⟩
  | .hbm, ⟨13, _⟩ => ⟨S32x64x16, .f32⟩
  | .hbm, ⟨14, _⟩ => ⟨S32x16x64, .f32⟩
  | .hbm, ⟨15, _⟩ => ⟨S512x64, .f32⟩
  | .hbm, ⟨16, _⟩ => ⟨S32x64x16, .f32⟩
  | .hbm, ⟨17, _⟩ => ⟨S32x16x64, .f32⟩
  | .hbm, ⟨18, _⟩ => ⟨S512x64, .f32⟩
  | .hbm, ⟨19, _⟩ => ⟨S32x16x64, .f32⟩
  | .hbm, ⟨20, _⟩ => ⟨S512x64, .f32⟩
  | .hbm, ⟨21, _⟩ => ⟨S32x16x64, .f32⟩
  | .hbm, ⟨22, _⟩ => ⟨S512x64, .f32⟩
  | .hbm, ⟨23, _⟩ => ⟨S32x64, .f32⟩
  | .hbm, ⟨24, _⟩ => ⟨S32x16x64, .f32⟩
  | .hbm, ⟨25, _⟩ => ⟨S512x64, .f32⟩
  | .hbm, ⟨26, _⟩ => ⟨S32x16x64, .f32⟩
  | .hbm, ⟨27, _⟩ => ⟨S512x64, .f32⟩
  | .hbm, ⟨28, _⟩ => ⟨S32x16x64, .f32⟩
  | .hbm, ⟨29, _⟩ => ⟨S512x64, .f32⟩
  | .hbm, ⟨30, _⟩ => ⟨S32x64, .f32⟩
  | .hbm, ⟨31, _⟩ => ⟨S32x64, .f32⟩
  | .hbm, ⟨32, _⟩ => ⟨S32x1, .f32⟩
  | .hbm, ⟨33, _⟩ => ⟨S512x64, .f32⟩
  | .hbm, ⟨34, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S8x32x64, .f32⟩
  | .local _ .vmem, ⟨9, _⟩ => ⟨S8x32x64, .f32⟩
  | .local _ .vmem, ⟨10, _⟩ => ⟨S512x64, .f32⟩
  | .local _ .vmem, ⟨11, _⟩ => ⟨S512x64, .f32⟩
  | .local _ .vmem, ⟨12, _⟩ => ⟨S32x64, .f32⟩
  | .local _ .vmem, ⟨13, _⟩ => ⟨S32x64, .f32⟩
  | .local _ .vmem, ⟨14, _⟩ => ⟨S32x1, .f32⟩
  | .local _ .vmem, ⟨15, _⟩ => ⟨S512x64, .f32⟩
  | .local _ .vmem, ⟨16, _⟩ => ⟨S512x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ParamRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S8x32x64 : Shape := ⟨3, ![8, 32, 64]⟩
abbrev S32x64x16 : Shape := ⟨3, ![32, 64, 16]⟩
abbrev S_ : Shape := ⟨0, ![]⟩
abbrev S32x64 : Shape := ⟨2, ![32, 64]⟩
abbrev S32 : Shape := ⟨1, ![32]⟩
abbrev S32x1 : Shape := ⟨2, ![32, 1]⟩
abbrev S32x64x1 : Shape := ⟨3, ![32, 64, 1]⟩
abbrev S32x16x64 : Shape := ⟨3, ![32, 16, 64]⟩
abbrev S512x64 : Shape := ⟨2, ![512, 64]⟩

abbrev nBuf : Space → Nat
  | .hbm => 172
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S8x32x64, .f32⟩
  | 6 => ⟨S8x32x64, .f32⟩
  | 7 => ⟨S32x64x16, .f32⟩
  | 8 => ⟨S32x64x16, .f32⟩
  | 9 => ⟨S_, .f32⟩
  | 10 => ⟨S32x64, .f32⟩
  | 11 => ⟨S_, .f32⟩
  | 12 => ⟨S32x64, .f32⟩
  | 13 => ⟨S32x64, .f32⟩
  | 14 => ⟨S32x64, .f32⟩
  | 15 => ⟨S32, .f32⟩
  | 16 => ⟨S32x64x16, .f32⟩
  | 17 => ⟨S32x64x16, .f32⟩
  | 18 => ⟨S32, .f32⟩
  | 19 => ⟨S32x1, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x1, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S_, .f32⟩
  | 76 => ⟨S32x64, .f32⟩
  | 77 => ⟨S32x64x16, .f32⟩
  | 78 => ⟨S32x64x16, .f32⟩
  | 79 => ⟨S32x64x16, .f32⟩
  | 80 => ⟨S_, .f32⟩
  | 81 => ⟨S32x64, .f32⟩
  | 82 => ⟨S32x64x1, .f32⟩
  | 83 => ⟨S_, .f32⟩
  | 84 => ⟨S32x64, .f32⟩
  | 85 => ⟨S32x64x16, .f32⟩
  | 86 => ⟨S32x64x16, .f32⟩
  | 87 => ⟨S32x64x16, .f32⟩
  | 88 => ⟨S32x64x16, .f32⟩
  | 89 => ⟨S32x64x16, .f32⟩
  | 90 => ⟨S32x64x16, .f32⟩
  | 91 => ⟨S_, .f32⟩
  | 92 => ⟨S32x64, .f32⟩
  | 93 => ⟨S32x64x1, .f32⟩
  | 94 => ⟨S_, .f32⟩
  | 95 => ⟨S32x64, .f32⟩
  | 96 => ⟨S32x64, .f32⟩
  | 97 => ⟨S32x64x16, .f32⟩
  | 98 => ⟨S32x64x16, .f32⟩
  | 99 => ⟨S32x64x16, .f32⟩
  | 100 => ⟨S32x64x16, .f32⟩
  | 101 => ⟨S_, .f32⟩
  | 102 => ⟨S32x64, .f32⟩
  | 103 => ⟨S32x64x1, .f32⟩
  | 104 => ⟨S_, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S_, .f32⟩
  | 23 => ⟨S32, .f32⟩
  | 24 => ⟨S32x1, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32, .f32⟩
  | 31 => ⟨S32x1, .f32⟩
  | 32 => ⟨S32x1, .f32⟩
  | 33 => ⟨S32x64, .f32⟩
  | 34 => ⟨S32x64, .f32⟩
  | 35 => ⟨S32x64, .f32⟩
  | 36 => ⟨S_, .f32⟩
  | 37 => ⟨S32, .f32⟩
  | 38 => ⟨S32, .f32⟩
  | 39 => ⟨S32x1, .f32⟩
  | 40 => ⟨S32x16x64, .f32⟩
  | 41 => ⟨S512x64, .f32⟩
  | 42 => ⟨S32x16x64, .f32⟩
  | 43 => ⟨S512x64, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_12 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_13 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_14 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩

abbrev nD : Nat := 1
abbrev τ : Topo := Topo.v7x

variable {F : FTy → Type} [FloatOps F]
-- ==== Dbb.lean ====
abbrev S2x4096x1536 : Shape := ⟨3, ![2, 4096, 1536]⟩
abbrev S2x4096x4096 : Shape := ⟨3, ![2, 4096, 4096]⟩
abbrev S8192x1536 : Shape := ⟨2, ![8192, 1536]⟩
abbrev S8192x4096 : Shape := ⟨2, ![8192, 4096]⟩
abbrev S512x2048 : Shape := ⟨2, ![512, 2048]⟩
abbrev S512x512 : Shape := ⟨2, ![512, 512]⟩
abbrev S512x4096 : Shape := ⟨2, ![512, 4096]⟩
abbrev S512x256 : Shape := ⟨2, ![512, 256]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S_ : Shape := ⟨0, ![]⟩
abbrev S16 : Shape := ⟨1, ![16]⟩
abbrev S1x16 : Shape := ⟨2, ![1, 16]⟩
abbrev S256x16 : Shape := ⟨2, ![256, 16]⟩
abbrev S256x16x64 : Shape := ⟨3, ![256, 16, 64]⟩
abbrev S256x16x1 : Shape := ⟨3, ![256, 16, 1]⟩
abbrev S256x64 : Shape := ⟨2, ![256, 64]⟩
abbrev S512x64 : Shape := ⟨2, ![512, 64]⟩

abbrev nBuf : Space → Nat
  | .hbm => 139
  | .vmem => 5
  | .smem => 0
  | _ => 0

abbrev hbmTy0_0 (i : Nat) : BufTy := match i % 128 with
  | 0 => ⟨S2x4096x1536, .f32⟩
  | 1 => ⟨S2x4096x4096, .bf16⟩
  | 2 => ⟨S8192x1536, .f32⟩
  | 3 => ⟨S8192x4096, .bf16⟩
  | 4 => ⟨S512x2048, .f32⟩
  | 5 => ⟨S256x1024, .f32⟩
  | 6 => ⟨S256, .i32⟩
  | 7 => ⟨S256x1, .i32⟩
  | 8 => ⟨S_, .i32⟩
  | 9 => ⟨S_, .i32⟩
  | 10 => ⟨S256x1, .i32⟩
  | 11 => ⟨S256x1, .i32⟩
  | 12 => ⟨S256x1, .i32⟩
  | 13 => ⟨S_, .i32⟩
  | 14 => ⟨S256x1, .i32⟩
  | 15 => ⟨S256x1, .i1⟩
  | 16 => ⟨S256x1, .i32⟩
  | 17 => ⟨S256x1, .i32⟩
  | 18 => ⟨S_, .i32⟩
  | 19 => ⟨S256x1, .i32⟩
  | 20 => ⟨S256x1, .i1⟩
  | 21 => ⟨S256x1, .i1⟩
  | 22 => ⟨S_, .i32⟩
  | 23 => ⟨S256x1, .i32⟩
  | 24 => ⟨S256x1, .i32⟩
  | 25 => ⟨S256x1, .i32⟩
  | 26 => ⟨S16, .i32⟩
  | 27 => ⟨S1x16, .i32⟩
  | 28 => ⟨S256x16, .i32⟩
  | 29 => ⟨S256x16, .i32⟩
  | 30 => ⟨S256x16, .i1⟩
  | 31 => ⟨S256x16, .f32⟩
  | 32 => ⟨S256x16x64, .f32⟩
  | 33 => ⟨S256x16x1, .f32⟩
  | 34 => ⟨S256x16x64, .f32⟩
  | 35 => ⟨S256x16x64, .f32⟩
  | 36 => ⟨S_, .f32⟩
  | 37 => ⟨S256x64, .f32⟩
  | 38 => ⟨S256x1024, .f32⟩
  | 39 => ⟨S256, .i32⟩
  | 40 => ⟨S256x1, .i32⟩
  | 41 => ⟨S_, .i32⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i32⟩
  | 50 => ⟨S256x1, .i32⟩
  | 51 => ⟨S_, .i32⟩
  | 52 => ⟨S256x1, .i32⟩
  | 53 => ⟨S256x1, .i1⟩
  | 54 => ⟨S256x1, .i1⟩
  | 55 => ⟨S_, .i32⟩
  | 56 => ⟨S256x1, .i32⟩
  | 57 => ⟨S256x1, .i32⟩
  | 58 => ⟨S256x1, .i32⟩
  | 59 => ⟨S16, .i32⟩
  | 60 => ⟨S1x16, .i32⟩
  | 61 => ⟨S256x16, .i32⟩
  | 62 => ⟨S256x16, .i32⟩
  | 63 => ⟨S256x16, .i1⟩
  | 64 => ⟨S256x16, .f32⟩
  | 65 => ⟨S256x16x64, .f32⟩
  | 66 => ⟨S256x16x1, .f32⟩
  | 67 => ⟨S256x16x64, .f32⟩
  | 68 => ⟨S256x16x64, .f32⟩
  | 69 => ⟨S_, .f32⟩
  | 70 => ⟨S256x64, .f32⟩
  | 71 => ⟨S512x64, .f32⟩
  | 72 => ⟨S256x1024, .f32⟩
  | 73 => ⟨S256, .i32⟩
  | 74 => ⟨S256x1, .i32⟩
  | 75 => ⟨S_, .i32⟩
  | 76 => ⟨S_, .i32⟩
  | 77 => ⟨S256x1, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S256x1, .i32⟩
  | 84 => ⟨S256x1, .i32⟩
  | 85 => ⟨S_, .i32⟩
  | 86 => ⟨S256x1, .i32⟩
  | 87 => ⟨S256x1, .i1⟩
  | 88 => ⟨S256x1, .i1⟩
  | 89 => ⟨S_, .i32⟩
  | 90 => ⟨S256x1, .i32⟩
  | 91 => ⟨S256x1, .i32⟩
  | 92 => ⟨S256x1, .i32⟩
  | 93 => ⟨S16, .i32⟩
  | 94 => ⟨S1x16, .i32⟩
  | 95 => ⟨S256x16, .i32⟩
  | 96 => ⟨S256x16, .i32⟩
  | 97 => ⟨S256x16, .i1⟩
  | 98 => ⟨S256x16, .f32⟩
  | 99 => ⟨S256x16x64, .f32⟩
  | 100 => ⟨S256x16x1, .f32⟩
  | 101 => ⟨S256x16x64, .f32⟩
  | 102 => ⟨S256x16x64, .f32⟩
  | 103 => ⟨S_, .f32⟩
  | 104 => ⟨S256x64, .f32⟩
  | 105 => ⟨S256x1024, .f32⟩
  | 106 => ⟨S256, .i32⟩
  | 107 => ⟨S256x1, .i32⟩
  | 108 => ⟨S_, .i32⟩
  | 109 => ⟨S_, .i32⟩
  | 110 => ⟨S256x1, .i32⟩
  | 111 => ⟨S256x1, .i32⟩
  | 112 => ⟨S256x1, .i32⟩
  | 113 => ⟨S_, .i32⟩
  | 114 => ⟨S256x1, .i32⟩
  | 115 => ⟨S256x1, .i1⟩
  | 116 => ⟨S256x1, .i32⟩
  | 117 => ⟨S256x1, .i32⟩
  | 118 => ⟨S_, .i32⟩
  | 119 => ⟨S256x1, .i32⟩
  | 120 => ⟨S256x1, .i1⟩
  | 121 => ⟨S256x1, .i1⟩
  | 122 => ⟨S_, .i32⟩
  | 123 => ⟨S256x1, .i32⟩
  | 124 => ⟨S256x1, .i32⟩
  | 125 => ⟨S256x1, .i32⟩
  | 126 => ⟨S16, .i32⟩
  | 127 => ⟨S1x16, .i32⟩
  | _ => ⟨S2x4096x1536, .f32⟩

abbrev hbmTy0_1 (i : Nat) : BufTy := match i % 128 with
  | 0 => ⟨S256x16, .i32⟩
  | 1 => ⟨S256x16, .i32⟩
  | 2 => ⟨S256x16, .i1⟩
  | 3 => ⟨S256x16, .f32⟩
  | 4 => ⟨S256x16x64, .f32⟩
  | 5 => ⟨S256x16x1, .f32⟩
  | 6 => ⟨S256x16x64, .f32⟩
  | 7 => ⟨S256x16x64, .f32⟩
  | 8 => ⟨S_, .f32⟩
  | 9 => ⟨S256x64, .f32⟩
  | 10 => ⟨S512x64, .f32⟩
  | _ => ⟨S2x4096x1536, .f32⟩

abbrev hbmTy (i : Nat) : BufTy := match i / 128 with
  | 0 => hbmTy0_0 i
  | 1 => hbmTy0_1 i
  | _ => ⟨S2x4096x1536, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S512x2048, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_1 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_2 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_3 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_4 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_c : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_0 : Ref sig .tc := ⟨.hbm, 122, rfl⟩
abbrev main_call3_v12 : Ref sig .tc := ⟨.hbm, 123, rfl⟩
abbrev main_call3_v13 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_5 : Ref sig .tc := ⟨.hbm, 136, rfl⟩
abbrev main_v63 : Ref sig .tc := ⟨.hbm, 137, rfl⟩
abbrev main_v64 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DbbRefIdeal.lean ====
abbrev S2x4096x1536 : Shape := ⟨3, ![2, 4096, 1536]⟩
abbrev S2x4096x4096 : Shape := ⟨3, ![2, 4096, 4096]⟩
abbrev S2x4096x512 : Shape := ⟨3, ![2, 4096, 512]⟩
abbrev S2x4096x32x16 : Shape := ⟨4, ![2, 4096, 32, 16]⟩
abbrev S2x4096x2048 : Shape := ⟨3, ![2, 4096, 2048]⟩
abbrev S2x4096x32x64 : Shape := ⟨4, ![2, 4096, 32, 64]⟩
abbrev S_ : Shape := ⟨0, ![]⟩
abbrev S32x64x16 : Shape := ⟨3, ![32, 64, 16]⟩
abbrev S32x64x2x4096 : Shape := ⟨4, ![32, 64, 2, 4096]⟩
abbrev S32x16x64 : Shape := ⟨3, ![32, 16, 64]⟩
abbrev S512x64 : Shape := ⟨2, ![512, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x4096, .bf16⟩
  | .hbm, ⟨2, _⟩ => ⟨S2x4096x512, .f32⟩
  | .hbm, ⟨3, _⟩ => ⟨S2x4096x32x16, .f32⟩
  | .hbm, ⟨4, _⟩ => ⟨S2x4096x2048, .bf16⟩
  | .hbm, ⟨5, _⟩ => ⟨S2x4096x2048, .f32⟩
  | .hbm, ⟨6, _⟩ => ⟨S2x4096x32x64, .f32⟩
  | .hbm, ⟨7, _⟩ => ⟨S2x4096x2048, .bf16⟩
  | .hbm, ⟨8, _⟩ => ⟨S2x4096x2048, .f32⟩
  | .hbm, ⟨9, _⟩ => ⟨S2x4096x32x64, .f32⟩
  | .hbm, ⟨10, _⟩ => ⟨S_, .f32⟩
  | .hbm, ⟨11, _⟩ => ⟨S32x64x16, .f32⟩
  | .hbm, ⟨12, _⟩ => ⟨S32x64x2x4096, .f32⟩
  | .hbm, ⟨13, _⟩ => ⟨S2x4096x32x64, .f32⟩
  | .hbm, ⟨14, _⟩ => ⟨S32x64x2x4096, .f32⟩
  | .hbm, ⟨15, _⟩ => ⟨S2x4096x32x64, .f32⟩
  | .hbm, ⟨16, _⟩ => ⟨S32x64x2x4096, .f32⟩
  | .hbm, ⟨17, _⟩ => ⟨S32x64x16, .f32⟩
  | .hbm, ⟨18, _⟩ => ⟨S32x64x2x4096, .f32⟩
  | .hbm, ⟨19, _⟩ => ⟨S32x64x16, .f32⟩
  | .hbm, ⟨20, _⟩ => ⟨S32x16x64, .f32⟩
  | .hbm, ⟨21, _⟩ => ⟨S512x64, .f32⟩
  | .hbm, ⟨22, _⟩ => ⟨S32x16x64, .f32⟩
  | .hbm, ⟨23, _⟩ => ⟨S512x64, .f32⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Dc.lean ====
abbrev S2x4096x512 : Shape := ⟨3, ![2, 4096, 512]⟩
abbrev S2x4096x4096 : Shape := ⟨3, ![2, 4096, 4096]⟩
abbrev S8192x512 : Shape := ⟨2, ![8192, 512]⟩
abbrev S8192x4096 : Shape := ⟨2, ![8192, 4096]⟩
abbrev S512x2048 : Shape := ⟨2, ![512, 2048]⟩
abbrev S512x512 : Shape := ⟨2, ![512, 512]⟩
abbrev S512x4096 : Shape := ⟨2, ![512, 4096]⟩
abbrev S512x256 : Shape := ⟨2, ![512, 256]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S_ : Shape := ⟨0, ![]⟩
abbrev S16 : Shape := ⟨1, ![16]⟩
abbrev S1x16 : Shape := ⟨2, ![1, 16]⟩
abbrev S256x16 : Shape := ⟨2, ![256, 16]⟩
abbrev S256x16x64 : Shape := ⟨3, ![256, 16, 64]⟩
abbrev S256x16x1 : Shape := ⟨3, ![256, 16, 1]⟩
abbrev S256x64 : Shape := ⟨2, ![256, 64]⟩
abbrev S512x64 : Shape := ⟨2, ![512, 64]⟩

abbrev nBuf : Space → Nat
  | .hbm => 140
  | .vmem => 5
  | .smem => 0
  | _ => 0

abbrev hbmTy0_0 (i : Nat) : BufTy := match i % 128 with
  | 0 => ⟨S2x4096x512, .bf16⟩
  | 1 => ⟨S2x4096x4096, .bf16⟩
  | 2 => ⟨S8192x512, .bf16⟩
  | 3 => ⟨S8192x4096, .bf16⟩
  | 4 => ⟨S512x2048, .f32⟩
  | 5 => ⟨S256x1024, .f32⟩
  | 6 => ⟨S256, .i32⟩
  | 7 => ⟨S256x1, .i32⟩
  | 8 => ⟨S_, .i32⟩
  | 9 => ⟨S_, .i32⟩
  | 10 => ⟨S256x1, .i32⟩
  | 11 => ⟨S256x1, .i32⟩
  | 12 => ⟨S256x1, .i32⟩
  | 13 => ⟨S_, .i32⟩
  | 14 => ⟨S256x1, .i32⟩
  | 15 => ⟨S256x1, .i1⟩
  | 16 => ⟨S256x1, .i32⟩
  | 17 => ⟨S256x1, .i32⟩
  | 18 => ⟨S_, .i32⟩
  | 19 => ⟨S256x1, .i32⟩
  | 20 => ⟨S256x1, .i1⟩
  | 21 => ⟨S256x1, .i1⟩
  | 22 => ⟨S_, .i32⟩
  | 23 => ⟨S256x1, .i32⟩
  | 24 => ⟨S256x1, .i32⟩
  | 25 => ⟨S256x1, .i32⟩
  | 26 => ⟨S16, .i32⟩
  | 27 => ⟨S1x16, .i32⟩
  | 28 => ⟨S256x16, .i32⟩
  | 29 => ⟨S256x16, .i32⟩
  | 30 => ⟨S256x16, .i1⟩
  | 31 => ⟨S256x16, .f32⟩
  | 32 => ⟨S256x16x64, .f32⟩
  | 33 => ⟨S256x16x1, .f32⟩
  | 34 => ⟨S256x16x64, .f32⟩
  | 35 => ⟨S256x16x64, .f32⟩
  | 36 => ⟨S_, .f32⟩
  | 37 => ⟨S256x64, .f32⟩
  | 38 => ⟨S256x1024, .f32⟩
  | 39 => ⟨S256, .i32⟩
  | 40 => ⟨S256x1, .i32⟩
  | 41 => ⟨S_, .i32⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i32⟩
  | 50 => ⟨S256x1, .i32⟩
  | 51 => ⟨S_, .i32⟩
  | 52 => ⟨S256x1, .i32⟩
  | 53 => ⟨S256x1, .i1⟩
  | 54 => ⟨S256x1, .i1⟩
  | 55 => ⟨S_, .i32⟩
  | 56 => ⟨S256x1, .i32⟩
  | 57 => ⟨S256x1, .i32⟩
  | 58 => ⟨S256x1, .i32⟩
  | 59 => ⟨S16, .i32⟩
  | 60 => ⟨S1x16, .i32⟩
  | 61 => ⟨S256x16, .i32⟩
  | 62 => ⟨S256x16, .i32⟩
  | 63 => ⟨S256x16, .i1⟩
  | 64 => ⟨S256x16, .f32⟩
  | 65 => ⟨S256x16x64, .f32⟩
  | 66 => ⟨S256x16x1, .f32⟩
  | 67 => ⟨S256x16x64, .f32⟩
  | 68 => ⟨S256x16x64, .f32⟩
  | 69 => ⟨S_, .f32⟩
  | 70 => ⟨S256x64, .f32⟩
  | 71 => ⟨S512x64, .f32⟩
  | 72 => ⟨S256x1024, .f32⟩
  | 73 => ⟨S256, .i32⟩
  | 74 => ⟨S256x1, .i32⟩
  | 75 => ⟨S_, .i32⟩
  | 76 => ⟨S_, .i32⟩
  | 77 => ⟨S256x1, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S256x1, .i32⟩
  | 84 => ⟨S256x1, .i32⟩
  | 85 => ⟨S_, .i32⟩
  | 86 => ⟨S256x1, .i32⟩
  | 87 => ⟨S256x1, .i1⟩
  | 88 => ⟨S256x1, .i1⟩
  | 89 => ⟨S_, .i32⟩
  | 90 => ⟨S256x1, .i32⟩
  | 91 => ⟨S256x1, .i32⟩
  | 92 => ⟨S256x1, .i32⟩
  | 93 => ⟨S16, .i32⟩
  | 94 => ⟨S1x16, .i32⟩
  | 95 => ⟨S256x16, .i32⟩
  | 96 => ⟨S256x16, .i32⟩
  | 97 => ⟨S256x16, .i1⟩
  | 98 => ⟨S256x16, .f32⟩
  | 99 => ⟨S256x16x64, .f32⟩
  | 100 => ⟨S256x16x1, .f32⟩
  | 101 => ⟨S256x16x64, .f32⟩
  | 102 => ⟨S256x16x64, .f32⟩
  | 103 => ⟨S_, .f32⟩
  | 104 => ⟨S256x64, .f32⟩
  | 105 => ⟨S256x1024, .f32⟩
  | 106 => ⟨S256, .i32⟩
  | 107 => ⟨S256x1, .i32⟩
  | 108 => ⟨S_, .i32⟩
  | 109 => ⟨S_, .i32⟩
  | 110 => ⟨S256x1, .i32⟩
  | 111 => ⟨S256x1, .i32⟩
  | 112 => ⟨S256x1, .i32⟩
  | 113 => ⟨S_, .i32⟩
  | 114 => ⟨S256x1, .i32⟩
  | 115 => ⟨S256x1, .i1⟩
  | 116 => ⟨S256x1, .i32⟩
  | 117 => ⟨S256x1, .i32⟩
  | 118 => ⟨S_, .i32⟩
  | 119 => ⟨S256x1, .i32⟩
  | 120 => ⟨S256x1, .i1⟩
  | 121 => ⟨S256x1, .i1⟩
  | 122 => ⟨S_, .i32⟩
  | 123 => ⟨S256x1, .i32⟩
  | 124 => ⟨S256x1, .i32⟩
  | 125 => ⟨S256x1, .i32⟩
  | 126 => ⟨S16, .i32⟩
  | 127 => ⟨S1x16, .i32⟩
  | _ => ⟨S2x4096x512, .bf16⟩

abbrev hbmTy0_1 (i : Nat) : BufTy := match i % 128 with
  | 0 => ⟨S256x16, .i32⟩
  | 1 => ⟨S256x16, .i32⟩
  | 2 => ⟨S256x16, .i1⟩
  | 3 => ⟨S256x16, .f32⟩
  | 4 => ⟨S256x16x64, .f32⟩
  | 5 => ⟨S256x16x1, .f32⟩
  | 6 => ⟨S256x16x64, .f32⟩
  | 7 => ⟨S256x16x64, .f32⟩
  | 8 => ⟨S_, .f32⟩
  | 9 => ⟨S256x64, .f32⟩
  | 10 => ⟨S512x64, .f32⟩
  | 11 => ⟨S512x64, .f32⟩
  | _ => ⟨S2x4096x512, .bf16⟩

abbrev hbmTy (i : Nat) : BufTy := match i / 128 with
  | 0 => hbmTy0_0 i
  | 1 => hbmTy0_1 i
  | _ => ⟨S2x4096x512, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x2048, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_1 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_2 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_3 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_4 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_c : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_0 : Ref sig .tc := ⟨.hbm, 122, rfl⟩
abbrev main_call3_v12 : Ref sig .tc := ⟨.hbm, 123, rfl⟩
abbrev main_call3_v13 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_5 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DcRefIdeal.lean ====
abbrev S2x4096x512 : Shape := ⟨3, ![2, 4096, 512]⟩
abbrev S2x4096x4096 : Shape := ⟨3, ![2, 4096, 4096]⟩
abbrev S2x4096x2048 : Shape := ⟨3, ![2, 4096, 2048]⟩
abbrev S2x4096x32x64 : Shape := ⟨4, ![2, 4096, 32, 64]⟩
abbrev S_ : Shape := ⟨0, ![]⟩
abbrev S32x16x64 : Shape := ⟨3, ![32, 16, 64]⟩
abbrev S32x16x2x4096 : Shape := ⟨4, ![32, 16, 2, 4096]⟩
abbrev S2x4096x32x16 : Shape := ⟨4, ![2, 4096, 32, 16]⟩
abbrev S512x64 : Shape := ⟨2, ![512, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S2x4096x4096, .bf16⟩
  | .hbm, ⟨2, _⟩ => ⟨S2x4096x2048, .bf16⟩
  | .hbm, ⟨3, _⟩ => ⟨S2x4096x2048, .f32⟩
  | .hbm, ⟨4, _⟩ => ⟨S2x4096x32x64, .f32⟩
  | .hbm, ⟨5, _⟩ => ⟨S2x4096x2048, .bf16⟩
  | .hbm, ⟨6, _⟩ => ⟨S2x4096x2048, .f32⟩
  | .hbm, ⟨7, _⟩ => ⟨S2x4096x32x64, .f32⟩
  | .hbm, ⟨8, _⟩ => ⟨S_, .f32⟩
  | .hbm, ⟨9, _⟩ => ⟨S32x16x64, .f32⟩
  | .hbm, ⟨10, _⟩ => ⟨S32x16x2x4096, .f32⟩
  | .hbm, ⟨11, _⟩ => ⟨S2x4096x32x16, .f32⟩
  | .hbm, ⟨12, _⟩ => ⟨S32x16x2x4096, .f32⟩
  | .hbm, ⟨13, _⟩ => ⟨S2x4096x32x16, .f32⟩
  | .hbm, ⟨14, _⟩ => ⟨S2x4096x32x16, .f32⟩
  | .hbm, ⟨15, _⟩ => ⟨S2x4096x512, .f32⟩
  | .hbm, ⟨16, _⟩ => ⟨S2x4096x32x16, .f32⟩
  | .hbm, ⟨17, _⟩ => ⟨S2x4096x32x16, .f32⟩
  | .hbm, ⟨18, _⟩ => ⟨S32x16x2x4096, .f32⟩
  | .hbm, ⟨19, _⟩ => ⟨S32x16x64, .f32⟩
  | .hbm, ⟨20, _⟩ => ⟨S32x16x2x4096, .f32⟩
  | .hbm, ⟨21, _⟩ => ⟨S32x16x64, .f32⟩
  | .hbm, ⟨22, _⟩ => ⟨S512x64, .f32⟩
  | .hbm, ⟨23, _⟩ => ⟨S512x64, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== MixFwd.lean ====
abbrev S2x4096x1024 : Shape := ⟨3, ![2, 4096, 1024]⟩
abbrev S1x1024 : Shape := ⟨2, ![1, 1024]⟩
abbrev S1x1024x1536 : Shape := ⟨3, ![1, 1024, 1536]⟩
abbrev S8192x1024 : Shape := ⟨2, ![8192, 1024]⟩
abbrev S1024x1536 : Shape := ⟨2, ![1024, 1536]⟩
abbrev S1536x1024 : Shape := ⟨2, ![1536, 1024]⟩
abbrev S8192x1536 : Shape := ⟨2, ![8192, 1536]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x1536, .f32⟩
  | .hbm, ⟨3, _⟩ => ⟨S8192x1024, .f32⟩
  | .hbm, ⟨4, _⟩ => ⟨S1024x1536, .f32⟩
  | .hbm, ⟨5, _⟩ => ⟨S1536x1024, .f32⟩
  | .hbm, ⟨6, _⟩ => ⟨S1536x1024, .bf16⟩
  | .hbm, ⟨7, _⟩ => ⟨S8192x1536, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | .local _ .vmem, ⟨6, _⟩ => ⟨S1024x1024, .bf16⟩
  | .local _ .vmem, ⟨7, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixFwdRefIdeal.lean ====
abbrev S2x4096x1024 : Shape := ⟨3, ![2, 4096, 1024]⟩
abbrev S1x1024 : Shape := ⟨2, ![1, 1024]⟩
abbrev S1x1024x1536 : Shape := ⟨3, ![1, 1024, 1536]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x1536 : Shape := ⟨2, ![1024, 1536]⟩
abbrev S2x4096x1536 : Shape := ⟨3, ![2, 4096, 1536]⟩
abbrev S8192x1536 : Shape := ⟨2, ![8192, 1536]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x1536, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S1024x1536, .f32⟩
  | .hbm, ⟨21, _⟩ => ⟨S2x4096x1536, .f32⟩
  | .hbm, ⟨22, _⟩ => ⟨S8192x1536, .f32⟩
  | .hbm, ⟨23, _⟩ => ⟨S2x4096x1024, .bf16⟩
  | .hbm, ⟨24, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Prep.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x1 : Shape := ⟨2, ![32, 1]⟩
abbrev S32x64x16 : Shape := ⟨3, ![32, 64, 16]⟩
abbrev S32x16x64 : Shape := ⟨3, ![32, 16, 64]⟩
abbrev S512x64 : Shape := ⟨2, ![512, 64]⟩
abbrev S8x32x64 : Shape := ⟨3, ![8, 32, 64]⟩

abbrev nBuf : Space → Nat
  | .hbm => 26
  | .vmem => 12
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x1, .f32⟩
  | .hbm, ⟨9, _⟩ => ⟨S32x64x16, .f32⟩
  | .hbm, ⟨10, _⟩ => ⟨S32x16x64, .f32⟩
  | .hbm, ⟨11, _⟩ => ⟨S512x64, .f32⟩
  | .hbm, ⟨12, _⟩ => ⟨S32x64x16, .f32⟩
  | .hbm, ⟨13, _⟩ => ⟨S32x16x64, .f32⟩
  | .hbm, ⟨14, _⟩ => ⟨S512x64, .f32⟩
  | .hbm, ⟨15, _⟩ => ⟨S32x16x64, .f32⟩
  | .hbm, ⟨16, _⟩ => ⟨S512x64, .f32⟩
  | .hbm, ⟨17, _⟩ => ⟨S32x16x64, .f32⟩
  | .hbm, ⟨18, _⟩ => ⟨S512x64, .f32⟩
  | .hbm, ⟨19, _⟩ => ⟨S32x64, .f32⟩
  | .hbm, ⟨20, _⟩ => ⟨S32x16x64, .f32⟩
  | .hbm, ⟨21, _⟩ => ⟨S512x64, .f32⟩
  | .hbm, ⟨22, _⟩ => ⟨S8x32x64, .f32⟩
  | .hbm, ⟨23, _⟩ => ⟨S8x32x64, .f32⟩
  | .hbm, ⟨24, _⟩ => ⟨S512x64, .f32⟩
  | .hbm, ⟨25, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S8x32x64, .f32⟩
  | .local _ .vmem, ⟨9, _⟩ => ⟨S8x32x64, .f32⟩
  | .local _ .vmem, ⟨10, _⟩ => ⟨S512x64, .f32⟩
  | .local _ .vmem, ⟨11, _⟩ => ⟨S512x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== PrepRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S8 : Shape := ⟨1, ![8]⟩
abbrev S8x1x1 : Shape := ⟨3, ![8, 1, 1]⟩
abbrev S8x32x64 : Shape := ⟨3, ![8, 32, 64]⟩
abbrev S32x16x64 : Shape := ⟨3, ![32, 16, 64]⟩
abbrev S512x64 : Shape := ⟨2, ![512, 64]⟩

abbrev nBuf : Space → Nat
  | .hbm => 80
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x64x16, .f32⟩
  | .hbm, ⟨9, _⟩ => ⟨S32x64x16, .f32⟩
  | .hbm, ⟨10, _⟩ => ⟨S32, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32, .f32⟩
  | .hbm, ⟨50, _⟩ => ⟨S32, .f32⟩
  | .hbm, ⟨51, _⟩ => ⟨S32x1, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8x1x1, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S1x32x64, .f32⟩
  | .hbm, ⟨61, _⟩ => ⟨S8x32x64, .f32⟩
  | .hbm, ⟨62, _⟩ => ⟨S8x32x64, .f32⟩
  | .hbm, ⟨63, _⟩ => ⟨S8x32x64, .f32⟩
  | .hbm, ⟨64, _⟩ => ⟨S8x32x64, .f32⟩
  | .hbm, ⟨65, _⟩ => ⟨S32x64, .f32⟩
  | .hbm, ⟨66, _⟩ => ⟨S32x64, .f32⟩
  | .hbm, ⟨67, _⟩ => ⟨S32x64, .f32⟩
  | .hbm, ⟨68, _⟩ => ⟨S1x32x64, .f32⟩
  | .hbm, ⟨69, _⟩ => ⟨S8x32x64, .f32⟩
  | .hbm, ⟨70, _⟩ => ⟨S8x32x64, .f32⟩
  | .hbm, ⟨71, _⟩ => ⟨S8x32x64, .f32⟩
  | .hbm, ⟨72, _⟩ => ⟨S8x32x64, .f32⟩
  | .hbm, ⟨73, _⟩ => ⟨S8x32x64, .f32⟩
  | .hbm, ⟨74, _⟩ => ⟨S8x32x64, .f32⟩
  | .hbm, ⟨75, _⟩ => ⟨S8x32x64, .f32⟩
  | .hbm, ⟨76, _⟩ => ⟨S32x16x64, .f32⟩
  | .hbm, ⟨77, _⟩ => ⟨S512x64, .f32⟩
  | .hbm, ⟨78, _⟩ => ⟨S32x16x64, .f32⟩
  | .hbm, ⟨79, _⟩ => ⟨S512x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩

abbrev nD : Nat := 1
abbrev τ : Topo := Topo.v7x

variable {F : FTy → Type} [FloatOps F]
-- ==== ConvFwd.lean ====
abbrev S2x4096x1536 : Shape := ⟨3, ![2, 4096, 1536]⟩
abbrev S1x31x512 : Shape := ⟨3, ![1, 31, 512]⟩
abbrev S1x512 : Shape := ⟨2, ![1, 512]⟩
abbrev S31x512 : Shape := ⟨2, ![31, 512]⟩
abbrev S_ : Shape := ⟨0, ![]⟩
abbrev S32x512 : Shape := ⟨2, ![32, 512]⟩
abbrev S2x4096x512 : Shape := ⟨3, ![2, 4096, 512]⟩
abbrev S1x256x512 : Shape := ⟨3, ![1, 256, 512]⟩
abbrev S1x32x512 : Shape := ⟨3, ![1, 32, 512]⟩
abbrev S288x512 : Shape := ⟨2, ![288, 512]⟩
abbrev S264x512 : Shape := ⟨2, ![264, 512]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S2x4096x1536, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S2x4096x512, .bf16⟩
  | .hbm, ⟨11, _⟩ => ⟨S2x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .f32⟩
  | .local _ .vmem, ⟨16, _⟩ => ⟨S1x256x512, .f32⟩
  | .local _ .vmem, ⟨17, _⟩ => ⟨S288x512, .f32⟩
  | .local _ .vmem, ⟨18, _⟩ => ⟨S264x512, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvFwdRefIdeal.lean ====
abbrev S2x4096x1536 : Shape := ⟨3, ![2, 4096, 1536]⟩
abbrev S1x31x512 : Shape := ⟨3, ![1, 31, 512]⟩
abbrev S1x512 : Shape := ⟨2, ![1, 512]⟩
abbrev S2x4096x512 : Shape := ⟨3, ![2, 4096, 512]⟩
abbrev S_ : Shape := ⟨0, ![]⟩
abbrev S2x30x512 : Shape := ⟨3, ![2, 30, 512]⟩
abbrev S2x4126x512 : Shape := ⟨3, ![2, 4126, 512]⟩
abbrev S31x512 : Shape := ⟨2, ![31, 512]⟩
abbrev S512 : Shape := ⟨1, ![512]⟩
abbrev S1x1x512 : Shape := ⟨3, ![1, 1, 512]⟩
abbrev S2x4096 : Shape := ⟨2, ![2, 4096]⟩
abbrev S2x4096x1 : Shape := ⟨3, ![2, 4096, 1]⟩

abbrev nBuf : Space → Nat
  | .hbm => 330
  | .vmem => 0
  | .smem => 0
  | _ => 0

abbrev hbmTy0_0 (i : Nat) : BufTy := match i % 128 with
  | 0 => ⟨S2x4096x1536, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S2x4096x512, .f32⟩
  | 7 => ⟨S2x4096x512, .f32⟩
  | 8 => ⟨S2x4096x512, .f32⟩
  | 9 => ⟨S2x4096x512, .f32⟩
  | 10 => ⟨S_, .f32⟩
  | 11 => ⟨S2x4096x512, .f32⟩
  | 12 => ⟨S2x4096x512, .f32⟩
  | 13 => ⟨S_, .f32⟩
  | 14 => ⟨S2x4096x512, .f32⟩
  | 15 => ⟨S2x4096x512, .f32⟩
  | 16 => ⟨S2x4096x512, .f32⟩
  | 17 => ⟨S_, .f32⟩
  | 18 => ⟨S2x30x512, .f32⟩
  | 19 => ⟨S2x4126x512, .f32⟩
  | 20 => ⟨S2x4096x512, .f32⟩
  | 21 => ⟨S31x512, .f32⟩
  | 22 => ⟨S1x512, .f32⟩
  | 23 => ⟨S512, .f32⟩
  | 24 => ⟨S1x1x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S2x4096x512, .f32⟩
  | 31 => ⟨S31x512, .f32⟩
  | 32 => ⟨S1x512, .f32⟩
  | 33 => ⟨S512, .f32⟩
  | 34 => ⟨S1x1x512, .f32⟩
  | 35 => ⟨S2x4096x512, .f32⟩
  | 36 => ⟨S2x4096x512, .f32⟩
  | 37 => ⟨S2x4096x512, .f32⟩
  | 38 => ⟨S2x4096x512, .f32⟩
  | 39 => ⟨S31x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S31x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S31x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S31x512, .f32⟩
  | 64 => ⟨S1x512, .f32⟩
  | 65 => ⟨S512, .f32⟩
  | 66 => ⟨S1x1x512, .f32⟩
  | 67 => ⟨S2x4096x512, .f32⟩
  | 68 => ⟨S2x4096x512, .f32⟩
  | 69 => ⟨S2x4096x512, .f32⟩
  | 70 => ⟨S2x4096x512, .f32⟩
  | 71 => ⟨S31x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S31x512, .f32⟩
  | 80 => ⟨S1x512, .f32⟩
  | 81 => ⟨S512, .f32⟩
  | 82 => ⟨S1x1x512, .f32⟩
  | 83 => ⟨S2x4096x512, .f32⟩
  | 84 => ⟨S2x4096x512, .f32⟩
  | 85 => ⟨S2x4096x512, .f32⟩
  | 86 => ⟨S2x4096x512, .f32⟩
  | 87 => ⟨S31x512, .f32⟩
  | 88 => ⟨S1x512, .f32⟩
  | 89 => ⟨S512, .f32⟩
  | 90 => ⟨S1x1x512, .f32⟩
  | 91 => ⟨S2x4096x512, .f32⟩
  | 92 => ⟨S2x4096x512, .f32⟩
  | 93 => ⟨S2x4096x512, .f32⟩
  | 94 => ⟨S2x4096x512, .f32⟩
  | 95 => ⟨S31x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S31x512, .f32⟩
  | 104 => ⟨S1x512, .f32⟩
  | 105 => ⟨S512, .f32⟩
  | 106 => ⟨S1x1x512, .f32⟩
  | 107 => ⟨S2x4096x512, .f32⟩
  | 108 => ⟨S2x4096x512, .f32⟩
  | 109 => ⟨S2x4096x512, .f32⟩
  | 110 => ⟨S2x4096x512, .f32⟩
  | 111 => ⟨S31x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S31x512, .f32⟩
  | 120 => ⟨S1x512, .f32⟩
  | 121 => ⟨S512, .f32⟩
  | 122 => ⟨S1x1x512, .f32⟩
  | 123 => ⟨S2x4096x512, .f32⟩
  | 124 => ⟨S2x4096x512, .f32⟩
  | 125 => ⟨S2x4096x512, .f32⟩
  | 126 => ⟨S2x4096x512, .f32⟩
  | 127 => ⟨S31x512, .f32⟩
  | _ => ⟨S2x4096x1536, .f32⟩

abbrev hbmTy0_1 (i : Nat) : BufTy := match i % 128 with
  | 0 => ⟨S1x512, .f32⟩
  | 1 => ⟨S512, .f32⟩
  | 2 => ⟨S1x1x512, .f32⟩
  | 3 => ⟨S2x4096x512, .f32⟩
  | 4 => ⟨S2x4096x512, .f32⟩
  | 5 => ⟨S2x4096x512, .f32⟩
  | 6 => ⟨S2x4096x512, .f32⟩
  | 7 => ⟨S31x512, .f32⟩
  | 8 => ⟨S1x512, .f32⟩
  | 9 => ⟨S512, .f32⟩
  | 10 => ⟨S1x1x512, .f32⟩
  | 11 => ⟨S2x4096x512, .f32⟩
  | 12 => ⟨S2x4096x512, .f32⟩
  | 13 => ⟨S2x4096x512, .f32⟩
  | 14 => ⟨S2x4096x512, .f32⟩
  | 15 => ⟨S31x512, .f32⟩
  | 16 => ⟨S1x512, .f32⟩
  | 17 => ⟨S512, .f32⟩
  | 18 => ⟨S1x1x512, .f32⟩
  | 19 => ⟨S2x4096x512, .f32⟩
  | 20 => ⟨S2x4096x512, .f32⟩
  | 21 => ⟨S2x4096x512, .f32⟩
  | 22 => ⟨S2x4096x512, .f32⟩
  | 23 => ⟨S31x512, .f32⟩
  | 24 => ⟨S1x512, .f32⟩
  | 25 => ⟨S512, .f32⟩
  | 26 => ⟨S1x1x512, .f32⟩
  | 27 => ⟨S2x4096x512, .f32⟩
  | 28 => ⟨S2x4096x512, .f32⟩
  | 29 => ⟨S2x4096x512, .f32⟩
  | 30 => ⟨S2x4096x512, .f32⟩
  | 31 => ⟨S31x512, .f32⟩
  | 32 => ⟨S1x512, .f32⟩
  | 33 => ⟨S512, .f32⟩
  | 34 => ⟨S1x1x512, .f32⟩
  | 35 => ⟨S2x4096x512, .f32⟩
  | 36 => ⟨S2x4096x512, .f32⟩
  | 37 => ⟨S2x4096x512, .f32⟩
  | 38 => ⟨S2x4096x512, .f32⟩
  | 39 => ⟨S31x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S31x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S31x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S31x512, .f32⟩
  | 64 => ⟨S1x512, .f32⟩
  | 65 => ⟨S512, .f32⟩
  | 66 => ⟨S1x1x512, .f32⟩
  | 67 => ⟨S2x4096x512, .f32⟩
  | 68 => ⟨S2x4096x512, .f32⟩
  | 69 => ⟨S2x4096x512, .f32⟩
  | 70 => ⟨S2x4096x512, .f32⟩
  | 71 => ⟨S31x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S31x512, .f32⟩
  | 80 => ⟨S1x512, .f32⟩
  | 81 => ⟨S512, .f32⟩
  | 82 => ⟨S1x1x512, .f32⟩
  | 83 => ⟨S2x4096x512, .f32⟩
  | 84 => ⟨S2x4096x512, .f32⟩
  | 85 => ⟨S2x4096x512, .f32⟩
  | 86 => ⟨S2x4096x512, .f32⟩
  | 87 => ⟨S31x512, .f32⟩
  | 88 => ⟨S1x512, .f32⟩
  | 89 => ⟨S512, .f32⟩
  | 90 => ⟨S1x1x512, .f32⟩
  | 91 => ⟨S2x4096x512, .f32⟩
  | 92 => ⟨S2x4096x512, .f32⟩
  | 93 => ⟨S2x4096x512, .f32⟩
  | 94 => ⟨S2x4096x512, .f32⟩
  | 95 => ⟨S31x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S31x512, .f32⟩
  | 104 => ⟨S1x512, .f32⟩
  | 105 => ⟨S512, .f32⟩
  | 106 => ⟨S1x1x512, .f32⟩
  | 107 => ⟨S2x4096x512, .f32⟩
  | 108 => ⟨S2x4096x512, .f32⟩
  | 109 => ⟨S2x4096x512, .f32⟩
  | 110 => ⟨S2x4096x512, .f32⟩
  | 111 => ⟨S31x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S31x512, .f32⟩
  | 120 => ⟨S1x512, .f32⟩
  | 121 => ⟨S512, .f32⟩
  | 122 => ⟨S1x1x512, .f32⟩
  | 123 => ⟨S2x4096x512, .f32⟩
  | 124 => ⟨S2x4096x512, .f32⟩
  | 125 => ⟨S2x4096x512, .f32⟩
  | 126 => ⟨S2x4096x512, .f32⟩
  | 127 => ⟨S31x512, .f32⟩
  | _ => ⟨S2x4096x1536, .f32⟩

abbrev hbmTy0_2 (i : Nat) : BufTy := match i % 128 with
  | 0 => ⟨S1x512, .f32⟩
  | 1 => ⟨S512, .f32⟩
  | 2 => ⟨S1x1x512, .f32⟩
  | 3 => ⟨S2x4096x512, .f32⟩
  | 4 => ⟨S2x4096x512, .f32⟩
  | 5 => ⟨S2x4096x512, .f32⟩
  | 6 => ⟨S2x4096x512, .f32⟩
  | 7 => ⟨S31x512, .f32⟩
  | 8 => ⟨S1x512, .f32⟩
  | 9 => ⟨S512, .f32⟩
  | 10 => ⟨S1x1x512, .f32⟩
  | 11 => ⟨S2x4096x512, .f32⟩
  | 12 => ⟨S2x4096x512, .f32⟩
  | 13 => ⟨S2x4096x512, .f32⟩
  | 14 => ⟨S512, .f32⟩
  | 15 => ⟨S1x1x512, .f32⟩
  | 16 => ⟨S2x4096x512, .f32⟩
  | 17 => ⟨S2x4096x512, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S2x4096x512, .f32⟩
  | 25 => ⟨S2x4096x512, .f32⟩
  | 26 => ⟨S2x4096x512, .f32⟩
  | 27 => ⟨S_, .f32⟩
  | 28 => ⟨S2x4096, .f32⟩
  | 29 => ⟨S2x4096x1, .f32⟩
  | 30 => ⟨S_, .f32⟩
  | 31 => ⟨S2x4096x1, .f32⟩
  | 32 => ⟨S2x4096x1, .f32⟩
  | 33 => ⟨S_, .f32⟩
  | 34 => ⟨S2x4096x1, .f32⟩
  | 35 => ⟨S2x4096x1, .f32⟩
  | 36 => ⟨S2x4096x1, .f32⟩
  | 37 => ⟨S2x4096x512, .f32⟩
  | 38 => ⟨S2x4096x512, .f32⟩
  | 39 => ⟨S512, .f32⟩
  | 40 => ⟨S1x1x512, .f32⟩
  | 41 => ⟨S2x4096x512, .f32⟩
  | 42 => ⟨S2x4096x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S_, .f32⟩
  | 53 => ⟨S2x4096x512, .f32⟩
  | 54 => ⟨S2x4096x512, .f32⟩
  | 55 => ⟨S2x4096x512, .f32⟩
  | 56 => ⟨S512, .f32⟩
  | 57 => ⟨S2x4096x512, .f32⟩
  | 58 => ⟨S_, .f32⟩
  | 59 => ⟨S2x4096, .f32⟩
  | 60 => ⟨S2x4096x1, .f32⟩
  | 61 => ⟨S_, .f32⟩
  | 62 => ⟨S2x4096x1, .f32⟩
  | 63 => ⟨S2x4096x1, .f32⟩
  | 64 => ⟨S_, .f32⟩
  | 65 => ⟨S2x4096x1, .f32⟩
  | 66 => ⟨S2x4096x1, .f32⟩
  | 67 => ⟨S2x4096x1, .f32⟩
  | 68 => ⟨S2x4096x512, .f32⟩
  | 69 => ⟨S2x4096x512, .f32⟩
  | 70 => ⟨S1x1x512, .f32⟩
  | 71 => ⟨S2x4096x512, .f32⟩
  | 72 => ⟨S2x4096x512, .f32⟩
  | 73 => ⟨S2x4096x512, .bf16⟩
  | _ => ⟨S2x4096x1536, .f32⟩

abbrev hbmTy (i : Nat) : BufTy := match i / 128 with
  | 0 => hbmTy0_0 i
  | 1 => hbmTy0_1 i
  | 2 => hbmTy0_2 i
  | _ => ⟨S2x4096x1536, .f32⟩

abbrev bufTy : (tb : Table) → Fin (tcTables nBuf tb) → BufTy
  | .hbm, ⟨i, _⟩ => hbmTy i
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_cst_3 : Ref sig .tc := ⟨.hbm, 274, rfl⟩
abbrev main_v264 : Ref sig .tc := ⟨.hbm, 275, rfl⟩
abbrev main_v265 : Ref sig .tc := ⟨.hbm, 276, rfl⟩
abbrev main_cst_4 : Ref sig .tc := ⟨.hbm, 277, rfl⟩
abbrev main_v266 : Ref sig .tc := ⟨.hbm, 278, rfl⟩
abbrev main_v267 : Ref sig .tc := ⟨.hbm, 279, rfl⟩
abbrev main_v268 : Ref sig .tc := ⟨.hbm, 280, rfl⟩
abbrev main_v269 : Ref sig .tc := ⟨.hbm, 281, rfl⟩
abbrev main_v270 : Ref sig .tc := ⟨.hbm, 282, rfl⟩
abbrev main_cst_5 : Ref sig .tc := ⟨.hbm, 283, rfl⟩
abbrev main_v271 : Ref sig .tc := ⟨.hbm, 284, rfl⟩
abbrev main_v272 : Ref sig .tc := ⟨.hbm, 285, rfl⟩
abbrev main_cst_6 : Ref sig .tc := ⟨.hbm, 286, rfl⟩
abbrev main_v273 : Ref sig .tc := ⟨.hbm, 287, rfl⟩
abbrev main_v274 : Ref sig .tc := ⟨.hbm, 288, rfl⟩
abbrev main_cst_7 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_call0_v0 : Ref sig .tc := ⟨.hbm, 303, rfl⟩
abbrev main_call0_v1 : Ref sig .tc := ⟨.hbm, 304, rfl⟩
abbrev main_call0_cst : Ref sig .tc := ⟨.hbm, 305, rfl⟩
abbrev main_call0_v2 : Ref sig .tc := ⟨.hbm, 306, rfl⟩
abbrev main_call0_v3 : Ref sig .tc := ⟨.hbm, 307, rfl⟩
abbrev main_call0_cst_0 : Ref sig .tc := ⟨.hbm, 308, rfl⟩
abbrev main_call0_v4 : Ref sig .tc := ⟨.hbm, 309, rfl⟩
abbrev main_call0_v5 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_cst_8 : Ref sig .tc := ⟨.hbm, 314, rfl⟩
abbrev main_v291 : Ref sig .tc := ⟨.hbm, 315, rfl⟩
abbrev main_v292 : Ref sig .tc := ⟨.hbm, 316, rfl⟩
abbrev main_cst_9 : Ref sig .tc := ⟨.hbm, 317, rfl⟩
abbrev main_v293 : Ref sig .tc := ⟨.hbm, 318, rfl⟩
abbrev main_v294 : Ref sig .tc := ⟨.hbm, 319, rfl⟩
abbrev main_cst_10 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WeightGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixOut.lean ====
abbrev S2x4096x1024 : Shape := ⟨3, ![2, 4096, 1024]⟩
abbrev S1x1024x1024 : Shape := ⟨3, ![1, 1024, 1024]⟩
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S1024x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixOutRefIdeal.lean ====
abbrev S2x4096x1024 : Shape := ⟨3, ![2, 4096, 1024]⟩
abbrev S1x1024x1024 : Shape := ⟨3, ![1, 1024, 1024]⟩
abbrev S_ : Shape := ⟨0, ![]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024x1024, .f32⟩
  | .hbm, ⟨2, _⟩ => ⟨S_, .f32⟩
  | .hbm, ⟨3, _⟩ => ⟨S2x4096x1024, .f32⟩
  | .hbm, ⟨4, _⟩ => ⟨S1024x1024, .f32⟩
  | .hbm, ⟨5, _⟩ => ⟨S2x4096x1024, .f32⟩
  | .hbm, ⟨6, _⟩ => ⟨S2x4096x1024, .f32⟩
  | .hbm, ⟨7, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adamw.lean ====
abbrev S4x352x1024 : Shape := ⟨3, ![4, 352, 1024]⟩
abbrev S1x352x1024 : Shape := ⟨3, ![1, 352, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S4x352x1024 : Shape := ⟨3, ![4, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Reals.lean ====
/-
  Extended reals that are real numbers.

  The gradient claims are stated over finite arguments. This module reads a printed finiteness precondition as "every
  element is a real number" and collects the facts by which an expression over such elements is one real expression.
-/
module

public import Idealize.ShloMosaic.PureOps.Ideal.Laws
public import Idealize.ShloMosaic.Lib.Pointwise
public import Idealize.ShloMosaic.Lib.ReduceAll

@[expose] public section

noncomputable section

namespace Cert.Reals

open Idealize.ShloMosaic

/-- The real sum, read as an extended real, is the sum of the terms read so. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of two real numbers whose divisor is not zero. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal square root of a positive real number. -/
theorem rsqrt_pos {x : ℝ} (h : 0 < x) : Ideal.rsqrt (x : EReal) = (((Real.sqrt x)⁻¹ : ℝ) : EReal) := by
  rw [Ideal.rsqrt_coe, if_neg h.not_gt, if_neg h.ne']

/-- The word of `+∞`. -/
theorem ofBits_top : Ideal.ofBits .f32 0x7F800000#32 = ⊤ := by
  simp [Ideal.ofBits, Ideal.ieee]

theorem one_of_andi_left {a b : BitVec 1} (h : IntOp.andi a b = 1#1) : a = 1#1 := by
  revert a b; decide

theorem one_of_andi_right {a b : BitVec 1} (h : IntOp.andi a b = 1#1) : b = 1#1 := by
  revert a b; decide

/-- An extended real whose absolute value compares below `+∞` is a real number. -/
theorem exists_real_of_cmp {x : EReal} (h : Ideal.cmp .olt (max x (-x)) ⊤ = 1#1) : ∃ r : ℝ, x = r := by
  have h' : max x (-x) < ⊤ := by
    by_contra hc
    simp [Ideal.cmp, hc] at h
  induction x using EReal.rec with
  | bot => simp at h'
  | top => simp at h'
  | coe r => exact ⟨r, rfl⟩

/-- The printed form of "all elements of `x` are finite": where it is 1, `x` is an array of real numbers. -/
theorem exists_real {s t u : Shape} [Subsingleton t.Idx] {axes : List (Fin s.rank)} (x : FVec Ideal s .f32)
    (dims : Fin u.rank → Fin s.rank)
    (hb : u.BroadcastsInDim s dims) (h : s.ReducesTo axes t) (hu : 0 < u.numel) (j : t.Idx) (init : IVec u 1)
    (e : Host.reduce IntOp.andi (cmpf .olt (Host.absf x) (broadcastInDim s dims hb (constant u .f32 0x7F800000#32))) init h hu j = 1#1) :
    ∃ X : s.Idx → ℝ, x = fun i => (X i : EReal) := by
  have hx : ∀ i, ∃ r : ℝ, x i = r := fun i => by
    have hi := Host.reduce_andi_all _ _ h hu j e i
    refine exists_real_of_cmp ?_
    rw [← ofBits_top]
    exact hi
  choose X hX using hx
  exact ⟨X, funext hX⟩

/-- The sum of an array over its first two axes. -/
theorem hostReduceAdd_two {A B C : ℕ} (h : (⟨3, ![A, B, C]⟩ : Shape).ReducesTo [0, 1] ⟨1, ![C]⟩)
    (x : (⟨3, ![A, B, C]⟩ : Shape).Idx → EReal) (init : EReal) (l : Fin C) :
    Ideal.hostReduceAdd h x init (ix1 l) = init + ∑ a, ∑ b, x (ix3 a b l) := by
  have hd (a : Fin A) (b : Fin B) (c : Fin C) : h.drop (ix3 a b c) = ix1 l ↔ c = l := by
    have hv : (h.drop (ix3 a b c) 0 : ℕ) = c :=
    h.drop_apply_val_of_eq (ix3 a b c) 0 2 Nat.zero_lt_one rfl
    constructor
    · intro e
      exact Fin.ext (hv.symm.trans (congrArg (fun f => (f 0 : ℕ)) e))
    · rintro rfl
      exact funext fun a => by
        have ha : a = 0 := Subsingleton.elim _ _
        subst ha
        exact Fin.ext hv
  unfold Ideal.hostReduceAdd
  rw [Finset.sum_filter, sum_idx3]
  simp only [hd, Finset.sum_ite_eq', Finset.mem_univ, if_true]

end Cert.Reals

end
-- ==== Proof.RmsNorm.lean ====
/-
  The gradient through an RMS norm, one row at a time, over real numbers.

  A row `x` is scaled by `scale x`, the reciprocal root of its mean square plus a small constant, and by
  the weights `g`. `back` is what the backward pass of the kernels computes for the row from the gradient `d` of the
  scaled row; `chain` is what the chain rule through the square, the mean and the reciprocal root gives.
-/
module

public import proofs.«01_k».proof.Proof.Reals

@[expose] public section

noncomputable section

namespace Cert.RmsNorm

open Idealize.ShloMosaic

/-- The small constant under the root, the value of its f32 word. -/
def eps : ℝ := 8796093 / 8796093022208

theorem eps_pos : 0 < eps := by unfold eps; norm_num

theorem ofBits_eps : Ideal.ofBits .f32 0x358637BD#32 = (eps : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

section Row

variable {n : ℕ} (x g d : Fin n → ℝ) (l : Fin n)

/-- The mean square of a row, plus the small constant. -/
def meanSq : ℝ := (∑ k, x k * x k) / n + eps

theorem meanSq_pos : 0 < meanSq x :=
  add_pos_of_nonneg_of_pos (div_nonneg (Finset.sum_nonneg fun k _ => mul_self_nonneg (x k)) (Nat.cast_nonneg n)) eps_pos

/-- The scale of a row. -/
def scale : ℝ := (Real.sqrt (meanSq x))⁻¹

/-- The gradient of entry `l` of a row as the kernels compute it. -/
def back : ℝ :=
  scale x * (d l * g l - x l * scale x * ((∑ k, d k * g k * (x k * scale x)) / n))

/-- The gradient of the mean square of the row, spread back over its entries. -/
def spread : ℝ :=
  (∑ k, x k * (d k * g k)) * (-(1 / 2) * (scale x / meanSq x)) / n

/-- The gradient of entry `l` of a row by the chain rule. -/
def chain : ℝ :=
  d l * g l * scale x + (x l * spread x g d + spread x g d * x l)

theorem scale_div : scale x / meanSq x = scale x * scale x * scale x := by
  have h := meanSq_pos x
  have hs : Real.sqrt (meanSq x) * Real.sqrt (meanSq x) = meanSq x := Real.mul_self_sqrt h.le
  have h0 : Real.sqrt (meanSq x) ≠ 0 := (Real.sqrt_pos.mpr h).ne'
  unfold scale
  rw [div_eq_mul_inv, mul_assoc, ← mul_inv √(meanSq x) √(meanSq x), hs]

/-- The chain rule's gradient is the kernels'. -/
theorem chain_eq_back : chain x g d l = back x g d l := by
  have hsum : ∑ k, d k * g k * (x k * scale x) = (∑ k, x k * (d k * g k)) * scale x := by
    rw [Finset.sum_mul]
    exact Finset.sum_congr rfl fun k _ => by ring
  unfold chain back spread
  rw [hsum, scale_div]
  ring

end Row

/-! ## The kernels' expressions over extended reals, for rows of 1024 entries -/

/-- The scale of a row as the programs compute it. -/
def scaleE (x : Fin 1024 → EReal) : EReal :=
  Ideal.rsqrt (Ideal.div (∑ k, x k * x k) (Ideal.ofBits .f32 0x44800000#32) + Ideal.ofBits .f32 0x358637BD#32)

/-- The gradient of entry `l` of a row as the kernels compute it. -/
def backE (x g d : Fin 1024 → EReal) (l : Fin 1024) : EReal :=
  scaleE x * (d l * g l - x l * scaleE x *
    Ideal.div (∑ k, d k * g k * (x k * scaleE x)) (Ideal.ofBits .f32 0x44800000#32))

theorem meanSqE_coe (x : Fin 1024 → ℝ) :
    Ideal.div (∑ k, (x k : EReal) * (x k : EReal)) (Ideal.ofBits .f32 0x44800000#32) + Ideal.ofBits .f32 0x358637BD#32
      = (meanSq x : EReal) := by
  simp only [← EReal.coe_mul, ← Reals.coe_sum, ofBits_1024, ofBits_eps]
  rw [Reals.div_coe_coe _ (by norm_num), ← EReal.coe_add, meanSq, Nat.cast_ofNat]

theorem scaleE_coe (x : Fin 1024 → ℝ) : scaleE (fun k => (x k : EReal)) = (scale x : EReal) := by
  unfold scaleE
  rw [meanSqE_coe, Reals.rsqrt_pos (meanSq_pos x), scale]

theorem backE_coe (x g d : Fin 1024 → ℝ) (l : Fin 1024) :
    backE (fun k => (x k : EReal)) (fun k => (g k : EReal)) (fun k => (d k : EReal)) l = (back x g d l : EReal) := by
  unfold backE back
  rw [scaleE_coe, ofBits_1024, Nat.cast_ofNat]
  simp only [← EReal.coe_mul, ← Reals.coe_sum]
  rw [Reals.div_coe_coe _ (by norm_num)]
  simp only [← EReal.coe_mul, ← EReal.coe_sub]

end Cert.RmsNorm

end
-- ==== Proof.FfnDxKernel.lean ====
/-
  `FfnDxIdeal`: what the kernel of the gradient through the two up-projections and the norm leaves in its two results.

  The kernel walks 16 blocks of 512 rows. Each point writes its rows of the input gradient (window 7) and adds its rows
  to the gradient of the norm's weights (window 8), which is written back once at the end.
-/
module

public import proofs.«01_k».proof.Proof.Gen.FfnDxIdeal.Value
public import proofs.«01_k».proof.Proof.RmsNorm
public import Idealize.ShloMosaic.Lib.Pipeline.ValueKit

@[expose] public section

noncomputable section

namespace Cert.FfnDxIdeal.Value

open Idealize.ShloMosaic Idealize.ShloMosaic.TcCoe Idealize.SL.Sem
open Idealize.ShloMosaic.Pipeline (Dat)
open Cert.FfnDxIdeal Cert.FfnDxIdeal.Gen

variable (m : (ℓ : Loc nD τ sig) → Buf (Elt Ideal) ℓ)

/-- The block of each window at grid point `t`: row block `t`, or the one block there is. -/
theorem index_eq : ∀ t : Fin grid0.N, win0_0.index t = ![t.val, 0] ∧ win0_1.index t = ![t.val, 0] ∧
    win0_2.index t = ![0, 0] ∧ win0_3.index t = ![0, 0] ∧ win0_4.index t = ![t.val, 0] ∧ win0_5.index t = ![t.val, 0] ∧
    win0_6.index t = ![0, 0] ∧ win0_7.index t = ![t.val, 0] ∧ win0_8.index t = ![0, 0] := by
  decide +kernel

/-- Entry `(n, l)` of the gradient of the normed rows: both up-projections' gradients, back through their weights. -/
def dh (da db : FVec Ideal S8192x2816 .bf16) (w1 w3 : FVec Ideal S2816x1024 .bf16) (n : Fin 8192) (l : Fin 1024) : EReal :=
  (∑ k, da (ix2 n k) * w1 (ix2 k l)) + ∑ k, db (ix2 n k) * w3 (ix2 k l)

/-- The gradient of the rows, the passed-on gradient `dxo` included. -/
def dx (da db : FVec Ideal S8192x2816 .bf16) (w1 w3 : FVec Ideal S2816x1024 .bf16) (dxo x : FVec Ideal S8192x1024 .f32)
    (g : FVec Ideal S1x1024 .f32) : FVec Ideal S8192x1024 .f32 :=
  fun j => dxo j + RmsNorm.backE (fun l => x (ix2 (j 0) l)) (fun l => g (ix2 0 l)) (dh da db w1 w3 (j 0)) (j 1)

/-- What row `n` adds to the gradient of weight `l` of the norm. -/
def dgRow (da db : FVec Ideal S8192x2816 .bf16) (w1 w3 : FVec Ideal S2816x1024 .bf16) (x : FVec Ideal S8192x1024 .f32)
    (n : Fin 8192) (l : Fin 1024) : EReal :=
  dh da db w1 w3 n l * (x (ix2 n l) * RmsNorm.scaleE fun l => x (ix2 n l))

/-- The gradient of the norm's weights. -/
def dg (da db : FVec Ideal S8192x2816 .bf16) (w1 w3 : FVec Ideal S2816x1024 .bf16) (x : FVec Ideal S8192x1024 .f32) :
    FVec Ideal S1x1024 .f32 :=
  fun j => ∑ n, dgRow da db w1 w3 x n (j 1)

/-- What a point leaves in its block of the input gradient: the same at the first point and at a later one. -/
theorem out7 (c : Dev nD) (t : Fin cfg0.N) : (outsAt0 m c t.val t.isLt).1 = k0_pay1 (k0_pay6 (iblk m c 5 t))
    (k0_pay8 (iblk m c 0 t) (iblk m c 2 t) (iblk m c 1 t) (iblk m c 3 t) (iblk m c 5 t) (iblk m c 6 t)) (iblk m c 4 t) := by
  by_cases h : t.val % 16 = 0
  · rw [outsAt0_A m c t h]; frame_out
  · rw [outsAt0_B m c t h]; frame_out

theorem final7 (c : Dev nD) : (dats m 0 c).arrAt 7 cfg0.N =
    dx (V m c main_v7) (V m c main_v9) (V m c main_v2) (V m c main_v5) (V m c main_v10) (V m c main_v11) (V m c main_arg1) := by
  refine (dats m 0 c).arrAt_eq_of_covers 7 _ (by decide +kernel) fun t hf y => ?_
  blk_simp
  rw [after0_7, out7]
  pointwise [k0_pay1, k0_pay8, k0_pay7, k0_pay6, k0_pay5, k0_pay4, dx, dh, RmsNorm.backE, RmsNorm.scaleE]
  blk_point [iblk, index_eq t]

theorem N_eq : cfg0.N = 16 := by decide

/-- The last grid point. -/
def last : Fin cfg0.N := ⟨15, by decide⟩

/-- Row `r` of the block of grid point `t`. -/
def rowAt (t : Fin cfg0.N) (r : Fin 512) : Fin 8192 :=
  ⟨t.val * 512 + r.val, by have ht : t.val < 16 := N_eq ▸ t.isLt; have := r.isLt; omega⟩

/-- The rows a point adds to the gradient of the norm's weights. -/
def dgBlock (c : Dev nD) (t : Fin cfg0.N) (j : S1x1024.Idx) : EReal :=
  ∑ r : Fin 512, dgRow (V m c main_v7) (V m c main_v9) (V m c main_v2) (V m c main_v5) (V m c main_v11)
    (rowAt t r) (j 1)

theorem point8 (c : Dev nD) (t : Fin cfg0.N) (a : FVec Ideal S1x1024 .f32) (j : S1x1024.Idx) :
    k0_pay2 (k0_pay4 (iblk m c 0 t) (iblk m c 2 t) (iblk m c 1 t) (iblk m c 3 t)) (k0_pay7 (iblk m c 5 t)) a j
      = a j + dgBlock m c t j := by
  pointwise [k0_pay2, k0_pay4, k0_pay7, k0_pay6, k0_pay5, dgBlock, rowAt, dgRow, dh, RmsNorm.scaleE]
  blk_point [iblk, index_eq t]

theorem outs8 (c : Dev nD) (j : S1x1024.Idx) : (outsAt0 m c last.val last.isLt).2 j = 0 + ∑ t : Fin cfg0.N, dgBlock m c t j := by
  refine Pipeline.eq_sum_fin_of_reset_step_last (fun n h => (outsAt0 m c n h).2 j) 16 0 (fun t => dgBlock m c t j)
    (fun t h => ?_) (fun t h => ?_) (by decide) last rfl
  · rw [outsAt0_A m c t h]; frame_out
    rw [point8]
    refine congrArg (· + _) ?_
    pointwise [k0_pay3]
  · rw [outsAt0_B m c t h]; frame_out
    rw [point8]

theorem final8 (c : Dev nD) : (dats m 0 c).arrAt 8 cfg0.N =
    dg (V m c main_v7) (V m c main_v9) (V m c main_v2) (V m c main_v5) (V m c main_v11) := by
  refine (dats m 0 c).arrAt_eq_of_after_last 8 last (by decide +kernel) _ fun j => ?_
  rw [after0_8]
  refine (outs8 m c _).trans ?_
  blk_simp
  rw [zero_add]
  unfold dg
  rw [Fin.sum_univ_tiles 16 512 rfl]
  rfl

end Cert.FfnDxIdeal.Value

end
-- ==== Proof.FfnDxReference.lean ====
/-
  `FfnDxRefIdeal`: the reference's two results over real arguments.
-/
module

public import proofs.«01_k».proof.Proof.Gen.FfnDxRefIdeal.Run
public import proofs.«01_k».proof.Proof.Gen.FfnDxRefIdeal.Read
public import proofs.«01_k».proof.Proof.RmsNorm

@[expose] public section

noncomputable section

namespace Cert.FfnDxRefIdeal.Value

open Idealize.ShloMosaic Idealize.ShloMosaic.TcCoe Idealize.SL.Sem
open Cert.FfnDxRefIdeal Cert.FfnDxRefIdeal.Gen Cert.FfnDxRefIdeal.Read

variable (x : S2x4096x1024.Idx → ℝ) (g : S1x1024.Idx → ℝ) (w1 w3 : S1x1024x2816.Idx → ℝ)
  (da db : S2x4096x2816.Idx → ℝ) (dres : S2x4096x1024.Idx → EReal) (b : Fin 2) (s : Fin 4096) (l : Fin 1024)

/-- An array of real numbers as an array of the program. -/
abbrev ofReal {t : Shape} (y : t.Idx → ℝ) : FVec Ideal t .f32 := fun i => (y i : EReal)

/-- Row `(b, s)` of the input. -/
abbrev row (k : Fin 1024) : ℝ := x (ix3 b s k)

/-- The gradient of the normed row `(b, s)`. -/
def dh (l : Fin 1024) : ℝ :=
  (∑ k, da (ix3 b s k) * w1 (ix3 0 l k)) + ∑ k, db (ix3 b s k) * w3 (ix3 0 l k)

theorem v7_at : val_main_v7 (F := Ideal) (ofReal x) (ix3 b s 0) = (RmsNorm.meanSq (row x b s) : EReal) := by
  pointwise [val_main_v7, val_main_v6, val_main_v5, val_main_v4, val_main_v3, val_main_v2, val_main_v1, val_main_cst, val_main_cst_0, val_main_cst_1]
  exact RmsNorm.meanSqE_coe _

theorem v8_at : val_main_v8 (F := Ideal) (ofReal x) (ix3 b s 0) = (RmsNorm.scale (row x b s) : EReal) := by
  pointwise [val_main_v8]
  rw [v7_at, Reals.rsqrt_pos (RmsNorm.meanSq_pos _), RmsNorm.scale]

theorem v11_at : val_main_v11 (F := Ideal) (ofReal x) (ix3 b s 0)
    = ((-(1 / 2) * (RmsNorm.scale (row x b s) / RmsNorm.meanSq (row x b s)) : ℝ) : EReal) := by
  pointwise [val_main_v11, val_main_v10, val_main_v9, val_main_cst_2]
  rw [v7_at, v8_at, Reals.div_coe_coe _ (RmsNorm.meanSq_pos _).ne', RmsNorm.ofBits_neg_half, ← EReal.coe_mul]

theorem v23_at : val_main_v23 (F := Ideal) (ofReal w1) (ofReal w3) (ofReal da) (ofReal db) (ix3 b s l)
    = (dh w1 w3 da db b s l : EReal) := by
  pointwise [val_main_v23, val_main_v22, val_main_v21, val_main_v19, val_main_v17]
  simp only [← EReal.coe_mul, ← Reals.coe_sum, ← EReal.coe_add, dh]
  rw [add_comm]

theorem v28_at : val_main_v28 (F := Ideal) (ofReal g) (ofReal w1) (ofReal w3) (ofReal da) (ofReal db) (ix3 b s l)
    = ((dh w1 w3 da db b s l * g (ix2 0 l) : ℝ) : EReal) := by
  pointwise [val_main_v28, val_main_v27, val_main_v14, val_main_v0]
  rw [v23_at]
  rw [EReal.coe_mul]

theorem v38_at : val_main_v38 (F := Ideal) (ofReal x) (ofReal g) (ofReal w1) (ofReal w3) (ofReal da) (ofReal db) (ix3 b s 0)
    = (RmsNorm.spread (row x b s) (fun k => g (ix2 0 k)) (dh w1 w3 da db b s) : EReal) := by
  pointwise [val_main_v38, val_main_v37, val_main_v36, val_main_v32, val_main_v31, val_main_v30, val_main_cst_6, val_main_cst_5]
  simp only [v28_at, v11_at, RmsNorm.ofBits_1024, ← EReal.coe_mul, ← Reals.coe_sum]
  rw [Reals.div_coe_coe _ (by norm_num)]
  simp only [RmsNorm.spread, Nat.cast_ofNat]

theorem v44_at : val_main_v44 (F := Ideal) (ofReal x) (ofReal g) (ofReal w1) (ofReal w3) (ofReal da) (ofReal db) dres (ix3 b s l)
    = dres (ix3 b s l) + (RmsNorm.back (row x b s) (fun k => g (ix2 0 k)) (dh w1 w3 da db b s) l : EReal) := by
  pointwise [val_main_v44, val_main_v43, val_main_v42, val_main_v41, val_main_v40, val_main_v39, val_main_v35, val_main_v34, val_main_v33, val_main_cst_7]
  simp only [Fin.sum_univ_one, v28_at, v8_at, v38_at, ofReal, ← EReal.coe_mul]
  rw [add_assoc, add_assoc, ← EReal.coe_add, ← EReal.coe_add, ← RmsNorm.chain_eq_back]
  rfl

theorem v45_at : val_main_v45 (F := Ideal) (ofReal x) (ofReal w1) (ofReal w3) (ofReal da) (ofReal db) (ix2 0 l)
    = ((∑ b, ∑ s, dh w1 w3 da db b s l * (x (ix3 b s l) * RmsNorm.scale (row x b s)) : ℝ) : EReal) := by
  pointwise [val_main_v45, val_main_v29, val_main_v26, val_main_v25, val_main_v24, val_main_v13, val_main_v12, val_main_cst_3, val_main_cst_4]
  rw [Reals.hostReduceAdd_two]
  pointwise
  rw [Reals.hostReduceAdd_two]
  pointwise
  simp only [Fin.sum_univ_one, v23_at, v8_at, ofReal, ← EReal.coe_mul, ← Reals.coe_sum]
  refine congrArg _ (Finset.sum_congr rfl fun b _ => Finset.sum_congr rfl fun s _ => ?_)
  exact mul_comm _ _

end Cert.FfnDxRefIdeal.Value

end
-- ==== Proof.Rows.lean ====
/-
  The rows of the kernels' arrays: two batch entries of 4096 positions, one after the other.
-/
module

public import Idealize.ShloMosaic.Lib.Pointwise

@[expose] public section

noncomputable section

namespace Cert.Rows

open Idealize.ShloMosaic

variable (n : Fin 8192)

/-- The batch entry of row `n`. -/
def batch : Fin 2 := ⟨n.val / 4096, by have := n.isLt; omega⟩

/-- The position of row `n` in its batch entry. -/
def pos : Fin 4096 := ⟨n.val % 4096, Nat.mod_lt _ (by norm_num)⟩

/-- A sum over the rows is the sum over the batch entries and the positions. -/
theorem sum_rows {M : Type*} [AddCommMonoid M] (f : Fin 2 → Fin 4096 → M) :
    ∑ n, f (batch n) (pos n) = ∑ b, ∑ s, f b s := by
  rw [Fin.sum_univ_tiles 2 4096 rfl]
  refine Finset.sum_congr rfl fun b _ => Finset.sum_congr rfl fun s _ => congrArg₂ f ?_ ?_
  · exact Fin.ext (by unfold batch; dsimp only; omega)
  · exact Fin.ext (by unfold pos; dsimp only; omega)

/-- The row of position `s` of batch entry `b`. -/
def joined (b : Fin 2) (s : Fin 4096) : Fin 8192 := ⟨b.val * 4096 + s.val, by have := b.isLt; have := s.isLt; omega⟩

theorem batch_joined (b : Fin 2) (s : Fin 4096) : batch (joined b s) = b :=
  Fin.ext (by have := s.isLt; unfold batch joined; dsimp only; omega)

theorem pos_joined (b : Fin 2) (s : Fin 4096) : pos (joined b s) = s :=
  Fin.ext (by have := s.isLt; unfold pos joined; dsimp only; omega)

/-- Row `r` of block `t` where the rows are walked in eight blocks. -/
def blockRow {N : ℕ} (h : N = 8) (t : Fin N) (r : Fin 1024) : Fin 8192 :=
  ⟨t.val * 1024 + r.val, by have := t.isLt; have := r.isLt; omega⟩

/-- A sum over the blocks and the rows of each is the sum over the rows. -/
theorem sum_blocks {N : ℕ} (h : N = 8) (f : Fin 8192 → ℝ) : ∑ t : Fin N, ∑ r, f (blockRow h t r) = ∑ n, f n := by
  subst h
  rw [Fin.sum_univ_tiles 8 1024 rfl]
  rfl

/-- Row `r` of block `t` where the rows are walked in sixteen blocks. -/
def tileRow {N : ℕ} (h : N = 16) (t : Fin N) (r : Fin 512) : Fin 8192 :=
  ⟨t.val * 512 + r.val, by have := t.isLt; have := r.isLt; omega⟩

/-- A sum over the sixteen blocks and the rows of each is the sum over the rows. -/
theorem sum_tiles {N : ℕ} (h : N = 16) (f : Fin 8192 → ℝ) : ∑ t : Fin N, ∑ r, f (tileRow h t r) = ∑ n, f n := by
  subst h
  rw [Fin.sum_univ_tiles 16 512 rfl]
  rfl

end Cert.Rows

end
-- ==== Proof.FfnDx.lean ====
/-
  The gradient through a macaron FFN's two up-projections and its norm: the kernel's results are the reference's.
-/
module

public import proofs.«01_k».proof.Defs
public import proofs.«01_k».proof.Proof.FfnDxKernel
public import proofs.«01_k».proof.Proof.FfnDxReference
public import proofs.«01_k».proof.Proof.Rows

@[expose] public section

noncomputable section

namespace Cert.FfnDxProof

open Idealize.ShloMosaic Idealize.ShloMosaic.TcCoe Idealize.SL.Sem

/-! ## The precondition -/

instance preFacts : Cert.Pre_dx_finite.Facts :=
  ⟨by decide, by decide, by decide, by decide, by decide, by decide, by decide, by decide, by decide⟩

open Cert.Pre_dx_finite in
/-- Under the precondition the six arrays it reads are arrays of real numbers. -/
theorem reals {x : FVec Ideal S2x4096x1024 .f32} {g : FVec Ideal S1x1024 .f32} {w1 w3 : FVec Ideal S1x1024x2816 .f32}
    {da db : FVec Ideal S2x4096x2816 .f32} {dres : FVec Ideal S2x4096x1024 .f32}
    (h : fn (F := Ideal) x g w1 w3 da db dres = fun _ => 1#1) :
    (∃ X : S2x4096x1024.Idx → ℝ, x = fun i => (X i : EReal)) ∧ (∃ X : S1x1024.Idx → ℝ, g = fun i => (X i : EReal)) ∧
    (∃ X : S1x1024x2816.Idx → ℝ, w1 = fun i => (X i : EReal)) ∧ (∃ X : S1x1024x2816.Idx → ℝ, w3 = fun i => (X i : EReal)) ∧
    (∃ X : S2x4096x2816.Idx → ℝ, da = fun i => (X i : EReal)) ∧ (∃ X : S2x4096x2816.Idx → ℝ, db = fun i => (X i : EReal)) := by
  have h0 := congrFun h ix0
  have h1 := Reals.one_of_andi_left h0
  have h2 := Reals.one_of_andi_left h1
  have h3 := Reals.one_of_andi_left h2
  have h4 := Reals.one_of_andi_left h3
  exact ⟨Reals.exists_real x _ _ _ _ _ _ (Reals.one_of_andi_left h4), Reals.exists_real g _ _ _ _ _ _ (Reals.one_of_andi_right h4),
    Reals.exists_real w1 _ _ _ _ _ _ (Reals.one_of_andi_right h3), Reals.exists_real w3 _ _ _ _ _ _ (Reals.one_of_andi_right h2),
    Reals.exists_real da _ _ _ _ _ _ (Reals.one_of_andi_right h1), Reals.exists_real db _ _ _ _ _ _ (Reals.one_of_andi_right h0)⟩

/-! ## The kernel's operands read from the arguments -/

open Cert.FfnDxIdeal Cert.FfnDxIdeal.Gen Cert.FfnDxIdeal.Value Cert.Rows

variable (m : (ℓ : Loc nD τ sig) → Buf (Elt Ideal) ℓ) (c : Dev nD) (n : Fin 8192)

theorem x_at (l : Fin 1024) : V m c main_v11 (ix2 n l) = m ((c : Thread nD τ).loc main_arg0) (ix3 (batch n) (pos n) l) := by
  entry_read
  pointwise [batch, pos]

theorem dres_at (l : Fin 1024) : V m c main_v10 (ix2 n l) = m ((c : Thread nD τ).loc main_arg6) (ix3 (batch n) (pos n) l) := by
  entry_read
  pointwise [batch, pos]

theorem da_at (l : Fin 2816) : V m c main_v7 (ix2 n l) = m ((c : Thread nD τ).loc main_arg4) (ix3 (batch n) (pos n) l) := by
  entry_read
  pointwise [batch, pos]

theorem db_at (l : Fin 2816) : V m c main_v9 (ix2 n l) = m ((c : Thread nD τ).loc main_arg5) (ix3 (batch n) (pos n) l) := by
  entry_read
  pointwise [batch, pos]

theorem w1_at (k : Fin 2816) (l : Fin 1024) : V m c main_v2 (ix2 k l) = m ((c : Thread nD τ).loc main_arg2) (ix3 0 l k) := by
  entry_read
  pointwise

theorem w3_at (k : Fin 2816) (l : Fin 1024) : V m c main_v5 (ix2 k l) = m ((c : Thread nD τ).loc main_arg3) (ix3 0 l k) := by
  entry_read
  pointwise

/-! ## The results -/

open Cert.FfnDxRefIdeal.Value (ofReal)

variable {x : S2x4096x1024.Idx → ℝ} {g : S1x1024.Idx → ℝ} {w1 w3 : S1x1024x2816.Idx → ℝ} {da db : S2x4096x2816.Idx → ℝ}

theorem dh_at (h2 : m ((c : Thread nD τ).loc main_arg2) = ofReal w1) (h3 : m ((c : Thread nD τ).loc main_arg3) = ofReal w3)
    (h4 : m ((c : Thread nD τ).loc main_arg4) = ofReal da) (h5 : m ((c : Thread nD τ).loc main_arg5) = ofReal db) (l : Fin 1024) :
    dh (V m c main_v7) (V m c main_v9) (V m c main_v2) (V m c main_v5) n l
      = (Cert.FfnDxRefIdeal.Value.dh w1 w3 da db (batch n) (pos n) l : EReal) := by
  refine (congrArg₂ (· + ·)
    (Finset.sum_congr rfl fun k _ => congrArg₂ (fun a b : EReal => a * b) ((da_at m c n k).trans (congrFun h4 _)) ((w1_at m c k l).trans (congrFun h2 _)))
    (Finset.sum_congr rfl fun k _ => congrArg₂ (fun a b : EReal => a * b) ((db_at m c n k).trans (congrFun h5 _)) ((w3_at m c k l).trans (congrFun h3 _)))).trans ?_
  simp only [ofReal, ← EReal.coe_mul, ← Reals.coe_sum, ← EReal.coe_add, Cert.FfnDxRefIdeal.Value.dh]

theorem x_row (h0 : m ((c : Thread nD τ).loc main_arg0) = ofReal x) :
    (fun l => V m c main_v11 (ix2 n l)) = fun l => (x (ix3 (batch n) (pos n) l) : EReal) :=
  funext fun l => (x_at m c n l).trans (congrFun h0 _)

theorem dx_eq (h0 : m ((c : Thread nD τ).loc main_arg0) = ofReal x) (h1 : m ((c : Thread nD τ).loc main_arg1) = ofReal g)
    (h2 : m ((c : Thread nD τ).loc main_arg2) = ofReal w1) (h3 : m ((c : Thread nD τ).loc main_arg3) = ofReal w3)
    (h4 : m ((c : Thread nD τ).loc main_arg4) = ofReal da) (h5 : m ((c : Thread nD τ).loc main_arg5) = ofReal db) :
    dx (V m c main_v7) (V m c main_v9) (V m c main_v2) (V m c main_v5) (V m c main_v10) (V m c main_v11) (V m c main_arg1)
      = Cert.FfnDxRefIdeal.Read.val_main_v46 (F := Ideal) (ofReal x) (ofReal g) (ofReal w1) (ofReal w3) (ofReal da) (ofReal db)
          (m ((c : Thread nD τ).loc main_arg6)) := by
  funext j
  obtain ⟨n, l, rfl⟩ : ∃ n l, j = ix2 n l := ⟨_, _, eq_ix2 j⟩
  pointwise [Cert.FfnDxRefIdeal.Read.val_main_v46]
  refine Eq.trans ?_ (Cert.FfnDxRefIdeal.Value.v44_at x g w1 w3 da db _ (batch n) (pos n) l).symm
  refine congrArg₂ (· + ·) (dres_at m c n l) (Eq.trans ?_ (RmsNorm.backE_coe _ _ _ l))
  have hg : (fun l => V m c main_arg1 (ix2 0 l)) = fun l => (g (ix2 0 l) : EReal) := by rw [V_main_arg1, h1]
  have hd : dh (V m c main_v7) (V m c main_v9) (V m c main_v2) (V m c main_v5) n
      = fun l => (Cert.FfnDxRefIdeal.Value.dh w1 w3 da db (batch n) (pos n) l : EReal) := funext (dh_at m c n h2 h3 h4 h5)
  exact congrFun (congr (congr (congrArg RmsNorm.backE (x_row m c n h0)) hg) hd) l

theorem dg_eq (h0 : m ((c : Thread nD τ).loc main_arg0) = ofReal x)
    (h2 : m ((c : Thread nD τ).loc main_arg2) = ofReal w1) (h3 : m ((c : Thread nD τ).loc main_arg3) = ofReal w3)
    (h4 : m ((c : Thread nD τ).loc main_arg4) = ofReal da) (h5 : m ((c : Thread nD τ).loc main_arg5) = ofReal db) :
    dg (V m c main_v7) (V m c main_v9) (V m c main_v2) (V m c main_v5) (V m c main_v11)
      = Cert.FfnDxRefIdeal.Read.val_main_v45 (F := Ideal) (ofReal x) (ofReal w1) (ofReal w3) (ofReal da) (ofReal db) := by
  funext j
  obtain ⟨l, rfl⟩ : ∃ l, j = ix2 0 l := ⟨j 1, (eq_ix2 j).trans (congrArg (ix2 · _) (Subsingleton.elim _ _))⟩
  rw [Cert.FfnDxRefIdeal.Value.v45_at]
  have hrow (n : Fin 8192) : dgRow (V m c main_v7) (V m c main_v9) (V m c main_v2) (V m c main_v5) (V m c main_v11) n l
      = ((Cert.FfnDxRefIdeal.Value.dh w1 w3 da db (batch n) (pos n) l * (x (ix3 (batch n) (pos n) l) *
          RmsNorm.scale fun l => x (ix3 (batch n) (pos n) l)) : ℝ) : EReal) := by
    rw [EReal.coe_mul, EReal.coe_mul, ← RmsNorm.scaleE_coe]
    exact congrArg₂ (· * ·) (dh_at m c n h2 h3 h4 h5 l)
      (congrArg₂ (· * ·) (congrFun (x_row m c n h0) l) (congrArg RmsNorm.scaleE (x_row m c n h0)))
  refine (Finset.sum_congr rfl fun n _ => hrow n).trans ?_
  rw [← Reals.coe_sum]
  exact congrArg _ (sum_rows fun b s => Cert.FfnDxRefIdeal.Value.dh w1 w3 da db b s l * (x (ix3 b s l) *
    RmsNorm.scale fun l => x (ix3 b s l)))

theorem algebraic : Cert.algebraic_FfnDxIdeal_FfnDxRefIdeal_pre_dx_finite := by
  intro m ρ m' ρ' hpre hagree
  refine ⟨fun c => (dats m 0 c).arrAt 7 cfg0.N, fun c => (dats m 0 c).arrAt 8 cfg0.N, run_blocks m ρ, ?_⟩
  refine (θ_run Cert.FfnDxRefIdeal.defs _ _).mono (fun r h c => ?_) (Cert.FfnDxRefIdeal.Value.run (F := Ideal) m' ρ')
  obtain ⟨hr46, hr45, hkeep⟩ := h c
  obtain ⟨e0, e1, e2, e3, e4, e5, e6⟩ := hagree c
  obtain ⟨⟨x, h0⟩, ⟨g, h1⟩, ⟨w1, h2⟩, ⟨w3, h3⟩, ⟨da, h4⟩, ⟨db, h5⟩⟩ := reals (hpre c)
  refine ⟨hr46.trans ?_, hr45.trans ?_, hkeep⟩
  · refine (Cert.FfnDxRefIdeal.Read.val_main_v46_eq m' c).trans ?_
    rw [e0, e1, e2, e3, e4, e5, e6]
    refine Eq.trans ?_ ((final7 m c).trans (dx_eq m c h0 h1 h2 h3 h4 h5)).symm
    rw [h0, h1, h2, h3, h4, h5]
  · refine (Cert.FfnDxRefIdeal.Read.val_main_v45_eq (F := Ideal) _ _ _ _ _).trans ?_
    rw [e0, e2, e3, e4, e5]
    refine Eq.trans ?_ ((final8 m c).trans (dg_eq m c h0 h2 h3 h4 h5)).symm
    rw [h0, h2, h3, h4, h5]

theorem quiescent_reference : Cert.quiescent_FfnDxRefIdeal := fun m ρ _ =>
  (θ_run Cert.FfnDxRefIdeal.defs _ _).mono (fun r h => ⟨fun c => (h c).2.2, sem_eq_zero_of_no_sems (by decide) r.2⟩)
    (Cert.FfnDxRefIdeal.Value.run (F := Ideal) m ρ)

end Cert.FfnDxProof

end
-- ==== Proof.MixDxKernel.lean ====
/-
  `MixDxIdeal`: what the kernel of the gradient through the mixer's input projection and its norm leaves in its two results.

  The kernel walks 16 blocks of 512 rows. Each point writes its rows of the input gradient (window 7) and adds its rows
  to the gradient of the norm's weights (window 8), which is written back once at the end.
-/
module

public import proofs.«01_k».proof.Proof.Gen.MixDxIdeal.Value
public import proofs.«01_k».proof.Proof.RmsNorm
public import Idealize.ShloMosaic.Lib.Pipeline.ValueKit

@[expose] public section

noncomputable section

namespace Cert.MixDxIdeal.Value

open Idealize.ShloMosaic Idealize.ShloMosaic.TcCoe Idealize.SL.Sem
open Idealize.ShloMosaic.Pipeline (Dat)
open Cert.MixDxIdeal Cert.MixDxIdeal.Gen

variable (m : (ℓ : Loc nD τ sig) → Buf (Elt Ideal) ℓ)

/-- The block of each window at grid point `t`: row block `t`, or the one block there is. -/
theorem index_eq : ∀ t : Fin grid0.N, win0_0.index t = ![t.val, 0] ∧ win0_1.index t = ![t.val, 0] ∧
    win0_2.index t = ![0, 0] ∧ win0_3.index t = ![2, 0] ∧ win0_4.index t = ![t.val, 0] ∧ win0_5.index t = ![t.val, 0] ∧
    win0_6.index t = ![0, 0] ∧ win0_7.index t = ![t.val, 0] ∧ win0_8.index t = ![0, 0] := by
  decide +kernel

/-- Entry `(n, l)` of the gradient of the normed rows: the convolution's columns and S5's, back through their rows of
    the weights. -/
def dh (dc : FVec Ideal S8192x1024 .bf16) (du : FVec Ideal S8192x512 .bf16) (w : FVec Ideal S1536x1024 .bf16) (n : Fin 8192)
    (l : Fin 1024) : EReal :=
  (∑ k, dc (ix2 n k) * w (ix2 ⟨k.val, by have := k.isLt; omega⟩ l)) +
    ∑ k, du (ix2 n k) * w (ix2 ⟨1024 + k.val, by have := k.isLt; omega⟩ l)

/-- The gradient of the rows, the passed-on gradient `dxo` included. -/
def dx (dc : FVec Ideal S8192x1024 .bf16) (du : FVec Ideal S8192x512 .bf16) (w : FVec Ideal S1536x1024 .bf16) (dxo x : FVec Ideal S8192x1024 .f32)
    (g : FVec Ideal S1x1024 .f32) : FVec Ideal S8192x1024 .f32 :=
  fun j => dxo j + RmsNorm.backE (fun l => x (ix2 (j 0) l)) (fun l => g (ix2 0 l)) (dh dc du w (j 0)) (j 1)

/-- What row `n` adds to the gradient of weight `l` of the norm. -/
def dgRow (dc : FVec Ideal S8192x1024 .bf16) (du : FVec Ideal S8192x512 .bf16) (w : FVec Ideal S1536x1024 .bf16) (x : FVec Ideal S8192x1024 .f32)
    (n : Fin 8192) (l : Fin 1024) : EReal :=
  dh dc du w n l * (x (ix2 n l) * RmsNorm.scaleE fun l => x (ix2 n l))

/-- The gradient of the norm's weights. -/
def dg (dc : FVec Ideal S8192x1024 .bf16) (du : FVec Ideal S8192x512 .bf16) (w : FVec Ideal S1536x1024 .bf16) (x : FVec Ideal S8192x1024 .f32) :
    FVec Ideal S1x1024 .f32 :=
  fun j => ∑ n, dgRow dc du w x n (j 1)

/-- The convolution's rows of the weights: the first block of 1024 rows. -/
theorem X2_at (c : Dev nD) (t : Fin cfg0.N) (k l : Fin 1024) :
    X0_2 m c t (ix2 k l) = V m c main_v2 (ix2 ⟨k.val, by have := k.isLt; omega⟩ l) := by
  unfold X0_2 Pipeline.Window.fill
  rw [dif_pos (moved0_2 t _)]
  blk_point [iblk, index_eq t]

/-- What a point leaves in its block of the input gradient: the same at the first point and at a later one. -/
theorem out7 (c : Dev nD) (t : Fin cfg0.N) : (outsAt0 m c t.val t.isLt).1 = k0_pay1 (k0_pay6 (iblk m c 5 t))
    (k0_pay8 (iblk m c 0 t) (X0_2 m c t) (iblk m c 1 t) (iblk m c 3 t) (iblk m c 5 t) (iblk m c 6 t)) (iblk m c 4 t) := by
  by_cases h : t.val % 16 = 0
  · rw [outsAt0_A m c t h]; frame_out
  · rw [outsAt0_B m c t h]; frame_out

theorem final7 (c : Dev nD) : (dats m 0 c).arrAt 7 cfg0.N =
    dx (V m c main_v4) (V m c main_v6) (V m c main_v2) (V m c main_v7) (V m c main_v8) (V m c main_arg1) := by
  refine (dats m 0 c).arrAt_eq_of_covers 7 _ (by decide +kernel) fun t hf y => ?_
  blk_simp
  rw [after0_7, out7]
  pointwise [k0_pay1, k0_pay8, k0_pay7, k0_pay6, k0_pay5, k0_pay4, dx, dh, RmsNorm.backE, RmsNorm.scaleE, X2_at m c t]
  blk_point [iblk, index_eq t]

theorem N_eq : cfg0.N = 16 := by decide

/-- The last grid point. -/
def last : Fin cfg0.N := ⟨15, by decide⟩

/-- Row `r` of the block of grid point `t`. -/
def rowAt (t : Fin cfg0.N) (r : Fin 512) : Fin 8192 :=
  ⟨t.val * 512 + r.val, by have ht : t.val < 16 := N_eq ▸ t.isLt; have := r.isLt; omega⟩

/-- The rows a point adds to the gradient of the norm's weights. -/
def dgBlock (c : Dev nD) (t : Fin cfg0.N) (j : S1x1024.Idx) : EReal :=
  ∑ r : Fin 512, dgRow (V m c main_v4) (V m c main_v6) (V m c main_v2) (V m c main_v8)
    (rowAt t r) (j 1)

theorem point8 (c : Dev nD) (t : Fin cfg0.N) (a : FVec Ideal S1x1024 .f32) (j : S1x1024.Idx) :
    k0_pay2 (k0_pay4 (iblk m c 0 t) (X0_2 m c t) (iblk m c 1 t) (iblk m c 3 t)) (k0_pay7 (iblk m c 5 t)) a j
      = a j + dgBlock m c t j := by
  pointwise [k0_pay2, k0_pay4, k0_pay7, k0_pay6, k0_pay5, dgBlock, rowAt, dgRow, dh, RmsNorm.scaleE, X2_at m c t]
  blk_point [iblk, index_eq t]

theorem outs8 (c : Dev nD) (j : S1x1024.Idx) : (outsAt0 m c last.val last.isLt).2 j = 0 + ∑ t : Fin cfg0.N, dgBlock m c t j := by
  refine Pipeline.eq_sum_fin_of_reset_step_last (fun n h => (outsAt0 m c n h).2 j) 16 0 (fun t => dgBlock m c t j)
    (fun t h => ?_) (fun t h => ?_) (by decide) last rfl
  · rw [outsAt0_A m c t h]; frame_out
    rw [point8]
    refine congrArg (· + _) ?_
    pointwise [k0_pay3]
  · rw [outsAt0_B m c t h]; frame_out
    rw [point8]

theorem final8 (c : Dev nD) : (dats m 0 c).arrAt 8 cfg0.N =
    dg (V m c main_v4) (V m c main_v6) (V m c main_v2) (V m c main_v8) := by
  refine (dats m 0 c).arrAt_eq_of_after_last 8 last (by decide +kernel) _ fun j => ?_
  rw [after0_8]
  refine (outs8 m c _).trans ?_
  blk_simp
  rw [zero_add]
  unfold dg
  rw [Fin.sum_univ_tiles 16 512 rfl]
  rfl

end Cert.MixDxIdeal.Value

end
-- ==== Proof.MixDxReference.lean ====
/-
  `MixDxRefIdeal`: the reference's two results over real arguments.
-/
module

public import proofs.«01_k».proof.Proof.Gen.MixDxRefIdeal.Run
public import proofs.«01_k».proof.Proof.Gen.MixDxRefIdeal.Read
public import proofs.«01_k».proof.Proof.RmsNorm

@[expose] public section

noncomputable section

namespace Cert.MixDxRefIdeal.Value

open Idealize.ShloMosaic Idealize.ShloMosaic.TcCoe Idealize.SL.Sem
open Cert.MixDxRefIdeal Cert.MixDxRefIdeal.Gen Cert.MixDxRefIdeal.Read

variable (x : S2x4096x1024.Idx → ℝ) (g : S1x1024.Idx → ℝ) (w : S1x1024x1536.Idx → ℝ)
  (dc : S2x4096x1024.Idx → ℝ) (du : S2x4096x512.Idx → ℝ) (dres : S2x4096x1024.Idx → EReal) (b : Fin 2) (s : Fin 4096) (l : Fin 1024)

/-- An array of real numbers as an array of the program. -/
abbrev ofReal {t : Shape} (y : t.Idx → ℝ) : FVec Ideal t .f32 := fun i => (y i : EReal)

/-- Row `(b, s)` of the input. -/
abbrev row (k : Fin 1024) : ℝ := x (ix3 b s k)

/-- The gradient of the normed row `(b, s)`. -/
def dh (l : Fin 1024) : ℝ :=
  (∑ k : Fin 1024, dc (ix3 b s k) * w (ix3 0 l ⟨k.val, by have := k.isLt; omega⟩)) +
    ∑ k : Fin 512, du (ix3 b s k) * w (ix3 0 l ⟨1024 + k.val, by have := k.isLt; omega⟩)

theorem v7_at : val_main_v7 (F := Ideal) (ofReal x) (ix3 b s 0) = (RmsNorm.meanSq (row x b s) : EReal) := by
  pointwise [val_main_v7, val_main_v6, val_main_v5, val_main_v4, val_main_v3, val_main_v2, val_main_v1, val_main_cst, val_main_cst_0, val_main_cst_1]
  exact RmsNorm.meanSqE_coe _

theorem v8_at : val_main_v8 (F := Ideal) (ofReal x) (ix3 b s 0) = (RmsNorm.scale (row x b s) : EReal) := by
  pointwise [val_main_v8]
  rw [v7_at, Reals.rsqrt_pos (RmsNorm.meanSq_pos _), RmsNorm.scale]

theorem v11_at : val_main_v11 (F := Ideal) (ofReal x) (ix3 b s 0)
    = ((-(1 / 2) * (RmsNorm.scale (row x b s) / RmsNorm.meanSq (row x b s)) : ℝ) : EReal) := by
  pointwise [val_main_v11, val_main_v10, val_main_v9, val_main_cst_2]
  rw [v7_at, v8_at, Reals.div_coe_coe _ (RmsNorm.meanSq_pos _).ne', RmsNorm.ofBits_neg_half, ← EReal.coe_mul]

theorem v20_at : val_main_v20 (F := Ideal) (ofReal w) (ofReal dc) (ofReal du) (ix3 b s l)
    = (dh w dc du b s l : EReal) := by
  pointwise [val_main_v20, val_main_v19, val_main_v17]
  simp only [ofReal, ← EReal.coe_mul, ← Reals.coe_sum, ← EReal.coe_add, dh]

theorem v25_at : val_main_v25 (F := Ideal) (ofReal g) (ofReal w) (ofReal dc) (ofReal du) (ix3 b s l)
    = ((dh w dc du b s l * g (ix2 0 l) : ℝ) : EReal) := by
  pointwise [val_main_v25, val_main_v24, val_main_v14, val_main_v0]
  rw [v20_at]
  rw [EReal.coe_mul]

theorem v35_at : val_main_v35 (F := Ideal) (ofReal x) (ofReal g) (ofReal w) (ofReal dc) (ofReal du) (ix3 b s 0)
    = (RmsNorm.spread (row x b s) (fun k => g (ix2 0 k)) (dh w dc du b s) : EReal) := by
  pointwise [val_main_v35, val_main_v34, val_main_v33, val_main_v29, val_main_v28, val_main_v27, val_main_cst_6, val_main_cst_5]
  simp only [v25_at, v11_at, RmsNorm.ofBits_1024, ← EReal.coe_mul, ← Reals.coe_sum]
  rw [Reals.div_coe_coe _ (by norm_num)]
  simp only [RmsNorm.spread, Nat.cast_ofNat]

theorem v41_at : val_main_v41 (F := Ideal) (ofReal x) (ofReal g) (ofReal w) (ofReal dc) (ofReal du) dres (ix3 b s l)
    = dres (ix3 b s l) + (RmsNorm.back (row x b s) (fun k => g (ix2 0 k)) (dh w dc du b s) l : EReal) := by
  pointwise [val_main_v41, val_main_v40, val_main_v39, val_main_v38, val_main_v37, val_main_v36, val_main_v32, val_main_v31, val_main_v30, val_main_cst_7]
  simp only [Fin.sum_univ_one, v25_at, v8_at, v35_at, ofReal, ← EReal.coe_mul]
  rw [add_assoc, add_assoc, ← EReal.coe_add, ← EReal.coe_add, ← RmsNorm.chain_eq_back]
  rfl

theorem v42_at : val_main_v42 (F := Ideal) (ofReal x) (ofReal w) (ofReal dc) (ofReal du) (ix2 0 l)
    = ((∑ b, ∑ s, dh w dc du b s l * (x (ix3 b s l) * RmsNorm.scale (row x b s)) : ℝ) : EReal) := by
  pointwise [val_main_v42, val_main_v26, val_main_v23, val_main_v22, val_main_v21, val_main_v13, val_main_v12, val_main_cst_3, val_main_cst_4]
  rw [Reals.hostReduceAdd_two]
  pointwise
  rw [Reals.hostReduceAdd_two]
  pointwise
  simp only [Fin.sum_univ_one, v20_at, v8_at, ofReal, ← EReal.coe_mul, ← Reals.coe_sum]
  refine congrArg _ (Finset.sum_congr rfl fun b _ => Finset.sum_congr rfl fun s _ => ?_)
  exact mul_comm _ _

end Cert.MixDxRefIdeal.Value

end
-- ==== Proof.MixDx.lean ====
/-
  The gradient through the mixer's input projection and its norm: the kernel's results are the reference's.
-/
module

public import proofs.«01_k».proof.Defs
public import proofs.«01_k».proof.Proof.MixDxKernel
public import proofs.«01_k».proof.Proof.MixDxReference
public import proofs.«01_k».proof.Proof.Rows

@[expose] public section

noncomputable section

namespace Cert.MixDxProof

open Idealize.ShloMosaic Idealize.ShloMosaic.TcCoe Idealize.SL.Sem

/-! ## The precondition -/

instance preFacts : Cert.Pre_mixin_finite.Facts :=
  ⟨by decide, by decide, by decide, by decide, by decide, by decide, by decide, by decide, by decide⟩

open Cert.Pre_mixin_finite in
/-- Under the precondition the five arrays it reads are arrays of real numbers. -/
theorem reals {x : FVec Ideal S2x4096x1024 .f32} {g : FVec Ideal S1x1024 .f32} {w : FVec Ideal S1x1024x1536 .f32}
    {dc : FVec Ideal S2x4096x1024 .f32} {du : FVec Ideal S2x4096x512 .f32} {dres : FVec Ideal S2x4096x1024 .f32}
    (h : fn (F := Ideal) x g w dc du dres = fun _ => 1#1) :
    (∃ X : S2x4096x1024.Idx → ℝ, x = fun i => (X i : EReal)) ∧ (∃ X : S1x1024.Idx → ℝ, g = fun i => (X i : EReal)) ∧
    (∃ X : S1x1024x1536.Idx → ℝ, w = fun i => (X i : EReal)) ∧ (∃ X : S2x4096x1024.Idx → ℝ, dc = fun i => (X i : EReal)) ∧
    (∃ X : S2x4096x512.Idx → ℝ, du = fun i => (X i : EReal)) := by
  have h0 := congrFun h ix0
  have h1 := Reals.one_of_andi_left h0
  have h2 := Reals.one_of_andi_left h1
  have h3 := Reals.one_of_andi_left h2
  exact ⟨Reals.exists_real x _ _ _ _ _ _ (Reals.one_of_andi_left h3), Reals.exists_real g _ _ _ _ _ _ (Reals.one_of_andi_right h3),
    Reals.exists_real w _ _ _ _ _ _ (Reals.one_of_andi_right h2), Reals.exists_real dc _ _ _ _ _ _ (Reals.one_of_andi_right h1),
    Reals.exists_real du _ _ _ _ _ _ (Reals.one_of_andi_right h0)⟩

/-! ## The kernel's operands read from the arguments -/

open Cert.MixDxIdeal Cert.MixDxIdeal.Gen Cert.MixDxIdeal.Value Cert.Rows

variable (m : (ℓ : Loc nD τ sig) → Buf (Elt Ideal) ℓ) (c : Dev nD) (n : Fin 8192)

theorem x_at (l : Fin 1024) : V m c main_v8 (ix2 n l) = m ((c : Thread nD τ).loc main_arg0) (ix3 (batch n) (pos n) l) := by
  entry_read
  pointwise [batch, pos]

theorem dres_at (l : Fin 1024) : V m c main_v7 (ix2 n l) = m ((c : Thread nD τ).loc main_arg5) (ix3 (batch n) (pos n) l) := by
  entry_read
  pointwise [batch, pos]

theorem dc_at (l : Fin 1024) : V m c main_v4 (ix2 n l) = m ((c : Thread nD τ).loc main_arg3) (ix3 (batch n) (pos n) l) := by
  entry_read
  pointwise [batch, pos]

theorem du_at (l : Fin 512) : V m c main_v6 (ix2 n l) = m ((c : Thread nD τ).loc main_arg4) (ix3 (batch n) (pos n) l) := by
  entry_read
  pointwise [batch, pos]

theorem w_at (k : Fin 1536) (l : Fin 1024) : V m c main_v2 (ix2 k l) = m ((c : Thread nD τ).loc main_arg2) (ix3 0 l k) := by
  entry_read
  pointwise

/-! ## The results -/

open Cert.MixDxRefIdeal.Value (ofReal)

variable {x : S2x4096x1024.Idx → ℝ} {g : S1x1024.Idx → ℝ} {w : S1x1024x1536.Idx → ℝ} {dc : S2x4096x1024.Idx → ℝ}
  {du : S2x4096x512.Idx → ℝ}

theorem dh_at (h2 : m ((c : Thread nD τ).loc main_arg2) = ofReal w) (h3 : m ((c : Thread nD τ).loc main_arg3) = ofReal dc)
    (h4 : m ((c : Thread nD τ).loc main_arg4) = ofReal du) (l : Fin 1024) :
    dh (V m c main_v4) (V m c main_v6) (V m c main_v2) n l
      = (Cert.MixDxRefIdeal.Value.dh w dc du (batch n) (pos n) l : EReal) := by
  refine (congrArg₂ (· + ·)
    (Finset.sum_congr rfl fun k _ => congrArg₂ (fun a b : EReal => a * b) ((dc_at m c n k).trans (congrFun h3 _)) ((w_at m c _ l).trans (congrFun h2 _)))
    (Finset.sum_congr rfl fun k _ => congrArg₂ (fun a b : EReal => a * b) ((du_at m c n k).trans (congrFun h4 _)) ((w_at m c _ l).trans (congrFun h2 _)))).trans ?_
  simp only [ofReal, ← EReal.coe_mul, ← Reals.coe_sum, ← EReal.coe_add, Cert.MixDxRefIdeal.Value.dh]

theorem x_row (h0 : m ((c : Thread nD τ).loc main_arg0) = ofReal x) :
    (fun l => V m c main_v8 (ix2 n l)) = fun l => (x (ix3 (batch n) (pos n) l) : EReal) :=
  funext fun l => (x_at m c n l).trans (congrFun h0 _)

theorem dx_eq (h0 : m ((c : Thread nD τ).loc main_arg0) = ofReal x) (h1 : m ((c : Thread nD τ).loc main_arg1) = ofReal g)
    (h2 : m ((c : Thread nD τ).loc main_arg2) = ofReal w) (h3 : m ((c : Thread nD τ).loc main_arg3) = ofReal dc)
    (h4 : m ((c : Thread nD τ).loc main_arg4) = ofReal du) :
    dx (V m c main_v4) (V m c main_v6) (V m c main_v2) (V m c main_v7) (V m c main_v8) (V m c main_arg1)
      = Cert.MixDxRefIdeal.Read.val_main_v43 (F := Ideal) (ofReal x) (ofReal g) (ofReal w) (ofReal dc) (ofReal du)
          (m ((c : Thread nD τ).loc main_arg5)) := by
  funext j
  obtain ⟨n, l, rfl⟩ : ∃ n l, j = ix2 n l := ⟨_, _, eq_ix2 j⟩
  pointwise [Cert.MixDxRefIdeal.Read.val_main_v43]
  refine Eq.trans ?_ (Cert.MixDxRefIdeal.Value.v41_at x g w dc du _ (batch n) (pos n) l).symm
  refine congrArg₂ (· + ·) (dres_at m c n l) (Eq.trans ?_ (RmsNorm.backE_coe _ _ _ l))
  have hg : (fun l => V m c main_arg1 (ix2 0 l)) = fun l => (g (ix2 0 l) : EReal) := by rw [V_main_arg1, h1]
  have hd : dh (V m c main_v4) (V m c main_v6) (V m c main_v2) n
      = fun l => (Cert.MixDxRefIdeal.Value.dh w dc du (batch n) (pos n) l : EReal) := funext (dh_at m c n h2 h3 h4)
  exact congrFun (congr (congr (congrArg RmsNorm.backE (x_row m c n h0)) hg) hd) l

theorem dg_eq (h0 : m ((c : Thread nD τ).loc main_arg0) = ofReal x)
    (h2 : m ((c : Thread nD τ).loc main_arg2) = ofReal w) (h3 : m ((c : Thread nD τ).loc main_arg3) = ofReal dc)
    (h4 : m ((c : Thread nD τ).loc main_arg4) = ofReal du) :
    dg (V m c main_v4) (V m c main_v6) (V m c main_v2) (V m c main_v8)
      = Cert.MixDxRefIdeal.Read.val_main_v42 (F := Ideal) (ofReal x) (ofReal w) (ofReal dc) (ofReal du) := by
  funext j
  obtain ⟨l, rfl⟩ : ∃ l, j = ix2 0 l := ⟨j 1, (eq_ix2 j).trans (congrArg (ix2 · _) (Subsingleton.elim _ _))⟩
  rw [Cert.MixDxRefIdeal.Value.v42_at]
  have hrow (n : Fin 8192) : dgRow (V m c main_v4) (V m c main_v6) (V m c main_v2) (V m c main_v8) n l
      = ((Cert.MixDxRefIdeal.Value.dh w dc du (batch n) (pos n) l * (x (ix3 (batch n) (pos n) l) *
          RmsNorm.scale fun l => x (ix3 (batch n) (pos n) l)) : ℝ) : EReal) := by
    rw [EReal.coe_mul, EReal.coe_mul, ← RmsNorm.scaleE_coe]
    exact congrArg₂ (· * ·) (dh_at m c n h2 h3 h4 l)
      (congrArg₂ (· * ·) (congrFun (x_row m c n h0) l) (congrArg RmsNorm.scaleE (x_row m c n h0)))
  refine (Finset.sum_congr rfl fun n _ => hrow n).trans ?_
  rw [← Reals.coe_sum]
  exact congrArg _ (sum_rows fun b s => Cert.MixDxRefIdeal.Value.dh w dc du b s l * (x (ix3 b s l) *
    RmsNorm.scale fun l => x (ix3 b s l)))

theorem algebraic : Cert.algebraic_MixDxIdeal_MixDxRefIdeal_pre_mixin_finite := by
  intro m ρ m' ρ' hpre hagree
  refine ⟨fun c => (dats m 0 c).arrAt 7 cfg0.N, fun c => (dats m 0 c).arrAt 8 cfg0.N, run_blocks m ρ, ?_⟩
  refine (θ_run Cert.MixDxRefIdeal.defs _ _).mono (fun r h c => ?_) (Cert.MixDxRefIdeal.Value.run (F := Ideal) m' ρ')
  obtain ⟨hr43, hr42, hkeep⟩ := h c
  obtain ⟨e0, e1, e2, e3, e4, e5⟩ := hagree c
  obtain ⟨⟨x, h0⟩, ⟨g, h1⟩, ⟨w, h2⟩, ⟨dc, h3⟩, ⟨du, h4⟩⟩ := reals (hpre c)
  refine ⟨hr43.trans ?_, hr42.trans ?_, hkeep⟩
  · refine (Cert.MixDxRefIdeal.Read.val_main_v43_eq m' c).trans ?_
    rw [e0, e1, e2, e3, e4, e5]
    refine Eq.trans ?_ ((final7 m c).trans (dx_eq m c h0 h1 h2 h3 h4)).symm
    rw [h0, h1, h2, h3, h4]
  · refine (Cert.MixDxRefIdeal.Read.val_main_v42_eq (F := Ideal) _ _ _ _).trans ?_
    rw [e0, e2, e3, e4]
    refine Eq.trans ?_ ((final8 m c).trans (dg_eq m c h0 h2 h3 h4)).symm
    rw [h0, h2, h3, h4]

theorem quiescent_reference : Cert.quiescent_MixDxRefIdeal := fun m ρ _ =>
  (θ_run Cert.MixDxRefIdeal.defs _ _).mono (fun r h => ⟨fun c => (h c).2.2, sem_eq_zero_of_no_sems (by decide) r.2⟩)
    (Cert.MixDxRefIdeal.Value.run (F := Ideal) m ρ)

end Cert.MixDxProof

end
-- ==== Proof.Activations.lean ====
/-
  The tanh gelu and the logistic function, over real numbers and as the programs compute them.
-/
module

public import proofs.«01_k».proof.Proof.Reals

@[expose] public section

noncomputable section

namespace Cert.Activations

open Idealize.ShloMosaic

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-! ## The logistic function -/

/-- The logistic function. -/
def sigmoid (z : ℝ) : ℝ := (1 + Real.exp (-z))⁻¹

theorem one_add_exp_pos (z : ℝ) : 0 < 1 + Real.exp (-z) := by positivity

/-- The logistic function through the hyperbolic tangent of half the argument. -/
theorem half_tanh (z : ℝ) : 1 / 2 * Real.tanh (1 / 2 * z) + 1 / 2 = sigmoid z := by
  have ha : Real.exp (1 / 2 * z) ≠ 0 := (Real.exp_pos _).ne'
  have hz : Real.exp (-z) = (Real.exp (1 / 2 * z) * Real.exp (1 / 2 * z))⁻¹ := by
    rw [← Real.exp_add, ← Real.exp_neg]; congr 1; ring
  have hn : Real.exp (-(1 / 2 * z)) = (Real.exp (1 / 2 * z))⁻¹ := Real.exp_neg _
  have hp : Real.exp (1 / 2 * z) * Real.exp (1 / 2 * z) + 1 ≠ 0 := by positivity
  unfold sigmoid
  rw [Real.tanh_eq_sinh_div_cosh, Real.sinh_eq, Real.cosh_eq, hz, hn]
  field_simp
  ring

/-! ## The gelu -/

/-- The factor of the gelu's argument, the value of its f32 word: the root of `2 / π`, rounded. -/
def gk : ℝ := 13386282 / 16777216

/-- The weight of the cube in the gelu's argument. -/
def gc : ℝ := 44715 / 1000000

theorem ofBits_gk : Ideal.ofBits .f32 0x3F4C422A#32 = (gk : EReal) := by
  simp [Ideal.ofBits, Ideal.ieee, gk, -EReal.coe_mul]; norm_num

/-- The hyperbolic tangent inside the gelu. -/
def gth (y : ℝ) : ℝ := Real.tanh (gk * (y + gc * y * y * y))

/-- The gelu. -/
def gelu (y : ℝ) : ℝ := 1 / 2 * y * (1 + gth y)

/-- The gelu's derivative. -/
def dgelu (y : ℝ) : ℝ := 1 / 2 * (1 + gth y) + 1 / 2 * y * (1 - gth y * gth y) * (gk * (1 + 3 * gc * y * y))

end Cert.Activations

end
-- ==== Proof.Glu.lean ====
/-
  S5's output, one row at a time, over real numbers: gelu, gated linear unit, RMS norm, and the gradient through them.
-/
module

public import proofs.«01_k».proof.Proof.RmsNorm
public import proofs.«01_k».proof.Proof.Activations

@[expose] public section

noncomputable section

namespace Cert.Glu

open Idealize.ShloMosaic Cert.Activations

/-- The weight of the square in the derivative of the gelu's argument, as the kernel names it. -/
theorem three_gc : (26829 / 200000 : ℝ) = 3 * gc := by unfold gc; norm_num

theorem gc_eq : (8943 / 200000 : ℝ) = gc := by unfold gc; norm_num

theorem ofBits_512 : Ideal.ofBits .f32 0x44000000#32 = ((512 : ℝ) : EReal) := by
  simp [Ideal.ofBits, Ideal.ieee, -EReal.coe_mul]; norm_num

/-- Column `l` of the half of the rows that carries this part's gradient. -/
def half (l : Fin 512) : Fin 1024 := ⟨512 + l.val, by have := l.isLt; omega⟩

/-- Column `l` of the third of the projection that is this part's input. -/
def third (l : Fin 512) : Fin 1536 := ⟨1024 + l.val, by have := l.isLt; omega⟩

/-- The rows before the gelu: the recurrence's output and the skip. -/
def skip {ι : Type} (X U : ι → Fin 512 → ℝ) (S : Fin 512 → ℝ) (n : ι) (l : Fin 512) : ℝ := X n l + S l * U n l

variable (W : Fin 512 → Fin 512 → ℝ) (gb og y d : Fin 512 → ℝ) (k l : Fin 512)

/-- The gate before its logistic function. -/
def z : ℝ := (∑ k, gelu (y k) * W k l) + gb l

/-- The gate. -/
def gate : ℝ := sigmoid (z W gb y l)

/-- The gated row. -/
def s : ℝ := gelu (y l) * gate W gb y l

/-- The row's scale in the norm. -/
def scale : ℝ := RmsNorm.scale (s W gb y)

/-- The normed row. -/
def sn : ℝ := s W gb y l * scale W gb y * og l

/-- The gradient of the gated row. -/
def ds : ℝ := RmsNorm.back (s W gb y) og d l

/-- The gradient of the gate before its logistic function. -/
def dz : ℝ := ds W gb og y d l * gelu (y l) * gate W gb y l * (1 - gate W gb y l)

/-- The gradient of the row's gelu. -/
def dgy : ℝ := ds W gb og y d l * gate W gb y l + ∑ k, dz W gb og y d k * W l k

/-- The gradient of the row. -/
def dy : ℝ := dgy W gb og y d l * dgelu (y l)

/-- What the row adds to the gradient of the gate's weights. -/
def dgw : ℝ := gelu (y k) * dz W gb og y d l

/-- What the row adds to the gradient of the norm's weights. -/
def dog : ℝ := d l * (s W gb y l * scale W gb y)

theorem meanSq_coe (x : Fin 512 → ℝ) :
    Ideal.div ((∑ k, x k * x k : ℝ) : EReal) ((512 : ℝ) : EReal) + (RmsNorm.eps : EReal) = (RmsNorm.meanSq x : EReal) := by
  rw [Reals.div_coe_coe _ (by norm_num), ← EReal.coe_add, RmsNorm.meanSq, Nat.cast_ofNat]

theorem rsqrt_coe (x : Fin 512 → ℝ) : Ideal.rsqrt (RmsNorm.meanSq x : EReal) = (RmsNorm.scale x : EReal) := by
  rw [Reals.rsqrt_pos (RmsNorm.meanSq_pos x), RmsNorm.scale]

end Cert.Glu

end
-- ==== Proof.SsmOutPoint.lean ====
/-
  `SsmOutIdeal`: what one grid point of each of the two kernels of S5's output computes, over real rows.
-/
module

public import proofs.«01_k».proof.Proof.Gen.SsmOutIdeal.Frame
public import proofs.«01_k».proof.Proof.Glu
public import Idealize.ShloMosaic.Lib.Pipeline.ValueKit

@[expose] public section

noncomputable section

namespace Cert.SsmOutIdeal.Value

open Idealize.ShloMosaic Idealize.ShloMosaic.TcCoe Idealize.SL.Sem
open Idealize.ShloMosaic.Pipeline (Dat)
open Cert.SsmOutIdeal Cert.SsmOutIdeal.Gen Cert.Activations

/-! ## The named constants -/

theorem named_c : Named.named (F := Ideal) Cert.SsmOutIdeal.κ "gelu_c" (φ := .f32) 0x3D372713#32 = (gc : EReal) :=
  (IdealRules.named_const.ideal_named_scalar _ _ _ _ rfl).trans (congrArg _ Glu.gc_eq)

theorem named_3c : Named.named (F := Ideal) Cert.SsmOutIdeal.κ "gelu_3c" (φ := .f32) 0x3E095D4F#32 = ((3 * gc : ℝ) : EReal) :=
  (IdealRules.named_const.ideal_named_scalar _ _ _ _ rfl).trans (congrArg _ Glu.three_gc)

/-! ## One point of the forward kernel -/

section Forward

variable {cx u : FVec Ideal S1024x512 .f32} {w : FVec Ideal S512x512 .bf16} {b g dk : FVec Ideal S1x512 .f32}
  {Y : Fin 1024 → Fin 512 → ℝ} {W : Fin 512 → Fin 512 → ℝ} {B G : Fin 512 → ℝ}
  (hy : ∀ r l, k0_pay3 (F := Ideal) cx dk u (ix2 r l) = (Y r l : EReal)) (hw : ∀ k l, w (ix2 k l) = (W k l : EReal))
  (hb : ∀ l, b (ix2 0 l) = (B l : EReal)) (hg : ∀ l, g (ix2 0 l) = (G l : EReal)) (r : Fin 1024) (l : Fin 512)

include hy hw hb

theorem fwd_gated_at : k0_pay4 (F := Ideal) cx dk u w b (ix2 r l) = (Glu.s W B (Y r) l : EReal) := by
  pointwise [k0_pay4]
  simp only [hy, hw, hb, named_c, ofBits_half, ofBits_gk, ← EReal.coe_one, ← EReal.coe_mul, ← Reals.coe_sum, ← EReal.coe_add,
    Ideal.tanh_coe, half_tanh]
  rfl

include hg

theorem fwd_normed_at : k0_pay1 (F := Ideal) (k0_pay4 cx dk u w b) (k0_pay5 cx dk u w b) g (ix2 r l)
    = (Glu.sn W B G (Y r) l : EReal) := by
  pointwise [k0_pay1, k0_pay5]
  simp only [fwd_gated_at hy hw hb, hg, RmsNorm.ofBits_eps, Glu.ofBits_512, ← EReal.coe_mul, ← Reals.coe_sum, Glu.meanSq_coe,
    Glu.rsqrt_coe]
  rfl

end Forward

/-! ## One point of the backward kernel -/

section Point

variable {y u : FVec Ideal S1024x512 .f32} {w : FVec Ideal S512x512 .bf16} {b g dd : FVec Ideal S1x512 .f32}
  {d : FVec Ideal S1024x512 .f32} {Y U D : Fin 1024 → Fin 512 → ℝ} {W : Fin 512 → Fin 512 → ℝ} {B G S : Fin 512 → ℝ}
  (hy : ∀ r l, y (ix2 r l) = (Y r l : EReal)) (hw : ∀ k l, w (ix2 k l) = (W k l : EReal))
  (hb : ∀ l, b (ix2 0 l) = (B l : EReal)) (hg : ∀ l, g (ix2 0 l) = (G l : EReal)) (hd : ∀ r l, d (ix2 r l) = (D r l : EReal))
  (r : Fin 1024) (l : Fin 512)

include hy

theorem tanh_at :
    k1_pay7 (F := Ideal) y (ix2 r l) = (gth (Y r l) : EReal) := by
  pointwise [k1_pay7, k1_pay6]
  rw [hy, named_c, ofBits_gk]
  simp only [← EReal.coe_mul, ← EReal.coe_add, Ideal.tanh_coe]
  rfl

theorem gelu_at :
    k1_pay8 (F := Ideal) y (ix2 r l) = (gelu (Y r l) : EReal) := by
  pointwise [k1_pay8, k1_pay6]
  rw [hy, tanh_at hy, ofBits_half, ← EReal.coe_one]
  simp only [← EReal.coe_mul, ← EReal.coe_add]
  rfl

include hw hb

theorem gate_at :
    k1_pay10 (F := Ideal) y w b (ix2 r l) = (Glu.gate W B (Y r) l : EReal) := by
  pointwise [k1_pay10, k1_pay9]
  simp only [gelu_at hy, hw, hb, ofBits_half, ← EReal.coe_mul, ← Reals.coe_sum, ← EReal.coe_add, Ideal.tanh_coe, half_tanh]
  rfl

theorem gated_at :
    k1_pay11 (F := Ideal) y w b (ix2 r l) = (Glu.s W B (Y r) l : EReal) := by
  pointwise [k1_pay11]
  rw [gelu_at hy, gate_at hy hw hb, ← EReal.coe_mul]
  rfl

theorem scale_at :
    k1_pay14 (F := Ideal) (k1_pay12 y w b) k1_pay13 (ix2 r 0) = (Glu.scale W B (Y r) : EReal) := by
  pointwise [k1_pay14, k1_pay12, k1_pay13]
  simp only [gated_at hy hw hb, RmsNorm.ofBits_eps, Glu.ofBits_512, ← EReal.coe_mul, ← Reals.coe_sum, Glu.meanSq_coe, Glu.rsqrt_coe]
  rfl

theorem normed_at :
    k1_pay15 (F := Ideal) (k1_pay11 y w b) (k1_pay12 y w b) k1_pay13 (ix2 r l) = ((Glu.s W B (Y r) l * Glu.scale W B (Y r) : ℝ) : EReal) := by
  pointwise [k1_pay15]
  rw [gated_at hy hw hb, scale_at hy hw hb, ← EReal.coe_mul]

include hg hd

theorem ds_at :
    k1_pay18 (F := Ideal) (k1_pay11 y w b) (k1_pay12 y w b) k1_pay13 d g (ix2 r l) = (Glu.ds W B G (Y r) (D r) l : EReal) := by
  pointwise [k1_pay18, k1_pay16]
  simp only [normed_at hy hw hb, scale_at hy hw hb, hd, hg, Glu.ofBits_512, ← EReal.coe_mul, ← Reals.coe_sum]
  rw [Reals.div_coe_coe _ (by norm_num)]
  simp only [← EReal.coe_mul, ← EReal.coe_sub, Glu.ds, RmsNorm.back, Glu.scale, Nat.cast_ofNat]

theorem dz_at :
    k1_pay19 (F := Ideal) (k1_pay8 y) (k1_pay10 y w b) (k1_pay11 y w b) (k1_pay12 y w b) k1_pay13 d g (ix2 r l)
      = (Glu.dz W B G (Y r) (D r) l : EReal) := by
  pointwise [k1_pay19]
  rw [ds_at hy hw hb hg hd, gelu_at hy, gate_at hy hw hb, ← EReal.coe_one]
  simp only [← EReal.coe_mul, ← EReal.coe_sub]
  rfl

theorem dy_at :
    k1_pay23 (F := Ideal) (k1_pay6 y) (k1_pay7 y) (k1_pay10 y w b) (k1_pay18 (k1_pay11 y w b) (k1_pay12 y w b) k1_pay13 d g)
        (k1_pay20 (k1_pay8 y) (k1_pay10 y w b) (k1_pay11 y w b) (k1_pay12 y w b) k1_pay13 d g) w (ix2 r l)
      = (Glu.dy W B G (Y r) (D r) l : EReal) := by
  pointwise [k1_pay23, k1_pay20, k1_pay6]
  simp only [ds_at hy hw hb hg hd, dz_at hy hw hb hg hd, gate_at hy hw hb, tanh_at hy, hy, hw, named_3c, ofBits_half,
    ofBits_gk, ← EReal.coe_one, ← EReal.coe_mul, ← Reals.coe_sum, ← EReal.coe_add, ← EReal.coe_sub]
  rfl

end Point

end Cert.SsmOutIdeal.Value

end
-- ==== Proof.SsmOutKernel.lean ====
/-
  `SsmOutIdeal`: what the two kernels of S5's output leave in their results, over real rows.

  Both kernels walk eight blocks of 1024 rows. The gradients of the weights are added up over the points and written
  back once at the end.
-/
module

public import proofs.«01_k».proof.Proof.SsmOutPoint
public import proofs.«01_k».proof.Proof.Rows

@[expose] public section

noncomputable section

namespace Cert.SsmOutIdeal.Value

open Idealize.ShloMosaic Idealize.ShloMosaic.TcCoe Idealize.SL.Sem
open Idealize.ShloMosaic.Pipeline (Dat)
open Cert.SsmOutIdeal Cert.SsmOutIdeal.Gen Cert.Activations Cert.Rows
open Cert.Glu (half third skip)

theorem index0_eq : ∀ t : Fin grid0.N, win0_0.index t = ![t.val, 0] ∧ win0_1.index t = ![t.val, 2] ∧
    win0_2.index t = ![0, 0] ∧ win0_3.index t = ![0, 0] ∧ win0_4.index t = ![0, 0] ∧ win0_5.index t = ![0, 0] ∧
    win0_6.index t = ![t.val, 0] ∧ win0_7.index t = ![t.val, 0] ∧ win0_8.index t = ![0, 0] ∧ win0_9.index t = ![t.val, 0] ∧
    win0_10.index t = ![t.val, 0] ∧ win0_11.index t = ![t.val, 0] := by
  decide +kernel

theorem index1_eq : ∀ t : Fin grid1.N, win1_0.index t = ![t.val, 1] ∧ win1_1.index t = ![t.val, 0] ∧
    win1_2.index t = ![t.val, 2] ∧ win1_3.index t = ![0, 0] ∧ win1_4.index t = ![0, 0] ∧ win1_5.index t = ![0, 0] ∧
    win1_6.index t = ![0, 0] ∧ win1_7.index t = ![t.val, 0] ∧ win1_8.index t = ![t.val, 0] ∧ win1_9.index t = ![0, 0] ∧
    win1_10.index t = ![0, 0] ∧ win1_11.index t = ![0, 0] ∧ win1_12.index t = ![0, 0] := by
  decide +kernel

theorem N0_eq : cfg0.N = 8 := by decide
theorem N1_eq : cfg1.N = 8 := by decide

variable (V : (c : Dev nD) → (b : Ref sig .tc) → Buf (Elt Ideal) ((c : Thread nD τ).loc b)) (c : Dev nD)

section Backward

variable {Y U D : Fin 8192 → Fin 512 → ℝ} {W : Fin 512 → Fin 512 → ℝ} {B G S : Fin 512 → ℝ}
  (hy : ∀ n l, V c main_v9_0 (ix2 n l) = (Y n l : EReal)) (hw : ∀ k l, V c main_v2 (ix2 k l) = (W k l : EReal))
  (hb : ∀ l, V c main_arg4 (ix2 0 l) = (B l : EReal)) (hg : ∀ l, V c main_arg5 (ix2 0 l) = (G l : EReal))
  (hd : ∀ n l, V c main_v10 (ix2 n (half l)) = (D n l : EReal))
  (hs : ∀ l, V c main_arg2 (ix2 0 l) = (S l : EReal)) (hu : ∀ n l, V c main_v0 (ix2 n (third l)) = (U n l : EReal))
  (t : Fin cfg1.N) (r : Fin 1024) (k l : Fin 512)

include hy in
theorem y_blk : iblk1 V c 1 t (ix2 r l) = (Y (blockRow N1_eq t r) l : EReal) := by
  refine Eq.trans ?_ (hy _ l)
  blk_point [iblk1, index1_eq t, blockRow]

include hd in
theorem d_blk : iblk1 V c 0 t (ix2 r l) = (D (blockRow N1_eq t r) l : EReal) := by
  refine Eq.trans ?_ (hd _ l)
  blk_point [iblk1, index1_eq t, blockRow, half]

include hu in
theorem u_blk : iblk1 V c 2 t (ix2 r l) = (U (blockRow N1_eq t r) l : EReal) := by
  refine Eq.trans ?_ (hu _ l)
  blk_point [iblk1, index1_eq t, blockRow, third]

include hw in
theorem w_blk : iblk1 V c 4 t (ix2 k l) = (W k l : EReal) := by
  refine Eq.trans ?_ (hw k l)
  blk_point [iblk1, index1_eq t]

include hs in
theorem s_blk : iblk1 V c 3 t (ix2 0 l) = (S l : EReal) := by
  refine Eq.trans ?_ (hs l)
  blk_point [iblk1, index1_eq t]

include hb in
theorem b_blk : iblk1 V c 5 t (ix2 0 l) = (B l : EReal) := by
  refine Eq.trans ?_ (hb l)
  blk_point [iblk1, index1_eq t]

include hg in
theorem g_blk : iblk1 V c 6 t (ix2 0 l) = (G l : EReal) := by
  refine Eq.trans ?_ (hg l)
  blk_point [iblk1, index1_eq t]

/-- A payload over the gradient of the rows, at the blocks of a point. -/
abbrev overDy {α : Type} (f : FVec Ideal S1024x512 .f32 → FVec Ideal S1024x512 .f32 → FVec Ideal S1024x512 .f32 →
    FVec Ideal S1024x512 .f32 → FVec Ideal S1024x512 .bf16 → Vec Ideal S512x512 .bf16 → α) : α :=
  f (k1_pay6 (iblk1 V c 1 t)) (k1_pay7 (iblk1 V c 1 t)) (k1_pay10 (iblk1 V c 1 t) (iblk1 V c 4 t) (iblk1 V c 5 t))
    (k1_pay18 (k1_pay11 (iblk1 V c 1 t) (iblk1 V c 4 t) (iblk1 V c 5 t)) (k1_pay12 (iblk1 V c 1 t) (iblk1 V c 4 t) (iblk1 V c 5 t))
      k1_pay13 (iblk1 V c 0 t) (iblk1 V c 6 t))
    (k1_pay20 (k1_pay8 (iblk1 V c 1 t)) (k1_pay10 (iblk1 V c 1 t) (iblk1 V c 4 t) (iblk1 V c 5 t))
      (k1_pay11 (iblk1 V c 1 t) (iblk1 V c 4 t) (iblk1 V c 5 t)) (k1_pay12 (iblk1 V c 1 t) (iblk1 V c 4 t) (iblk1 V c 5 t))
      k1_pay13 (iblk1 V c 0 t) (iblk1 V c 6 t)) (iblk1 V c 4 t)

theorem out7 : (outsAt1 V c t.val t.isLt).1 = overDy V c t k1_pay24 := by
  by_cases h : t.val % 8 = 0
  · rw [outsAt1_A V c t h]; frame_out
  · rw [outsAt1_B V c t h]; frame_out

theorem out8 : (outsAt1 V c t.val t.isLt).2.1 = overDy V c t k1_pay25 (iblk1 V c 3 t) := by
  by_cases h : t.val % 8 = 0
  · rw [outsAt1_A V c t h]; frame_out
  · rw [outsAt1_B V c t h]; frame_out

include hy hw hb hg hd in
theorem dy_blk : overDy V c t k1_pay23 (ix2 r l)
    = (Glu.dy W B G (Y (blockRow N1_eq t r)) (D (blockRow N1_eq t r)) l : EReal) :=
  dy_at (Y := fun r => Y (blockRow N1_eq t r)) (D := fun r => D (blockRow N1_eq t r)) (y_blk V c hy t) (w_blk V c hw t) (b_blk V c hb t)
    (g_blk V c hg t) (d_blk V c hd t) r l

include hy hw hb hg hd in
theorem final7 : (dat1 V c).arrAt 7 cfg1.N = fun j => (Glu.dy W B G (Y (j 0)) (D (j 0)) (j 1) : EReal) := by
  refine (dat1 V c).arrAt_eq_of_covers 7 _ (by decide +kernel) fun t hf y => ?_
  blk_simp
  rw [after1_7, out7]
  obtain ⟨r, l, rfl⟩ : ∃ r l, y = ix2 r l := ⟨_, _, eq_ix2 y⟩
  refine Eq.trans ?_ ((dy_blk V c hy hw hb hg hd t r l).trans ?_)
  · pointwise [k1_pay24]
  · have hn : (win1_7.blk t).view.emb (ix2 r l) = ix2 (blockRow N1_eq t r) l := by
      blk_ext [index1_eq t, blockRow]
    rw [hn]
    rfl

include hy hw hb hg hd hs in
theorem final8 : (dat1 V c).arrAt 8 cfg1.N = fun j => ((Glu.dy W B G (Y (j 0)) (D (j 0)) (j 1) * S (j 1) : ℝ) : EReal) := by
  refine (dat1 V c).arrAt_eq_of_covers 8 _ (by decide +kernel) fun t hf y => ?_
  blk_simp
  rw [after1_8, out8]
  obtain ⟨r, l, rfl⟩ : ∃ r l, y = ix2 r l := ⟨_, _, eq_ix2 y⟩
  have hn : (win1_8.blk t).view.emb (ix2 r l) = ix2 (blockRow N1_eq t r) l := by
    blk_ext [index1_eq t, blockRow]
  rw [hn, EReal.coe_mul]
  refine Eq.trans ?_ (congrArg₂ (fun a b : EReal => a * b) (dy_blk V c hy hw hb hg hd t r l) (s_blk V c hs t l))
  pointwise [k1_pay25]

/-- The last grid point. -/
def last : Fin cfg1.N := ⟨7, by decide⟩

/-- A sum that starts at zero and takes up one term per grid point. -/
theorem zero_add_blocks (f : Fin 8192 → ℝ) :
    (0 : EReal) + ∑ t : Fin cfg1.N, ∑ r, (f (blockRow N1_eq t r) : EReal) = ((∑ n, f n : ℝ) : EReal) := by
  rw [zero_add, ← sum_blocks N1_eq]
  simp only [Reals.coe_sum]

include hy hw hb hg hd in
theorem point9 (a : FVec Ideal S512x512 .f32) (k l : Fin 512) :
    k1_pay22 (F := Ideal) (k1_pay9 (iblk1 V c 1 t)) (k1_pay20 (k1_pay8 (iblk1 V c 1 t)) (k1_pay10 (iblk1 V c 1 t) (iblk1 V c 4 t) (iblk1 V c 5 t))
      (k1_pay11 (iblk1 V c 1 t) (iblk1 V c 4 t) (iblk1 V c 5 t)) (k1_pay12 (iblk1 V c 1 t) (iblk1 V c 4 t) (iblk1 V c 5 t))
      k1_pay13 (iblk1 V c 0 t) (iblk1 V c 6 t)) a (ix2 k l)
    = a (ix2 k l) + ∑ r, (Glu.dgw W B G (Y (blockRow N1_eq t r)) (D (blockRow N1_eq t r)) k l : EReal) := by
  pointwise [k1_pay22, k1_pay20, k1_pay9]
  refine congrArg (a (ix2 k l) + ·) (Finset.sum_congr rfl fun r _ => ?_)
  rw [gelu_at (y_blk V c hy t), dz_at (y_blk V c hy t) (w_blk V c hw t) (b_blk V c hb t) (g_blk V c hg t) (d_blk V c hd t), ← EReal.coe_mul]
  rfl

include hy hw hb hg hd in
theorem outs9 (k l : Fin 512) : (outsAt1 V c last.val last.isLt).2.2.1 (ix2 k l)
    = ((∑ n, Glu.dgw W B G (Y n) (D n) k l : ℝ) : EReal) := by
  refine (Pipeline.eq_sum_fin_of_reset_step_last (fun n h => (outsAt1 V c n h).2.2.1 (ix2 k l)) 8 0
    (fun t => ∑ r, (Glu.dgw W B G (Y (blockRow N1_eq t r)) (D (blockRow N1_eq t r)) k l : EReal))
    (fun t h => ?_) (fun t h => ?_) (by decide) last rfl).trans (zero_add_blocks fun n => Glu.dgw W B G (Y n) (D n) k l)
  · rw [outsAt1_A V c t h]; frame_out
    rw [point9 V c hy hw hb hg hd]
    refine congrArg (· + _) ?_
    pointwise [k1_pay2]
  · rw [outsAt1_B V c t h]; frame_out
    rw [point9 V c hy hw hb hg hd]

include hy hw hb hg hd in
theorem final9 : (dat1 V c).arrAt 9 cfg1.N = fun j => ((∑ n, Glu.dgw W B G (Y n) (D n) (j 0) (j 1) : ℝ) : EReal) := by
  refine (dat1 V c).arrAt_eq_of_after_last 9 last (by decide +kernel) _ fun j => ?_
  rw [after1_9]
  obtain ⟨k, l, rfl⟩ : ∃ k l, j = ix2 k l := ⟨_, _, eq_ix2 j⟩
  refine Eq.trans ?_ (outs9 V c hy hw hb hg hd k l)
  blk_simp
  rfl

include hy hw hb hg hd in
theorem point10 (a : FVec Ideal S1x512 .f32) :
    k1_pay21 (F := Ideal) (k1_pay8 (iblk1 V c 1 t)) (k1_pay10 (iblk1 V c 1 t) (iblk1 V c 4 t) (iblk1 V c 5 t))
      (k1_pay11 (iblk1 V c 1 t) (iblk1 V c 4 t) (iblk1 V c 5 t)) (k1_pay12 (iblk1 V c 1 t) (iblk1 V c 4 t) (iblk1 V c 5 t)) k1_pay13 (iblk1 V c 0 t) (iblk1 V c 6 t) a (ix2 0 l)
    = a (ix2 0 l) + ∑ r, (Glu.dz W B G (Y (blockRow N1_eq t r)) (D (blockRow N1_eq t r)) l : EReal) := by
  pointwise [k1_pay21]
  refine congrArg (a (ix2 0 l) + ·) (Finset.sum_congr rfl fun r _ => ?_)
  rw [dz_at (y_blk V c hy t) (w_blk V c hw t) (b_blk V c hb t) (g_blk V c hg t) (d_blk V c hd t)]

include hy hw hb hg hd in
theorem outs10 : (outsAt1 V c last.val last.isLt).2.2.2.1 (ix2 0 l)
    = ((∑ n, Glu.dz W B G (Y n) (D n) l : ℝ) : EReal) := by
  refine (Pipeline.eq_sum_fin_of_reset_step_last (fun n h => (outsAt1 V c n h).2.2.2.1 (ix2 0 l)) 8 0
    (fun t => ∑ r, (Glu.dz W B G (Y (blockRow N1_eq t r)) (D (blockRow N1_eq t r)) l : EReal))
    (fun t h => ?_) (fun t h => ?_) (by decide) last rfl).trans (zero_add_blocks fun n => Glu.dz W B G (Y n) (D n) l)
  · rw [outsAt1_A V c t h]; frame_out
    rw [point10 V c hy hw hb hg hd]
    refine congrArg (· + _) ?_
    pointwise [k1_pay3]
  · rw [outsAt1_B V c t h]; frame_out
    rw [point10 V c hy hw hb hg hd]

include hy hw hb hg hd in
theorem final10 : (dat1 V c).arrAt 10 cfg1.N = fun j => ((∑ n, Glu.dz W B G (Y n) (D n) (j 1) : ℝ) : EReal) := by
  refine (dat1 V c).arrAt_eq_of_after_last 10 last (by decide +kernel) _ fun j => ?_
  rw [after1_10]
  obtain ⟨l, rfl⟩ : ∃ l, j = ix2 0 l := ⟨j 1, (eq_ix2 j).trans (congrArg (ix2 · _) (Subsingleton.elim _ _))⟩
  refine Eq.trans ?_ (outs10 V c hy hw hb hg hd l)
  blk_simp
  rfl

include hy hw hb hg hd in
theorem point11 (a : FVec Ideal S1x512 .f32) :
    k1_pay17 (F := Ideal) (k1_pay11 (iblk1 V c 1 t) (iblk1 V c 4 t) (iblk1 V c 5 t))
      (k1_pay12 (iblk1 V c 1 t) (iblk1 V c 4 t) (iblk1 V c 5 t)) k1_pay13 (iblk1 V c 0 t) a (ix2 0 l)
    = a (ix2 0 l) + ∑ r, (Glu.dog W B (Y (blockRow N1_eq t r)) (D (blockRow N1_eq t r)) l : EReal) := by
  pointwise [k1_pay17, k1_pay16]
  refine congrArg (a (ix2 0 l) + ·) (Finset.sum_congr rfl fun r _ => ?_)
  rw [normed_at (y_blk V c hy t) (w_blk V c hw t) (b_blk V c hb t), d_blk V c hd t, ← EReal.coe_mul]
  rfl

include hy hw hb hg hd in
theorem outs11 : (outsAt1 V c last.val last.isLt).2.2.2.2.1 (ix2 0 l)
    = ((∑ n, Glu.dog W B (Y n) (D n) l : ℝ) : EReal) := by
  refine (Pipeline.eq_sum_fin_of_reset_step_last (fun n h => (outsAt1 V c n h).2.2.2.2.1 (ix2 0 l)) 8 0
    (fun t => ∑ r, (Glu.dog W B (Y (blockRow N1_eq t r)) (D (blockRow N1_eq t r)) l : EReal))
    (fun t h => ?_) (fun t h => ?_) (by decide) last rfl).trans (zero_add_blocks fun n => Glu.dog W B (Y n) (D n) l)
  · rw [outsAt1_A V c t h]; frame_out
    rw [point11 V c hy hw hb hg hd]
    refine congrArg (· + _) ?_
    pointwise [k1_pay4]
  · rw [outsAt1_B V c t h]; frame_out
    rw [point11 V c hy hw hb hg hd]

include hy hw hb hg hd in
theorem final11 : (dat1 V c).arrAt 11 cfg1.N = fun j => ((∑ n, Glu.dog W B (Y n) (D n) (j 1) : ℝ) : EReal) := by
  refine (dat1 V c).arrAt_eq_of_after_last 11 last (by decide +kernel) _ fun j => ?_
  rw [after1_11]
  obtain ⟨l, rfl⟩ : ∃ l, j = ix2 0 l := ⟨j 1, (eq_ix2 j).trans (congrArg (ix2 · _) (Subsingleton.elim _ _))⟩
  refine Eq.trans ?_ (outs11 V c hy hw hb hg hd l)
  blk_simp
  rfl

include hy hw hb hg hd hu in
theorem point12 (a : FVec Ideal S1x512 .f32) :
    k1_pay1 (F := Ideal) (overDy V c t k1_pay23) a (iblk1 V c 2 t) (ix2 0 l)
    = a (ix2 0 l) + ∑ r, ((Glu.dy W B G (Y (blockRow N1_eq t r)) (D (blockRow N1_eq t r)) l * U (blockRow N1_eq t r) l) : EReal) := by
  pointwise [k1_pay1]
  refine congrArg (a (ix2 0 l) + ·) (Finset.sum_congr rfl fun r _ => ?_)
  rw [dy_blk V c hy hw hb hg hd, u_blk V c hu t, ← EReal.coe_mul]

include hy hw hb hg hd hu in
theorem outs12 : (outsAt1 V c last.val last.isLt).2.2.2.2.2 (ix2 0 l)
    = ((∑ n, (Glu.dy W B G (Y n) (D n) l * U n l) : ℝ) : EReal) := by
  refine (Pipeline.eq_sum_fin_of_reset_step_last (fun n h => (outsAt1 V c n h).2.2.2.2.2 (ix2 0 l)) 8 0
    (fun t => ∑ r, ((Glu.dy W B G (Y (blockRow N1_eq t r)) (D (blockRow N1_eq t r)) l * U (blockRow N1_eq t r) l) : EReal))
    (fun t h => ?_) (fun t h => ?_) (by decide) last rfl).trans (zero_add_blocks fun n => (Glu.dy W B G (Y n) (D n) l * U n l))
  · rw [outsAt1_A V c t h]; frame_out
    rw [point12 V c hy hw hb hg hd hu]
    refine congrArg (· + _) ?_
    pointwise [k1_pay5]
  · rw [outsAt1_B V c t h]; frame_out
    rw [point12 V c hy hw hb hg hd hu]

include hy hw hb hg hd hu in
theorem final12 : (dat1 V c).arrAt 12 cfg1.N = fun j => ((∑ n, (Glu.dy W B G (Y n) (D n) (j 1) * U n (j 1)) : ℝ) : EReal) := by
  refine (dat1 V c).arrAt_eq_of_after_last 12 last (by decide +kernel) _ fun j => ?_
  rw [after1_12]
  obtain ⟨l, rfl⟩ : ∃ l, j = ix2 0 l := ⟨j 1, (eq_ix2 j).trans (congrArg (ix2 · _) (Subsingleton.elim _ _))⟩
  refine Eq.trans ?_ (outs12 V c hy hw hb hg hd hu l)
  blk_simp
  rfl

end Backward

section Forward

variable {X U : Fin 8192 → Fin 512 → ℝ} {W : Fin 512 → Fin 512 → ℝ} {B G S : Fin 512 → ℝ}
  (hx : ∀ n l, V c main_v3 (ix2 n l) = (X n l : EReal)) (hu : ∀ n l, V c main_v0 (ix2 n (third l)) = (U n l : EReal))
  (hs : ∀ l, V c main_arg2 (ix2 0 l) = (S l : EReal)) (hw : ∀ k l, V c main_v2 (ix2 k l) = (W k l : EReal))
  (hb : ∀ l, V c main_arg4 (ix2 0 l) = (B l : EReal)) (hg : ∀ l, V c main_arg5 (ix2 0 l) = (G l : EReal))
  (t : Fin cfg0.N) (r : Fin 1024) (k l : Fin 512)

include hx hu hs in
theorem skip_blk : k0_pay3 (F := Ideal) (iblk0 V c 0 t) (iblk0 V c 2 t) (iblk0 V c 1 t) (ix2 r l)
    = (skip X U S (blockRow N0_eq t r) l : EReal) := by
  rw [skip, EReal.coe_add, EReal.coe_mul, ← hx, ← hu, ← hs]
  pointwise [k0_pay3]
  blk_point [iblk0, index0_eq t, blockRow, third]

include hw in
theorem fwd_w_blk : iblk0 V c 3 t (ix2 k l) = (W k l : EReal) := by
  refine Eq.trans ?_ (hw k l)
  blk_point [iblk0, index0_eq t]

include hb in
theorem fwd_b_blk : iblk0 V c 4 t (ix2 0 l) = (B l : EReal) := by
  refine Eq.trans ?_ (hb l)
  blk_point [iblk0, index0_eq t]

include hg in
theorem fwd_g_blk : iblk0 V c 5 t (ix2 0 l) = (G l : EReal) := by
  refine Eq.trans ?_ (hg l)
  blk_point [iblk0, index0_eq t]

include hx hu hs in
theorem fwd9 : (dat0 V c).arrAt 9 cfg0.N = fun j => (skip X U S (j 0) (j 1) : EReal) := by
  refine (dat0 V c).arrAt_eq_of_covers 9 _ (by decide +kernel) fun t hf y => ?_
  blk_simp
  rw [after0_9]
  obtain ⟨r, l, rfl⟩ : ∃ r l, y = ix2 r l := ⟨_, _, eq_ix2 y⟩
  have hn : (win0_9.blk t).view.emb (ix2 r l) = ix2 (blockRow N0_eq t r) l := by
    blk_ext [index0_eq t, blockRow]
  rw [hn]
  refine Eq.trans ?_ (skip_blk V c hx hu hs t r l)
  unfold_out out0_9
  frame_out

include hx hu hs hw hb hg in
theorem fwd_normed_blk : k0_pay1 (F := Ideal)
      (k0_pay4 (iblk0 V c 0 t) (iblk0 V c 2 t) (iblk0 V c 1 t) (iblk0 V c 3 t) (iblk0 V c 4 t))
      (k0_pay5 (iblk0 V c 0 t) (iblk0 V c 2 t) (iblk0 V c 1 t) (iblk0 V c 3 t) (iblk0 V c 4 t)) (iblk0 V c 5 t) (ix2 r l)
    = (Glu.sn W B G (skip X U S (blockRow N0_eq t r)) l : EReal) :=
  fwd_normed_at (Y := fun r => skip X U S (blockRow N0_eq t r)) (skip_blk V c hx hu hs t) (fwd_w_blk V c hw t) (fwd_b_blk V c hb t)
    (fwd_g_blk V c hg t) r l

include hx hu hs hw hb hg in
theorem fwd10 : (dat0 V c).arrAt 10 cfg0.N = fun j => (Glu.sn W B G (skip X U S (j 0)) (j 1) : EReal) := by
  refine (dat0 V c).arrAt_eq_of_covers 10 _ (by decide +kernel) fun t hf y => ?_
  blk_simp
  rw [after0_10]
  obtain ⟨r, l, rfl⟩ : ∃ r l, y = ix2 r l := ⟨_, _, eq_ix2 y⟩
  have hn : (win0_10.blk t).view.emb (ix2 r l) = ix2 (blockRow N0_eq t r) l := by
    blk_ext [index0_eq t, blockRow]
  rw [hn]
  refine Eq.trans ?_ (fwd_normed_blk V c hx hu hs hw hb hg t r l)
  unfold_out out0_10
  frame_out

/-- The rows of the mixer's output projection, the residual included, over the convolution's half and this part's. -/
def project (x : FVec Ideal S8192x1024 .f32) (a : FVec Ideal S8192x512 .bf16) (w : FVec Ideal S1024x1024 .bf16)
    (sn : Fin 8192 → Fin 512 → ℝ) (n : Fin 8192) (l : Fin 1024) : EReal :=
  x (ix2 n l) + (∑ k : Fin 512, a (ix2 n k) * w (ix2 ⟨k.val, by have := k.isLt; omega⟩ l)) + ∑ k : Fin 512, (sn n k : EReal) * w (ix2 (half k) l)

include hx hu hs hw hb hg in
theorem fwd11 : (dat0 V c).arrAt 11 cfg0.N = fun j => project (V c main_v4) (V c main_v6) (V c main_v8)
    (fun n => Glu.sn W B G (skip X U S n)) (j 0) (j 1) := by
  refine (dat0 V c).arrAt_eq_of_covers 11 _ (by decide +kernel) fun t hf y => ?_
  blk_simp
  rw [after0_11]
  obtain ⟨r, l, rfl⟩ : ∃ r l, y = ix2 r l := ⟨_, _, eq_ix2 y⟩
  have hn : (win0_11.blk t).view.emb (ix2 r l) = ix2 (blockRow N0_eq t r) l := by
    blk_ext [index0_eq t, blockRow]
  rw [hn]
  unfold_out out0_11
  frame_out
  pointwise [k0_pay2, project]
  simp only [fwd_normed_blk V c hx hu hs hw hb hg]
  blk_point [iblk0, index0_eq t, blockRow, half]

end Forward

end Cert.SsmOutIdeal.Value

end
-- ==== Proof.SsmOutReference.lean ====
/-
  `SsmOutRefIdeal`: the reference's results over real arguments.
-/
module

public import proofs.«01_k».proof.Proof.Gen.SsmOutRefIdeal.Run
public import proofs.«01_k».proof.Proof.Gen.SsmOutRefIdeal.Read
public import proofs.«01_k».proof.Proof.Glu

@[expose] public section

noncomputable section

namespace Cert.SsmOutRefIdeal.Value

open Idealize.ShloMosaic Idealize.ShloMosaic.TcCoe Idealize.SL.Sem
open Cert.SsmOutRefIdeal Cert.SsmOutRefIdeal.Gen Cert.SsmOutRefIdeal.Read Cert.Activations
open Cert.Glu (half third skip)

/-- An array of real numbers as an array of the program. -/
abbrev ofReal {t : Shape} (y : t.Idx → ℝ) : FVec Ideal t .f32 := fun i => (y i : EReal)

theorem ofBits_num : Ideal.ofBits .f32 0x472EAB00#32 = ((44715 : ℝ) : EReal) := by
  simp [Ideal.ofBits, Ideal.ieee, -EReal.coe_mul]; norm_num

theorem ofBits_den : Ideal.ofBits .f32 0x49742400#32 = ((1000000 : ℝ) : EReal) := by
  simp [Ideal.ofBits, Ideal.ieee, -EReal.coe_mul]; norm_num

/-- The weight of the cube in the gelu's argument is an exact quotient. -/
theorem weight : val_main_v9 (F := Ideal) ix0 = (gc : EReal) := by
  pointwise [val_main_v9, val_main_cst, val_main_cst_0]
  rw [ofBits_num, ofBits_den, Reals.div_coe_coe _ (by norm_num)]
  rfl

variable (cx : S2x4096x512.Idx → ℝ) (pj : S2x4096x1536.Idx → ℝ) (sd : S1x512.Idx → ℝ) (gw : S1x512x512.Idx → ℝ)
  (gb og : S1x512.Idx → ℝ) (dm : S2x4096x1024.Idx → ℝ) (b : Fin 2) (s : Fin 4096) (k l : Fin 512)

/-- Row `(b, s)` of the part's input. -/
abbrev U (l : Fin 512) : ℝ := pj (ix3 b s (third l))

/-- Row `(b, s)` before the gelu. -/
abbrev Y (l : Fin 512) : ℝ := cx (ix3 b s l) + sd (ix2 0 l) * U pj b s l

/-- Row `(b, s)` of the gradient. -/
abbrev D (l : Fin 512) : ℝ := dm (ix3 b s (half l))

/-- The gate's weights. -/
abbrev W (k l : Fin 512) : ℝ := gw (ix3 0 k l)

/-- A row of parameters. -/
abbrev par (g : S1x512.Idx → ℝ) (l : Fin 512) : ℝ := g (ix2 0 l)

theorem v8_at : val_main_v8 (F := Ideal) (ofReal cx) (ofReal pj) (ofReal sd) (ix3 b s l) = (Y cx pj sd b s l : EReal) := by
  pointwise [val_main_v8, val_main_v7, val_main_v6, val_main_v5, val_main_v1, val_main_v0]
  simp only [ofReal, ← EReal.coe_mul, ← EReal.coe_add, Y, U, third]

theorem v20_at : val_main_v20 (F := Ideal) (ofReal cx) (ofReal pj) (ofReal sd) (ix3 b s l) = (gth (Y cx pj sd b s l) : EReal) := by
  pointwise [val_main_v20, val_main_v19, val_main_v18, val_main_v17, val_main_v16, val_main_v15, val_main_v11, val_main_v10, val_main_cst_2]
  simp only [v8_at, weight, ofBits_gk, ← EReal.coe_mul, ← EReal.coe_add, Ideal.tanh_coe, gth, mul_assoc]

theorem v29_at : val_main_v29 (F := Ideal) (ofReal cx) (ofReal pj) (ofReal sd) (ix3 b s l)
    = ((1 / 2 * (1 + gth (Y cx pj sd b s l)) : ℝ) : EReal) := by
  pointwise [val_main_v29, val_main_v28, val_main_v27, val_main_v26, val_main_cst_5, val_main_cst_6]
  simp only [v20_at, ofBits_half, ← EReal.coe_one, ← EReal.coe_mul, ← EReal.coe_add]

theorem v30_at : val_main_v30 (F := Ideal) (ofReal cx) (ofReal pj) (ofReal sd) (ix3 b s l) = (gelu (Y cx pj sd b s l) : EReal) := by
  pointwise [val_main_v30]
  rw [v8_at, v29_at, ← EReal.coe_mul, gelu]
  exact congrArg _ (by ring)

theorem v40_at : val_main_v40 (F := Ideal) (ofReal cx) (ofReal pj) (ofReal sd) (ofReal gw) (ofReal gb) (ix3 b s l)
    = (Glu.gate (W gw) (par gb) (Y cx pj sd b s) l : EReal) := by
  pointwise [val_main_v40, val_main_v39, val_main_v38, val_main_v37, val_main_v36, val_main_v35, val_main_v34, val_main_v33, val_main_v32,
    val_main_v31, val_main_v3, val_main_v2, val_main_cst_7, val_main_cst_8]
  simp only [v30_at, ofReal, ← EReal.coe_mul, ← Reals.coe_sum, ← EReal.coe_add, ← EReal.coe_neg, Ideal.exp_coe, ← EReal.coe_one]
  rw [Reals.div_coe_coe _ (one_add_exp_pos _).ne', one_div]
  rfl

theorem v44_at : val_main_v44 (F := Ideal) (ofReal cx) (ofReal pj) (ofReal sd) (ofReal gw) (ofReal gb) (ix3 b s l)
    = (Glu.s (W gw) (par gb) (Y cx pj sd b s) l : EReal) := by
  pointwise [val_main_v44]
  rw [v30_at, v40_at, ← EReal.coe_mul, Glu.s]

theorem v51_at : val_main_v51 (F := Ideal) (ofReal cx) (ofReal pj) (ofReal sd) (ofReal gw) (ofReal gb) (ix3 b s 0)
    = (RmsNorm.meanSq (Glu.s (W gw) (par gb) (Y cx pj sd b s)) : EReal) := by
  pointwise [val_main_v51, val_main_v50, val_main_v49, val_main_v48, val_main_v47, val_main_v46, val_main_v45, val_main_cst_10, val_main_cst_11, val_main_cst_12]
  simp only [v44_at, RmsNorm.ofBits_eps, Glu.ofBits_512, ← EReal.coe_mul, ← Reals.coe_sum]
  exact Glu.meanSq_coe _

theorem v52_at : val_main_v52 (F := Ideal) (ofReal cx) (ofReal pj) (ofReal sd) (ofReal gw) (ofReal gb) (ix3 b s 0)
    = (Glu.scale (W gw) (par gb) (Y cx pj sd b s) : EReal) := by
  pointwise [val_main_v52]
  rw [v51_at, Glu.rsqrt_coe, Glu.scale]

theorem v55_at : val_main_v55 (F := Ideal) (ofReal cx) (ofReal pj) (ofReal sd) (ofReal gw) (ofReal gb) (ix3 b s 0)
    = ((-(1 / 2) * (Glu.scale (W gw) (par gb) (Y cx pj sd b s) / RmsNorm.meanSq (Glu.s (W gw) (par gb) (Y cx pj sd b s))) : ℝ) : EReal) := by
  pointwise [val_main_v55, val_main_v54, val_main_v53, val_main_cst_13]
  rw [v51_at, v52_at, Reals.div_coe_coe _ (RmsNorm.meanSq_pos _).ne', RmsNorm.ofBits_neg_half, ← EReal.coe_mul]

theorem v57_at : val_main_v57 (F := Ideal) (ofReal cx) (ofReal pj) (ofReal sd) (ofReal gw) (ofReal gb) (ix3 b s l)
    = ((Glu.s (W gw) (par gb) (Y cx pj sd b s) l * Glu.scale (W gw) (par gb) (Y cx pj sd b s) : ℝ) : EReal) := by
  pointwise [val_main_v57, val_main_v56]
  rw [v44_at, v52_at, ← EReal.coe_mul]

theorem v60_at : val_main_v60 (F := Ideal) (ofReal cx) (ofReal pj) (ofReal sd) (ofReal gw) (ofReal gb) (ofReal og) (ix3 b s l)
    = (Glu.sn (W gw) (par gb) (par og) (Y cx pj sd b s) l : EReal) := by
  pointwise [val_main_v60, val_main_v59, val_main_v58, val_main_v4]
  rw [v57_at, ← EReal.coe_mul, Glu.sn]

theorem v61_at : val_main_v61 (F := Ideal) (ofReal dm) (ix3 b s l) = (D dm b s l : EReal) := by
  pointwise [val_main_v61]
  simp only [ofReal, D, half]

theorem v66_at : val_main_v66 (F := Ideal) (ofReal og) (ofReal dm) (ix3 b s l) = ((D dm b s l * par og l : ℝ) : EReal) := by
  pointwise [val_main_v66, val_main_v65, val_main_v58, val_main_v4]
  rw [v61_at, ← EReal.coe_mul]

theorem v76_at : val_main_v76 (F := Ideal) (ofReal cx) (ofReal pj) (ofReal sd) (ofReal gw) (ofReal gb) (ofReal og) (ofReal dm) (ix2 b s)
    = (RmsNorm.spread (Glu.s (W gw) (par gb) (Y cx pj sd b s)) (par og) (D dm b s) : EReal) := by
  pointwise [val_main_v76, val_main_v75, val_main_v74, val_main_v73, val_main_v70, val_main_v69, val_main_v68, val_main_cst_16, val_main_cst_17, val_main_cst_18]
  simp only [Fin.sum_univ_one, v44_at, v66_at, v55_at, Glu.ofBits_512, ← EReal.coe_mul, ← Reals.coe_sum]
  rw [Reals.div_coe_coe _ (by norm_num)]
  simp only [RmsNorm.spread, Glu.scale, Nat.cast_ofNat]

theorem v81_at : val_main_v81 (F := Ideal) (ofReal cx) (ofReal pj) (ofReal sd) (ofReal gw) (ofReal gb) (ofReal og) (ofReal dm) (ix3 b s l)
    = (Glu.ds (W gw) (par gb) (par og) (Y cx pj sd b s) (D dm b s) l : EReal) := by
  pointwise [val_main_v81, val_main_v80, val_main_v79, val_main_v78, val_main_v77, val_main_v72, val_main_v71]
  simp only [v44_at, v66_at, v52_at, v76_at, ← EReal.coe_mul, ← EReal.coe_add]
  rw [Glu.ds, ← RmsNorm.chain_eq_back, RmsNorm.chain, add_assoc]
  rfl

theorem v84_at : val_main_v84 (F := Ideal) (ofReal cx) (ofReal pj) (ofReal sd) (ofReal gw) (ofReal gb) (ofReal og) (ofReal dm) (ix3 b s l)
    = (Glu.dz (W gw) (par gb) (par og) (Y cx pj sd b s) (D dm b s) l : EReal) := by
  pointwise [val_main_v84, val_main_v82, val_main_v43, val_main_v42, val_main_v41, val_main_cst_9]
  simp only [v30_at, v81_at, v40_at, ← EReal.coe_one, ← EReal.coe_mul, ← EReal.coe_sub]
  refine congrArg _ ?_
  unfold Glu.dz
  ring

theorem v91_at : val_main_v91 (F := Ideal) (ofReal cx) (ofReal pj) (ofReal sd) (ofReal gw) (ofReal gb) (ofReal og) (ofReal dm) (ix3 b s l)
    = (Glu.dgy (W gw) (par gb) (par og) (Y cx pj sd b s) (D dm b s) l : EReal) := by
  pointwise [val_main_v91, val_main_v90, val_main_v83, val_main_v2]
  simp only [v81_at, v40_at, v84_at, ofReal, ← EReal.coe_mul, ← Reals.coe_sum, ← EReal.coe_add]
  rfl

theorem v103_at : val_main_v103 (F := Ideal) (ofReal cx) (ofReal pj) (ofReal sd) (ofReal gw) (ofReal gb) (ofReal og) (ofReal dm) (ix3 b s l)
    = (Glu.dy (W gw) (par gb) (par og) (Y cx pj sd b s) (D dm b s) l : EReal) := by
  pointwise [val_main_v103, val_main_v102, val_main_v101, val_main_v100, val_main_v99, val_main_v98, val_main_v97, val_main_v96, val_main_v95,
    val_main_v94, val_main_v93, val_main_v92, val_main_v25, val_main_v24, val_main_v23, val_main_v22, val_main_v21, val_main_v14, val_main_v13,
    val_main_v12, val_main_cst_1, val_main_cst_3, val_main_cst_4, val_main_cst_21, val_main_cst_22]
  simp only [v91_at, v8_at, v20_at, v29_at, weight, ofBits_half, ofBits_three, ofBits_gk, ← EReal.coe_one, ← EReal.coe_mul, ← EReal.coe_add, ← EReal.coe_sub]
  refine congrArg _ ?_
  unfold Glu.dy dgelu
  ring

end Cert.SsmOutRefIdeal.Value

end
-- ==== Proof.SsmOut.lean ====
/-
  S5's output and the gradient through it: the kernels' results are the reference's.
-/
module

public import proofs.«01_k».proof.Defs
public import proofs.«01_k».proof.Proof.SsmOutKernel
public import proofs.«01_k».proof.Proof.SsmOutReference

@[expose] public section

noncomputable section

namespace Cert.SsmOutProof

open Idealize.ShloMosaic Idealize.ShloMosaic.TcCoe Idealize.SL.Sem

/-! ## The precondition -/

instance preFacts : Cert.Pre_sso_finite.Facts :=
  ⟨by decide, by decide, by decide, by decide, by decide, by decide, by decide, by decide, by decide, by decide, by decide⟩

open Cert.Pre_sso_finite in
/-- Under the precondition the seven arrays it reads are arrays of real numbers. -/
theorem reals {cx : FVec Ideal S2x4096x512 .f32} {pj : FVec Ideal S2x4096x1536 .f32} {sd : FVec Ideal S1x512 .f32}
    {gw : FVec Ideal S1x512x512 .f32} {gb og : FVec Ideal S1x512 .f32} {x : FVec Ideal S2x4096x1024 .f32}
    {co : FVec Ideal S2x4096x512 .f32} {wo : FVec Ideal S1x1024x1024 .f32} {dm : FVec Ideal S2x4096x1024 .f32}
    (h : fn (F := Ideal) cx pj sd gw gb og x co wo dm = fun _ => 1#1) :
    (∃ X : S2x4096x512.Idx → ℝ, cx = fun i => (X i : EReal)) ∧ (∃ X : S2x4096x1536.Idx → ℝ, pj = fun i => (X i : EReal)) ∧
    (∃ X : S1x512.Idx → ℝ, sd = fun i => (X i : EReal)) ∧ (∃ X : S1x512x512.Idx → ℝ, gw = fun i => (X i : EReal)) ∧
    (∃ X : S1x512.Idx → ℝ, gb = fun i => (X i : EReal)) ∧ (∃ X : S1x512.Idx → ℝ, og = fun i => (X i : EReal)) ∧
    (∃ X : S2x4096x1024.Idx → ℝ, dm = fun i => (X i : EReal)) := by
  have h0 := congrFun h ix0
  have h1 := Reals.one_of_andi_left h0
  have h2 := Reals.one_of_andi_left h1
  have h3 := Reals.one_of_andi_left h2
  have h4 := Reals.one_of_andi_left h3
  have h5 := Reals.one_of_andi_left h4
  exact ⟨Reals.exists_real cx _ _ _ _ _ _ (Reals.one_of_andi_left h5), Reals.exists_real pj _ _ _ _ _ _ (Reals.one_of_andi_right h5),
    Reals.exists_real sd _ _ _ _ _ _ (Reals.one_of_andi_right h4), Reals.exists_real gw _ _ _ _ _ _ (Reals.one_of_andi_right h3),
    Reals.exists_real gb _ _ _ _ _ _ (Reals.one_of_andi_right h2), Reals.exists_real og _ _ _ _ _ _ (Reals.one_of_andi_right h1),
    Reals.exists_real dm _ _ _ _ _ _ (Reals.one_of_andi_right h0)⟩

/-! ## What the run leaves in every buffer -/

section Run

open Cert.SsmOutIdeal Cert.SsmOutIdeal.Gen
open Idealize.SL Idealize.SL.RA Idealize.SL.BI
open scoped Idealize.SL.BI
open Idealize.ShloMosaic.Rounds
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, and leaves in every buffer what the last boundary of the program's segments says. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Run

/-! ## The kernels' operands read from the arguments -/

open Cert.SsmOutIdeal Cert.SsmOutIdeal.Gen Cert.SsmOutIdeal.Value Cert.Rows
open Cert.Glu (half third skip)
open Cert.SsmOutRefIdeal.Value (ofReal U Y D W par)
open Cert.SsmOutRefIdeal.Read

variable (m : (ℓ : Loc nD τ sig) → Buf (Elt Ideal) ℓ) (ρ : Dev nD → PrngReg) (c : Dev nD)
  {cx : S2x4096x512.Idx → ℝ} {pj : S2x4096x1536.Idx → ℝ} {sd : S1x512.Idx → ℝ} {gw : S1x512x512.Idx → ℝ}
  {gb og : S1x512.Idx → ℝ} {dm : S2x4096x1024.Idx → ℝ}
  (h0 : m ((c : Thread nD τ).loc main_arg0) = ofReal cx) (h1 : m ((c : Thread nD τ).loc main_arg1) = ofReal pj)
  (h2 : m ((c : Thread nD τ).loc main_arg2) = ofReal sd) (h3 : m ((c : Thread nD τ).loc main_arg3) = ofReal gw)
  (h4 : m ((c : Thread nD τ).loc main_arg4) = ofReal gb) (h5 : m ((c : Thread nD τ).loc main_arg5) = ofReal og)
  (h9 : m ((c : Thread nD τ).loc main_arg9) = ofReal dm) (n : Fin 8192) (k l : Fin 512) (j : Fin 1024)

include h0 in
theorem cx_at : V1 m ρ c main_v3 (ix2 n l) = (cx (ix3 (batch n) (pos n) l) : EReal) := by
  refine Eq.trans ?_ (congrFun h0 _)
  change StableHlo.after hostOps0 (W0 m ρ c) (Proc.devRef .tc main_v3) _ = _
  entry_read
  pointwise [batch, pos]

include h1 in
theorem u_at : V1 m ρ c main_v0 (ix2 n (third l)) = (U pj (batch n) (pos n) l : EReal) := by
  refine Eq.trans ?_ (congrFun h1 _)
  change StableHlo.after hostOps0 (W0 m ρ c) (Proc.devRef .tc main_v0) _ = _
  entry_read
  pointwise [batch, pos, third]

include h3 in
theorem w_at : V1 m ρ c main_v2 (ix2 k l) = (W gw k l : EReal) := by
  refine Eq.trans ?_ (congrFun h3 _)
  change StableHlo.after hostOps0 (W0 m ρ c) (Proc.devRef .tc main_v2) _ = _
  entry_read
  pointwise

theorem x_at : V1 m ρ c main_v4 (ix2 n j) = m ((c : Thread nD τ).loc main_arg6) (ix3 (batch n) (pos n) j) := by
  change StableHlo.after hostOps0 (W0 m ρ c) (Proc.devRef .tc main_v4) _ = _
  entry_read
  pointwise [batch, pos]

theorem co_at : V1 m ρ c main_v6 (ix2 n l) = m ((c : Thread nD τ).loc main_arg7) (ix3 (batch n) (pos n) l) := by
  change StableHlo.after hostOps0 (W0 m ρ c) (Proc.devRef .tc main_v6) _ = _
  entry_read
  pointwise [batch, pos]

theorem wo_at (k : Fin 1024) : V1 m ρ c main_v8 (ix2 k j) = m ((c : Thread nD τ).loc main_arg8) (ix3 0 k j) := by
  change StableHlo.after hostOps0 (W0 m ρ c) (Proc.devRef .tc main_v8) _ = _
  entry_read
  pointwise

include h9 in
theorem d_at : V3 m ρ c main_v10 (ix2 n (half l)) = (D dm (batch n) (pos n) l : EReal) := by
  refine Eq.trans ?_ (congrFun h9 (ix3 (batch n) (pos n) (half l)))
  refine Eq.trans ?_ (congrFun (W2_args m ρ c main_arg9 (by decide)) _)
  change StableHlo.after hostOps1 (W2 m ρ c) (Proc.devRef .tc main_v10) _ = _
  entry_read
  pointwise [batch, pos, half]

include h2 in
theorem s_at : V1 m ρ c main_arg2 (ix2 0 l) = (par sd l : EReal) := congrFun ((W1_args m ρ c _ (by decide)).trans h2) _
include h4 in
theorem b_at : V1 m ρ c main_arg4 (ix2 0 l) = (par gb l : EReal) := congrFun ((W1_args m ρ c _ (by decide)).trans h4) _
include h5 in
theorem g_at : V1 m ρ c main_arg5 (ix2 0 l) = (par og l : EReal) := congrFun ((W1_args m ρ c _ (by decide)).trans h5) _
include h2 in
theorem s_at' : V3 m ρ c main_arg2 (ix2 0 l) = (par sd l : EReal) := congrFun ((W3_args m ρ c _ (by decide)).trans h2) _
include h4 in
theorem b_at' : V3 m ρ c main_arg4 (ix2 0 l) = (par gb l : EReal) := congrFun ((W3_args m ρ c _ (by decide)).trans h4) _
include h5 in
theorem g_at' : V3 m ρ c main_arg5 (ix2 0 l) = (par og l : EReal) := congrFun ((W3_args m ρ c _ (by decide)).trans h5) _

/-- What the forward region reads and does not write, the backward region reads unchanged. -/
theorem keep (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

include h3 in
theorem w_at' : V3 m ρ c main_v2 (ix2 k l) = (W gw k l : EReal) :=
  (congrFun (keep m ρ c main_v2 (by decide) (by decide)) _).trans (w_at m ρ c h3 k l)

include h1 in
theorem u_at' : V3 m ρ c main_v0 (ix2 n (third l)) = (U pj (batch n) (pos n) l : EReal) :=
  (congrFun (keep m ρ c main_v0 (by decide) (by decide)) _).trans (u_at m ρ c h1 n l)

include h0 h1 h2 in
theorem y_at : V3 m ρ c main_v9_0 (ix2 n l) = (Y cx pj sd (batch n) (pos n) l : EReal) :=
  (congrFun ((W3_of m ρ c main_v9_0 (by decide)).trans ((W2_arr m ρ c 9).trans
    (fwd9 (V1 m ρ) c (cx_at m ρ c h0) (u_at m ρ c h1) (s_at m ρ c h2)))) (ix2 n l) :)

/-! ## The results -/

/-- What the program leaves where the forward region wrote and nothing wrote after it. -/
theorem W4_fwd (r : Ref sig .tc) (h : r ∉ hostOps1_W) (h' : ∀ w : Fin cfg1.W, Pipeline.arrRef spec1 w = r → (cfg1.win w).isOut = false) :
    W4 m ρ c (Proc.devRef .tc r) = W2 m ρ c (Proc.devRef .tc r) := (W4_of m ρ c r h').trans (W3_of m ρ c r h)

include h0 h1 h2 h3 h4 h5

theorem sn_eq : W4 m ρ c (Proc.devRef .tc main_v9_1)
    = val_main_v115 (F := Ideal) (ofReal cx) (ofReal pj) (ofReal sd) (ofReal gw) (ofReal gb) (ofReal og) := by
  refine (W4_fwd m ρ c main_v9_1 (by decide) (by decide)).trans ((W2_arr m ρ c 10).trans
    ((fwd10 (V1 m ρ) c (cx_at m ρ c h0) (u_at m ρ c h1) (s_at m ρ c h2) (w_at m ρ c h3) (b_at m ρ c h4) (g_at m ρ c h5)).trans ?_))
  funext i
  obtain ⟨n, l, rfl⟩ : ∃ n l, i = ix2 n l := ⟨_, _, eq_ix2 i⟩
  pointwise [val_main_v115, val_main_v114]
  exact (Cert.SsmOutRefIdeal.Value.v60_at cx pj sd gw gb og (batch n) (pos n) l).symm

theorem x_eq : W4 m ρ c (Proc.devRef .tc main_v9_2)
    = val_main_v116 (F := Ideal) (ofReal cx) (ofReal pj) (ofReal sd) (ofReal gw) (ofReal gb) (ofReal og)
        (m ((c : Thread nD τ).loc main_arg6)) (m ((c : Thread nD τ).loc main_arg7)) (m ((c : Thread nD τ).loc main_arg8)) := by
  refine (W4_fwd m ρ c main_v9_2 (by decide) (by decide)).trans ((W2_arr m ρ c 11).trans
    ((fwd11 (V1 m ρ) c (cx_at m ρ c h0) (u_at m ρ c h1) (s_at m ρ c h2) (w_at m ρ c h3) (b_at m ρ c h4) (g_at m ρ c h5)).trans ?_))
  funext i
  obtain ⟨n, j, rfl⟩ : ∃ n j, i = ix2 n j := ⟨_, _, eq_ix2 i⟩
  pointwise [val_main_v116, val_main_v113, val_main_v112, val_main_v111, val_main_v110]
  refine Eq.trans ?_ (add_assoc _ _ _)
  refine congrArg₂ (· + ·) (congrArg₂ (· + ·) (x_at m ρ c n j) (Finset.sum_congr rfl fun k _ => congrArg₂ (fun a b : EReal => a * b)
    (co_at m ρ c n k) (wo_at m ρ c j _))) (Finset.sum_congr rfl fun k _ => congrArg₂ (fun a b : EReal => a * b) ?_ (wo_at m ρ c j (half k)))
  exact (Cert.SsmOutRefIdeal.Value.v60_at cx pj sd gw gb og (batch n) (pos n) k).symm

include h9

theorem dy_eq : W4 m ρ c (Proc.devRef .tc main_v11_0)
    = val_main_v118 (F := Ideal) (ofReal cx) (ofReal pj) (ofReal sd) (ofReal gw) (ofReal gb) (ofReal og) (ofReal dm) := by
  refine (W4_arr m ρ c 7).trans ((final7 (V3 m ρ) c (y_at m ρ c h0 h1 h2) (w_at' m ρ c h3) (b_at' m ρ c h4)
    (g_at' m ρ c h5) (d_at m ρ c h9)).trans ?_)
  funext i
  obtain ⟨n, l, rfl⟩ : ∃ n l, i = ix2 n l := ⟨_, _, eq_ix2 i⟩
  pointwise [val_main_v118, val_main_v117]
  exact (Cert.SsmOutRefIdeal.Value.v103_at cx pj sd gw gb og dm (batch n) (pos n) l).symm

theorem du_eq : W4 m ρ c (Proc.devRef .tc main_v11_1)
    = val_main_v119 (F := Ideal) (ofReal cx) (ofReal pj) (ofReal sd) (ofReal gw) (ofReal gb) (ofReal og) (ofReal dm) := by
  refine (W4_arr m ρ c 8).trans ((final8 (V3 m ρ) c (y_at m ρ c h0 h1 h2) (w_at' m ρ c h3) (b_at' m ρ c h4)
    (g_at' m ρ c h5) (d_at m ρ c h9) (s_at' m ρ c h2)).trans ?_)
  funext i
  obtain ⟨n, l, rfl⟩ : ∃ n l, i = ix2 n l := ⟨_, _, eq_ix2 i⟩
  pointwise [val_main_v119, val_main_v105, val_main_v104, val_main_v5, val_main_v1]
  refine Eq.trans ?_ (congrArg (_ * ·) (Cert.SsmOutRefIdeal.Value.v103_at cx pj sd gw gb og dm (batch n) (pos n) l).symm)
  rw [mul_comm, ← EReal.coe_mul]

theorem dgw_eq : W4 m ρ c (Proc.devRef .tc main_v11_2)
    = val_main_v89 (F := Ideal) (ofReal cx) (ofReal pj) (ofReal sd) (ofReal gw) (ofReal gb) (ofReal og) (ofReal dm) := by
  refine (W4_arr m ρ c 9).trans ((final9 (V3 m ρ) c (y_at m ρ c h0 h1 h2) (w_at' m ρ c h3) (b_at' m ρ c h4)
    (g_at' m ρ c h5) (d_at m ρ c h9)).trans ?_)
  funext i
  obtain ⟨k, l, rfl⟩ : ∃ k l, i = ix2 k l := ⟨_, _, eq_ix2 i⟩
  pointwise [val_main_v89, val_main_v88]
  simp only [Cert.SsmOutRefIdeal.Value.v84_at, Cert.SsmOutRefIdeal.Value.v30_at, ← EReal.coe_mul, ← Reals.coe_sum, Glu.dgw]
  refine congrArg _ ((sum_rows fun b s => Glu.dgw (W gw) (par gb) (par og) (Y cx pj sd b s) (D dm b s) k l).trans ?_)
  exact Finset.sum_congr rfl fun b _ => Finset.sum_congr rfl fun s _ => mul_comm _ _

theorem dgb_eq : W4 m ρ c (Proc.devRef .tc main_v11_3)
    = val_main_v120 (F := Ideal) (ofReal cx) (ofReal pj) (ofReal sd) (ofReal gw) (ofReal gb) (ofReal og) (ofReal dm) := by
  refine (W4_arr m ρ c 10).trans ((final10 (V3 m ρ) c (y_at m ρ c h0 h1 h2) (w_at' m ρ c h3) (b_at' m ρ c h4)
    (g_at' m ρ c h5) (d_at m ρ c h9)).trans ?_)
  funext i
  obtain ⟨l, rfl⟩ : ∃ l, i = ix2 0 l := ⟨i 1, (eq_ix2 i).trans (congrArg (ix2 · _) (Subsingleton.elim _ _))⟩
  pointwise [val_main_v120, val_main_v87, val_main_v86, val_main_v85, val_main_cst_19, val_main_cst_20]
  rw [Reals.hostReduceAdd_two]
  pointwise
  rw [Reals.hostReduceAdd_two]
  pointwise
  simp only [Fin.sum_univ_one, Cert.SsmOutRefIdeal.Value.v84_at, ← EReal.coe_mul, ← Reals.coe_sum]
  exact congrArg _ (sum_rows fun b s => Glu.dz (W gw) (par gb) (par og) (Y cx pj sd b s) (D dm b s) l)

theorem dog_eq : W4 m ρ c (Proc.devRef .tc main_v11_4)
    = val_main_v121 (F := Ideal) (ofReal cx) (ofReal pj) (ofReal sd) (ofReal gw) (ofReal gb) (ofReal dm) := by
  refine (W4_arr m ρ c 11).trans ((final11 (V3 m ρ) c (y_at m ρ c h0 h1 h2) (w_at' m ρ c h3) (b_at' m ρ c h4)
    (g_at' m ρ c h5) (d_at m ρ c h9)).trans ?_)
  funext i
  obtain ⟨l, rfl⟩ : ∃ l, i = ix2 0 l := ⟨i 1, (eq_ix2 i).trans (congrArg (ix2 · _) (Subsingleton.elim _ _))⟩
  pointwise [val_main_v121, val_main_v67, val_main_v64, val_main_v63, val_main_v62, val_main_cst_14, val_main_cst_15]
  rw [Reals.hostReduceAdd_two]
  pointwise
  rw [Reals.hostReduceAdd_two]
  pointwise
  simp only [Fin.sum_univ_one, Cert.SsmOutRefIdeal.Value.v57_at, Cert.SsmOutRefIdeal.Value.v61_at, ← EReal.coe_mul, ← Reals.coe_sum]
  refine congrArg _ ((sum_rows fun b s => Glu.dog (W gw) (par gb) (Y cx pj sd b s) (D dm b s) l).trans ?_)
  exact Finset.sum_congr rfl fun b _ => Finset.sum_congr rfl fun s _ => mul_comm _ _

theorem dd_eq : W4 m ρ c (Proc.devRef .tc main_v11_5)
    = val_main_v122 (F := Ideal) (ofReal cx) (ofReal pj) (ofReal sd) (ofReal gw) (ofReal gb) (ofReal og) (ofReal dm) := by
  refine (W4_arr m ρ c 12).trans ((final12 (V3 m ρ) c (y_at m ρ c h0 h1 h2) (w_at' m ρ c h3) (b_at' m ρ c h4)
    (g_at' m ρ c h5) (d_at m ρ c h9) (u_at' m ρ c h1)).trans ?_)
  funext i
  obtain ⟨l, rfl⟩ : ∃ l, i = ix2 0 l := ⟨i 1, (eq_ix2 i).trans (congrArg (ix2 · _) (Subsingleton.elim _ _))⟩
  pointwise [val_main_v122, val_main_v109, val_main_v108, val_main_v107, val_main_v106, val_main_v0, val_main_cst_23, val_main_cst_24]
  rw [Reals.hostReduceAdd_two]
  pointwise
  rw [Reals.hostReduceAdd_two]
  pointwise
  simp only [Fin.sum_univ_one, Cert.SsmOutRefIdeal.Value.v103_at, ofReal, ← EReal.coe_mul, ← Reals.coe_sum]
  exact congrArg _ (sum_rows fun b s => Glu.dy (W gw) (par gb) (par og) (Y cx pj sd b s) (D dm b s) l * U pj b s l)

omit h0 h1 h2 h3 h4 h5 h9

theorem algebraic : Cert.algebraic_SsmOutIdeal_SsmOutRefIdeal_pre_sso_finite := by
  intro m ρ m' ρ' hpre hagree
  refine ⟨fun c => W4 m ρ c (Proc.devRef .tc main_v9_1), fun c => W4 m ρ c (Proc.devRef .tc main_v9_2),
    fun c => W4 m ρ c (Proc.devRef .tc main_v11_0), fun c => W4 m ρ c (Proc.devRef .tc main_v11_1),
    fun c => W4 m ρ c (Proc.devRef .tc main_v11_2), fun c => W4 m ρ c (Proc.devRef .tc main_v11_3),
    fun c => W4 m ρ c (Proc.devRef .tc main_v11_4), fun c => W4 m ρ c (Proc.devRef .tc main_v11_5), ?_, ?_⟩
  · refine (θ_run defs _ _).mono (fun r h c => ?_) (run_all m ρ)
    have arg (a : Ref sig .tc) (ha : a ∈ argRefs) (hu : (Proc.devRef .tc a : DevRef τ sig) ∈ Pipeline.ucRefs τ sig) :
        r.2.mem ((c : Thread nD τ).loc a) = m ((c : Thread nD τ).loc a) := (h c _ hu).trans (W4_args m ρ c a ha)
    exact ⟨h c _ (mem_uc main_v9_1 (by decide)), h c _ (mem_uc main_v9_2 (by decide)), h c _ (mem_uc main_v11_0 (by decide)),
      h c _ (mem_uc main_v11_1 (by decide)), h c _ (mem_uc main_v11_2 (by decide)), h c _ (mem_uc main_v11_3 (by decide)),
      h c _ (mem_uc main_v11_4 (by decide)), h c _ (mem_uc main_v11_5 (by decide)),
      arg main_arg0 (by decide) (mem_uc _ (by decide)), arg main_arg1 (by decide) (mem_uc _ (by decide)),
      arg main_arg2 (by decide) (mem_uc _ (by decide)), arg main_arg3 (by decide) (mem_uc _ (by decide)),
      arg main_arg4 (by decide) (mem_uc _ (by decide)), arg main_arg5 (by decide) (mem_uc _ (by decide)),
      arg main_arg6 (by decide) (mem_uc _ (by decide)), arg main_arg7 (by decide) (mem_uc _ (by decide)),
      arg main_arg8 (by decide) (mem_uc _ (by decide)), arg main_arg9 (by decide) (mem_uc _ (by decide))⟩
  · refine (θ_run Cert.SsmOutRefIdeal.defs _ _).mono (fun r h c => ?_) (Cert.SsmOutRefIdeal.Value.run (F := Ideal) m' ρ')
    obtain ⟨r0, r1, r2, r3, r4, r5, r6, r7, hkeep⟩ := h c
    obtain ⟨e0, e1, e2, e3, e4, e5, e6, e7, e8, e9⟩ := hagree c
    obtain ⟨⟨cx, h0⟩, ⟨pj, h1⟩, ⟨sd, h2⟩, ⟨gw, h3⟩, ⟨gb, h4⟩, ⟨og, h5⟩, ⟨dm, h9⟩⟩ := reals (hpre c)
    replace e0 : StableHlo.launchContents m' c (Proc.devRef .tc Cert.SsmOutRefIdeal.main_arg0) = ofReal cx := e0.trans h0
    replace e1 : StableHlo.launchContents m' c (Proc.devRef .tc Cert.SsmOutRefIdeal.main_arg1) = ofReal pj := e1.trans h1
    replace e2 : StableHlo.launchContents m' c (Proc.devRef .tc Cert.SsmOutRefIdeal.main_arg2) = ofReal sd := e2.trans h2
    replace e3 : StableHlo.launchContents m' c (Proc.devRef .tc Cert.SsmOutRefIdeal.main_arg3) = ofReal gw := e3.trans h3
    replace e4 : StableHlo.launchContents m' c (Proc.devRef .tc Cert.SsmOutRefIdeal.main_arg4) = ofReal gb := e4.trans h4
    replace e5 : StableHlo.launchContents m' c (Proc.devRef .tc Cert.SsmOutRefIdeal.main_arg5) = ofReal og := e5.trans h5
    replace e6 : StableHlo.launchContents m' c (Proc.devRef .tc Cert.SsmOutRefIdeal.main_arg6) = m ((c : Thread nD τ).loc main_arg6) := e6
    replace e7 : StableHlo.launchContents m' c (Proc.devRef .tc Cert.SsmOutRefIdeal.main_arg7) = m ((c : Thread nD τ).loc main_arg7) := e7
    replace e8 : StableHlo.launchContents m' c (Proc.devRef .tc Cert.SsmOutRefIdeal.main_arg8) = m ((c : Thread nD τ).loc main_arg8) := e8
    replace e9 : StableHlo.launchContents m' c (Proc.devRef .tc Cert.SsmOutRefIdeal.main_arg9) = ofReal dm := e9.trans h9
    refine ⟨r0.trans ?_, r1.trans ?_, r2.trans ?_, r3.trans ?_, r4.trans ?_, r5.trans ?_, r6.trans ?_, r7.trans ?_, hkeep⟩
    · refine (val_main_v115_eq (StableHlo.launchContents m' c)).trans (Eq.trans ?_ (sn_eq m ρ c h0 h1 h2 h3 h4 h5).symm)
      rw [e0, e1, e2, e3, e4, e5]
    · refine (val_main_v116_eq (StableHlo.launchContents m' c)).trans (Eq.trans ?_ (x_eq m ρ c h0 h1 h2 h3 h4 h5).symm)
      rw [e0, e1, e2, e3, e4, e5, e6, e7, e8]
    · refine (val_main_v118_eq (StableHlo.launchContents m' c)).trans (Eq.trans ?_ (dy_eq m ρ c h0 h1 h2 h3 h4 h5 h9).symm)
      rw [e0, e1, e2, e3, e4, e5, e9]
    · refine (val_main_v119_eq (StableHlo.launchContents m' c)).trans (Eq.trans ?_ (du_eq m ρ c h0 h1 h2 h3 h4 h5 h9).symm)
      rw [e0, e1, e2, e3, e4, e5, e9]
    · refine (val_main_v89_eq (StableHlo.launchContents m' c)).trans (Eq.trans ?_ (dgw_eq m ρ c h0 h1 h2 h3 h4 h5 h9).symm)
      rw [e0, e1, e2, e3, e4, e5, e9]
    · refine (val_main_v120_eq (StableHlo.launchContents m' c)).trans (Eq.trans ?_ (dgb_eq m ρ c h0 h1 h2 h3 h4 h5 h9).symm)
      rw [e0, e1, e2, e3, e4, e5, e9]
    · refine (val_main_v121_eq (StableHlo.launchContents m' c)).trans (Eq.trans ?_ (dog_eq m ρ c h0 h1 h2 h3 h4 h5 h9).symm)
      rw [e0, e1, e2, e3, e4, e9]
    · refine (val_main_v122_eq (StableHlo.launchContents m' c)).trans (Eq.trans ?_ (dd_eq m ρ c h0 h1 h2 h3 h4 h5 h9).symm)
      rw [e0, e1, e2, e3, e4, e5, e9]

theorem quiescent_reference : Cert.quiescent_SsmOutRefIdeal := fun m ρ _ =>
  (θ_run Cert.SsmOutRefIdeal.defs _ _).mono (fun r h => ⟨fun c => (h c).2.2.2.2.2.2.2.2, sem_eq_zero_of_no_sems (by decide) r.2⟩)
    (Cert.SsmOutRefIdeal.Value.run (F := Ideal) m ρ)

end Cert.SsmOutProof

end
-- ==== Proof.Swiglu.lean ====
/-
  The SwiGLU gate between the two halves of a feed-forward layer, and the gradient through it, over real numbers.

  `up` is one row's product with a weight; the gate multiplies `silu` of the first product by the second; `down` is the
  product of the gated row with the last weight.
-/
module

public import proofs.«01_k».proof.Proof.RmsNorm
public import proofs.«01_k».proof.Proof.Activations

@[expose] public section

noncomputable section

namespace Cert.Swiglu

open Idealize.ShloMosaic Cert.Activations

/-- The normed row. -/
def normed (x g : Fin 1024 → ℝ) (l : Fin 1024) : ℝ := x l * RmsNorm.scale x * g l

/-- One row's product with a weight. -/
def up (h : Fin 1024 → ℝ) (w : Fin 1024 → Fin 2816 → ℝ) (j : Fin 2816) : ℝ := ∑ k, h k * w k j

/-- The argument times its logistic function. -/
def silu (a : ℝ) : ℝ := a * sigmoid a

/-- The gradient of the gate's first factor from the gradient `d` of the gated value. -/
def gateGrad (a b d : ℝ) : ℝ := d * b * (sigmoid a * (1 + a - silu a))

/-- The same gradient by the product rule. -/
theorem gateGrad_eq (a b d : ℝ) : d * b * sigmoid a + a * (d * b) * (sigmoid a * (1 - sigmoid a)) = gateGrad a b d := by
  unfold gateGrad silu
  ring

/-- The gated row. -/
def gated (h : Fin 1024 → ℝ) (w1 w3 : Fin 1024 → Fin 2816 → ℝ) (j : Fin 2816) : ℝ := silu (up h w1 j) * up h w3 j

/-- The gated row's product with the last weight. -/
def down (h : Fin 1024 → ℝ) (w1 w3 : Fin 1024 → Fin 2816 → ℝ) (w2 : Fin 2816 → Fin 1024 → ℝ) (l : Fin 1024) : ℝ :=
  ∑ j, gated h w1 w3 j * w2 j l

/-- The layer's output row: the input row and half the feed-forward part. -/
def out (x g : Fin 1024 → ℝ) (w1 w3 : Fin 1024 → Fin 2816 → ℝ) (w2 : Fin 2816 → Fin 1024 → ℝ) (l : Fin 1024) : ℝ :=
  x l + 1 / 2 * down (normed x g) w1 w3 w2 l

/-- The gradient of the gated row from the gradient of the output row. -/
def dgated (d : Fin 1024 → ℝ) (w2 : Fin 2816 → Fin 1024 → ℝ) (j : Fin 2816) : ℝ := ∑ l, 1 / 2 * d l * w2 j l

/-- Entry `j` of the `c`-th of eleven groups of 256. -/
def column (c : Fin 11) (j : Fin 256) : Fin 2816 := ⟨c.val * 256 + j.val, by have := c.isLt; have := j.isLt; omega⟩

/-- A sum over the columns, group by group, first group first. -/
theorem sum_columns (f : Fin 2816 → ℝ) :
    ∑ j : Fin 256, f ⟨j.val, by have := j.isLt; omega⟩ + ∑ j, f (column 1 j) + ∑ j, f (column 2 j) + ∑ j, f (column 3 j) + ∑ j, f (column 4 j)
      + ∑ j, f (column 5 j) + ∑ j, f (column 6 j) + ∑ j, f (column 7 j) + ∑ j, f (column 8 j) + ∑ j, f (column 9 j)
      + ∑ j, f (column 10 j) = ∑ j, f j := by
  have eleven (s : Fin 11 → ℝ) : s 0 + s 1 + s 2 + s 3 + s 4 + s 5 + s 6 + s 7 + s 8 + s 9 + s 10 = ∑ c, s c := by
    simp only [Fin.sum_univ_castSucc, Fin.sum_univ_zero, zero_add]
    rfl
  have first : ∑ j : Fin 256, f ⟨j.val, by have := j.isLt; omega⟩ = ∑ j, f (column 0 j) :=
    Finset.sum_congr rfl fun j _ => congrArg f (Fin.ext (Nat.zero_add _).symm)
  rw [first, Fin.sum_univ_tiles 11 256 rfl]
  exact eleven fun c => ∑ j, f (column c j)

end Cert.Swiglu

end
-- ==== Proof.HiddenPoint.lean ====
/-
  `HiddenIdeal`: what one grid point of the forward kernel and of the gate's gradient kernel computes, over real rows.

  Both bodies walk the 2816 columns in eleven groups of 256.
-/
module

public import proofs.«01_k».proof.Proof.Gen.HiddenIdeal.Frame
public import proofs.«01_k».proof.Proof.Swiglu
public import Idealize.ShloMosaic.Lib.Pipeline.ValueKit

@[expose] public section

noncomputable section

namespace Cert.HiddenIdeal.Value

open Idealize.ShloMosaic Idealize.ShloMosaic.TcCoe Idealize.SL.Sem
open Idealize.ShloMosaic.Pipeline (Dat)
open Cert.HiddenIdeal Cert.HiddenIdeal.Gen Cert.Activations

/-- A block read whole is the block. -/
theorem whole_at {n : ℕ} {e : EltTy} {x : (⟨2, ![n, 1024]⟩ : Shape).Idx → Elt Ideal e} (inb) (r : Fin n) (l : Fin 1024) :
    View.ld x (Rect.unit (s := ⟨2, ![n, 1024]⟩) ![0, 0] ![n, 1024] inb) (ix2 r l) = x (ix2 r l) :=
  View.ld_unit_apply_of _ _ _ _ _ (ix2 r l) (Fin.forall_fin_two.2 ⟨by simp, by simp⟩)

section Forward

variable {x : FVec Ideal S512x1024 .f32} {g : FVec Ideal S1x1024 .f32} {w1 w3 w2 : FVec Ideal S2816x1024 .bf16}
  {X : Fin 512 → Fin 1024 → ℝ} {G : Fin 1024 → ℝ} {W1 W3 : Fin 1024 → Fin 2816 → ℝ} {W2 : Fin 2816 → Fin 1024 → ℝ}
  (hx : ∀ r l, x (ix2 r l) = (X r l : EReal)) (hg : ∀ l, g (ix2 0 l) = (G l : EReal))
  (e1 : ∀ j k, w1 (ix2 j k) = (W1 k j : EReal)) (e3 : ∀ j k, w3 (ix2 j k) = (W3 k j : EReal))
  (e2 : ∀ j l, w2 (ix2 j l) = (W2 j l : EReal)) (r : Fin 512) (l : Fin 1024) (j : Fin 2816)

include hx hg in
theorem normed_at : k0_pay3 (F := Ideal) x g (ix2 r l) = (Swiglu.normed (X r) G l : EReal) := by
  pointwise [k0_pay3, k0_pay2]
  simp only [hx, hg]
  rw [RmsNorm.meanSqE_coe, Reals.rsqrt_pos (RmsNorm.meanSq_pos _), ← EReal.coe_mul, ← EReal.coe_mul]
  rfl

/-- One column of a group: the product of the normed rows with the group's weight. -/
theorem up_at {h : FVec Ideal S512x1024 .bf16} {w : FVec Ideal S256x1024 .bf16} {H : Fin 1024 → ℝ} {W : Fin 1024 → ℝ}
    {r : Fin 512} {i : Fin 256} (hh : ∀ k, h (ix2 r k) = (H k : EReal)) (hw : ∀ k, w (ix2 i k) = (W k : EReal)) :
    k0_pay11 (F := Ideal) h w (ix2 r i) = ((∑ k, H k * W k : ℝ) : EReal) := by
  pointwise [k0_pay11, k0_pay9]
  simp only [hh, hw, ← EReal.coe_mul, ← Reals.coe_sum]

include hx hg e1 in
theorem a_at : out0_6 (F := Ideal) x g w1 w3 w2 (ix2 r j) = (Swiglu.up (Swiglu.normed (X r) G) W1 j : EReal) := by
  unfold_out out0_6
  canon_tiles y h
  all_goals
    obtain ⟨r', i, rfl⟩ : ∃ r' i, y = ix2 r' i := ⟨_, _, eq_ix2 y⟩
    obtain rfl : r = r' := Fin.ext h0
    refine up_at (normed_at (fun r l => (whole_at _ r l).trans (hx r l)) (fun l => (whole_at _ 0 l).trans (hg l)) r) fun k => Eq.trans ?_ (e1 j k)
    exact View.ld_unit_apply_of _ _ _ _ _ (ix2 j k) (Fin.forall_fin_two.2 ⟨by simpa using h1, by simp⟩)

include hx hg e3 in
theorem b_at : out0_7 (F := Ideal) x g w1 w3 w2 (ix2 r j) = (Swiglu.up (Swiglu.normed (X r) G) W3 j : EReal) := by
  unfold_out out0_7
  canon_tiles y h
  all_goals
    obtain ⟨r', i, rfl⟩ : ∃ r' i, y = ix2 r' i := ⟨_, _, eq_ix2 y⟩
    obtain rfl : r = r' := Fin.ext h0
    refine up_at (normed_at (fun r l => (whole_at _ r l).trans (hx r l)) (fun l => (whole_at _ 0 l).trans (hg l)) r) fun k => Eq.trans ?_ (e3 j k)
    exact View.ld_unit_apply_of _ _ _ _ _ (ix2 j k) (Fin.forall_fin_two.2 ⟨by simpa using h1, by simp⟩)

include hx hg in
theorem h_at : out0_8 (F := Ideal) x g w1 w3 w2 (ix2 r l) = (Swiglu.normed (X r) G l : EReal) := by
  refine Eq.trans ?_ (normed_at hx hg r l)
  unfold_out out0_8
  frame_out

include hx hg e1 e3 e2 in
theorem out_at : out0_5 (F := Ideal) x g w1 w3 w2 (ix2 r l) = (Swiglu.out (X r) G W1 W3 W2 l : EReal) := by
  unfold_out out0_5
  frame_out
  pointwise [k0_pay1, k0_pay2, k0_pay4, k0_pay5, k0_pay8, k0_pay9, k0_pay10, k0_pay13, k0_pay14, k0_pay15, k0_pay18, k0_pay19, k0_pay20, k0_pay23,
    k0_pay24, k0_pay25, k0_pay28, k0_pay29, k0_pay30, k0_pay33, k0_pay34, k0_pay35, k0_pay38, k0_pay39, k0_pay40, k0_pay43,
    k0_pay44, k0_pay45, k0_pay46, k0_pay49, k0_pay50, k0_pay51, k0_pay54, k0_pay55, k0_pay56, k0_pay59]
  simp only [normed_at hx hg, hx, e1, e2, e3, ofBits_half, ← EReal.coe_mul, ← Reals.coe_sum, ← EReal.coe_add, Ideal.tanh_coe, half_tanh]
  rw [Swiglu.out, Swiglu.down, ← Swiglu.sum_columns]
  rfl

end Forward

section Backward

variable {d : FVec Ideal S512x1024 .f32} {a b : FVec Ideal S512x2816 .bf16} {w : FVec Ideal S2816x1024 .bf16}
  {D : Fin 512 → Fin 1024 → ℝ} {A B : Fin 512 → Fin 2816 → ℝ} {W : Fin 2816 → Fin 1024 → ℝ}
  (hd : ∀ r l, d (ix2 r l) = (D r l : EReal)) (ha : ∀ r j, a (ix2 r j) = (A r j : EReal))
  (hb : ∀ r j, b (ix2 r j) = (B r j : EReal)) (hw : ∀ j l, w (ix2 j l) = (W j l : EReal))
  (r : Fin 512) (l : Fin 1024) (j : Fin 2816)

/-! One column of a group, from the group's parts of the arrays. -/

variable {v : FVec Ideal S256x1024 .bf16} {p q : FVec Ideal S512x256 .bf16} {V : Fin 1024 → ℝ} {P Q : ℝ} {i : Fin 256} {s : Fin 512}

include hd in
theorem dx_at : k1_pay6 (F := Ideal) d (ix2 r l) = ((1 / 2 * D r l : ℝ) : EReal) := by
  pointwise [k1_pay6]
  rw [hd, ofBits_half, ← EReal.coe_mul]

include hd in
theorem da_col (hv : ∀ l, v (ix2 i l) = (V l : EReal)) (hp : p (ix2 s i) = (P : EReal)) (hq : q (ix2 s i) = (Q : EReal)) :
    k1_pay20 (F := Ideal) (k1_pay6 d) v p q (ix2 s i)
      = (Swiglu.gateGrad P Q (∑ l, 1 / 2 * D s l * V l) : EReal) := by
  pointwise [k1_pay20, k1_pay15, k1_pay16, k1_pay17, k1_pay18, k1_pay19]
  simp only [dx_at hd, hv, hp, hq, ofBits_half, ← EReal.coe_one, ← EReal.coe_mul, ← Reals.coe_sum, ← EReal.coe_add, ← EReal.coe_sub,
    Ideal.tanh_coe, half_tanh]
  rfl

include hd in
theorem db_col (hv : ∀ l, v (ix2 i l) = (V l : EReal)) (hp : p (ix2 s i) = (P : EReal)) :
    k1_pay21 (F := Ideal) (k1_pay6 d) v p (ix2 s i)
      = ((∑ l, 1 / 2 * D s l * V l) * Swiglu.silu P : ℝ) := by
  pointwise [k1_pay21, k1_pay15, k1_pay16, k1_pay18, k1_pay19]
  simp only [dx_at hd, hv, hp, ofBits_half, ← EReal.coe_one, ← EReal.coe_mul, ← Reals.coe_sum, ← EReal.coe_add, ← EReal.coe_sub,
    Ideal.tanh_coe, half_tanh]
  rfl

theorem hid_col (hp : p (ix2 s i) = (P : EReal)) (hq : q (ix2 s i) = (Q : EReal)) :
    k1_pay22 (F := Ideal) p q (ix2 s i) = (Swiglu.silu P * Q : ℝ) := by
  pointwise [k1_pay22, k1_pay16, k1_pay17, k1_pay18, k1_pay19]
  simp only [hp, hq, ofBits_half, ← EReal.coe_one, ← EReal.coe_mul, ← EReal.coe_add, Ideal.tanh_coe, half_tanh]
  rfl

include hd ha hb hw in
theorem da_at : out1_4 (F := Ideal) d a b w (ix2 r j) = (Swiglu.gateGrad (A r j) (B r j) (Swiglu.dgated (D r) W j) : EReal) := by
  unfold_out out1_4
  canon_tiles y h
  all_goals
    obtain ⟨r', i, rfl⟩ : ∃ r' i, y = ix2 r' i := ⟨_, _, eq_ix2 y⟩
    obtain rfl : r = r' := Fin.ext h0
    refine da_col (fun r l => (whole_at _ r l).trans (hd r l)) (fun k => Eq.trans ?_ (hw j k)) (Eq.trans ?_ (ha r j)) (Eq.trans ?_ (hb r j))
    · exact View.ld_unit_apply_of _ _ _ _ _ (ix2 j k) (Fin.forall_fin_two.2 ⟨by simpa using h1, by simp⟩)
    · exact View.ld_unit_apply_of _ _ _ _ _ (ix2 r j) (Fin.forall_fin_two.2 ⟨by simp, by simpa using h1⟩)
    · exact View.ld_unit_apply_of _ _ _ _ _ (ix2 r j) (Fin.forall_fin_two.2 ⟨by simp, by simpa using h1⟩)

include hd ha hw in
theorem db_at : out1_5 (F := Ideal) d a b w (ix2 r j) = (Swiglu.dgated (D r) W j * Swiglu.silu (A r j) : ℝ) := by
  unfold_out out1_5
  canon_tiles y h
  all_goals
    obtain ⟨r', i, rfl⟩ : ∃ r' i, y = ix2 r' i := ⟨_, _, eq_ix2 y⟩
    obtain rfl : r = r' := Fin.ext h0
    refine db_col (fun r l => (whole_at _ r l).trans (hd r l)) (fun k => Eq.trans ?_ (hw j k)) (Eq.trans ?_ (ha r j))
    · exact View.ld_unit_apply_of _ _ _ _ _ (ix2 j k) (Fin.forall_fin_two.2 ⟨by simpa using h1, by simp⟩)
    · exact View.ld_unit_apply_of _ _ _ _ _ (ix2 r j) (Fin.forall_fin_two.2 ⟨by simp, by simpa using h1⟩)

include ha hb in
theorem hid_at : out1_6 (F := Ideal) d a b w (ix2 r j) = (Swiglu.silu (A r j) * B r j : ℝ) := by
  unfold_out out1_6
  canon_tiles y h
  all_goals
    obtain ⟨r', i, rfl⟩ : ∃ r' i, y = ix2 r' i := ⟨_, _, eq_ix2 y⟩
    obtain rfl : r = r' := Fin.ext h0
    refine hid_col (Eq.trans ?_ (ha r j)) (Eq.trans ?_ (hb r j))
    · exact View.ld_unit_apply_of _ _ _ _ _ (ix2 r j) (Fin.forall_fin_two.2 ⟨by simp, by simpa using h1⟩)
    · exact View.ld_unit_apply_of _ _ _ _ _ (ix2 r j) (Fin.forall_fin_two.2 ⟨by simp, by simpa using h1⟩)

include hd in
theorem dxh_at : out1_7 (F := Ideal) d a b w (ix2 r l) = ((1 / 2 * D r l : ℝ) : EReal) := by
  refine Eq.trans ?_ (dx_at hd r l)
  unfold_out out1_7
  frame_out

end Backward

end Cert.HiddenIdeal.Value

end
-- ==== Proof.HiddenKernel.lean ====
/-
  `HiddenIdeal`: what the forward kernel and the gate's gradient kernel leave in their results, over real rows.

  Both kernels walk sixteen blocks of 512 rows; the weights are held whole.
-/
module

public import proofs.«01_k».proof.Proof.HiddenPoint
public import proofs.«01_k».proof.Proof.Rows

@[expose] public section

noncomputable section

namespace Cert.HiddenIdeal.Value

open Idealize.ShloMosaic Idealize.ShloMosaic.TcCoe Idealize.SL.Sem
open Idealize.ShloMosaic.Pipeline (Dat)
open Cert.HiddenIdeal Cert.HiddenIdeal.Gen Cert.Rows

theorem index0_eq : ∀ t : Fin grid0.N, win0_0.index t = ![t.val, 0] ∧ win0_1.index t = ![0, 0] ∧
    win0_2.index t = ![0, 0] ∧ win0_3.index t = ![0, 0] ∧ win0_4.index t = ![0, 0] ∧ win0_5.index t = ![t.val, 0] ∧
    win0_6.index t = ![t.val, 0] ∧ win0_7.index t = ![t.val, 0] ∧ win0_8.index t = ![t.val, 0] := by
  decide +kernel

theorem index1_eq : ∀ t : Fin grid1.N, win1_0.index t = ![t.val, 0] ∧ win1_1.index t = ![t.val, 0] ∧
    win1_2.index t = ![t.val, 0] ∧ win1_3.index t = ![0, 0] ∧ win1_4.index t = ![t.val, 0] ∧ win1_5.index t = ![t.val, 0] ∧
    win1_6.index t = ![t.val, 0] ∧ win1_7.index t = ![t.val, 0] := by
  decide +kernel

theorem N0_eq : cfg0.N = 16 := by decide
theorem N1_eq : cfg1.N = 16 := by decide

variable (V : (c : Dev nD) → (b : Ref sig .tc) → Buf (Elt Ideal) ((c : Thread nD τ).loc b)) (c : Dev nD)

section Forward

variable {X : Fin 8192 → Fin 1024 → ℝ} {G : Fin 1024 → ℝ} {W1 W3 : Fin 1024 → Fin 2816 → ℝ} {W2 : Fin 2816 → Fin 1024 → ℝ}
  (hx : ∀ n l, V c main_v8 (ix2 n l) = (X n l : EReal)) (hg : ∀ l, V c main_arg1 (ix2 0 l) = (G l : EReal))
  (e1 : ∀ j k, V c main_v2 (ix2 j k) = (W1 k j : EReal)) (e3 : ∀ j k, V c main_v5 (ix2 j k) = (W3 k j : EReal))
  (e2 : ∀ j l, V c main_v7 (ix2 j l) = (W2 j l : EReal)) (t : Fin cfg0.N) (r : Fin 512) (l : Fin 1024) (j : Fin 2816)

include hx in
theorem x_blk : iblk0 V c 0 t (ix2 r l) = (X (tileRow N0_eq t r) l : EReal) := by
  refine Eq.trans ?_ (hx _ l)
  blk_point [iblk0, index0_eq t, tileRow]

include hg in
theorem g_blk : iblk0 V c 1 t (ix2 0 l) = (G l : EReal) := by
  refine Eq.trans ?_ (hg l)
  blk_point [iblk0, index0_eq t]

include e1 in
theorem w1_blk : iblk0 V c 2 t (ix2 j l) = (W1 l j : EReal) := by
  refine Eq.trans ?_ (e1 j l)
  blk_point [iblk0, index0_eq t]

include e3 in
theorem w3_blk : iblk0 V c 3 t (ix2 j l) = (W3 l j : EReal) := by
  refine Eq.trans ?_ (e3 j l)
  blk_point [iblk0, index0_eq t]

include e2 in
theorem w2_blk : iblk0 V c 4 t (ix2 j l) = (W2 j l : EReal) := by
  refine Eq.trans ?_ (e2 j l)
  blk_point [iblk0, index0_eq t]

include hx hg e1 e3 e2 in
theorem fwd5 : (dat0 V c).arrAt 5 cfg0.N = fun i => (Swiglu.out (X (i 0)) G W1 W3 W2 (i 1) : EReal) := by
  refine (dat0 V c).arrAt_eq_of_covers 5 _ (by decide +kernel) fun t hf y => ?_
  blk_simp
  rw [after0_5]
  obtain ⟨r, l, rfl⟩ : ∃ r l, y = ix2 r l := ⟨_, _, eq_ix2 y⟩
  have hn : (win0_5.blk t).view.emb (ix2 r l) = ix2 (tileRow N0_eq t r) l := by
    blk_ext [index0_eq t, tileRow]
  rw [hn]
  exact out_at (X := fun r => X (tileRow N0_eq t r)) (x_blk V c hx t) (g_blk V c hg t) (fun j l => w1_blk V c e1 t l j) (fun j l => w3_blk V c e3 t l j) (fun j l => w2_blk V c e2 t l j) r l

include hx hg e1 in
theorem fwd6 : (dat0 V c).arrAt 6 cfg0.N = fun i => (Swiglu.up (Swiglu.normed (X (i 0)) G) W1 (i 1) : EReal) := by
  refine (dat0 V c).arrAt_eq_of_covers 6 _ (by decide +kernel) fun t hf y => ?_
  blk_simp
  rw [after0_6]
  obtain ⟨r, j, rfl⟩ : ∃ r j, y = ix2 r j := ⟨_, _, eq_ix2 y⟩
  have hn : (win0_6.blk t).view.emb (ix2 r j) = ix2 (tileRow N0_eq t r) j := by
    blk_ext [index0_eq t, tileRow]
  rw [hn]
  exact a_at (X := fun r => X (tileRow N0_eq t r)) (x_blk V c hx t) (g_blk V c hg t) (fun j l => w1_blk V c e1 t l j) r j

include hx hg e3 in
theorem fwd7 : (dat0 V c).arrAt 7 cfg0.N = fun i => (Swiglu.up (Swiglu.normed (X (i 0)) G) W3 (i 1) : EReal) := by
  refine (dat0 V c).arrAt_eq_of_covers 7 _ (by decide +kernel) fun t hf y => ?_
  blk_simp
  rw [after0_7]
  obtain ⟨r, j, rfl⟩ : ∃ r j, y = ix2 r j := ⟨_, _, eq_ix2 y⟩
  have hn : (win0_7.blk t).view.emb (ix2 r j) = ix2 (tileRow N0_eq t r) j := by
    blk_ext [index0_eq t, tileRow]
  rw [hn]
  exact b_at (X := fun r => X (tileRow N0_eq t r)) (x_blk V c hx t) (g_blk V c hg t) (fun j l => w3_blk V c e3 t l j) r j

include hx hg in
theorem fwd8 : (dat0 V c).arrAt 8 cfg0.N = fun i => (Swiglu.normed (X (i 0)) G (i 1) : EReal) := by
  refine (dat0 V c).arrAt_eq_of_covers 8 _ (by decide +kernel) fun t hf y => ?_
  blk_simp
  rw [after0_8]
  obtain ⟨r, l, rfl⟩ : ∃ r l, y = ix2 r l := ⟨_, _, eq_ix2 y⟩
  have hn : (win0_8.blk t).view.emb (ix2 r l) = ix2 (tileRow N0_eq t r) l := by
    blk_ext [index0_eq t, tileRow]
  rw [hn]
  exact h_at (X := fun r => X (tileRow N0_eq t r)) (x_blk V c hx t) (g_blk V c hg t) r l

end Forward

section Backward

variable {D : Fin 8192 → Fin 1024 → ℝ} {A B : Fin 8192 → Fin 2816 → ℝ} {W : Fin 2816 → Fin 1024 → ℝ}
  (hd : ∀ n l, V c main_v10 (ix2 n l) = (D n l : EReal)) (ha : ∀ n j, V c main_v9_1 (ix2 n j) = (A n j : EReal))
  (hb : ∀ n j, V c main_v9_2 (ix2 n j) = (B n j : EReal)) (hw : ∀ j l, V c main_v7 (ix2 j l) = (W j l : EReal))
  (t : Fin cfg1.N) (r : Fin 512) (l : Fin 1024) (j : Fin 2816)

include hd in
theorem d_blk : iblk1 V c 0 t (ix2 r l) = (D (tileRow N1_eq t r) l : EReal) := by
  refine Eq.trans ?_ (hd _ l)
  blk_point [iblk1, index1_eq t, tileRow]

include ha in
theorem a_blk : iblk1 V c 1 t (ix2 r j) = (A (tileRow N1_eq t r) j : EReal) := by
  refine Eq.trans ?_ (ha _ j)
  blk_point [iblk1, index1_eq t, tileRow]

include hb in
theorem b_blk : iblk1 V c 2 t (ix2 r j) = (B (tileRow N1_eq t r) j : EReal) := by
  refine Eq.trans ?_ (hb _ j)
  blk_point [iblk1, index1_eq t, tileRow]

include hw in
theorem w_blk : iblk1 V c 3 t (ix2 j l) = (W j l : EReal) := by
  refine Eq.trans ?_ (hw j l)
  blk_point [iblk1, index1_eq t]

include hd ha hb hw in
theorem bwd4 : (dat1 V c).arrAt 4 cfg1.N = fun i => (Swiglu.gateGrad (A (i 0) (i 1)) (B (i 0) (i 1)) (Swiglu.dgated (D (i 0)) W (i 1)) : EReal) := by
  refine (dat1 V c).arrAt_eq_of_covers 4 _ (by decide +kernel) fun t hf y => ?_
  blk_simp
  rw [after1_4]
  obtain ⟨r, j, rfl⟩ : ∃ r j, y = ix2 r j := ⟨_, _, eq_ix2 y⟩
  have hn : (win1_4.blk t).view.emb (ix2 r j) = ix2 (tileRow N1_eq t r) j := by
    blk_ext [index1_eq t, tileRow]
  rw [hn]
  exact da_at (D := fun r => D (tileRow N1_eq t r)) (A := fun r => A (tileRow N1_eq t r)) (B := fun r => B (tileRow N1_eq t r)) (d_blk V c hd t) (a_blk V c ha t) (b_blk V c hb t) (fun j l => w_blk V c hw t l j) r j

include hd ha hw in
theorem bwd5 : (dat1 V c).arrAt 5 cfg1.N = fun i => ((Swiglu.dgated (D (i 0)) W (i 1) * Swiglu.silu (A (i 0) (i 1)) : ℝ) : EReal) := by
  refine (dat1 V c).arrAt_eq_of_covers 5 _ (by decide +kernel) fun t hf y => ?_
  blk_simp
  rw [after1_5]
  obtain ⟨r, j, rfl⟩ : ∃ r j, y = ix2 r j := ⟨_, _, eq_ix2 y⟩
  have hn : (win1_5.blk t).view.emb (ix2 r j) = ix2 (tileRow N1_eq t r) j := by
    blk_ext [index1_eq t, tileRow]
  rw [hn]
  exact db_at (D := fun r => D (tileRow N1_eq t r)) (A := fun r => A (tileRow N1_eq t r)) (d_blk V c hd t) (a_blk V c ha t) (fun j l => w_blk V c hw t l j) r j

include ha hb in
theorem bwd6 : (dat1 V c).arrAt 6 cfg1.N = fun i => ((Swiglu.silu (A (i 0) (i 1)) * B (i 0) (i 1) : ℝ) : EReal) := by
  refine (dat1 V c).arrAt_eq_of_covers 6 _ (by decide +kernel) fun t hf y => ?_
  blk_simp
  rw [after1_6]
  obtain ⟨r, j, rfl⟩ : ∃ r j, y = ix2 r j := ⟨_, _, eq_ix2 y⟩
  have hn : (win1_6.blk t).view.emb (ix2 r j) = ix2 (tileRow N1_eq t r) j := by
    blk_ext [index1_eq t, tileRow]
  rw [hn]
  exact hid_at (A := fun r => A (tileRow N1_eq t r)) (B := fun r => B (tileRow N1_eq t r)) (a_blk V c ha t) (b_blk V c hb t)  r j

include hd in
theorem bwd7 : (dat1 V c).arrAt 7 cfg1.N = fun i => ((1 / 2 * D (i 0) (i 1) : ℝ) : EReal) := by
  refine (dat1 V c).arrAt_eq_of_covers 7 _ (by decide +kernel) fun t hf y => ?_
  blk_simp
  rw [after1_7]
  obtain ⟨r, l, rfl⟩ : ∃ r l, y = ix2 r l := ⟨_, _, eq_ix2 y⟩
  have hn : (win1_7.blk t).view.emb (ix2 r l) = ix2 (tileRow N1_eq t r) l := by
    blk_ext [index1_eq t, tileRow]
  rw [hn]
  exact dxh_at (D := fun r => D (tileRow N1_eq t r)) (d_blk V c hd t)  r l

end Backward

end Cert.HiddenIdeal.Value

end
-- ==== Proof.HiddenReference.lean ====
/-
  `HiddenRefIdeal`: the reference's results over real arguments.
-/
module

public import proofs.«01_k».proof.Proof.Gen.HiddenRefIdeal.Run
public import proofs.«01_k».proof.Proof.Gen.HiddenRefIdeal.Read
public import proofs.«01_k».proof.Proof.Swiglu

@[expose] public section

noncomputable section

namespace Cert.HiddenRefIdeal.Value

open Idealize.ShloMosaic Idealize.ShloMosaic.TcCoe Idealize.SL.Sem
open Cert.HiddenRefIdeal Cert.HiddenRefIdeal.Gen Cert.HiddenRefIdeal.Read Cert.Activations

/-- An array of real numbers as an array of the program. -/
abbrev ofReal {t : Shape} (y : t.Idx → ℝ) : FVec Ideal t .f32 := fun i => (y i : EReal)

variable (x : S2x4096x1024.Idx → ℝ) (g : S1x1024.Idx → ℝ) (w1 w3 : S1x1024x2816.Idx → ℝ) (w2 : S1x2816x1024.Idx → ℝ)
  (dm : S2x4096x1024.Idx → ℝ) (b : Fin 2) (s : Fin 4096) (l : Fin 1024) (j : Fin 2816)

/-- A row of the input, or of the gradient. -/
abbrev row (l : Fin 1024) : ℝ := x (ix3 b s l)

/-- The norm's weights. -/
abbrev par (l : Fin 1024) : ℝ := g (ix2 0 l)

/-- A weight into the gate. -/
abbrev into (k : Fin 1024) (j : Fin 2816) : ℝ := w1 (ix3 0 k j)

/-- The weight out of the gate. -/
abbrev outOf (j : Fin 2816) (l : Fin 1024) : ℝ := w2 (ix3 0 j l)

/-- The normed row. -/
abbrev H (l : Fin 1024) : ℝ := Swiglu.normed (row x b s) (par g) l

theorem v13_at : val_main_v13 (F := Ideal) (ofReal x) (ofReal g) (ix3 b s l) = (H x g b s l : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rw [RmsNorm.meanSqE_coe fun k => x (ix3 b s k), Reals.rsqrt_pos (RmsNorm.meanSq_pos _)]
  simp only [← EReal.coe_mul]
  rfl

theorem v15_at : val_main_v15 (F := Ideal) (ofReal x) (ofReal g) (ofReal w1) (ix3 b s j)
    = (Swiglu.up (H x g b s) (into w1) j : EReal) := by
  pointwise [val_main_v15, val_main_v14]
  simp only [v13_at, ← EReal.coe_mul, ← Reals.coe_sum]
  rfl

theorem v17_at : val_main_v17 (F := Ideal) (ofReal x) (ofReal g) (ofReal w3) (ix3 b s j)
    = (Swiglu.up (H x g b s) (into w3) j : EReal) := by
  pointwise [val_main_v17, val_main_v16]
  simp only [v13_at, ← EReal.coe_mul, ← Reals.coe_sum]
  rfl

/-- The logistic function as the reference writes it. -/
theorem logistic (z : ℝ) : Ideal.div 1 (1 + Ideal.exp (-(z : EReal))) = (sigmoid z : EReal) := by
  rw [← EReal.coe_neg, Ideal.exp_coe, ← EReal.coe_one, ← EReal.coe_add, Reals.div_coe_coe _ (one_add_exp_pos _).ne', one_div]
  rfl

theorem v19_at : val_main_v19 (F := Ideal) (ofReal x) (ofReal g) (ofReal w1) (ofReal w3) (ix3 b s j)
    = (Swiglu.gated (H x g b s) (into w1) (into w3) j : EReal) := by
  pointwise [val_main_v19, val_main_v18, val_main_call0_v0, val_main_call0_v1, val_main_call0_v2, val_main_call0_v3, val_main_call0_v4,
    val_main_call0_v5, val_main_call0_cst, val_main_call0_cst_0]
  simp only [v15_at, v17_at, logistic, ← EReal.coe_mul]
  rfl

theorem v20_at : val_main_v20_2 (F := Ideal) (ofReal x) (ofReal g) (ofReal w1) (ix3 b s j)
    = (sigmoid (Swiglu.up (H x g b s) (into w1) j) : EReal) := by
  pointwise [val_main_v20_2, val_main_call1_v0, val_main_call1_v1, val_main_call1_v2, val_main_call1_v3, val_main_call1_v4,
    val_main_call1_cst, val_main_call1_cst_0]
  simp only [v15_at, logistic]

theorem v28_at : val_main_v28 (F := Ideal) (ofReal w2) (ofReal dm) (ix3 b s j)
    = (Swiglu.dgated (row dm b s) (outOf w2) j : EReal) := by
  pointwise [val_main_v28, val_main_v27, val_main_v26, val_main_v22, val_main_cst_3]
  simp only [ofBits_half, ← EReal.coe_mul, ← Reals.coe_sum]
  rfl

theorem v31_at : val_main_v31 (F := Ideal) (ofReal x) (ofReal g) (ofReal w1) (ofReal w3) (ofReal w2) (ofReal dm) (ix3 b s j)
    = (Swiglu.gateGrad (Swiglu.up (H x g b s) (into w1) j) (Swiglu.up (H x g b s) (into w3) j)
        (Swiglu.dgated (row dm b s) (outOf w2) j) : EReal) := by
  pointwise [val_main_v31, val_main_v30, val_main_call2_v0, val_main_call2_v1, val_main_call2_v2, val_main_v20_1, val_main_call1_v6,
    val_main_call1_v7, val_main_call1_cst_1]
  simp only [v15_at, v17_at, v20_at, v28_at, ← EReal.coe_one, ← EReal.coe_mul, ← EReal.coe_sub, ← EReal.coe_add, Swiglu.gateGrad_eq]

theorem v29_at : val_main_v29 (F := Ideal) (ofReal x) (ofReal g) (ofReal w1) (ofReal w2) (ofReal dm) (ix3 b s j)
    = (Swiglu.dgated (row dm b s) (outOf w2) j * Swiglu.silu (Swiglu.up (H x g b s) (into w1) j) : ℝ) := by
  pointwise [val_main_v29, val_main_v20_0]
  simp only [v15_at, v20_at, v28_at, ← EReal.coe_mul]
  exact congrArg _ (mul_comm _ _)

theorem v33_at : val_main_v33 (F := Ideal) (ofReal dm) (ix3 b s l) = (1 / 2 * row dm b s l : ℝ) := by
  pointwise [val_main_v33, val_main_v32, val_main_cst_4]
  rw [ofBits_half, ← EReal.coe_mul]

theorem v54_at : val_main_v54 (F := Ideal) (ofReal x) (ofReal g) (ofReal w1) (ofReal w3) (ofReal w2) (ix3 b s l)
    = (Swiglu.out (row x b s) (par g) (into w1) (into w3) (outOf w2) l : EReal) := by
  pointwise [val_main_v54, val_main_v53, val_main_v52, val_main_v51, val_main_v50, val_main_v49, val_main_v48, val_main_call3_v0,
    val_main_call3_v1, val_main_call3_v2, val_main_call3_v3, val_main_call3_v4, val_main_call3_v5, val_main_call3_cst,
    val_main_call3_cst_0, val_main_cst_5]
  simp only [v15_at, v17_at, logistic, ofBits_half, ← EReal.coe_mul, ← Reals.coe_sum, ← EReal.coe_add]
  rfl

end Cert.HiddenRefIdeal.Value

end
-- ==== Proof.Hidden.lean ====
/-
  The SwiGLU block and the gradient of its gate: the kernels' results are the reference's.
-/
module

public import proofs.«01_k».proof.Defs
public import proofs.«01_k».proof.Proof.HiddenKernel
public import proofs.«01_k».proof.Proof.HiddenReference

@[expose] public section

noncomputable section

namespace Cert.HiddenProof

open Idealize.ShloMosaic Idealize.ShloMosaic.TcCoe Idealize.SL.Sem

/-! ## The precondition -/

instance preFacts : Cert.Pre_hid_finite.Facts :=
  ⟨by decide, by decide, by decide, by decide, by decide, by decide, by decide, by decide, by decide⟩

open Cert.Pre_hid_finite in
/-- Under the precondition the arguments are arrays of real numbers. -/
theorem reals {x : FVec Ideal S2x4096x1024 .f32} {g : FVec Ideal S1x1024 .f32} {w1 w3 : FVec Ideal S1x1024x2816 .f32}
    {w2 : FVec Ideal S1x2816x1024 .f32} {dm : FVec Ideal S2x4096x1024 .f32}
    (h : fn (F := Ideal) x g w1 w3 w2 dm = fun _ => 1#1) :
    (∃ X : S2x4096x1024.Idx → ℝ, x = fun i => (X i : EReal)) ∧ (∃ X : S1x1024.Idx → ℝ, g = fun i => (X i : EReal)) ∧
    (∃ X : S1x1024x2816.Idx → ℝ, w1 = fun i => (X i : EReal)) ∧ (∃ X : S1x1024x2816.Idx → ℝ, w3 = fun i => (X i : EReal)) ∧
    (∃ X : S1x2816x1024.Idx → ℝ, w2 = fun i => (X i : EReal)) ∧ (∃ X : S2x4096x1024.Idx → ℝ, dm = fun i => (X i : EReal)) := by
  have h0 := congrFun h ix0
  have h1 := Reals.one_of_andi_left h0
  have h2 := Reals.one_of_andi_left h1
  have h3 := Reals.one_of_andi_left h2
  have h4 := Reals.one_of_andi_left h3
  exact ⟨Reals.exists_real x _ _ _ _ _ _ (Reals.one_of_andi_left h4), Reals.exists_real g _ _ _ _ _ _ (Reals.one_of_andi_right h4),
    Reals.exists_real w1 _ _ _ _ _ _ (Reals.one_of_andi_right h3), Reals.exists_real w3 _ _ _ _ _ _ (Reals.one_of_andi_right h2),
    Reals.exists_real w2 _ _ _ _ _ _ (Reals.one_of_andi_right h1), Reals.exists_real dm _ _ _ _ _ _ (Reals.one_of_andi_right h0)⟩

/-! ## What the run leaves in every buffer -/

section Run

open Cert.HiddenIdeal Cert.HiddenIdeal.Gen
open Idealize.SL Idealize.SL.RA Idealize.SL.BI
open scoped Idealize.SL.BI
open Idealize.ShloMosaic.Rounds
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends, and leaves in every buffer what the last boundary of the program's segments says. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Run

/-! ## The arrays the regions read -/

open Cert.HiddenIdeal Cert.HiddenIdeal.Gen Cert.HiddenIdeal.Value Cert.Rows
open Cert.HiddenRefIdeal.Value (ofReal row par into outOf H)
open Cert.HiddenRefIdeal.Read

variable (m : (ℓ : Loc nD τ sig) → Buf (Elt Ideal) ℓ) (ρ : Dev nD → PrngReg) (c : Dev nD)
  {x : S2x4096x1024.Idx → ℝ} {g : S1x1024.Idx → ℝ} {w1 w3 : S1x1024x2816.Idx → ℝ} {w2 : S1x2816x1024.Idx → ℝ}
  {dm : S2x4096x1024.Idx → ℝ}
  (h0 : m ((c : Thread nD τ).loc main_arg0) = ofReal x) (h1 : m ((c : Thread nD τ).loc main_arg1) = ofReal g)
  (h2 : m ((c : Thread nD τ).loc main_arg2) = ofReal w1) (h3 : m ((c : Thread nD τ).loc main_arg3) = ofReal w3)
  (h4 : m ((c : Thread nD τ).loc main_arg4) = ofReal w2) (h5 : m ((c : Thread nD τ).loc main_arg5) = ofReal dm)
  (n : Fin 8192) (l : Fin 1024) (j : Fin 2816)

include h0 in
theorem x_at : V1 m ρ c main_v8 (ix2 n l) = (row x (batch n) (pos n) l : EReal) := by
  refine Eq.trans ?_ (congrFun h0 _)
  change StableHlo.after hostOps0 (W0 m ρ c) (Proc.devRef .tc main_v8) _ = _
  entry_read
  pointwise [batch, pos]

include h1 in
theorem g_at : V1 m ρ c main_arg1 (ix2 0 l) = (par g l : EReal) := congrFun ((W1_args m ρ c _ (by decide)).trans h1) _

include h2 in
theorem w1_at : V1 m ρ c main_v2 (ix2 j l) = (into w1 l j : EReal) := by
  refine Eq.trans ?_ (congrFun h2 _)
  change StableHlo.after hostOps0 (W0 m ρ c) (Proc.devRef .tc main_v2) _ = _
  entry_read
  pointwise

include h3 in
theorem w3_at : V1 m ρ c main_v5 (ix2 j l) = (into w3 l j : EReal) := by
  refine Eq.trans ?_ (congrFun h3 _)
  change StableHlo.after hostOps0 (W0 m ρ c) (Proc.devRef .tc main_v5) _ = _
  entry_read
  pointwise

include h4 in
theorem w2_at : V1 m ρ c main_v7 (ix2 j l) = (outOf w2 j l : EReal) := by
  refine Eq.trans ?_ (congrFun h4 _)
  change StableHlo.after hostOps0 (W0 m ρ c) (Proc.devRef .tc main_v7) _ = _
  entry_read
  pointwise

include h5 in
theorem d_at : V3 m ρ c main_v10 (ix2 n l) = (row dm (batch n) (pos n) l : EReal) := by
  refine Eq.trans ?_ (congrFun h5 (ix3 (batch n) (pos n) l))
  refine Eq.trans ?_ (congrFun (W2_args m ρ c main_arg5 (by decide)) _)
  change StableHlo.after hostOps1 (W2 m ρ c) (Proc.devRef .tc main_v10) _ = _
  entry_read
  pointwise [batch, pos]

include h4 in
theorem w2_at' : V3 m ρ c main_v7 (ix2 j l) = (outOf w2 j l : EReal) :=
  (congrFun ((W3_of m ρ c main_v7 (by decide)).trans (W2_of m ρ c main_v7 (by decide))) _).trans (w2_at m ρ c h4 l j)

/-! ## What the forward region leaves -/

include h0 h1 h2 in
theorem a_eq : W2 m ρ c (Proc.devRef .tc main_v9_1)
    = fun i => (Swiglu.up (H x g (batch (i 0)) (pos (i 0))) (into w1) (i 1) : EReal) :=
  (W2_arr m ρ c 6).trans (fwd6 (V1 m ρ) c (x_at m ρ c h0) (g_at m ρ c h1) (fun j k => w1_at m ρ c h2 k j))

include h0 h1 h3 in
theorem b_eq : W2 m ρ c (Proc.devRef .tc main_v9_2)
    = fun i => (Swiglu.up (H x g (batch (i 0)) (pos (i 0))) (into w3) (i 1) : EReal) :=
  (W2_arr m ρ c 7).trans (fwd7 (V1 m ρ) c (x_at m ρ c h0) (g_at m ρ c h1) (fun j k => w3_at m ρ c h3 k j))

include h0 h1 h2 in
theorem a_at : V3 m ρ c main_v9_1 (ix2 n j) = (Swiglu.up (H x g (batch n) (pos n)) (into w1) j : EReal) :=
  congrFun ((W3_of m ρ c main_v9_1 (by decide)).trans (a_eq m ρ c h0 h1 h2)) (ix2 n j)

include h0 h1 h3 in
theorem b_at : V3 m ρ c main_v9_2 (ix2 n j) = (Swiglu.up (H x g (batch n) (pos n)) (into w3) j : EReal) :=
  congrFun ((W3_of m ρ c main_v9_2 (by decide)).trans (b_eq m ρ c h0 h1 h3)) (ix2 n j)

/-- What the program leaves where the forward region wrote and nothing wrote after it. -/
theorem W5_fwd (r : Ref sig .tc) (h : r ∉ hostOps1_W) (h'' : r ∉ hostOps2_W)
    (h' : ∀ w : Fin cfg1.W, Pipeline.arrRef spec1 w = r → (cfg1.win w).isOut = false) :
    W5 m ρ c (Proc.devRef .tc r) = W2 m ρ c (Proc.devRef .tc r) :=
  (W5_of m ρ c r h'').trans ((W4_of m ρ c r h').trans (W3_of m ρ c r h))

/-! ## The results -/

include h0 h1 h2 h3 h4 in
theorem out_eq : W5 m ρ c (Proc.devRef .tc main_v12)
    = val_main_v54 (F := Ideal) (ofReal x) (ofReal g) (ofReal w1) (ofReal w3) (ofReal w2) := by
  funext i
  obtain ⟨b, s, l, rfl⟩ : ∃ b s l, i = ix3 b s l := ⟨_, _, _, eq_ix3 i⟩
  refine Eq.trans ?_ (Cert.HiddenRefIdeal.Value.v54_at x g w1 w3 w2 b s l).symm
  have hw := (W4_of m ρ c main_v9_0 (by decide)).trans ((W3_of m ρ c main_v9_0 (by decide)).trans ((W2_arr m ρ c 5).trans
    (fwd5 (V1 m ρ) c (x_at m ρ c h0) (g_at m ρ c h1) (fun j k => w1_at m ρ c h2 k j)
      (fun j k => w3_at m ρ c h3 k j) (fun j l => w2_at m ρ c h4 l j))))
  refine Eq.trans ?_ ((congrFun hw (ix2 (joined b s) l)).trans ?_)
  · change StableHlo.after hostOps2 (W4 m ρ c) (Proc.devRef .tc main_v12) _ = _
    entry_read
    pointwise [joined]
  · have hr : row x (batch (joined b s)) (pos (joined b s)) = row x b s := by rw [batch_joined, pos_joined]
    exact congrArg (fun r => (Swiglu.out r (par g) (into w1) (into w3) (outOf w2) l : EReal)) hr

include h0 h1 h2 in
theorem a_res : W5 m ρ c (Proc.devRef .tc main_v9_1) = val_main_v43 (F := Ideal) (ofReal x) (ofReal g) (ofReal w1) := by
  refine (W5_fwd m ρ c main_v9_1 (by decide) (by decide) (by decide)).trans ((a_eq m ρ c h0 h1 h2).trans ?_)
  funext i
  obtain ⟨n, j, rfl⟩ : ∃ n j, i = ix2 n j := ⟨_, _, eq_ix2 i⟩
  pointwise [val_main_v43, val_main_v42]
  exact (Cert.HiddenRefIdeal.Value.v15_at x g w1 (batch n) (pos n) j).symm

include h0 h1 h3 in
theorem b_res : W5 m ρ c (Proc.devRef .tc main_v9_2) = val_main_v45 (F := Ideal) (ofReal x) (ofReal g) (ofReal w3) := by
  refine (W5_fwd m ρ c main_v9_2 (by decide) (by decide) (by decide)).trans ((b_eq m ρ c h0 h1 h3).trans ?_)
  funext i
  obtain ⟨n, j, rfl⟩ : ∃ n j, i = ix2 n j := ⟨_, _, eq_ix2 i⟩
  pointwise [val_main_v45, val_main_v44]
  exact (Cert.HiddenRefIdeal.Value.v17_at x g w3 (batch n) (pos n) j).symm

include h0 h1 in
theorem h_res : W5 m ρ c (Proc.devRef .tc main_v9_3) = val_main_v47 (F := Ideal) (ofReal x) (ofReal g) := by
  refine (W5_fwd m ρ c main_v9_3 (by decide) (by decide) (by decide)).trans ((W2_arr m ρ c 8).trans
    ((fwd8 (V1 m ρ) c (x_at m ρ c h0) (g_at m ρ c h1)).trans ?_))
  funext i
  obtain ⟨n, l, rfl⟩ : ∃ n l, i = ix2 n l := ⟨_, _, eq_ix2 i⟩
  pointwise [val_main_v47, val_main_v46]
  exact (Cert.HiddenRefIdeal.Value.v13_at x g (batch n) (pos n) l).symm

include h0 h1 h2 h3 h4 h5 in
theorem da_eq : W5 m ρ c (Proc.devRef .tc main_v11_0)
    = val_main_v35 (F := Ideal) (ofReal x) (ofReal g) (ofReal w1) (ofReal w3) (ofReal w2) (ofReal dm) := by
  refine (W5_of m ρ c main_v11_0 (by decide)).trans ((W4_arr m ρ c 4).trans ((bwd4 (V3 m ρ) c (d_at m ρ c h5)
    (a_at m ρ c h0 h1 h2) (b_at m ρ c h0 h1 h3) (fun j l => w2_at' m ρ c h4 l j)).trans ?_))
  funext i
  obtain ⟨n, j, rfl⟩ : ∃ n j, i = ix2 n j := ⟨_, _, eq_ix2 i⟩
  pointwise [val_main_v35, val_main_v34]
  exact (Cert.HiddenRefIdeal.Value.v31_at x g w1 w3 w2 dm (batch n) (pos n) j).symm

include h0 h1 h2 h4 h5 in
theorem db_eq : W5 m ρ c (Proc.devRef .tc main_v11_1)
    = val_main_v37 (F := Ideal) (ofReal x) (ofReal g) (ofReal w1) (ofReal w2) (ofReal dm) := by
  refine (W5_of m ρ c main_v11_1 (by decide)).trans ((W4_arr m ρ c 5).trans ((bwd5 (V3 m ρ) c (d_at m ρ c h5)
    (a_at m ρ c h0 h1 h2) (fun j l => w2_at' m ρ c h4 l j)).trans ?_))
  funext i
  obtain ⟨n, j, rfl⟩ : ∃ n j, i = ix2 n j := ⟨_, _, eq_ix2 i⟩
  pointwise [val_main_v37, val_main_v36]
  exact (Cert.HiddenRefIdeal.Value.v29_at x g w1 w2 dm (batch n) (pos n) j).symm

include h0 h1 h2 h3 in
theorem hid_eq : W5 m ρ c (Proc.devRef .tc main_v11_2)
    = val_main_v39 (F := Ideal) (ofReal x) (ofReal g) (ofReal w1) (ofReal w3) := by
  refine (W5_of m ρ c main_v11_2 (by decide)).trans ((W4_arr m ρ c 6).trans ((bwd6 (V3 m ρ) c
    (a_at m ρ c h0 h1 h2) (b_at m ρ c h0 h1 h3)).trans ?_))
  funext i
  obtain ⟨n, j, rfl⟩ : ∃ n j, i = ix2 n j := ⟨_, _, eq_ix2 i⟩
  pointwise [val_main_v39, val_main_v38]
  exact (Cert.HiddenRefIdeal.Value.v19_at x g w1 w3 (batch n) (pos n) j).symm

include h5 in
theorem dxh_eq : W5 m ρ c (Proc.devRef .tc main_v11_3) = val_main_v41 (F := Ideal) (ofReal dm) := by
  refine (W5_of m ρ c main_v11_3 (by decide)).trans ((W4_arr m ρ c 7).trans ((bwd7 (V3 m ρ) c (d_at m ρ c h5)).trans ?_))
  funext i
  obtain ⟨n, l, rfl⟩ : ∃ n l, i = ix2 n l := ⟨_, _, eq_ix2 i⟩
  pointwise [val_main_v41, val_main_v40]
  exact (Cert.HiddenRefIdeal.Value.v33_at dm (batch n) (pos n) l).symm

theorem algebraic : Cert.algebraic_HiddenIdeal_HiddenRefIdeal_pre_hid_finite := by
  intro m ρ m' ρ' hpre hagree
  refine ⟨fun c => W5 m ρ c (Proc.devRef .tc main_v11_0),
    fun c => W5 m ρ c (Proc.devRef .tc main_v11_1),
    fun c => W5 m ρ c (Proc.devRef .tc main_v11_2),
    fun c => W5 m ρ c (Proc.devRef .tc main_v11_3),
    fun c => W5 m ρ c (Proc.devRef .tc main_v12),
    fun c => W5 m ρ c (Proc.devRef .tc main_v9_1),
    fun c => W5 m ρ c (Proc.devRef .tc main_v9_2),
    fun c => W5 m ρ c (Proc.devRef .tc main_v9_3), ?_, ?_⟩
  · refine (θ_run defs _ _).mono (fun r h c => ?_) (run_all m ρ)
    have arg (a : Ref sig .tc) (ha : a ∈ argRefs) (hu : (Proc.devRef .tc a : DevRef τ sig) ∈ Pipeline.ucRefs τ sig) :
        r.2.mem ((c : Thread nD τ).loc a) = m ((c : Thread nD τ).loc a) := (h c _ hu).trans (W5_args m ρ c a ha)
    exact ⟨h c _ (mem_uc main_v11_0 (by decide)),
      h c _ (mem_uc main_v11_1 (by decide)),
      h c _ (mem_uc main_v11_2 (by decide)),
      h c _ (mem_uc main_v11_3 (by decide)),
      h c _ (mem_uc main_v12 (by decide)),
      h c _ (mem_uc main_v9_1 (by decide)),
      h c _ (mem_uc main_v9_2 (by decide)),
      h c _ (mem_uc main_v9_3 (by decide)),
      arg main_arg0 (by decide) (mem_uc _ (by decide)),
      arg main_arg1 (by decide) (mem_uc _ (by decide)),
      arg main_arg2 (by decide) (mem_uc _ (by decide)),
      arg main_arg3 (by decide) (mem_uc _ (by decide)),
      arg main_arg4 (by decide) (mem_uc _ (by decide)),
      arg main_arg5 (by decide) (mem_uc _ (by decide))⟩
  · refine (θ_run Cert.HiddenRefIdeal.defs _ _).mono (fun r h c => ?_) (Cert.HiddenRefIdeal.Value.run (F := Ideal) m' ρ')
    obtain ⟨r0, r1, r2, r3, r4, r5, r6, r7, hkeep⟩ := h c
    obtain ⟨e0, e1, e2, e3, e4, e5⟩ := hagree c
    obtain ⟨⟨x, h0⟩, ⟨g, h1⟩, ⟨w1, h2⟩, ⟨w3, h3⟩, ⟨w2, h4⟩, ⟨dm, h5⟩⟩ := reals (hpre c)
    replace e0 := e0.trans h0
    replace e1 := e1.trans h1
    replace e2 := e2.trans h2
    replace e3 := e3.trans h3
    replace e4 := e4.trans h4
    replace e5 := e5.trans h5
    refine ⟨r0.trans ?_, r1.trans ?_, r2.trans ?_, r3.trans ?_, r4.trans ?_, r5.trans ?_, r6.trans ?_, r7.trans ?_, hkeep⟩
    · refine (val_main_v35_eq m' c).trans (Eq.trans ?_ (da_eq m ρ c h0 h1 h2 h3 h4 h5).symm)
      rw [e0, e1, e2, e3, e4, e5]
    · refine (val_main_v37_eq _ _ _ _ _).trans (Eq.trans ?_ (db_eq m ρ c h0 h1 h2 h4 h5).symm)
      rw [e0, e1, e2, e4, e5]
    · refine (val_main_v39_eq _ _ _ _).trans (Eq.trans ?_ (hid_eq m ρ c h0 h1 h2 h3).symm)
      rw [e0, e1, e2, e3]
    · refine (val_main_v41_eq _).trans (Eq.trans ?_ (dxh_eq m ρ c h5).symm)
      rw [e5]
    · refine (val_main_v54_eq _ _ _ _ _).trans (Eq.trans ?_ (out_eq m ρ c h0 h1 h2 h3 h4).symm)
      rw [e0, e1, e2, e3, e4]
    · refine (val_main_v43_eq _ _ _).trans (Eq.trans ?_ (a_res m ρ c h0 h1 h2).symm)
      rw [e0, e1, e2]
    · refine (val_main_v45_eq _ _ _).trans (Eq.trans ?_ (b_res m ρ c h0 h1 h3).symm)
      rw [e0, e1, e3]
    · refine (val_main_v47_eq _ _).trans (Eq.trans ?_ (h_res m ρ c h0 h1).symm)
      rw [e0, e1]

theorem quiescent_reference : Cert.quiescent_HiddenRefIdeal := fun m ρ _ =>
  (θ_run Cert.HiddenRefIdeal.defs _ _).mono (fun r h => ⟨fun c => (h c).2.2.2.2.2.2.2.2, sem_eq_zero_of_no_sems (by decide) r.2⟩)
    (Cert.HiddenRefIdeal.Value.run (F := Ideal) m ρ)

end Cert.HiddenProof

end
-- ==== Proof.LossRow.lean ====
/-
  The loss of one normed row against its target, and its gradient, over real numbers.
-/
module

public import proofs.«01_k».proof.Proof.RmsNorm

@[expose] public section

noncomputable section

namespace Cert.LossRow

open Idealize.ShloMosaic

theorem ofBits_inv_1024 : Ideal.ofBits .f32 0x3A800000#32 = ((1 / 1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

variable (o g t : Fin 1024 → ℝ) (l : Fin 1024)

/-- The row over its root mean square. -/
def scaled : ℝ := o l * RmsNorm.scale o

/-- The normed row less its target. -/
def err : ℝ := scaled o l * g l - t l

/-- The mean square of the error. -/
def loss : ℝ := (∑ l, err o g t l * err o g t l) / 1024

/-- The gradient of half the row's loss with respect to the normed row. -/
def grad : ℝ := err o g t l * (1 / 1024)

/-- The same by the chain rule through the square and the mean. -/
theorem grad_eq : 1 / 2 / 1024 * (2 * err o g t l) = grad o g t l := by
  unfold grad
  ring

/-- The gradient of half the row's loss with respect to the row. -/
def rowGrad : ℝ := RmsNorm.back o g (grad o g t) l

/-- What the row adds to the gradient of the norm's weights. -/
def weightGrad : ℝ := grad o g t l * scaled o l

end Cert.LossRow

end
-- ==== Proof.LossHeadPoint.lean ====
/-
  `LossHeadIdeal`: what one grid point computes, over real rows.

  The body walks the 2816 columns of the feed-forward layer in eleven groups of 256, and then takes the output rows
  through the last norm, the loss and the gradient of both.
-/
module

public import proofs.«01_k».proof.Proof.Gen.LossHeadIdeal.Value
public import proofs.«01_k».proof.Proof.Swiglu
public import proofs.«01_k».proof.Proof.LossRow
public import Idealize.ShloMosaic.Lib.Pipeline.ValueKit

@[expose] public section

noncomputable section

namespace Cert.LossHeadIdeal.Value

open Idealize.ShloMosaic Idealize.ShloMosaic.TcCoe Idealize.SL.Sem
open Idealize.ShloMosaic.Pipeline (Dat)
open Cert.LossHeadIdeal Cert.LossHeadIdeal.Gen Cert.Activations

section Layer

variable {x : FVec Ideal S512x1024 .f32} {g : FVec Ideal S1x1024 .f32} {w1 w3 w2 : FVec Ideal S2816x1024 .bf16}
  {X : Fin 512 → Fin 1024 → ℝ} {G : Fin 1024 → ℝ} {W1 W3 : Fin 1024 → Fin 2816 → ℝ} {W2 : Fin 2816 → Fin 1024 → ℝ}
  (hx : ∀ r l, x (ix2 r l) = (X r l : EReal)) (hg : ∀ l, g (ix2 0 l) = (G l : EReal))
  (e1 : ∀ j k, w1 (ix2 j k) = (W1 k j : EReal)) (e3 : ∀ j k, w3 (ix2 j k) = (W3 k j : EReal))
  (e2 : ∀ j l, w2 (ix2 j l) = (W2 j l : EReal)) (r : Fin 512) (l : Fin 1024)

include hx hg in
theorem normed_at : k0_pay4 (F := Ideal) x g (ix2 r l) = (Swiglu.normed (X r) G l : EReal) := by
  pointwise [k0_pay4, k0_pay3]
  simp only [hx, hg]
  rw [RmsNorm.meanSqE_coe, Reals.rsqrt_pos (RmsNorm.meanSq_pos _), ← EReal.coe_mul, ← EReal.coe_mul]
  rfl

/-- One column of a group: the product of the normed rows with the group's weight. -/
theorem up_at {h : FVec Ideal S512x1024 .bf16} {w : FVec Ideal S256x1024 .bf16} {H : Fin 1024 → ℝ} {W : Fin 1024 → ℝ}
    {r : Fin 512} {i : Fin 256} (hh : ∀ k, h (ix2 r k) = (H k : EReal)) (hw : ∀ k, w (ix2 i k) = (W k : EReal)) :
    k0_pay10 (F := Ideal) h w (ix2 r i) = ((∑ k, H k * W k : ℝ) : EReal) := by
  pointwise [k0_pay10]
  simp only [hh, hw, ← EReal.coe_mul, ← Reals.coe_sum]

/-- A group's rows of a weight. -/
abbrev part (w : FVec Ideal S2816x1024 .bf16) {o : ℕ} (inb : ∀ d, ![o, 0] d + S256x1024.size d ≤ S2816x1024.size d) :
    FVec Ideal S256x1024 .bf16 :=
  View.ld (Val := Elt Ideal) (e' := EltTy.bf16) w (Rect.unit (s := S2816x1024) ![o, 0] S256x1024.size inb)

/-- The first ten groups' part of the feed-forward layer's output. -/
def groups (x : FVec Ideal S512x1024 .f32) (g : FVec Ideal S1x1024 .f32) (w1 w3 w2 : FVec Ideal S2816x1024 .bf16) :
    FVec Ideal S512x1024 .f32 :=
  k0_pay55
      (k0_pay50 (k0_pay4 x g)
        (k0_pay39
          (k0_pay34 (k0_pay4 x g)
            (k0_pay29 (k0_pay4 x g)
              (k0_pay19 (k0_pay4 x g)
                (k0_pay14 (k0_pay4 x g)
                  (k0_pay5 x g
                    (part w1 inb_S2816x1024_S256x1024_0_0))
                  (k0_pay6 x g
                    (part w3 inb_S2816x1024_S256x1024_0_0))
                  (k0_pay9 x g
                    (part w1 inb_S2816x1024_S256x1024_0_0))
                  (part w2 inb_S2816x1024_S256x1024_0_0)
                  (part w1 inb_S2816x1024_S256x1024_256_0)
                  (part w3 inb_S2816x1024_S256x1024_256_0)
                  (part w2 inb_S2816x1024_S256x1024_256_0))
                (k0_pay15 (k0_pay4 x g)
                  (part w1 inb_S2816x1024_S256x1024_512_0))
                (part w3 inb_S2816x1024_S256x1024_512_0)
                (part w2 inb_S2816x1024_S256x1024_512_0))
              (k0_pay20 (k0_pay4 x g)
                (part w1 inb_S2816x1024_S256x1024_768_0))
              (k0_pay21 (k0_pay4 x g)
                (part w3 inb_S2816x1024_S256x1024_768_0))
              (k0_pay24 (k0_pay4 x g)
                (part w1 inb_S2816x1024_S256x1024_768_0))
              (FloatOps.ofBits .f32 0x3F000000#32)
              (part w2 inb_S2816x1024_S256x1024_768_0)
              (part w1 inb_S2816x1024_S256x1024_1024_0)
              (part w3 inb_S2816x1024_S256x1024_1024_0)
              (part w2 inb_S2816x1024_S256x1024_1024_0))
            (part w1 inb_S2816x1024_S256x1024_1280_0)
            (part w3 inb_S2816x1024_S256x1024_1280_0)
            (part w2 inb_S2816x1024_S256x1024_1280_0))
          (k0_pay35 (k0_pay4 x g)
            (part w1 inb_S2816x1024_S256x1024_1536_0))
          (k0_pay36 (k0_pay4 x g)
            (part w3 inb_S2816x1024_S256x1024_1536_0))
          (part w2 inb_S2816x1024_S256x1024_1536_0))
        (k0_pay44 (k0_pay4 x g)
          (part w1 inb_S2816x1024_S256x1024_1792_0)
          (part w3 inb_S2816x1024_S256x1024_1792_0))
        (k0_pay45 (part w2 inb_S2816x1024_S256x1024_1792_0))
        (part w1 inb_S2816x1024_S256x1024_2048_0)
        (part w3 inb_S2816x1024_S256x1024_2048_0)
        (part w2 inb_S2816x1024_S256x1024_2048_0))
      (k0_pay51 (k0_pay4 x g)
        (part w1 inb_S2816x1024_S256x1024_2304_0))
      (k0_pay52 (k0_pay4 x g)
        (part w3 inb_S2816x1024_S256x1024_2304_0))
      (part w2 inb_S2816x1024_S256x1024_2304_0)

include hx hg e1 e3 e2 in
/-- The output rows, the last group added. -/
theorem out_at : k0_pay61 (F := Ideal) (k0_pay3 x) (groups x g w1 w3 w2)
      (k0_pay57 (k0_pay4 x g) (part w3 inb_S2816x1024_S256x1024_2560_0))
      (k0_pay60 (k0_pay4 x g) (part w1 inb_S2816x1024_S256x1024_2560_0))
      (part w2 inb_S2816x1024_S256x1024_2560_0) (ix2 r l)
    = (Swiglu.out (X r) G W1 W3 W2 l : EReal) := by
  pointwise [groups, part, k0_pay3, k0_pay5, k0_pay6, k0_pay9, k0_pay10, k0_pay11, k0_pay14, k0_pay15, k0_pay16, k0_pay19, k0_pay20,
    k0_pay21, k0_pay24, k0_pay25, k0_pay26, k0_pay29, k0_pay30, k0_pay31, k0_pay34, k0_pay35, k0_pay36, k0_pay39, k0_pay40, k0_pay41,
    k0_pay44, k0_pay45, k0_pay46, k0_pay47, k0_pay50, k0_pay51, k0_pay52, k0_pay55, k0_pay56, k0_pay57, k0_pay60, k0_pay61]
  simp only [normed_at hx hg, hx, e1, e2, e3, ofBits_half, ← EReal.coe_mul, ← Reals.coe_sum, ← EReal.coe_add, Ideal.tanh_coe, half_tanh]
  rw [Swiglu.out, Swiglu.down, ← Swiglu.sum_columns]
  rfl

end Layer

section Head

variable {v1 v255 : FVec Ideal S512x1024 .f32} {v261 v273 : FVec Ideal S512x256 .f32} {v276 : FVec Ideal S256x1024 .bf16}
  {q : FVec Ideal S1x1024 .f32} {y : FVec Ideal S512x1024 .f32} {O Y : Fin 512 → Fin 1024 → ℝ} {Q : Fin 1024 → ℝ}
  (ho : ∀ r l, k0_pay61 (F := Ideal) v1 v255 v261 v273 v276 (ix2 r l) = (O r l : EReal))
  (hq : ∀ l, q (ix2 0 l) = (Q l : EReal)) (hy : ∀ r l, y (ix2 r l) = (Y r l : EReal)) (r : Fin 512) (l : Fin 1024)

include ho in
theorem scale_at : k0_pay65 (F := Ideal) v1 v255 v261 v273 v276 (ix2 r 0) = (RmsNorm.scale (O r) : EReal) := by
  pointwise [k0_pay65]
  simp only [ho]
  rw [RmsNorm.meanSqE_coe, Reals.rsqrt_pos (RmsNorm.meanSq_pos _)]
  rfl

include ho in
theorem scaled_at : k0_pay66 (F := Ideal) v1 v255 v261 v273 v276 (ix2 r l) = (LossRow.scaled (O r) l : EReal) := by
  pointwise [k0_pay66]
  simp only [ho, scale_at ho, ← EReal.coe_mul]
  rfl

include ho hq hy in
theorem err_at : k0_pay67 (F := Ideal) v1 v255 v261 v273 v276 q y (ix2 r l) = (LossRow.err (O r) Q (Y r) l : EReal) := by
  pointwise [k0_pay67, k0_pay64]
  simp only [scaled_at ho, hq, hy, ← EReal.coe_mul, ← EReal.coe_sub]
  rfl

include ho hq hy in
theorem grad_at : k0_pay68 (F := Ideal) v1 v255 v261 v273 v276 q y (ix2 r l) = (LossRow.grad (O r) Q (Y r) l : EReal) := by
  pointwise [k0_pay68]
  simp only [err_at ho hq hy, LossRow.ofBits_inv_1024, ← EReal.coe_mul]
  rfl

include ho hq hy in
theorem dx_at : k0_pay69 (F := Ideal) v1 v255 v261 v273 v276 q y (ix2 r l) = (LossRow.rowGrad (O r) Q (Y r) l : EReal) := by
  pointwise [k0_pay69, k0_pay64]
  simp only [scaled_at ho, scale_at ho, grad_at ho hq hy, hq, RmsNorm.ofBits_1024, ← EReal.coe_mul, ← Reals.coe_sum]
  rw [Reals.div_coe_coe _ (by norm_num)]
  simp only [← EReal.coe_mul, ← EReal.coe_sub]
  rw [LossRow.rowGrad, RmsNorm.back, Nat.cast_ofNat]
  rfl

include ho hq hy in
/-- What a point adds to every entry of the loss. -/
theorem loss_at (a : FVec Ideal S8x128 .f32) (i : S8x128.Idx) :
    k0_pay1 (F := Ideal) (k0_pay67 v1 v255 v261 v273 v276 q y) a i = a i + ((1 / 2 * ∑ r, LossRow.loss (O r) Q (Y r) : ℝ) : EReal) := by
  pointwise [k0_pay1]
  simp only [err_at ho hq hy, RmsNorm.ofBits_1024, ofBits_half, ← EReal.coe_mul, ← Reals.coe_sum]
  simp only [Reals.div_coe_coe _ (by norm_num : (1024 : ℝ) ≠ 0), ← EReal.coe_mul, ← Reals.coe_sum, Finset.univ_unique, Finset.sum_singleton]
  rfl

include ho hq hy in
/-- What a point adds to the gradient of the norm's weights. -/
theorem dg_at (a : FVec Ideal S1x1024 .f32) :
    k0_pay2 (F := Ideal) (k0_pay66 v1 v255 v261 v273 v276) (k0_pay68 v1 v255 v261 v273 v276 q y) a (ix2 0 l)
      = a (ix2 0 l) + ((∑ r, LossRow.weightGrad (O r) Q (Y r) l : ℝ) : EReal) := by
  pointwise [k0_pay2]
  simp only [scaled_at ho, grad_at ho hq hy, ← EReal.coe_mul, ← Reals.coe_sum]
  rfl

end Head

end Cert.LossHeadIdeal.Value

end
-- ==== Proof.LossHeadKernel.lean ====
/-
  `LossHeadIdeal`: what the kernel of the last feed-forward layer, the loss and its gradient leaves in its results.

  The kernel walks sixteen blocks of 512 rows. The loss and the gradient of the last norm's weights are added up over the
  blocks and written back once at the end.
-/
module

public import proofs.«01_k».proof.Proof.LossHeadPoint
public import proofs.«01_k».proof.Proof.Rows

@[expose] public section

noncomputable section

namespace Cert.LossHeadIdeal.Value

open Idealize.ShloMosaic Idealize.ShloMosaic.TcCoe Idealize.SL.Sem
open Idealize.ShloMosaic.Pipeline (Dat)
open Cert.LossHeadIdeal Cert.LossHeadIdeal.Gen Cert.Rows

theorem index_eq : ∀ t : Fin grid0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![0, 0] ∧ win0_12.index t = ![0, 0] := by
  decide +kernel

theorem N_eq : cfg0.N = 16 := by decide

/-- The last grid point. -/
def last : Fin cfg0.N := ⟨15, by decide⟩

variable (m : (ℓ : Loc nD τ sig) → Buf (Elt Ideal) ℓ) (c : Dev nD)
  {X Y : Fin 8192 → Fin 1024 → ℝ} {G Q : Fin 1024 → ℝ} {W1 W3 : Fin 1024 → Fin 2816 → ℝ} {W2 : Fin 2816 → Fin 1024 → ℝ}
  (hx : ∀ n l, V m c main_v8 (ix2 n l) = (X n l : EReal)) (hg : ∀ l, V m c main_arg1 (ix2 0 l) = (G l : EReal))
  (e1 : ∀ j k, V m c main_v2 (ix2 j k) = (W1 k j : EReal)) (e3 : ∀ j k, V m c main_v5 (ix2 j k) = (W3 k j : EReal))
  (e2 : ∀ j l, V m c main_v7 (ix2 j l) = (W2 j l : EReal)) (hq : ∀ l, V m c main_v9 (ix2 0 l) = (Q l : EReal))
  (hy : ∀ n l, V m c main_v10 (ix2 n l) = (Y n l : EReal)) (t : Fin cfg0.N) (r : Fin 512) (l : Fin 1024) (j : Fin 2816)

include hx in
theorem x_blk : iblk m c 0 t (ix2 r l) = (X (tileRow N_eq t r) l : EReal) := by
  refine Eq.trans ?_ (hx _ l)
  blk_point [iblk, index_eq t, tileRow]

include hg in
theorem g_blk : iblk m c 1 t (ix2 0 l) = (G l : EReal) := by
  refine Eq.trans ?_ (hg l)
  blk_point [iblk, index_eq t]

include e1 in
theorem w1_blk : iblk m c 2 t (ix2 j l) = (W1 l j : EReal) := by
  refine Eq.trans ?_ (e1 j l)
  blk_point [iblk, index_eq t]

include e3 in
theorem w3_blk : iblk m c 3 t (ix2 j l) = (W3 l j : EReal) := by
  refine Eq.trans ?_ (e3 j l)
  blk_point [iblk, index_eq t]

include e2 in
theorem w2_blk : iblk m c 4 t (ix2 j l) = (W2 j l : EReal) := by
  refine Eq.trans ?_ (e2 j l)
  blk_point [iblk, index_eq t]

include hq in
theorem q_blk : iblk m c 5 t (ix2 0 l) = (Q l : EReal) := by
  refine Eq.trans ?_ (hq l)
  blk_point [iblk, index_eq t]

include hy in
theorem y_blk : iblk m c 6 t (ix2 r l) = (Y (tileRow N_eq t r) l : EReal) := by
  refine Eq.trans ?_ (hy _ l)
  blk_point [iblk, index_eq t, tileRow]

include hx hg e1 e3 e2 in
/-- The output rows of a point's block. -/
theorem out_blk : k0_pay61 (F := Ideal) (k0_pay3 (iblk m c 0 t)) (groups (iblk m c 0 t) (iblk m c 1 t) (iblk m c 2 t) (iblk m c 3 t) (iblk m c 4 t))
      (k0_pay57 (k0_pay4 (iblk m c 0 t) (iblk m c 1 t)) (part (iblk m c 3 t) inb_S2816x1024_S256x1024_2560_0))
      (k0_pay60 (k0_pay4 (iblk m c 0 t) (iblk m c 1 t)) (part (iblk m c 2 t) inb_S2816x1024_S256x1024_2560_0))
      (part (iblk m c 4 t) inb_S2816x1024_S256x1024_2560_0) (ix2 r l)
    = (Swiglu.out (X (tileRow N_eq t r)) G W1 W3 W2 l : EReal) :=
  out_at (X := fun r => X (tileRow N_eq t r)) (x_blk m c hx t) (g_blk m c hg t) (fun j l => w1_blk m c e1 t l j)
    (fun j l => w3_blk m c e3 t l j) (fun j l => w2_blk m c e2 t l j) r l

include hx hg e1 e3 e2 hq hy in
theorem final7 : (dats m 0 c).arrAt 7 cfg0.N
    = fun i => (LossRow.rowGrad (Swiglu.out (X (i 0)) G W1 W3 W2) Q (Y (i 0)) (i 1) : EReal) := by
  refine (dats m 0 c).arrAt_eq_of_covers 7 _ (by decide +kernel) fun t hf y => ?_
  blk_simp
  rw [after0_7]
  obtain ⟨r, l, rfl⟩ : ∃ r l, y = ix2 r l := ⟨_, _, eq_ix2 y⟩
  have hn : (win0_7.blk t).view.emb (ix2 r l) = ix2 (tileRow N_eq t r) l := by
    blk_ext [index_eq t, tileRow]
  rw [hn]
  refine Eq.trans ?_ (dx_at (O := fun r => Swiglu.out (X (tileRow N_eq t r)) G W1 W3 W2) (Y := fun r => Y (tileRow N_eq t r))
    (out_blk m c hx hg e1 e3 e2 t) (q_blk m c hq t) (y_blk m c hy t) r l)
  by_cases h : t.val % 16 = 0
  · rw [outsAt0_A m c t h]; frame_out; rfl
  · rw [outsAt0_B m c t h]; frame_out; rfl

include hx hg in
theorem col8 {w : FVec Ideal S256x1024 .bf16} {i : Fin 256} (hw : ∀ k, w (ix2 i k) = (W1 k j : EReal)) :
    k0_pay10 (F := Ideal) (k0_pay4 (iblk m c 0 t) (iblk m c 1 t)) w (ix2 r i)
      = (Swiglu.up (Swiglu.normed (X (tileRow N_eq t r)) G) W1 j : EReal) :=
  up_at (normed_at (X := fun r => X (tileRow N_eq t r)) (x_blk m c hx t) (g_blk m c hg t) r) hw

include hx hg e1 in
theorem final8 : (dats m 0 c).arrAt 8 cfg0.N = fun i => (Swiglu.up (Swiglu.normed (X (i 0)) G) W1 (i 1) : EReal) := by
  refine (dats m 0 c).arrAt_eq_of_covers 8 _ (by decide +kernel) fun t hf y => ?_
  blk_simp
  rw [after0_8]
  obtain ⟨r, j, rfl⟩ : ∃ r j, y = ix2 r j := ⟨_, _, eq_ix2 y⟩
  have hn : (win0_8.blk t).view.emb (ix2 r j) = ix2 (tileRow N_eq t r) j := by
    blk_ext [index_eq t, tileRow]
  rw [hn]
  by_cases hA : t.val % 16 = 0
  · rw [outsAt0_A m c t hA]; frame_out
    canon_tiles y h
    all_goals
      obtain ⟨r', i, rfl⟩ : ∃ r' i, y = ix2 r' i := ⟨_, _, eq_ix2 y⟩
      obtain rfl : r = r' := Fin.ext h0
      refine col8 m c hx hg t r j fun k => Eq.trans ?_ (w1_blk m c e1 t k j)
      exact View.ld_unit_apply_of _ _ _ _ _ (ix2 j k) (Fin.forall_fin_two.2 ⟨by simpa using h1, by simp⟩)
  · rw [outsAt0_B m c t hA]; frame_out
    canon_tiles y h
    all_goals
      obtain ⟨r', i, rfl⟩ : ∃ r' i, y = ix2 r' i := ⟨_, _, eq_ix2 y⟩
      obtain rfl : r = r' := Fin.ext h0
      refine col8 m c hx hg t r j fun k => Eq.trans ?_ (w1_blk m c e1 t k j)
      exact View.ld_unit_apply_of _ _ _ _ _ (ix2 j k) (Fin.forall_fin_two.2 ⟨by simpa using h1, by simp⟩)

include hx hg e3 in
theorem final9 : (dats m 0 c).arrAt 9 cfg0.N = fun i => (Swiglu.up (Swiglu.normed (X (i 0)) G) W3 (i 1) : EReal) := by
  refine (dats m 0 c).arrAt_eq_of_covers 9 _ (by decide +kernel) fun t hf y => ?_
  blk_simp
  rw [after0_9]
  obtain ⟨r, j, rfl⟩ : ∃ r j, y = ix2 r j := ⟨_, _, eq_ix2 y⟩
  have hn : (win0_9.blk t).view.emb (ix2 r j) = ix2 (tileRow N_eq t r) j := by
    blk_ext [index_eq t, tileRow]
  rw [hn]
  by_cases hA : t.val % 16 = 0
  · rw [outsAt0_A m c t hA]; frame_out
    canon_tiles y h
    all_goals
      obtain ⟨r', i, rfl⟩ : ∃ r' i, y = ix2 r' i := ⟨_, _, eq_ix2 y⟩
      obtain rfl : r = r' := Fin.ext h0
      refine col8 m c hx hg t r j fun k => Eq.trans ?_ (w3_blk m c e3 t k j)
      exact View.ld_unit_apply_of _ _ _ _ _ (ix2 j k) (Fin.forall_fin_two.2 ⟨by simpa using h1, by simp⟩)
  · rw [outsAt0_B m c t hA]; frame_out
    canon_tiles y h
    all_goals
      obtain ⟨r', i, rfl⟩ : ∃ r' i, y = ix2 r' i := ⟨_, _, eq_ix2 y⟩
      obtain rfl : r = r' := Fin.ext h0
      refine col8 m c hx hg t r j fun k => Eq.trans ?_ (w3_blk m c e3 t k j)
      exact View.ld_unit_apply_of _ _ _ _ _ (ix2 j k) (Fin.forall_fin_two.2 ⟨by simpa using h1, by simp⟩)

include hx hg in
theorem final10 : (dats m 0 c).arrAt 10 cfg0.N = fun i => (Swiglu.normed (X (i 0)) G (i 1) : EReal) := by
  refine (dats m 0 c).arrAt_eq_of_covers 10 _ (by decide +kernel) fun t hf y => ?_
  blk_simp
  rw [after0_10]
  obtain ⟨r, l, rfl⟩ : ∃ r l, y = ix2 r l := ⟨_, _, eq_ix2 y⟩
  have hn : (win0_10.blk t).view.emb (ix2 r l) = ix2 (tileRow N_eq t r) l := by
    blk_ext [index_eq t, tileRow]
  rw [hn]
  refine Eq.trans ?_ (normed_at (X := fun r => X (tileRow N_eq t r)) (x_blk m c hx t) (g_blk m c hg t) r l)
  by_cases h : t.val % 16 = 0
  · rw [outsAt0_A m c t h]; frame_out
  · rw [outsAt0_B m c t h]; frame_out

/-- What the rows of a block add to the loss. -/
def lossPart (X Y : Fin 8192 → Fin 1024 → ℝ) (G Q : Fin 1024 → ℝ) (W1 W3 : Fin 1024 → Fin 2816 → ℝ) (W2 : Fin 2816 → Fin 1024 → ℝ)
    (t : Fin cfg0.N) : ℝ :=
  1 / 2 * ∑ r, LossRow.loss (Swiglu.out (X (tileRow N_eq t r)) G W1 W3 W2) Q (Y (tileRow N_eq t r))

/-- What the rows of a block add to the gradient of the last norm's weights. -/
def weightPart (X Y : Fin 8192 → Fin 1024 → ℝ) (G Q : Fin 1024 → ℝ) (W1 W3 : Fin 1024 → Fin 2816 → ℝ) (W2 : Fin 2816 → Fin 1024 → ℝ)
    (l : Fin 1024) (t : Fin cfg0.N) : ℝ :=
  ∑ r, LossRow.weightGrad (Swiglu.out (X (tileRow N_eq t r)) G W1 W3 W2) Q (Y (tileRow N_eq t r)) l

include hx hg e1 e3 e2 hq hy in
theorem outs11 (i : S8x128.Idx) : (outsAt0 m c last.val last.isLt).2.2.2.2.1 i
    = 0 + ∑ t : Fin cfg0.N, (lossPart X Y G Q W1 W3 W2 t : EReal) := by
  have point (t : Fin cfg0.N) := loss_at (O := fun r => Swiglu.out (X (tileRow N_eq t r)) G W1 W3 W2)
    (Y := fun r => Y (tileRow N_eq t r)) (out_blk m c hx hg e1 e3 e2 t) (q_blk m c hq t) (y_blk m c hy t)
  refine Pipeline.eq_sum_fin_of_reset_step_last (fun n h => (outsAt0 m c n h).2.2.2.2.1 i) 16 0
    (fun t => (lossPart X Y G Q W1 W3 W2 t : EReal)) (fun t h => ?_) (fun t h => ?_) (by decide) last rfl
  · rw [outsAt0_A m c t h]; frame_out
    refine (point t _ i).trans (congrArg (· + _) ?_)
    pointwise [k0_pay62]
  · rw [outsAt0_B m c t h]; frame_out
    exact point t _ i

include hx hg e1 e3 e2 hq hy in
theorem final11 : (dats m 0 c).arrAt 11 cfg0.N
    = fun _ => ((1 / 2 * ∑ n, LossRow.loss (Swiglu.out (X n) G W1 W3 W2) Q (Y n) : ℝ) : EReal) := by
  refine (dats m 0 c).arrAt_eq_of_after_last 11 last (by decide +kernel) _ fun i => ?_
  rw [after0_11]
  refine (outs11 m c hx hg e1 e3 e2 hq hy _).trans ?_
  rw [zero_add, ← Reals.coe_sum]
  unfold lossPart
  rw [← Finset.mul_sum, sum_tiles N_eq fun n => LossRow.loss (Swiglu.out (X n) G W1 W3 W2) Q (Y n)]

include hx hg e1 e3 e2 hq hy in
theorem outs12 : (outsAt0 m c last.val last.isLt).2.2.2.2.2 (ix2 0 l)
    = 0 + ∑ t : Fin cfg0.N, (weightPart X Y G Q W1 W3 W2 l t : EReal) := by
  have point (t : Fin cfg0.N) := dg_at (O := fun r => Swiglu.out (X (tileRow N_eq t r)) G W1 W3 W2)
    (Y := fun r => Y (tileRow N_eq t r)) (out_blk m c hx hg e1 e3 e2 t) (q_blk m c hq t) (y_blk m c hy t) l
  refine Pipeline.eq_sum_fin_of_reset_step_last (fun n h => (outsAt0 m c n h).2.2.2.2.2 (ix2 0 l)) 16 0
    (fun t => (weightPart X Y G Q W1 W3 W2 l t : EReal)) (fun t h => ?_) (fun t h => ?_) (by decide) last rfl
  · rw [outsAt0_A m c t h]; frame_out
    refine (point t _).trans (congrArg (· + _) ?_)
    pointwise [k0_pay63]
  · rw [outsAt0_B m c t h]; frame_out
    exact point t _

include hx hg e1 e3 e2 hq hy in
theorem final12 : (dats m 0 c).arrAt 12 cfg0.N
    = fun i => ((∑ n, LossRow.weightGrad (Swiglu.out (X n) G W1 W3 W2) Q (Y n) (i 1) : ℝ) : EReal) := by
  refine (dats m 0 c).arrAt_eq_of_after_last 12 last (by decide +kernel) _ fun i => ?_
  rw [after0_12]
  obtain ⟨l, rfl⟩ : ∃ l, i = ix2 0 l := ⟨i 1, (eq_ix2 i).trans (congrArg (ix2 · _) (Subsingleton.elim _ _))⟩
  refine (outs12 m c hx hg e1 e3 e2 hq hy l).trans ?_
  blk_simp
  rw [zero_add, ← Reals.coe_sum]
  unfold weightPart
  rw [sum_tiles N_eq fun n => LossRow.weightGrad (Swiglu.out (X n) G W1 W3 W2) Q (Y n) l]
  rfl

end Cert.LossHeadIdeal.Value

end
-- ==== Proof.LossHeadReference.lean ====
/-
  `LossHeadRefIdeal`: the reference's results over real arguments.
-/
module

public import proofs.«01_k».proof.Proof.Gen.LossHeadRefIdeal.Run
public import proofs.«01_k».proof.Proof.Gen.LossHeadRefIdeal.Read
public import proofs.«01_k».proof.Proof.Swiglu
public import proofs.«01_k».proof.Proof.LossRow

@[expose] public section

noncomputable section

namespace Cert.LossHeadRefIdeal.Value

open Idealize.ShloMosaic Idealize.ShloMosaic.TcCoe Idealize.SL.Sem
open Cert.LossHeadRefIdeal Cert.LossHeadRefIdeal.Gen Cert.LossHeadRefIdeal.Read Cert.Activations

/-- An array of real numbers as an array of the program. -/
abbrev ofReal {t : Shape} (y : t.Idx → ℝ) : FVec Ideal t .f32 := fun i => (y i : EReal)

variable (x : S2x4096x1024.Idx → ℝ) (g : S1x1024.Idx → ℝ) (w1 w3 : S1x1024x2816.Idx → ℝ) (w2 : S1x2816x1024.Idx → ℝ)
  (q : S1024.Idx → ℝ) (y : S2x4096x1024.Idx → ℝ) (b : Fin 2) (s : Fin 4096) (l : Fin 1024) (j : Fin 2816)

/-- A row of the input, or of the target. -/
abbrev row (l : Fin 1024) : ℝ := x (ix3 b s l)

/-- The first norm's weights. -/
abbrev par (l : Fin 1024) : ℝ := g (ix2 0 l)

/-- The last norm's weights. -/
abbrev fin (l : Fin 1024) : ℝ := q (ix1 l)

/-- A weight into the gate. -/
abbrev into (k : Fin 1024) (j : Fin 2816) : ℝ := w1 (ix3 0 k j)

/-- The weight out of the gate. -/
abbrev outOf (j : Fin 2816) (l : Fin 1024) : ℝ := w2 (ix3 0 j l)

/-- The normed row. -/
abbrev H (l : Fin 1024) : ℝ := Swiglu.normed (row x b s) (par g) l

/-- The feed-forward layer's output row. -/
abbrev O (l : Fin 1024) : ℝ := Swiglu.out (row x b s) (par g) (into w1) (into w3) (outOf w2) l

theorem v13_at : val_main_v13 (F := Ideal) (ofReal x) (ofReal g) (ix3 b s l) = (H x g b s l : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rw [RmsNorm.meanSqE_coe fun k => x (ix3 b s k), Reals.rsqrt_pos (RmsNorm.meanSq_pos _)]
  simp only [← EReal.coe_mul]
  rfl

theorem v15_at : val_main_v15 (F := Ideal) (ofReal x) (ofReal g) (ofReal w1) (ix3 b s j)
    = (Swiglu.up (H x g b s) (into w1) j : EReal) := by
  pointwise [val_main_v15, val_main_v14]
  simp only [v13_at, ← EReal.coe_mul, ← Reals.coe_sum]
  rfl

theorem v17_at : val_main_v17 (F := Ideal) (ofReal x) (ofReal g) (ofReal w3) (ix3 b s j)
    = (Swiglu.up (H x g b s) (into w3) j : EReal) := by
  pointwise [val_main_v17, val_main_v16]
  simp only [v13_at, ← EReal.coe_mul, ← Reals.coe_sum]
  rfl

/-- The logistic function as the reference writes it. -/
theorem logistic (z : ℝ) : Ideal.div 1 (1 + Ideal.exp (-(z : EReal))) = (sigmoid z : EReal) := by
  rw [← EReal.coe_neg, Ideal.exp_coe, ← EReal.coe_one, ← EReal.coe_add, Reals.div_coe_coe _ (one_add_exp_pos _).ne', one_div]
  rfl

theorem v24_at : val_main_v24 (F := Ideal) (ofReal x) (ofReal g) (ofReal w1) (ofReal w3) (ofReal w2) (ix3 b s l)
    = (O x g w1 w3 w2 b s l : EReal) := by
  pointwise [val_main_v24, val_main_v23, val_main_v22, val_main_v21, val_main_v20, val_main_v19, val_main_v18, val_main_call0_v0,
    val_main_call0_v1, val_main_call0_v2, val_main_call0_v3, val_main_call0_v4, val_main_call0_v5, val_main_call0_cst,
    val_main_call0_cst_0, val_main_cst_2]
  simp only [v15_at, v17_at, logistic, ofBits_half, ← EReal.coe_mul, ← Reals.coe_sum, ← EReal.coe_add]
  rfl

theorem v31_at : val_main_v31 (F := Ideal) (ofReal x) (ofReal g) (ofReal w1) (ofReal w3) (ofReal w2) (ix3 b s 0)
    = (RmsNorm.meanSq (O x g w1 w3 w2 b s) : EReal) := by
  pointwise [val_main_v31, val_main_v30, val_main_v29, val_main_v28, val_main_v27, val_main_v26, val_main_v25, val_main_cst_3,
    val_main_cst_4, val_main_cst_5]
  simp only [v24_at]
  rw [RmsNorm.meanSqE_coe]

theorem v32_at : val_main_v32 (F := Ideal) (ofReal x) (ofReal g) (ofReal w1) (ofReal w3) (ofReal w2) (ix3 b s 0)
    = (RmsNorm.scale (O x g w1 w3 w2 b s) : EReal) := by
  pointwise [val_main_v32]
  rw [v31_at, Reals.rsqrt_pos (RmsNorm.meanSq_pos _)]
  rfl

theorem v35_at : val_main_v35 (F := Ideal) (ofReal x) (ofReal g) (ofReal w1) (ofReal w3) (ofReal w2) (ix3 b s 0)
    = (-(1 / 2) * (RmsNorm.scale (O x g w1 w3 w2 b s) / RmsNorm.meanSq (O x g w1 w3 w2 b s)) : ℝ) := by
  pointwise [val_main_v35, val_main_v34, val_main_v33, val_main_cst_6]
  rw [v31_at, v32_at, Reals.div_coe_coe _ (RmsNorm.meanSq_pos _).ne', RmsNorm.ofBits_neg_half, ← EReal.coe_mul]

theorem v37_at : val_main_v37 (F := Ideal) (ofReal x) (ofReal g) (ofReal w1) (ofReal w3) (ofReal w2) (ix3 b s l)
    = (LossRow.scaled (O x g w1 w3 w2 b s) l : EReal) := by
  pointwise [val_main_v37, val_main_v36]
  rw [v24_at, v32_at, ← EReal.coe_mul]
  rfl

theorem v41_at : val_main_v41 (F := Ideal) (ofReal x) (ofReal g) (ofReal w1) (ofReal w3) (ofReal w2) (ofReal q) (ofReal y) (ix3 b s l)
    = (LossRow.err (O x g w1 w3 w2 b s) (fin q) (row y b s) l : EReal) := by
  pointwise [val_main_v41, val_main_v40, val_main_v39, val_main_v38]
  rw [v37_at, ← EReal.coe_mul, ← EReal.coe_sub]
  rfl

theorem v47_at : val_main_v47 (F := Ideal) (ofReal x) (ofReal g) (ofReal w1) (ofReal w3) (ofReal w2) (ofReal q) (ofReal y) (ix2 b s)
    = (LossRow.loss (O x g w1 w3 w2 b s) (fin q) (row y b s) : EReal) := by
  pointwise [val_main_v47, val_main_v46, val_main_v45, val_main_v42, val_main_cst_8, val_main_cst_9]
  simp only [v41_at, RmsNorm.ofBits_1024, ← EReal.coe_mul, ← Reals.coe_sum]
  rw [Reals.div_coe_coe _ (by norm_num)]
  rfl

theorem v49_at : val_main_v49 (F := Ideal) (ofReal x) (ofReal g) (ofReal w1) (ofReal w3) (ofReal w2) (ofReal q) (ofReal y) ix0
    = (1 / 2 * ∑ b, ∑ s, LossRow.loss (O x g w1 w3 w2 b s) (fin q) (row y b s) : ℝ) := by
  pointwise [val_main_v49, val_main_v48, val_main_cst_10, val_main_cst_11]
  simp only [Reals.hostReduceAdd_two, v47_at, ofBits_half, ← EReal.coe_mul, ← Reals.coe_sum]

theorem v55_at : val_main_v55 (F := Ideal) (ofReal x) (ofReal g) (ofReal w1) (ofReal w3) (ofReal w2) (ofReal q) (ofReal y) (ix3 b s l)
    = (LossRow.grad (O x g w1 w3 w2 b s) (fin q) (row y b s) l : EReal) := by
  pointwise [val_main_v55, val_main_v54, val_main_v53, val_main_v52, val_main_v51, val_main_v50, val_main_v44, val_main_v43,
    val_main_cst_7, val_main_cst_12, val_main_cst_13, val_main_cst_14]
  simp only [v41_at, RmsNorm.ofBits_1024, ofBits_half, LossRow.ofBits_two, ← EReal.coe_mul]
  rw [Reals.div_coe_coe _ (by norm_num), ← EReal.coe_mul, LossRow.grad_eq]

theorem v75_at : val_main_v75 (F := Ideal) (ofReal x) (ofReal g) (ofReal w1) (ofReal w3) (ofReal w2) (ofReal q) (ofReal y) (ix3 b s l)
    = (LossRow.rowGrad (O x g w1 w3 w2 b s) (fin q) (row y b s) l : EReal) := by
  pointwise [val_main_v75, val_main_v74, val_main_v73, val_main_v72, val_main_v71, val_main_v70, val_main_v69, val_main_v68,
    val_main_v67, val_main_v66, val_main_v65, val_main_v64, val_main_v63, val_main_v62, val_main_v60, val_main_v59, val_main_v38,
    val_main_cst_17, val_main_cst_18, val_main_cst_19]
  simp only [Fin.sum_univ_one, v24_at, v32_at, v35_at, v55_at, RmsNorm.ofBits_1024, ← EReal.coe_mul, ← Reals.coe_sum]
  simp only [Reals.div_coe_coe _ (by norm_num : (1024 : ℝ) ≠ 0), ← EReal.coe_mul, ← EReal.coe_add]
  rw [LossRow.rowGrad, ← RmsNorm.chain_eq_back, RmsNorm.chain, RmsNorm.spread, Nat.cast_ofNat, add_assoc]

theorem v84_at : val_main_v84 (F := Ideal) (ofReal x) (ofReal g) (ofReal w1) (ofReal w3) (ofReal w2) (ofReal q) (ofReal y) (ix2 0 l)
    = (∑ b, ∑ s, LossRow.weightGrad (O x g w1 w3 w2 b s) (fin q) (row y b s) l : ℝ) := by
  pointwise [val_main_v84, val_main_v61, val_main_v58, val_main_v57, val_main_v56, val_main_cst_15, val_main_cst_16]
  rw [Reals.hostReduceAdd_two]
  pointwise
  rw [Reals.hostReduceAdd_two]
  pointwise
  simp only [Fin.sum_univ_one, v37_at, v55_at, ← EReal.coe_mul, ← Reals.coe_sum]
  refine congrArg _ (Finset.sum_congr rfl fun b _ => Finset.sum_congr rfl fun s _ => ?_)
  exact mul_comm _ _

end Cert.LossHeadRefIdeal.Value

end
-- ==== Proof.LossHead.lean ====
/-
  The last feed-forward layer, the loss and its gradient: the kernel's results are the reference's.
-/
module

public import proofs.«01_k».proof.Defs
public import proofs.«01_k».proof.Proof.LossHeadKernel
public import proofs.«01_k».proof.Proof.LossHeadReference

@[expose] public section

noncomputable section

namespace Cert.LossHeadProof

open Idealize.ShloMosaic Idealize.ShloMosaic.TcCoe Idealize.SL.Sem

/-! ## The precondition -/

instance preFacts : Cert.Pre_head_finite.Facts :=
  ⟨by decide, by decide, by decide, by decide, by decide, by decide, by decide, by decide, by decide, by decide, by decide⟩

open Cert.Pre_head_finite in
/-- Under the precondition the arguments are arrays of real numbers. -/
theorem reals {x : FVec Ideal S2x4096x1024 .f32} {g : FVec Ideal S1x1024 .f32} {w1 w3 : FVec Ideal S1x1024x2816 .f32}
    {w2 : FVec Ideal S1x2816x1024 .f32} {q : FVec Ideal S1024 .f32} {y : FVec Ideal S2x4096x1024 .f32}
    (h : fn (F := Ideal) x g w1 w3 w2 q y = fun _ => 1#1) :
    (∃ X : S2x4096x1024.Idx → ℝ, x = fun i => (X i : EReal)) ∧ (∃ X : S1x1024.Idx → ℝ, g = fun i => (X i : EReal)) ∧
    (∃ X : S1x1024x2816.Idx → ℝ, w1 = fun i => (X i : EReal)) ∧ (∃ X : S1x1024x2816.Idx → ℝ, w3 = fun i => (X i : EReal)) ∧
    (∃ X : S1x2816x1024.Idx → ℝ, w2 = fun i => (X i : EReal)) ∧ (∃ X : S1024.Idx → ℝ, q = fun i => (X i : EReal)) ∧
    (∃ X : S2x4096x1024.Idx → ℝ, y = fun i => (X i : EReal)) := by
  have h0 := congrFun h ix0
  have h1 := Reals.one_of_andi_left h0
  have h2 := Reals.one_of_andi_left h1
  have h3 := Reals.one_of_andi_left h2
  have h4 := Reals.one_of_andi_left h3
  have h5 := Reals.one_of_andi_left h4
  exact ⟨Reals.exists_real x _ _ _ _ _ _ (Reals.one_of_andi_left h5), Reals.exists_real g _ _ _ _ _ _ (Reals.one_of_andi_right h5),
    Reals.exists_real w1 _ _ _ _ _ _ (Reals.one_of_andi_right h4), Reals.exists_real w3 _ _ _ _ _ _ (Reals.one_of_andi_right h3),
    Reals.exists_real w2 _ _ _ _ _ _ (Reals.one_of_andi_right h2), Reals.exists_real q _ _ _ _ _ _ (Reals.one_of_andi_right h1),
    Reals.exists_real y _ _ _ _ _ _ (Reals.one_of_andi_right h0)⟩

/-! ## The kernel's operands read from the arguments -/

open Cert.LossHeadIdeal Cert.LossHeadIdeal.Gen Cert.LossHeadIdeal.Value Cert.Rows
open Cert.LossHeadRefIdeal.Value (ofReal row par fin into outOf H O)
open Cert.LossHeadRefIdeal.Read

variable (m : (ℓ : Loc nD τ sig) → Buf (Elt Ideal) ℓ) (c : Dev nD)
  {x : S2x4096x1024.Idx → ℝ} {g : S1x1024.Idx → ℝ} {w1 w3 : S1x1024x2816.Idx → ℝ} {w2 : S1x2816x1024.Idx → ℝ}
  {q : S1024.Idx → ℝ} {y : S2x4096x1024.Idx → ℝ}
  (h0 : m ((c : Thread nD τ).loc main_arg0) = ofReal x) (h1 : m ((c : Thread nD τ).loc main_arg1) = ofReal g)
  (h2 : m ((c : Thread nD τ).loc main_arg2) = ofReal w1) (h3 : m ((c : Thread nD τ).loc main_arg3) = ofReal w3)
  (h4 : m ((c : Thread nD τ).loc main_arg4) = ofReal w2) (h5 : m ((c : Thread nD τ).loc main_arg5) = ofReal q)
  (h6 : m ((c : Thread nD τ).loc main_arg6) = ofReal y) (n : Fin 8192) (l : Fin 1024) (j : Fin 2816)

include h0 in
theorem x_at : V m c main_v8 (ix2 n l) = (row x (batch n) (pos n) l : EReal) := by
  refine Eq.trans ?_ (congrFun h0 _)
  entry_read
  pointwise [batch, pos]

include h1 in
theorem g_at : V m c main_arg1 (ix2 0 l) = (par g l : EReal) := by rw [V_main_arg1, h1]

include h2 in
theorem w1_at : V m c main_v2 (ix2 j l) = (into w1 l j : EReal) := by
  refine Eq.trans ?_ (congrFun h2 _)
  entry_read
  pointwise

include h3 in
theorem w3_at : V m c main_v5 (ix2 j l) = (into w3 l j : EReal) := by
  refine Eq.trans ?_ (congrFun h3 _)
  entry_read
  pointwise

include h4 in
theorem w2_at : V m c main_v7 (ix2 j l) = (outOf w2 j l : EReal) := by
  refine Eq.trans ?_ (congrFun h4 _)
  entry_read
  pointwise

include h5 in
theorem q_at : V m c main_v9 (ix2 0 l) = (fin q l : EReal) := by
  refine Eq.trans ?_ (congrFun h5 _)
  entry_read
  pointwise

include h6 in
theorem y_at : V m c main_v10 (ix2 n l) = (row y (batch n) (pos n) l : EReal) := by
  refine Eq.trans ?_ (congrFun h6 _)
  entry_read
  pointwise [batch, pos]

/-! ## The results -/

include h0 h1 h2 h3 h4 h5 h6 in
theorem dx_eq : (dats m 0 c).arrAt 7 cfg0.N = val_main_v76 (F := Ideal) (ofReal x) (ofReal g) (ofReal w1) (ofReal w3) (ofReal w2) (ofReal q) (ofReal y) := by
  refine (final7 m c (x_at m c h0) (g_at m c h1) (fun j k => w1_at m c h2 k j) (fun j k => w3_at m c h3 k j)
    (fun j l => w2_at m c h4 l j) (q_at m c h5) (y_at m c h6)).trans ?_
  funext i
  obtain ⟨n, l, rfl⟩ : ∃ n l, i = ix2 n l := ⟨_, _, eq_ix2 i⟩
  pointwise [val_main_v76]
  exact (Cert.LossHeadRefIdeal.Value.v75_at x g w1 w3 w2 q y (batch n) (pos n) l).symm

include h0 h1 h2 in
theorem a_eq : (dats m 0 c).arrAt 8 cfg0.N = val_main_v78 (F := Ideal) (ofReal x) (ofReal g) (ofReal w1) := by
  refine (final8 m c (x_at m c h0) (g_at m c h1) (fun j k => w1_at m c h2 k j)).trans ?_
  funext i
  obtain ⟨n, j, rfl⟩ : ∃ n j, i = ix2 n j := ⟨_, _, eq_ix2 i⟩
  pointwise [val_main_v78, val_main_v77]
  exact (Cert.LossHeadRefIdeal.Value.v15_at x g w1 (batch n) (pos n) j).symm

include h0 h1 h3 in
theorem b_eq : (dats m 0 c).arrAt 9 cfg0.N = val_main_v80 (F := Ideal) (ofReal x) (ofReal g) (ofReal w3) := by
  refine (final9 m c (x_at m c h0) (g_at m c h1) (fun j k => w3_at m c h3 k j)).trans ?_
  funext i
  obtain ⟨n, j, rfl⟩ : ∃ n j, i = ix2 n j := ⟨_, _, eq_ix2 i⟩
  pointwise [val_main_v80, val_main_v79]
  exact (Cert.LossHeadRefIdeal.Value.v17_at x g w3 (batch n) (pos n) j).symm

include h0 h1 in
theorem h_eq : (dats m 0 c).arrAt 10 cfg0.N = val_main_v82 (F := Ideal) (ofReal x) (ofReal g) := by
  refine (final10 m c (x_at m c h0) (g_at m c h1)).trans ?_
  funext i
  obtain ⟨n, l, rfl⟩ : ∃ n l, i = ix2 n l := ⟨_, _, eq_ix2 i⟩
  pointwise [val_main_v82, val_main_v81]
  exact (Cert.LossHeadRefIdeal.Value.v13_at x g (batch n) (pos n) l).symm

include h0 h1 h2 h3 h4 h5 h6 in
theorem loss_eq : (dats m 0 c).arrAt 11 cfg0.N = val_main_v83 (F := Ideal) (ofReal x) (ofReal g) (ofReal w1) (ofReal w3) (ofReal w2) (ofReal q) (ofReal y) := by
  refine (final11 m c (x_at m c h0) (g_at m c h1) (fun j k => w1_at m c h2 k j) (fun j k => w3_at m c h3 k j)
    (fun j l => w2_at m c h4 l j) (q_at m c h5) (y_at m c h6)).trans ?_
  funext i
  pointwise [val_main_v83]
  refine Eq.trans ?_ (Cert.LossHeadRefIdeal.Value.v49_at x g w1 w3 w2 q y).symm
  exact congrArg (fun s : ℝ => ((1 / 2 * s : ℝ) : EReal)) (sum_rows fun b s => LossRow.loss (O x g w1 w3 w2 b s) (fin q) (row y b s))

include h0 h1 h2 h3 h4 h5 h6 in
theorem dg_eq : (dats m 0 c).arrAt 12 cfg0.N = val_main_v84 (F := Ideal) (ofReal x) (ofReal g) (ofReal w1) (ofReal w3) (ofReal w2) (ofReal q) (ofReal y) := by
  refine (final12 m c (x_at m c h0) (g_at m c h1) (fun j k => w1_at m c h2 k j) (fun j k => w3_at m c h3 k j)
    (fun j l => w2_at m c h4 l j) (q_at m c h5) (y_at m c h6)).trans ?_
  funext i
  obtain ⟨l, rfl⟩ : ∃ l, i = ix2 0 l := ⟨i 1, (eq_ix2 i).trans (congrArg (ix2 · _) (Subsingleton.elim _ _))⟩
  refine Eq.trans ?_ (Cert.LossHeadRefIdeal.Value.v84_at x g w1 w3 w2 q y l).symm
  exact congrArg _ (sum_rows fun b s => LossRow.weightGrad (O x g w1 w3 w2 b s) (fin q) (row y b s) l)

set_option maxHeartbeats 1000000 in
theorem algebraic : Cert.algebraic_LossHeadIdeal_LossHeadRefIdeal_pre_head_finite := by
  intro m ρ m' ρ' hpre hagree
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    run_blocks m ρ, ?_⟩
  refine (θ_run Cert.LossHeadRefIdeal.defs _ _).mono (fun r h c => ?_) (Cert.LossHeadRefIdeal.Value.run (F := Ideal) m' ρ')
  obtain ⟨r0, r1, r2, r3, r4, r5, hkeep⟩ := h c
  obtain ⟨e0, e1, e2, e3, e4, e5, e6⟩ := hagree c
  obtain ⟨⟨x, h0⟩, ⟨g, h1⟩, ⟨w1, h2⟩, ⟨w3, h3⟩, ⟨w2, h4⟩, ⟨q, h5⟩, ⟨y, h6⟩⟩ := reals (hpre c)
  replace e0 := e0.trans h0
  replace e1 := e1.trans h1
  replace e2 := e2.trans h2
  replace e3 := e3.trans h3
  replace e4 := e4.trans h4
  replace e5 := e5.trans h5
  replace e6 := e6.trans h6
  refine ⟨r0.trans ?_, r1.trans ?_, r2.trans ?_, r3.trans ?_, r4.trans ?_, r5.trans ?_, hkeep⟩
  · refine (val_main_v76_eq m' c).trans (Eq.trans ?_ (dx_eq m c h0 h1 h2 h3 h4 h5 h6).symm)
    rw [e0, e1, e2, e3, e4, e5, e6]
  · refine (val_main_v78_eq _ _ _).trans (Eq.trans ?_ (a_eq m c h0 h1 h2).symm)
    rw [e0, e1, e2]
  · refine (val_main_v80_eq _ _ _).trans (Eq.trans ?_ (b_eq m c h0 h1 h3).symm)
    rw [e0, e1, e3]
  · refine (val_main_v82_eq _ _).trans (Eq.trans ?_ (h_eq m c h0 h1).symm)
    rw [e0, e1]
  · refine (val_main_v83_eq m' c).trans (Eq.trans ?_ (loss_eq m c h0 h1 h2 h3 h4 h5 h6).symm)
    rw [e0, e1, e2, e3, e4, e5, e6]
  · refine (val_main_v84_eq m' c).trans (Eq.trans ?_ (dg_eq m c h0 h1 h2 h3 h4 h5 h6).symm)
    rw [e0, e1, e2, e3, e4, e5, e6]

theorem quiescent_reference : Cert.quiescent_LossHeadRefIdeal := fun m ρ _ =>
  (θ_run Cert.LossHeadRefIdeal.defs _ _).mono (fun r h => ⟨fun c => (h c).2.2.2.2.2.2, sem_eq_zero_of_no_sems (by decide) r.2⟩)
    (Cert.LossHeadRefIdeal.Value.run (F := Ideal) m ρ)

end Cert.LossHeadProof

end
-- ==== Proof.Discretise.lean ====
/-
  The gradient through the discretisation of one state of a diagonal recurrence, over real numbers.

  A state has the pole `lr + i li`, the step `dt` and the discrete pole `ar + i ai = exp ((lr + i li) dt)`. Its input
  coefficient is `cr + i ci = (ar + i ai - 1) / (lr + i li)`. Below, `c` and `d` are the gradients of `cr` and `ci`, and `p`
  and `q` those of `ar` and `ai`. The gradients of the pole and of the step are linear in `c`, `d`, `p`, `q`: so the
  gradients of sixteen channels may be added up before or after the chain rule.
-/
module

public import proofs.«01_k».proof.Proof.Reals

@[expose] public section

noncomputable section

namespace Cert.Discretise

open Idealize.ShloMosaic

/-! ## Channels: sixteen to a group -/

section Channels

/-- Channel `h` of group `g`. -/
def chan (g : Fin 32) (h : Fin 16) : Fin 512 := ⟨g.val * 16 + h.val, by have := g.isLt; have := h.isLt; omega⟩

/-- The group of a channel. -/
def group (i : Fin 512) : Fin 32 := ⟨i.val / 16, by have := i.isLt; omega⟩

/-- The place of a channel in its group. -/
def place (i : Fin 512) : Fin 16 := ⟨i.val % 16, Nat.mod_lt _ (by norm_num)⟩

theorem group_chan (g : Fin 32) (h : Fin 16) : group (chan g h) = g :=
  Fin.ext (by have := h.isLt; simp only [group, chan]; omega)

theorem place_chan (g : Fin 32) (h : Fin 16) : place (chan g h) = h :=
  Fin.ext (by have := h.isLt; simp only [place, chan]; omega)

end Channels

section State

variable (lr li dt c d p q : ℝ)

/-- The squared length of the pole. -/
abbrev den : ℝ := lr * lr + li * li

/-- The length of the discrete pole. -/
abbrev mag : ℝ := Real.exp (lr * dt)

abbrev cosZ : ℝ := Real.cos (li * dt)

abbrev sinZ : ℝ := Real.sin (li * dt)

/-- The real part of the discrete pole, less one. -/
def nr : ℝ := mag lr dt * cosZ li dt - 1

/-- The imaginary part of the discrete pole. -/
def ai : ℝ := mag lr dt * sinZ li dt

/-- The input coefficient's real part. -/
def cr : ℝ := (nr lr li dt * lr + ai lr li dt * li) / den lr li

/-- The input coefficient's imaginary part. -/
def ci : ℝ := (ai lr li dt * lr - nr lr li dt * li) / den lr li

/-- The gradient of the squared length of the pole. -/
def dDen : ℝ :=
  -(d * (1 / (den lr li * den lr li)) * (ai lr li dt * lr - nr lr li dt * li))
    + -(c * (1 / (den lr li * den lr li)) * (nr lr li dt * lr + ai lr li dt * li))

/-- The gradient of the discrete pole's real part. -/
def dReal : ℝ := p + (c / den lr li * lr - d / den lr li * li)

/-- The gradient of the discrete pole's imaginary part. -/
def dImag : ℝ := q + (d / den lr li * lr + c / den lr li * li)

/-- The gradient of the discrete pole's angle. -/
def dAngle : ℝ :=
  mag lr dt * dImag lr li c d q * cosZ li dt + -(mag lr dt * dReal lr li c d p) * sinZ li dt

/-- The gradient of the logarithm of the discrete pole's length. -/
def dLog : ℝ :=
  (dImag lr li c d q * sinZ li dt + dReal lr li c d p * cosZ li dt) * mag lr dt

/-- The gradient of the pole's real part. -/
def gRe : ℝ :=
  ai lr li dt * (d / den lr li) + nr lr li dt * (c / den lr li) + 2 * (lr * dDen lr li dt c d) + dLog lr li dt c d p q * dt

/-- The gradient of the pole's imaginary part. -/
def gIm : ℝ :=
  -(nr lr li dt * (d / den lr li)) + ai lr li dt * (c / den lr li) + 2 * (li * dDen lr li dt c d) + dAngle lr li dt c d p q * dt

/-- The gradient of the step. -/
def gDt : ℝ := li * dAngle lr li dt c d p q + lr * dLog lr li dt c d p q

theorem dDen_lin : dDen lr li dt c d = c * dDen lr li dt 1 0 + d * dDen lr li dt 0 1 := by
  unfold dDen; ring

theorem dAngle_lin : dAngle lr li dt c d p q
    = c * dAngle lr li dt 1 0 0 0 + d * dAngle lr li dt 0 1 0 0 + dAngle lr li dt 0 0 p q := by
  unfold dAngle dImag dReal; ring

theorem dLog_lin : dLog lr li dt c d p q
    = c * dLog lr li dt 1 0 0 0 + d * dLog lr li dt 0 1 0 0 + dLog lr li dt 0 0 p q := by
  unfold dLog dImag dReal; ring

theorem gRe_lin : gRe lr li dt c d p q = c * gRe lr li dt 1 0 0 0 + d * gRe lr li dt 0 1 0 0 + gRe lr li dt 0 0 p q := by
  unfold gRe; rw [dDen_lin lr li dt c d, dLog_lin lr li dt c d p q, dDen_lin lr li dt 0 0]; ring

theorem gIm_lin : gIm lr li dt c d p q = c * gIm lr li dt 1 0 0 0 + d * gIm lr li dt 0 1 0 0 + gIm lr li dt 0 0 p q := by
  unfold gIm; rw [dDen_lin lr li dt c d, dAngle_lin lr li dt c d p q, dDen_lin lr li dt 0 0]; ring

theorem gDt_lin : gDt lr li dt c d p q = c * gDt lr li dt 1 0 0 0 + d * gDt lr li dt 0 1 0 0 + gDt lr li dt 0 0 p q := by
  unfold gDt; rw [dAngle_lin lr li dt c d p q, dLog_lin lr li dt c d p q]; ring

end State

/-- A map that is linear in its first two arguments, with the last two left: the gradients of the channels may be added
up before it is applied. -/
theorem sum_of_lin {n : ℕ} {f : ℝ → ℝ → ℝ → ℝ → ℝ} (hf : ∀ c d p q, f c d p q = c * f 1 0 0 0 + d * f 0 1 0 0 + f 0 0 p q)
    (h0 : f 0 0 0 0 = 0) (C D : Fin n → ℝ) (p q : ℝ) :
    f 0 0 p q + ∑ h, f (C h) (D h) 0 0 = f (∑ h, C h) (∑ h, D h) p q := by
  rw [hf (∑ h, C h), Finset.sum_mul, Finset.sum_mul, ← Finset.sum_add_distrib, add_comm]
  exact congrArg (· + _) (Finset.sum_congr rfl fun h _ => by rw [hf (C h), h0, add_zero])

section Sums

variable (lr li dt p q : ℝ) (C D : Fin 16 → ℝ)

theorem gRe_sum : gRe lr li dt 0 0 p q + ∑ h, gRe lr li dt (C h) (D h) 0 0 = gRe lr li dt (∑ h, C h) (∑ h, D h) p q :=
  sum_of_lin (gRe_lin lr li dt) (by simp [gRe, dDen, dLog, dImag, dReal]) C D p q

theorem gIm_sum : gIm lr li dt 0 0 p q + ∑ h, gIm lr li dt (C h) (D h) 0 0 = gIm lr li dt (∑ h, C h) (∑ h, D h) p q :=
  sum_of_lin (gIm_lin lr li dt) (by simp [gIm, dDen, dAngle, dImag, dReal]) C D p q

theorem gDt_sum : gDt lr li dt 0 0 p q + ∑ h, gDt lr li dt (C h) (D h) 0 0 = gDt lr li dt (∑ h, C h) (∑ h, D h) p q :=
  sum_of_lin (gDt_lin lr li dt) (by simp [gDt, dAngle, dLog, dImag, dReal]) C D p q

end Sums

end Cert.Discretise

end
-- ==== Proof.ParamPoint.lean ====
/-
  `ParamIdeal`: what the kernel of the discretisation's gradient computes from real operands.
-/
module

public import proofs.«01_k».proof.Proof.Gen.ParamIdeal.Value
public import proofs.«01_k».proof.Proof.Discretise
public import Idealize.ShloMosaic.Lib.Pipeline.ValueKit

@[expose] public section

noncomputable section

namespace Cert.ParamIdeal.Value

open Idealize.ShloMosaic Idealize.ShloMosaic.TcCoe Idealize.SL.Sem
open Cert.ParamIdeal Cert.ParamIdeal.Gen Cert.Discretise

variable {x0 x1 : FVec Ideal S32x64 .f32} {x2 : FVec Ideal S32x1 .f32} {x3 x4 x5 x6 x7 : FVec Ideal S512x64 .f32}
  {x8 x9 : FVec Ideal S8x32x64 .f32} {x10 x11 : FVec Ideal S512x64 .f32}
  {LR LI : Fin 32 → Fin 64 → ℝ} {LD : Fin 32 → ℝ} {BR BI DR DI : Fin 512 → Fin 64 → ℝ} {AR AI : Fin 8 → Fin 32 → Fin 64 → ℝ}
  (hden : ∀ g p, LR g p * LR g p + LI g p * LI g p ≠ 0)
  (h0 : ∀ g p, x0 (ix2 g p) = (LR g p : EReal)) (h1 : ∀ g p, x1 (ix2 g p) = (LI g p : EReal))
  (h2 : ∀ g, x2 (ix2 g 0) = (LD g : EReal)) (h3 : ∀ i p, x3 (ix2 i p) = (LR (group i) p : EReal))
  (h4 : ∀ i p, x4 (ix2 i p) = (LI (group i) p : EReal)) (h5 : ∀ i p, x5 (ix2 i p) = (LD (group i) : EReal))
  (h6 : ∀ i p, x6 (ix2 i p) = (BR i p : EReal)) (h7 : ∀ i p, x7 (ix2 i p) = (BI i p : EReal))
  (h8 : ∀ k g p, x8 (ix3 k g p) = (AR k g p : EReal)) (h9 : ∀ k g p, x9 (ix3 k g p) = (AI k g p : EReal))
  (h10 : ∀ i p, x10 (ix2 i p) = (DR i p : EReal)) (h11 : ∀ i p, x11 (ix2 i p) = (DI i p : EReal))
  (g : Fin 32) (p : Fin 64) (i : Fin 512)

/-- The gradient of a channel's input coefficient, real part. -/
def coefR (BR BI DR DI : Fin 512 → Fin 64 → ℝ) (i : Fin 512) (p : Fin 64) : ℝ := DI i p * BI i p + DR i p * BR i p

/-- The gradient of a channel's input coefficient, imaginary part. -/
def coefI (BR BI DR DI : Fin 512 → Fin 64 → ℝ) (i : Fin 512) (p : Fin 64) : ℝ := DI i p * BR i p + -DR i p * BI i p

theorem group_mk (g : Fin 32) (h : Fin 16) (k : g.val * 16 + h.val < 512) : group ⟨g.val * 16 + h.val, k⟩ = g := group_chan g h

/-- The gradients of the pole's real part. -/
def poleRe (LR LI : Fin 32 → Fin 64 → ℝ) (LD : Fin 32 → ℝ) (BR BI DR DI : Fin 512 → Fin 64 → ℝ) (AR AI : Fin 8 → Fin 32 → Fin 64 → ℝ)
    (g : Fin 32) (p : Fin 64) : ℝ :=
  gRe (LR g p) (LI g p) (Real.exp (LD g)) 0 0 (∑ k, AR k g p) (∑ k, AI k g p)
    + ∑ h, gRe (LR g p) (LI g p) (Real.exp (LD g)) (coefR BR BI DR DI (chan g h) p) (coefI BR BI DR DI (chan g h) p) 0 0

/-- The gradients of the pole's imaginary part. -/
def poleIm (LR LI : Fin 32 → Fin 64 → ℝ) (LD : Fin 32 → ℝ) (BR BI DR DI : Fin 512 → Fin 64 → ℝ) (AR AI : Fin 8 → Fin 32 → Fin 64 → ℝ)
    (g : Fin 32) (p : Fin 64) : ℝ :=
  gIm (LR g p) (LI g p) (Real.exp (LD g)) 0 0 (∑ k, AR k g p) (∑ k, AI k g p)
    + ∑ h, gIm (LR g p) (LI g p) (Real.exp (LD g)) (coefR BR BI DR DI (chan g h) p) (coefI BR BI DR DI (chan g h) p) 0 0

/-- The gradients of the step's logarithm. -/
def stepLog (LR LI : Fin 32 → Fin 64 → ℝ) (LD : Fin 32 → ℝ) (BR BI DR DI : Fin 512 → Fin 64 → ℝ) (AR AI : Fin 8 → Fin 32 → Fin 64 → ℝ)
    (g : Fin 32) : ℝ :=
  (∑ p, gDt (LR g p) (LI g p) (Real.exp (LD g)) 0 0 (∑ k, AR k g p) (∑ k, AI k g p)
    + ∑ p, ∑ h, gDt (LR g p) (LI g p) (Real.exp (LD g)) (coefR BR BI DR DI (chan g h) p) (coefI BR BI DR DI (chan g h) p) 0 0)
    * Real.exp (LD g)

/-- The gradients of the input matrix's real part. -/
def inputRe (LR LI : Fin 32 → Fin 64 → ℝ) (LD : Fin 32 → ℝ) (DR DI : Fin 512 → Fin 64 → ℝ) (i : Fin 512) (p : Fin 64) : ℝ :=
  cr (LR (group i) p) (LI (group i) p) (Real.exp (LD (group i))) * DR i p
    + ci (LR (group i) p) (LI (group i) p) (Real.exp (LD (group i))) * DI i p

/-- The gradients of the input matrix's imaginary part. -/
def inputIm (LR LI : Fin 32 → Fin 64 → ℝ) (LD : Fin 32 → ℝ) (DR DI : Fin 512 → Fin 64 → ℝ) (i : Fin 512) (p : Fin 64) : ℝ :=
  cr (LR (group i) p) (LI (group i) p) (Real.exp (LD (group i))) * DI i p
    - ci (LR (group i) p) (LI (group i) p) (Real.exp (LD (group i))) * DR i p

include hden h0 h1 h2 h3 h4 h5 h6 h7 h8 h9 h10 h11 in
/-- The five results of the kernel's body. -/
theorem out_at :
    out0_12 (F := Ideal) x0 x1 x2 x3 x4 x5 x6 x7 x8 x9 x10 x11 (ix2 g p) = (poleRe LR LI LD BR BI DR DI AR AI g p : EReal)
    ∧ out0_13 (F := Ideal) x0 x1 x2 x3 x4 x5 x6 x7 x8 x9 x10 x11 (ix2 g p) = (poleIm LR LI LD BR BI DR DI AR AI g p : EReal)
    ∧ out0_14 (F := Ideal) x0 x1 x2 x3 x4 x5 x6 x7 x8 x9 x10 x11 (ix2 g 0) = (stepLog LR LI LD BR BI DR DI AR AI g : EReal)
    ∧ out0_15 (F := Ideal) x0 x1 x2 x3 x4 x5 x6 x7 x8 x9 x10 x11 (ix2 i p) = (inputRe LR LI LD DR DI i p : EReal)
    ∧ out0_16 (F := Ideal) x0 x1 x2 x3 x4 x5 x6 x7 x8 x9 x10 x11 (ix2 i p) = (inputIm LR LI LD DR DI i p : EReal) := by
  have hd : ∀ g p (a : ℝ), Ideal.div (a : EReal) ((LR g p * LR g p + LI g p * LI g p : ℝ) : EReal) = _ :=
    fun g p a => Reals.div_coe_coe a (hden g p)
  have hdd : ∀ g p (a : ℝ), Ideal.div (a : EReal)
      (((LR g p * LR g p + LI g p * LI g p) * (LR g p * LR g p + LI g p * LI g p) : ℝ) : EReal) = _ :=
    fun g p a => Reals.div_coe_coe a (mul_ne_zero (hden g p) (hden g p))
  refine ⟨?_, ?_, ?_, ?_, ?_⟩
  all_goals first | unfold_out out0_12 | unfold_out out0_13 | unfold_out out0_14 | unfold_out out0_15 | unfold_out out0_16
  all_goals frame_out
  all_goals
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87]
    simp only [h0, h1, h2, h3, h4, h5, h6, h7, h8, h9, h10, h11, group_mk, ← EReal.coe_zero, ← EReal.coe_one, Ideal.exp_coe,
      Ideal.sin_coe, Ideal.cos_coe, ← EReal.coe_mul, ← EReal.coe_add, ← EReal.coe_sub, ← EReal.coe_neg, hd, hdd, ← Reals.coe_sum]
  · refine congrArg _ (congrArg₂ (· + ·) ?_ (Finset.sum_congr rfl fun h _ => ?_))
    all_goals simp only [gRe, dDen, dLog, dImag, dReal, nr, ai, coefR, coefI, chan]; ring
  · refine congrArg _ (congrArg₂ (· + ·) ?_ (Finset.sum_congr rfl fun h _ => ?_))
    all_goals simp only [gIm, dDen, dAngle, dImag, dReal, nr, ai, coefR, coefI, chan]; ring
  · rw [← Finset.sum_add_distrib, stepLog, add_mul]
    refine congrArg _ (congrArg₂ (· + ·) (congrArg (fun s : ℝ => s * Real.exp (LD g)) (Finset.sum_congr rfl fun p _ => ?_))
      (Eq.symm ((Finset.sum_mul ..).trans
        (Finset.sum_congr rfl fun p _ => (Finset.sum_mul ..).trans (Finset.sum_congr rfl fun h _ => ?_)))))
    all_goals simp only [gDt, dAngle, dLog, dImag, dReal, nr, ai, coefR, coefI, chan]; ring
  · refine congrArg _ ?_
    simp only [inputRe, cr, ci, nr, ai]; ring
  · refine congrArg _ ?_
    simp only [inputIm, cr, ci, nr, ai]; ring

end Cert.ParamIdeal.Value

end
-- ==== Proof.ParamKernel.lean ====
/-
  `ParamIdeal`: what the kernel of the discretisation's gradient leaves in its five results, from real operands.

  The kernel has one grid point, which takes every operand whole.
-/
module

public import proofs.«01_k».proof.Proof.ParamPoint

@[expose] public section

noncomputable section

namespace Cert.ParamIdeal.Value

open Idealize.ShloMosaic Idealize.ShloMosaic.TcCoe Idealize.SL.Sem
open Idealize.ShloMosaic.Pipeline (Dat)
open Cert.ParamIdeal Cert.ParamIdeal.Gen Cert.Discretise

variable (m : (ℓ : Loc nD τ sig) → Buf (Elt Ideal) ℓ) (c : Dev nD)

/-- Every window has one block. -/
theorem index_eq : ∀ t : Fin grid0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0, 0] ∧ win0_9.index t = ![0, 0, 0] ∧ win0_10.index t = ![0, 0] ∧
    win0_11.index t = ![0, 0] ∧ win0_12.index t = ![0, 0] ∧ win0_13.index t = ![0, 0] ∧ win0_14.index t = ![0, 0] ∧
    win0_15.index t = ![0, 0] ∧ win0_16.index t = ![0, 0] := by
  decide +kernel

variable {LR LI : Fin 32 → Fin 64 → ℝ} {LD : Fin 32 → ℝ} {BR BI DR DI : Fin 512 → Fin 64 → ℝ} {AR AI : Fin 8 → Fin 32 → Fin 64 → ℝ}
  (hden : ∀ g p, LR g p * LR g p + LI g p * LI g p ≠ 0)
  (h0 : ∀ g p, V m c main_v0 (ix2 g p) = (LR g p : EReal)) (h1 : ∀ g p, V m c main_v1 (ix2 g p) = (LI g p : EReal))
  (h2 : ∀ g, V m c main_v3 (ix2 g 0) = (LD g : EReal)) (h3 : ∀ i p, V m c main_v11 (ix2 i p) = (LR (group i) p : EReal))
  (h4 : ∀ i p, V m c main_v13 (ix2 i p) = (LI (group i) p : EReal)) (h5 : ∀ i p, V m c main_v16 (ix2 i p) = (LD (group i) : EReal))
  (h6 : ∀ i p, V m c main_v6 (ix2 i p) = (BR i p : EReal)) (h7 : ∀ i p, V m c main_v9 (ix2 i p) = (BI i p : EReal))
  (h8 : ∀ k g p, V m c main_arg5 (ix3 k g p) = (AR k g p : EReal)) (h9 : ∀ k g p, V m c main_arg6 (ix3 k g p) = (AI k g p : EReal))
  (h10 : ∀ i p, V m c main_v18 (ix2 i p) = (DR i p : EReal)) (h11 : ∀ i p, V m c main_v20 (ix2 i p) = (DI i p : EReal))

include hden h0 h1 h2 h3 h4 h5 h6 h7 h8 h9 h10 h11

/-- What the grid point leaves in the five results. -/
theorem point (t : Fin cfg0.N) (g : Fin 32) (p : Fin 64) (i : Fin 512) :
    (dats m 0 c).after 12 t (ix2 g p) = (poleRe LR LI LD BR BI DR DI AR AI g p : EReal)
    ∧ (dats m 0 c).after 13 t (ix2 g p) = (poleIm LR LI LD BR BI DR DI AR AI g p : EReal)
    ∧ (dats m 0 c).after 14 t (ix2 g 0) = (stepLog LR LI LD BR BI DR DI AR AI g : EReal)
    ∧ (dats m 0 c).after 15 t (ix2 i p) = (inputRe LR LI LD DR DI i p : EReal)
    ∧ (dats m 0 c).after 16 t (ix2 i p) = (inputIm LR LI LD DR DI i p : EReal) := by
  rw [after0_12, after0_13, after0_14, after0_15, after0_16]
  refine out_at hden (fun g p => Eq.trans ?_ (h0 g p)) (fun g p => Eq.trans ?_ (h1 g p)) (fun g => Eq.trans ?_ (h2 g))
    (fun i p => Eq.trans ?_ (h3 i p)) (fun i p => Eq.trans ?_ (h4 i p)) (fun i p => Eq.trans ?_ (h5 i p))
    (fun i p => Eq.trans ?_ (h6 i p)) (fun i p => Eq.trans ?_ (h7 i p)) (fun k g p => Eq.trans ?_ (h8 k g p))
    (fun k g p => Eq.trans ?_ (h9 k g p)) (fun i p => Eq.trans ?_ (h10 i p)) (fun i p => Eq.trans ?_ (h11 i p)) g p i
  all_goals blk_point [iblk, index_eq t]

theorem final12 : (dats m 0 c).arrAt 12 cfg0.N = fun j => (poleRe LR LI LD BR BI DR DI AR AI (j 0) (j 1) : EReal) := by
  refine (dats m 0 c).arrAt_eq_of_covers 12 _ (by decide +kernel) fun t hf y => ?_
  blk_simp
  obtain ⟨g, p, rfl⟩ : ∃ (g : Fin 32) (p : Fin 64), y = ix2 g p := ⟨_, _, eq_ix2 y⟩
  have e : (win0_12.blk t).view.emb (ix2 g p) = ix2 g p := by
    blk_ext [index_eq t]
  rw [e]
  exact (point m c hden h0 h1 h2 h3 h4 h5 h6 h7 h8 h9 h10 h11 t g p 0).1

theorem final13 : (dats m 0 c).arrAt 13 cfg0.N = fun j => (poleIm LR LI LD BR BI DR DI AR AI (j 0) (j 1) : EReal) := by
  refine (dats m 0 c).arrAt_eq_of_covers 13 _ (by decide +kernel) fun t hf y => ?_
  blk_simp
  obtain ⟨g, p, rfl⟩ : ∃ (g : Fin 32) (p : Fin 64), y = ix2 g p := ⟨_, _, eq_ix2 y⟩
  have e : (win0_13.blk t).view.emb (ix2 g p) = ix2 g p := by
    blk_ext [index_eq t]
  rw [e]
  exact (point m c hden h0 h1 h2 h3 h4 h5 h6 h7 h8 h9 h10 h11 t g p 0).2.1

theorem final14 : (dats m 0 c).arrAt 14 cfg0.N = fun j => (stepLog LR LI LD BR BI DR DI AR AI (j 0) : EReal) := by
  refine (dats m 0 c).arrAt_eq_of_covers 14 _ (by decide +kernel) fun t hf y => ?_
  blk_simp
  obtain ⟨g, rfl⟩ : ∃ g : Fin 32, y = ix2 g 0 := ⟨y 0, (eq_ix2 y).trans (congrArg (ix2 (y 0)) (Subsingleton.elim _ _))⟩
  have e : (win0_14.blk t).view.emb (ix2 g 0) = ix2 g 0 := by
    blk_ext [index_eq t]
  rw [e]
  exact (point m c hden h0 h1 h2 h3 h4 h5 h6 h7 h8 h9 h10 h11 t g 0 0).2.2.1

theorem final15 : (dats m 0 c).arrAt 15 cfg0.N = fun j => (inputRe LR LI LD DR DI (j 0) (j 1) : EReal) := by
  refine (dats m 0 c).arrAt_eq_of_covers 15 _ (by decide +kernel) fun t hf y => ?_
  blk_simp
  obtain ⟨i, p, rfl⟩ : ∃ (i : Fin 512) (p : Fin 64), y = ix2 i p := ⟨_, _, eq_ix2 y⟩
  have e : (win0_15.blk t).view.emb (ix2 i p) = ix2 i p := by
    blk_ext [index_eq t]
  rw [e]
  exact (point m c hden h0 h1 h2 h3 h4 h5 h6 h7 h8 h9 h10 h11 t 0 p i).2.2.2.1

theorem final16 : (dats m 0 c).arrAt 16 cfg0.N = fun j => (inputIm LR LI LD DR DI (j 0) (j 1) : EReal) := by
  refine (dats m 0 c).arrAt_eq_of_covers 16 _ (by decide +kernel) fun t hf y => ?_
  blk_simp
  obtain ⟨i, p, rfl⟩ : ∃ (i : Fin 512) (p : Fin 64), y = ix2 i p := ⟨_, _, eq_ix2 y⟩
  have e : (win0_16.blk t).view.emb (ix2 i p) = ix2 i p := by
    blk_ext [index_eq t]
  rw [e]
  exact (point m c hden h0 h1 h2 h3 h4 h5 h6 h7 h8 h9 h10 h11 t 0 p i).2.2.2.2

end Cert.ParamIdeal.Value

end
-- ==== Proof.ParamReference.lean ====
/-
  `ParamRefIdeal`: the reference's five results over real arguments.
-/
module

public import proofs.«01_k».proof.Proof.Gen.ParamRefIdeal.Run
public import proofs.«01_k».proof.Proof.Gen.ParamRefIdeal.Read
public import proofs.«01_k».proof.Proof.Discretise

@[expose] public section

noncomputable section

namespace Cert.ParamRefIdeal.Value

open Idealize.ShloMosaic Idealize.ShloMosaic.TcCoe Idealize.SL.Sem
open Cert.ParamRefIdeal Cert.ParamRefIdeal.Gen Cert.ParamRefIdeal.Read Cert.Discretise

/-- An array of real numbers as an array of the program. -/
abbrev ofReal {t : Shape} (y : t.Idx → ℝ) : FVec Ideal t .f32 := fun i => (y i : EReal)

variable (a0 a1 : S1x32x64.Idx → ℝ) (a2 : S1x32.Idx → ℝ) (a3 a4 : S1x32x64x16.Idx → ℝ) (a5 a6 : S8x32x64.Idx → ℝ)
  (a7 a8 : S32x64x16.Idx → ℝ) (g : Fin 32) (p : Fin 64) (h : Fin 16) (i : Fin 512)

/-- A pole, its real or its imaginary part. -/
abbrev pole (a : S1x32x64.Idx → ℝ) (g : Fin 32) (p : Fin 64) : ℝ := a (ix3 0 g p)

/-- The logarithm of a group's step. -/
abbrev logStep (a : S1x32.Idx → ℝ) (g : Fin 32) : ℝ := a (ix2 0 g)

/-- An entry of the input matrix at a channel. -/
abbrev inputAt (b : S1x32x64x16.Idx → ℝ) (i : Fin 512) (p : Fin 64) : ℝ := b (ix4 0 (group i) p (place i))

/-- The gradient of the discrete input matrix at a channel. -/
abbrev gradAt (b : S32x64x16.Idx → ℝ) (i : Fin 512) (p : Fin 64) : ℝ := b (ix3 (group i) p (place i))

/-- The gradient of the discrete pole, one part to a block of time. -/
abbrev partAt (b : S8x32x64.Idx → ℝ) (k : Fin 8) (g : Fin 32) (p : Fin 64) : ℝ := b (ix3 k g p)

/-- The gradient of a group's input coefficient, real part. -/
def sumR : ℝ := ∑ h : Fin 16, (a8 (ix3 g p h) * a4 (ix4 0 g p h) + a7 (ix3 g p h) * a3 (ix4 0 g p h))

/-- The gradient of a group's input coefficient, imaginary part. -/
def sumI : ℝ := ∑ h : Fin 16, (a8 (ix3 g p h) * a3 (ix4 0 g p h) + -a7 (ix3 g p h) * a4 (ix4 0 g p h))

theorem v0_at : val_main_v0 (F := Ideal) (ofReal a5) (ix2 g p) = ((∑ k, partAt a5 k g p : ℝ) : EReal) := by
  pointwise [val_main_v0, val_main_cst]
  simp only [← Reals.coe_sum]

theorem v1_at : val_main_v1 (F := Ideal) (ofReal a6) (ix2 g p) = ((∑ k, partAt a6 k g p : ℝ) : EReal) := by
  pointwise [val_main_v1, val_main_cst_0]
  simp only [← Reals.coe_sum]

theorem v76_at : val_main_v76 (F := Ideal) (ofReal a3) (ofReal a4) (ofReal a7) (ofReal a8) (ix2 g p) = (sumI a3 a4 a7 a8 g p : EReal) := by
  rw [sumI, Finset.sum_add_distrib, EReal.coe_add, Reals.coe_sum, Reals.coe_sum]
  pointwise [val_main_v76, val_main_v60, val_main_v59, val_main_v58, val_main_v57, val_main_v75, val_main_v74, val_main_v73, val_main_v72,
    val_main_v68, val_main_v54, val_main_v5, val_main_v6, val_main_cst_4, val_main_cst_5, val_main_cst_8, val_main_cst_9]
  simp only [Fin.sum_univ_one, ← EReal.coe_neg, ← EReal.coe_mul]

theorem v84_at : val_main_v84 (F := Ideal) (ofReal a3) (ofReal a4) (ofReal a7) (ofReal a8) (ix2 g p) = (sumR a3 a4 a7 a8 g p : EReal) := by
  rw [sumR, Finset.sum_add_distrib, EReal.coe_add, Reals.coe_sum, Reals.coe_sum]
  pointwise [val_main_v84, val_main_v66, val_main_v65, val_main_v64, val_main_v63, val_main_v83, val_main_v82, val_main_v81, val_main_v80,
    val_main_v67, val_main_v53, val_main_v5, val_main_v6, val_main_cst_6, val_main_cst_7, val_main_cst_10, val_main_cst_11]
  simp only [Fin.sum_univ_one, ← EReal.coe_mul]

variable (hden : ∀ g p, pole a0 g p * pole a0 g p + pole a1 g p * pole a1 g p ≠ 0)

include hden in
/-- The five results of the reference. -/
theorem results :
    val_main_v139 (F := Ideal) (ofReal a0) (ofReal a1) (ofReal a2) (ofReal a3) (ofReal a4) (ofReal a5) (ofReal a6) (ofReal a7) (ofReal a8) (ix2 g p)
      = (gRe (pole a0 g p) (pole a1 g p) (Real.exp (logStep a2 g)) (sumR a3 a4 a7 a8 g p) (sumI a3 a4 a7 a8 g p)
          (∑ k, partAt a5 k g p) (∑ k, partAt a6 k g p) : EReal)
    ∧ val_main_v132 (F := Ideal) (ofReal a0) (ofReal a1) (ofReal a2) (ofReal a3) (ofReal a4) (ofReal a5) (ofReal a6) (ofReal a7) (ofReal a8) (ix2 g p)
      = (gIm (pole a0 g p) (pole a1 g p) (Real.exp (logStep a2 g)) (sumR a3 a4 a7 a8 g p) (sumI a3 a4 a7 a8 g p)
          (∑ k, partAt a5 k g p) (∑ k, partAt a6 k g p) : EReal)
    ∧ val_main_v142 (F := Ideal) (ofReal a0) (ofReal a1) (ofReal a2) (ofReal a3) (ofReal a4) (ofReal a5) (ofReal a6) (ofReal a7) (ofReal a8) (ix2 g 0)
      = (((∑ p, gDt (pole a0 g p) (pole a1 g p) (Real.exp (logStep a2 g)) (sumR a3 a4 a7 a8 g p) (sumI a3 a4 a7 a8 g p)
          (∑ k, partAt a5 k g p) (∑ k, partAt a6 k g p)) * Real.exp (logStep a2 g) : ℝ) : EReal)
    ∧ val_main_v144 (F := Ideal) (ofReal a0) (ofReal a1) (ofReal a2) (ofReal a7) (ofReal a8) (ix2 i p)
      = ((cr (pole a0 (group i) p) (pole a1 (group i) p) (Real.exp (logStep a2 (group i))) * gradAt a7 i p
          + ci (pole a0 (group i) p) (pole a1 (group i) p) (Real.exp (logStep a2 (group i))) * gradAt a8 i p : ℝ) : EReal)
    ∧ val_main_v146 (F := Ideal) (ofReal a0) (ofReal a1) (ofReal a2) (ofReal a7) (ofReal a8) (ix2 i p)
      = ((cr (pole a0 (group i) p) (pole a1 (group i) p) (Real.exp (logStep a2 (group i))) * gradAt a8 i p
          - ci (pole a0 (group i) p) (pole a1 (group i) p) (Real.exp (logStep a2 (group i))) * gradAt a7 i p : ℝ) : EReal) := by
  have hd : ∀ g p (a : ℝ), Ideal.div (a : EReal) ((a0 (ix3 0 g p) * a0 (ix3 0 g p) + a1 (ix3 0 g p) * a1 (ix3 0 g p) : ℝ) : EReal) = _ :=
    fun g p a => Reals.div_coe_coe a (hden g p)
  have hdd : ∀ g p (a : ℝ), Ideal.div (a : EReal) (((a0 (ix3 0 g p) * a0 (ix3 0 g p) + a1 (ix3 0 g p) * a1 (ix3 0 g p))
      * (a0 (ix3 0 g p) * a0 (ix3 0 g p) + a1 (ix3 0 g p) * a1 (ix3 0 g p)) : ℝ) : EReal) = _ :=
    fun g p a => Reals.div_coe_coe a (mul_ne_zero (hden g p) (hden g p))
  refine ⟨?_, ?_, ?_, ?_, ?_⟩
  all_goals
    pointwise [val_main_v2, val_main_v3, val_main_v4, val_main_v7, val_main_v8, val_main_v9, val_main_v10, val_main_v11,
      val_main_v12, val_main_v13, val_main_v14, val_main_v15, val_main_v16, val_main_v17, val_main_v18,
      val_main_v19, val_main_v20, val_main_v21, val_main_v22, val_main_v23, val_main_v24, val_main_v25,
      val_main_v26, val_main_v27, val_main_v28, val_main_v29, val_main_v30, val_main_v31, val_main_v32,
      val_main_v33, val_main_v34, val_main_v35, val_main_v36, val_main_v37, val_main_v38, val_main_v85,
      val_main_v86, val_main_v87, val_main_v88, val_main_v89, val_main_v90, val_main_v91, val_main_v92,
      val_main_v93, val_main_v94, val_main_v95, val_main_v96, val_main_v97, val_main_v98, val_main_v99,
      val_main_v100, val_main_v101, val_main_v102, val_main_v103, val_main_v104, val_main_v105, val_main_v106,
      val_main_v107, val_main_v108, val_main_v109, val_main_v110, val_main_v111, val_main_v112, val_main_v113,
      val_main_v114, val_main_v115, val_main_v116, val_main_v117, val_main_v118, val_main_v119, val_main_v120,
      val_main_v121, val_main_v122, val_main_v123, val_main_v124, val_main_v125, val_main_v126, val_main_v127,
      val_main_v128, val_main_v129, val_main_v130, val_main_v131, val_main_v132, val_main_v133, val_main_v134,
      val_main_v135, val_main_v136, val_main_v137, val_main_v138, val_main_v139, val_main_v140, val_main_v141,
      val_main_v142, val_main_cst_1, val_main_cst_2, val_main_cst_3, val_main_cst_12, val_main_cst_13,
      val_main_cst_14, val_main_v5, val_main_v6, val_main_v39, val_main_v40, val_main_v42, val_main_v43,
      val_main_v46, val_main_v47, val_main_v49, val_main_v50, val_main_v53, val_main_v54, val_main_v55,
      val_main_v56, val_main_v61, val_main_v62, val_main_v67, val_main_v68, val_main_v69, val_main_v70,
      val_main_v71, val_main_v77, val_main_v78, val_main_v79, val_main_v143, val_main_v144, val_main_v145,
      val_main_v146]
    simp only [v0_at, v1_at, v76_at, v84_at, Fin.sum_univ_one, ← EReal.coe_zero, ← EReal.coe_one, Ideal.exp_coe,
      Ideal.sin_coe, Ideal.cos_coe, ← EReal.coe_mul, ← EReal.coe_add, ← EReal.coe_sub, ← EReal.coe_neg, hd, hdd, ← Reals.coe_sum]
  · refine congrArg _ ?_
    simp only [gRe, dDen, dLog, dImag, dReal, nr, ai]; ring
  · refine congrArg _ ?_
    simp only [gIm, dDen, dAngle, dImag, dReal, nr, ai]; ring
  · rw [← Finset.sum_add_distrib]
    refine congrArg _ (congrArg (fun s : ℝ => s * Real.exp (logStep a2 g)) (Finset.sum_congr rfl fun p _ => ?_))
    simp only [gDt, dAngle, dLog, dImag, dReal, nr, ai]; ring
  · refine congrArg _ ?_
    simp only [cr, ci, nr, ai, den, mag, cosZ, sinZ, pole, logStep, gradAt, group, place]; ring
  · refine congrArg _ ?_
    simp only [cr, ci, nr, ai, den, mag, cosZ, sinZ, pole, logStep, gradAt, group, place]; ring

end Cert.ParamRefIdeal.Value

end
-- ==== Proof.Param.lean ====
/-
  The gradient of S5's discretisation: the kernel's results are the reference's.
-/
module

public import proofs.«01_k».proof.Defs
public import proofs.«01_k».proof.Proof.ParamKernel
public import proofs.«01_k».proof.Proof.ParamReference

@[expose] public section

noncomputable section

namespace Cert.ParamProof

open Idealize.ShloMosaic Idealize.ShloMosaic.TcCoe Idealize.SL.Sem

/-! ## The precondition -/

instance preFacts : Cert.Pre_par_finite.Facts :=
  ⟨by decide, by decide, by decide, by decide, by decide, by decide, by decide, by decide, by decide, by decide, by decide⟩

/-- A real number that compares above zero. -/
theorem pos_of_cmp {r : ℝ} (h : Ideal.cmp .ogt (r : EReal) 0 = 1#1) : 0 < r := by
  by_contra hc
  have hc' : ¬ (0 : EReal) < (r : EReal) := fun h0 => hc (EReal.coe_pos.mp h0)
  simp [Ideal.cmp, hc'] at h

open Cert.Pre_par_finite in
/-- Under the precondition the arguments are arrays of real numbers, and no pole is zero. -/
theorem reals {x0 x1 : FVec Ideal S1x32x64 .f32} {x2 : FVec Ideal S1x32 .f32} {x3 x4 : FVec Ideal S1x32x64x16 .f32}
    {x5 x6 : FVec Ideal S8x32x64 .f32} {x7 x8 : FVec Ideal S32x64x16 .f32}
    (h : fn (F := Ideal) x0 x1 x2 x3 x4 x5 x6 x7 x8 = fun _ => 1#1) :
    (∃ (X Y : S1x32x64.Idx → ℝ), x0 = (fun i => (X i : EReal)) ∧ x1 = (fun i => (Y i : EReal)) ∧ ∀ i, X i * X i + Y i * Y i ≠ 0) ∧
    (∃ X : S1x32.Idx → ℝ, x2 = fun i => (X i : EReal)) ∧ (∃ X : S1x32x64x16.Idx → ℝ, x3 = fun i => (X i : EReal)) ∧
    (∃ X : S1x32x64x16.Idx → ℝ, x4 = fun i => (X i : EReal)) ∧ (∃ X : S8x32x64.Idx → ℝ, x5 = fun i => (X i : EReal)) ∧
    (∃ X : S8x32x64.Idx → ℝ, x6 = fun i => (X i : EReal)) ∧ (∃ X : S32x64x16.Idx → ℝ, x7 = fun i => (X i : EReal)) ∧
    (∃ X : S32x64x16.Idx → ℝ, x8 = fun i => (X i : EReal)) := by
  have h0 := congrFun h ix0
  have h1 := Reals.one_of_andi_left h0
  have h2 := Reals.one_of_andi_left h1
  have h3 := Reals.one_of_andi_left h2
  have h4 := Reals.one_of_andi_left h3
  have h5 := Reals.one_of_andi_left h4
  have h6 := Reals.one_of_andi_left h5
  have h7 := Reals.one_of_andi_left h6
  have h8 := Reals.one_of_andi_left h7
  obtain ⟨X, hX⟩ := Reals.exists_real x0 _ _ _ _ _ _ (Reals.one_of_andi_left h8)
  obtain ⟨Y, hY⟩ := Reals.exists_real x1 _ _ _ _ _ _ (Reals.one_of_andi_right h8)
  refine ⟨⟨X, Y, hX, hY, fun i => ?_⟩, Reals.exists_real x2 _ _ _ _ _ _ (Reals.one_of_andi_right h7),
    Reals.exists_real x3 _ _ _ _ _ _ (Reals.one_of_andi_right h6), Reals.exists_real x4 _ _ _ _ _ _ (Reals.one_of_andi_right h5),
    Reals.exists_real x5 _ _ _ _ _ _ (Reals.one_of_andi_right h4), Reals.exists_real x6 _ _ _ _ _ _ (Reals.one_of_andi_right h3),
    Reals.exists_real x7 _ _ _ _ _ _ (Reals.one_of_andi_right h2), Reals.exists_real x8 _ _ _ _ _ _ (Reals.one_of_andi_right h1)⟩
  have hi := Host.reduce_andi_all _ _ _ _ _ (Reals.one_of_andi_right h0) i
  refine (pos_of_cmp (r := X i * X i + Y i * Y i) ?_).ne'
  rw [EReal.coe_add, EReal.coe_mul, EReal.coe_mul, ← congrFun hX i, ← congrFun hY i]
  change Ideal.cmp .ogt (x0 i * x0 i + x1 i * x1 i) (Ideal.ofBits .f32 0x00000000#32) = 1#1 at hi
  rwa [Ideal.ofBits_zero_f32] at hi

/-! ## The kernel's operands read from the arguments -/

open Cert.ParamIdeal Cert.ParamIdeal.Gen Cert.ParamIdeal.Value Cert.Discretise
open Cert.ParamRefIdeal.Value (ofReal pole logStep inputAt gradAt partAt sumR sumI results)
open Cert.ParamRefIdeal.Read

variable (m : (ℓ : Loc nD τ sig) → Buf (Elt Ideal) ℓ) (c : Dev nD)
  {a0 a1 : S1x32x64.Idx → ℝ} {a2 : S1x32.Idx → ℝ} {a3 a4 : S1x32x64x16.Idx → ℝ} {a5 a6 : S8x32x64.Idx → ℝ} {a7 a8 : S32x64x16.Idx → ℝ}
  (h0 : m ((c : Thread nD τ).loc main_arg0) = ofReal a0)
  (h1 : m ((c : Thread nD τ).loc main_arg1) = ofReal a1)
  (h2 : m ((c : Thread nD τ).loc main_arg2) = ofReal a2)
  (h3 : m ((c : Thread nD τ).loc main_arg3) = ofReal a3)
  (h4 : m ((c : Thread nD τ).loc main_arg4) = ofReal a4)
  (h5 : m ((c : Thread nD τ).loc main_arg5) = ofReal a5)
  (h6 : m ((c : Thread nD τ).loc main_arg6) = ofReal a6)
  (h7 : m ((c : Thread nD τ).loc main_arg7) = ofReal a7)
  (h8 : m ((c : Thread nD τ).loc main_arg8) = ofReal a8)
  (k : Fin 8) (i : Fin 512) (g : Fin 32) (p : Fin 64)

include h0 in
theorem re_at : V m c main_v0 (ix2 g p) = (pole a0 g p : EReal) := by
  refine Eq.trans ?_ (congrFun h0 _)
  entry_read
  pointwise [group, place]

include h1 in
theorem im_at : V m c main_v1 (ix2 g p) = (pole a1 g p : EReal) := by
  refine Eq.trans ?_ (congrFun h1 _)
  entry_read
  pointwise [group, place]

include h2 in
theorem ldt_at : V m c main_v3 (ix2 g 0) = (logStep a2 g : EReal) := by
  refine Eq.trans ?_ (congrFun h2 _)
  entry_read
  pointwise [group, place]

include h0 in
theorem reRep_at : V m c main_v11 (ix2 i p) = (pole a0 (group i) p : EReal) := by
  refine Eq.trans ?_ (congrFun h0 _)
  entry_read
  pointwise [group, place]

include h1 in
theorem imRep_at : V m c main_v13 (ix2 i p) = (pole a1 (group i) p : EReal) := by
  refine Eq.trans ?_ (congrFun h1 _)
  entry_read
  pointwise [group, place]

include h2 in
theorem ldtRep_at : V m c main_v16 (ix2 i p) = (logStep a2 (group i) : EReal) := by
  refine Eq.trans ?_ (congrFun h2 _)
  entry_read
  pointwise [group, place]

include h3 in
theorem bRe_at : V m c main_v6 (ix2 i p) = (inputAt a3 i p : EReal) := by
  refine Eq.trans ?_ (congrFun h3 _)
  entry_read
  pointwise [group, place]

include h4 in
theorem bIm_at : V m c main_v9 (ix2 i p) = (inputAt a4 i p : EReal) := by
  refine Eq.trans ?_ (congrFun h4 _)
  entry_read
  pointwise [group, place]

include h7 in
theorem dRe_at : V m c main_v18 (ix2 i p) = (gradAt a7 i p : EReal) := by
  refine Eq.trans ?_ (congrFun h7 _)
  entry_read
  pointwise [group, place]

include h8 in
theorem dIm_at : V m c main_v20 (ix2 i p) = (gradAt a8 i p : EReal) := by
  refine Eq.trans ?_ (congrFun h8 _)
  entry_read
  pointwise [group, place]

include h5 in
theorem parRe_at : V m c main_arg5 (ix3 k g p) = (partAt a5 k g p : EReal) := by rw [V_main_arg5, h5]

include h6 in
theorem parIm_at : V m c main_arg6 (ix3 k g p) = (partAt a6 k g p : EReal) := by rw [V_main_arg6, h6]

theorem coefR_chan (h : Fin 16) : coefR (inputAt a3) (inputAt a4) (gradAt a7) (gradAt a8) (chan g h) p
    = a8 (ix3 g p h) * a4 (ix4 0 g p h) + a7 (ix3 g p h) * a3 (ix4 0 g p h) := by
  simp only [coefR, gradAt, inputAt, group_chan, place_chan]

theorem coefI_chan (h : Fin 16) : coefI (inputAt a3) (inputAt a4) (gradAt a7) (gradAt a8) (chan g h) p
    = a8 (ix3 g p h) * a3 (ix4 0 g p h) + -a7 (ix3 g p h) * a4 (ix4 0 g p h) := by
  simp only [coefI, gradAt, inputAt, group_chan, place_chan]

/-! ## The results -/

variable (hden : ∀ g p, pole a0 g p * pole a0 g p + pole a1 g p * pole a1 g p ≠ 0)

include hden h0 h1 h2 h3 h4 h5 h6 h7 h8 in
theorem re_eq : (dats m 0 c).arrAt 12 cfg0.N = val_main_v139 (F := Ideal) (ofReal a0) (ofReal a1) (ofReal a2) (ofReal a3) (ofReal a4) (ofReal a5) (ofReal a6) (ofReal a7) (ofReal a8) := by
  refine (final12 m c hden (re_at m c h0) (im_at m c h1) (ldt_at m c h2) (reRep_at m c h0) (imRep_at m c h1) (ldtRep_at m c h2)
    (bRe_at m c h3) (bIm_at m c h4) (parRe_at m c h5) (parIm_at m c h6) (dRe_at m c h7) (dIm_at m c h8)).trans ?_
  funext j
  obtain ⟨g, p, rfl⟩ : ∃ (g : Fin 32) (p : Fin 64), j = ix2 g p := ⟨_, _, eq_ix2 j⟩
  change ((poleRe _ _ _ _ _ _ _ _ _ g p : ℝ) : EReal) = _
  refine Eq.trans ?_ (results a0 a1 a2 a3 a4 a5 a6 a7 a8 g p 0 hden).1.symm
  refine congrArg _ (Eq.trans ?_ (gRe_sum _ _ _ _ _ _ _))
  refine congrArg₂ (fun x y : ℝ => x + y) rfl (Finset.sum_congr rfl fun h _ => ?_)
  rw [coefR_chan, coefI_chan]

include hden h0 h1 h2 h3 h4 h5 h6 h7 h8 in
theorem im_eq : (dats m 0 c).arrAt 13 cfg0.N = val_main_v132 (F := Ideal) (ofReal a0) (ofReal a1) (ofReal a2) (ofReal a3) (ofReal a4) (ofReal a5) (ofReal a6) (ofReal a7) (ofReal a8) := by
  refine (final13 m c hden (re_at m c h0) (im_at m c h1) (ldt_at m c h2) (reRep_at m c h0) (imRep_at m c h1) (ldtRep_at m c h2)
    (bRe_at m c h3) (bIm_at m c h4) (parRe_at m c h5) (parIm_at m c h6) (dRe_at m c h7) (dIm_at m c h8)).trans ?_
  funext j
  obtain ⟨g, p, rfl⟩ : ∃ (g : Fin 32) (p : Fin 64), j = ix2 g p := ⟨_, _, eq_ix2 j⟩
  change ((poleIm _ _ _ _ _ _ _ _ _ g p : ℝ) : EReal) = _
  refine Eq.trans ?_ (results a0 a1 a2 a3 a4 a5 a6 a7 a8 g p 0 hden).2.1.symm
  refine congrArg _ (Eq.trans ?_ (gIm_sum _ _ _ _ _ _ _))
  refine congrArg₂ (fun x y : ℝ => x + y) rfl (Finset.sum_congr rfl fun h _ => ?_)
  rw [coefR_chan, coefI_chan]

include hden h0 h1 h2 h3 h4 h5 h6 h7 h8 in
theorem dt_eq : (dats m 0 c).arrAt 14 cfg0.N = val_main_v142 (F := Ideal) (ofReal a0) (ofReal a1) (ofReal a2) (ofReal a3) (ofReal a4) (ofReal a5) (ofReal a6) (ofReal a7) (ofReal a8) := by
  refine (final14 m c hden (re_at m c h0) (im_at m c h1) (ldt_at m c h2) (reRep_at m c h0) (imRep_at m c h1) (ldtRep_at m c h2)
    (bRe_at m c h3) (bIm_at m c h4) (parRe_at m c h5) (parIm_at m c h6) (dRe_at m c h7) (dIm_at m c h8)).trans ?_
  funext j
  obtain ⟨g, rfl⟩ : ∃ g : Fin 32, j = ix2 g 0 := ⟨j 0, (eq_ix2 j).trans (congrArg (ix2 (j 0)) (Subsingleton.elim _ _))⟩
  change ((stepLog _ _ _ _ _ _ _ _ _ g : ℝ) : EReal) = _
  refine Eq.trans ?_ (results a0 a1 a2 a3 a4 a5 a6 a7 a8 g 0 0 hden).2.2.1.symm
  refine congrArg _ (congrArg (fun s : ℝ => s * Real.exp (logStep a2 g)) ?_)
  rw [← Finset.sum_add_distrib]
  refine Finset.sum_congr rfl fun p _ => Eq.trans ?_ (gDt_sum _ _ _ _ _ _ _)
  refine congrArg₂ (fun x y : ℝ => x + y) rfl (Finset.sum_congr rfl fun h _ => ?_)
  rw [coefR_chan, coefI_chan]

include hden h0 h1 h2 h3 h4 h5 h6 h7 h8 in
theorem bRe_eq : (dats m 0 c).arrAt 15 cfg0.N = val_main_v144 (F := Ideal) (ofReal a0) (ofReal a1) (ofReal a2) (ofReal a7) (ofReal a8) := by
  refine (final15 m c hden (re_at m c h0) (im_at m c h1) (ldt_at m c h2) (reRep_at m c h0) (imRep_at m c h1) (ldtRep_at m c h2)
    (bRe_at m c h3) (bIm_at m c h4) (parRe_at m c h5) (parIm_at m c h6) (dRe_at m c h7) (dIm_at m c h8)).trans ?_
  funext j
  obtain ⟨i, p, rfl⟩ : ∃ (i : Fin 512) (p : Fin 64), j = ix2 i p := ⟨_, _, eq_ix2 j⟩
  refine Eq.trans ?_ (results a0 a1 a2 a3 a4 a5 a6 a7 a8 0 p i hden).2.2.2.1.symm
  rfl

include hden h0 h1 h2 h3 h4 h5 h6 h7 h8 in
theorem bIm_eq : (dats m 0 c).arrAt 16 cfg0.N = val_main_v146 (F := Ideal) (ofReal a0) (ofReal a1) (ofReal a2) (ofReal a7) (ofReal a8) := by
  refine (final16 m c hden (re_at m c h0) (im_at m c h1) (ldt_at m c h2) (reRep_at m c h0) (imRep_at m c h1) (ldtRep_at m c h2)
    (bRe_at m c h3) (bIm_at m c h4) (parRe_at m c h5) (parIm_at m c h6) (dRe_at m c h7) (dIm_at m c h8)).trans ?_
  funext j
  obtain ⟨i, p, rfl⟩ : ∃ (i : Fin 512) (p : Fin 64), j = ix2 i p := ⟨_, _, eq_ix2 j⟩
  refine Eq.trans ?_ (results a0 a1 a2 a3 a4 a5 a6 a7 a8 0 p i hden).2.2.2.2.symm
  rfl

set_option maxHeartbeats 1000000 in
theorem algebraic : Cert.algebraic_ParamIdeal_ParamRefIdeal_pre_par_finite := by
  intro m ρ m' ρ' hpre hagree
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, run_blocks m ρ, ?_⟩
  refine (θ_run Cert.ParamRefIdeal.defs _ _).mono (fun r h c => ?_) (Cert.ParamRefIdeal.Value.run (F := Ideal) m' ρ')
  obtain ⟨r0, r1, r2, r3, r4, hkeep⟩ := h c
  obtain ⟨e0, e1, e2, e3, e4, e5, e6, e7, e8⟩ := hagree c
  obtain ⟨⟨a0, a1, h0, h1, hd⟩, ⟨a2, h2⟩, ⟨a3, h3⟩, ⟨a4, h4⟩, ⟨a5, h5⟩, ⟨a6, h6⟩, ⟨a7, h7⟩, ⟨a8, h8⟩⟩ := reals (hpre c)
  have hden : ∀ g p, pole a0 g p * pole a0 g p + pole a1 g p * pole a1 g p ≠ 0 := fun g p => hd _
  replace e0 := e0.trans h0
  replace e1 := e1.trans h1
  replace e2 := e2.trans h2
  replace e3 := e3.trans h3
  replace e4 := e4.trans h4
  replace e5 := e5.trans h5
  replace e6 := e6.trans h6
  replace e7 := e7.trans h7
  replace e8 := e8.trans h8
  refine ⟨r0.trans ?_, r1.trans ?_, r2.trans ?_, r3.trans ?_, r4.trans ?_, hkeep⟩
  · refine (val_main_v139_eq m' c).trans (Eq.trans ?_ (re_eq m c h0 h1 h2 h3 h4 h5 h6 h7 h8 hden).symm)
    rw [e0, e1, e2, e3, e4, e5, e6, e7, e8]
  · refine (val_main_v132_eq m' c).trans (Eq.trans ?_ (im_eq m c h0 h1 h2 h3 h4 h5 h6 h7 h8 hden).symm)
    rw [e0, e1, e2, e3, e4, e5, e6, e7, e8]
  · refine (val_main_v142_eq m' c).trans (Eq.trans ?_ (dt_eq m c h0 h1 h2 h3 h4 h5 h6 h7 h8 hden).symm)
    rw [e0, e1, e2, e3, e4, e5, e6, e7, e8]
  · refine (val_main_v144_eq m' c).trans (Eq.trans ?_ (bRe_eq m c h0 h1 h2 h3 h4 h5 h6 h7 h8 hden).symm)
    rw [e0, e1, e2, e7, e8]
  · refine (val_main_v146_eq m' c).trans (Eq.trans ?_ (bIm_eq m c h0 h1 h2 h3 h4 h5 h6 h7 h8 hden).symm)
    rw [e0, e1, e2, e7, e8]

theorem quiescent_reference : Cert.quiescent_ParamRefIdeal := fun m ρ _ =>
  (θ_run Cert.ParamRefIdeal.defs _ _).mono (fun r h => ⟨fun c => (h c).2.2.2.2.2, sem_eq_zero_of_no_sems (by decide) r.2⟩)
    (Cert.ParamRefIdeal.Value.run (F := Ideal) m ρ)

end Cert.ParamProof

end
-- ==== Proof.Diagonal.lean ====
/-
  The groups' own blocks of a band product.

  A band holds 256 rows (sixteen groups of sixteen) against the states of the band's sixteen groups, 64 columns each. Row
  `i` keeps only the 64 columns of its own group `i / 16`: the host multiplies by a mask of zeros and ones and sums over
  the groups.
-/
module

public import Idealize.ShloMosaic.Lib.Pipeline.ValueKit
public import Idealize.ShloMosaic.Lib.Claim

@[expose] public section

noncomputable section

namespace Cert.Diagonal

open Idealize.ShloMosaic

abbrev Col : Shape := ⟨2, ![256, 1]⟩
abbrev Grid : Shape := ⟨2, ![256, 16]⟩

/-- The row numbers of a band, as a column. -/
def rows : IVec Col 32 := broadcastInDim Col ![0] (by decide) (iotaInDim ⟨1, ![256]⟩ 32 0)

/-- A number in every entry of the column. -/
def fill (x : BitVec 32) : IVec Col 32 := broadcastInDim Col ![] (by decide) (constantI ⟨0, ![]⟩ 32 x)

/-- The row numbers divided by sixteen and rounded down, as the host spells it: the quotient rounded toward zero, less one
    where the signs differ and the division leaves a remainder. -/
def quotient : IVec Col 32 :=
  select (andi (cmpi .ne (signi rows) (broadcastInDim Col ![] (by decide) (signi (constantI ⟨0, ![]⟩ 32 16#32))))
      (cmpi .ne (Host.remsi rows (fill 16#32)) (fill 0#32)))
    (subi (Host.divsi rows (fill 16#32)) (fill 1#32)) (Host.divsi rows (fill 16#32))

theorem quotient_at : ∀ i : Fin 256, quotient (ix2 i 0) = BitVec.ofNat 32 (i.val / 16) := by
  decide +kernel

/-- Whether a row belongs to a group. -/
def own : IVec Grid 1 :=
  cmpi .eq (broadcastInDim Grid ![0, 1] (by decide) quotient)
    (broadcastInDim Grid ![0, 1] (by decide) (broadcastInDim ⟨2, ![1, 16]⟩ ![1] (by decide) (iotaInDim ⟨1, ![16]⟩ 32 0)))

theorem own_at : ∀ (i : Fin 256) (g : Fin 16), own (ix2 i g) = if i.val / 16 = g.val then 1#1 else 0#1 := by
  decide +kernel

/-- The mask as numbers. -/
def mask : FVec Ideal Grid .f32 := uitofp .f32 own

theorem mask_at (i : Fin 256) (g : Fin 16) : mask (ix2 i g) = if i.val / 16 = g.val then 1 else 0 := by
  simp only [mask, uitofp, own_at]
  split
  · exact (congrArg ((↑) : ℝ → EReal) Nat.cast_one).trans EReal.coe_one
  · exact (congrArg ((↑) : ℝ → EReal) Nat.cast_zero).trans EReal.coe_zero

/-- The sum over the groups keeps the row's own. -/
theorem sum_mask (i : Fin 256) (f : Fin 16 → EReal) (g : Fin 16) (hg : i.val / 16 = g.val) : ∑ k, f k * mask (ix2 i k) = f g := by
  rw [Finset.sum_eq_single g]
  · rw [mask_at, if_pos hg, mul_one]
  · intro k _ hk
    rw [mask_at, if_neg fun h => hk (Fin.ext (h.symm.trans hg)), mul_zero]
  · intro h
    exact absurd (Finset.mem_univ g) h

end Cert.Diagonal

end
-- ==== Proof.Bands.lean ====
/-
  The product of a band's rows with its states, and what the host keeps of it.

  512 channels fall into two bands of 256; the 4096 states are the real parts and then the imaginary parts of 2048. The
  band product holds, for each channel, the products with its own band's states: 1024 real parts, then 1024 imaginary
  parts. It is stored by quarters, and the host keeps the 64 states of the channel's own group from either half.
-/
module

public import proofs.«01_k».proof.Proof.Diagonal
public import Idealize.ShloMosaic.Lib.Pipeline.ReadBack

@[expose] public section

noncomputable section

namespace Cert.Diagonal

open Idealize.ShloMosaic

/-- The band product of all channels, one band's half of it, that half with its groups apart, and the groups' own columns. -/
abbrev All : Shape := ⟨2, ![512, 2048]⟩
abbrev Half : Shape := ⟨2, ![256, 1024]⟩
abbrev Split : Shape := ⟨3, ![256, 16, 64]⟩
abbrev Own : Shape := ⟨2, ![256, 64]⟩
abbrev Owns : Shape := ⟨2, ![512, 64]⟩

/-- The column of the right factor that column `j` of the band of row `i` stands for. -/
def col (i : Fin 512) (j : Fin 2048) : Fin 4096 :=
  ⟨j.val / 1024 * 2048 + i.val / 256 * 1024 + j.val % 1024, by have := i.isLt; have := j.isLt; omega⟩

/-- The quarter with corner `(r, c)`. -/
abbrev part (r c : ℕ) (h : ∀ a, (![r, c] : Fin 2 → ℕ) a + (![256, 1024] : Fin 2 → ℕ) a ≤ All.size a) : Rect All :=
  Rect.unit ![r, c] ![256, 1024] h

/-- Entry `(p, q)` of the quarter at `(r, c)` is entry `(r + p, c + q)` of the whole. -/
theorem part_emb (r c : ℕ) (h : ∀ a, (![r, c] : Fin 2 → ℕ) a + (![256, 1024] : Fin 2 → ℕ) a ≤ All.size a) (p : Fin 256) (q : Fin 1024) :
    (part r c h).emb (ix2 p q)
      = ix2 ⟨r + p.val, by have := h 0; have := p.isLt; simp at *; omega⟩ ⟨c + q.val, by have := h 1; have := q.isLt; simp at *; omega⟩ := by
  funext a
  fin_cases a <;> exact Fin.ext (ValueKit.rect_emb_unit_val _ _ _ _ _)

/-- The four quarters as stored, the last one first. -/
abbrev quarters (w00 w01 w10 w11 : FVec Ideal Half .f32) : List (View.Piece (Elt Ideal) All .f32) :=
  [⟨part 256 1024 (by decide), w11⟩, ⟨part 256 0 (by decide), w10⟩, ⟨part 0 1024 (by decide), w01⟩, ⟨part 0 0 (by decide), w00⟩]

/-- Four quarters that each hold the entries of `g` leave `g`, whatever was stored before them. -/
theorem canon_quarters (g : All.Idx → EReal) (L : List (View.Piece (Elt Ideal) All .f32)) (w00 w01 w10 w11 : FVec Ideal Half .f32)
    (h00 : ∀ (p : Fin 256) (q : Fin 1024), w00 (ix2 p q) = g ((part 0 0 (by decide)).emb (ix2 p q)))
    (h01 : ∀ (p : Fin 256) (q : Fin 1024), w01 (ix2 p q) = g ((part 0 1024 (by decide)).emb (ix2 p q)))
    (h10 : ∀ (p : Fin 256) (q : Fin 1024), w10 (ix2 p q) = g ((part 256 0 (by decide)).emb (ix2 p q)))
    (h11 : ∀ (p : Fin 256) (q : Fin 1024), w11 (ix2 p q) = g ((part 256 1024 (by decide)).emb (ix2 p q))) (j : All.Idx) :
    View.canon (quarters w00 w01 w10 w11 ++ L) j = g j := by
  refine View.canon_append_of_piecesOf (s := All) g L (quarters w00 w01 w10 w11) ?_ j ?_
  · refine ⟨fun k => ?_, fun k => ?_, fun k => ?_, fun k => ?_, trivial⟩
    · exact (congrArg w11 (eq_ix2 k)).trans ((h11 _ _).trans (congrArg (fun k => g ((part 256 1024 (by decide)).emb k)) (eq_ix2 k).symm))
    · exact (congrArg w10 (eq_ix2 k)).trans ((h10 _ _).trans (congrArg (fun k => g ((part 256 0 (by decide)).emb k)) (eq_ix2 k).symm))
    · exact (congrArg w01 (eq_ix2 k)).trans ((h01 _ _).trans (congrArg (fun k => g ((part 0 1024 (by decide)).emb k)) (eq_ix2 k).symm))
    · exact (congrArg w00 (eq_ix2 k)).trans ((h00 _ _).trans (congrArg (fun k => g ((part 0 0 (by decide)).emb k)) (eq_ix2 k).symm))
  · have h0 : (j 0).val < 512 := (j 0).isLt
    have h1 : (j 1).val < 2048 := (j 1).isLt
    simp only [quarters, List.mem_cons, List.not_mem_nil, or_false, exists_eq_or_imp, exists_eq_left, Rect.mem_set_unit, Fin.forall_fin_two]
    change (256 ≤ (j 0).val ∧ (j 0).val < 256 + 256) ∧ 1024 ≤ (j 1).val ∧ (j 1).val < 1024 + 1024 ∨
      (256 ≤ (j 0).val ∧ (j 0).val < 256 + 256) ∧ 0 ≤ (j 1).val ∧ (j 1).val < 0 + 1024 ∨
      (0 ≤ (j 0).val ∧ (j 0).val < 0 + 256) ∧ 1024 ≤ (j 1).val ∧ (j 1).val < 1024 + 1024 ∨
      (0 ≤ (j 0).val ∧ (j 0).val < 0 + 256) ∧ 0 ≤ (j 1).val ∧ (j 1).val < 0 + 1024
    omega

theorem casts : Half.ShapeCasts Split := by decide
theorem spreads : (⟨3, ![256, 16, 1]⟩ : Shape).BroadcastsInDim Split (![0, 1, 2] : Fin 3 → Fin Split.rank) := by decide
theorem columns : Grid.BroadcastsInDim ⟨3, ![256, 16, 1]⟩ (![0, 1] : Fin 2 → Fin 3) := by decide
theorem reduces : Split.ReducesTo [1] Own := by decide
theorem corner (r c : ℕ) (hr : r ≤ 256) (hc : c ≤ 1024) : All.Slices ![r, c] Half := by
  refine ⟨rfl, fun a => ?_⟩
  fin_cases a <;> simp <;> omega
theorem oneBelow : Shape.Concatenates [Own, Own] Owns 0 := by decide
theorem one : 0 < (⟨0, ![]⟩ : Shape).numel := by decide

/-- A band's rows, the row's own 64 columns summed out of the masked sixteen groups. -/
def taken (b : FVec Ideal Half .f32) : FVec Ideal Own .f32 :=
  Host.reduceAdd (mulf (shapeCast Split b casts)
    (broadcastInDim Split ![0, 1, 2] spreads (broadcastInDim ⟨3, ![256, 16, 1]⟩ ![0, 1] columns mask)))
    (constant ⟨0, ![]⟩ .f32 0x00000000#32) reduces one

theorem taken_at (b : FVec Ideal Half .f32) (i : Fin 256) (p : Fin 64) :
    taken b (ix2 i p) = b (ix2 i ⟨i.val / 16 * 64 + p.val, by have := i.isLt; have := p.isLt; omega⟩) := by
  refine Eq.trans ?_ (sum_mask i (fun g => b (ix2 i ⟨g.val * 64 + p.val, by have := g.isLt; have := p.isLt; omega⟩)) ⟨i.val / 16, by have := i.isLt; omega⟩ rfl)
  pointwise [taken]

/-- The two bands' own columns, one below the other. -/
def stacked (x y : FVec Ideal Half .f32) : FVec Ideal Owns .f32 :=
  concatenate Owns 0 [⟨Own, taken x⟩, ⟨Own, taken y⟩] oneBelow

/-- The first half's own columns. -/
def half0 (a : FVec Ideal All .f32) : FVec Ideal Owns .f32 :=
  stacked (extractStridedSlice Half ![0, 0] a (corner 0 0 (by decide) (by decide)))
    (extractStridedSlice Half ![256, 0] a (corner 256 0 (by decide) (by decide)))

/-- The second half's own columns. -/
def half1 (a : FVec Ideal All .f32) : FVec Ideal Owns .f32 :=
  stacked (extractStridedSlice Half ![0, 1024] a (corner 0 1024 (by decide) (by decide)))
    (extractStridedSlice Half ![256, 1024] a (corner 256 1024 (by decide) (by decide)))

theorem stacked_at (x y : FVec Ideal Half .f32) (i : Fin 512) (p : Fin 64) :
    stacked x y (ix2 i p) = if h : i.val < 256 then taken x (ix2 ⟨i.val, h⟩ p) else taken y (ix2 ⟨i.val - 256, by have := i.isLt; omega⟩ p) := by
  pointwise [stacked]

theorem half_at (a : FVec Ideal All .f32) (i : Fin 512) (p : Fin 64) :
    half0 a (ix2 i p) = a (ix2 i ⟨i.val % 256 / 16 * 64 + p.val, by have := i.isLt; have := p.isLt; omega⟩)
    ∧ half1 a (ix2 i p) = a (ix2 i ⟨1024 + (i.val % 256 / 16 * 64 + p.val), by have := i.isLt; have := p.isLt; omega⟩) := by
  unfold half0 half1
  rw [stacked_at, stacked_at]
  have := i.isLt
  constructor
  all_goals
    split
    all_goals
      rw [taken_at]
      pointwise []
      refine congrArg₂ (fun r s => a (ix2 r s)) (Fin.ext ?_) (Fin.ext ?_)
      all_goals first
        | rfl
        | (simp only; omega)

end Cert.Diagonal

end
-- ==== Proof.DbbKernel.lean ====
/-
  `DbbIdeal`: what the kernel of the gradient of S5's input matrix leaves in its result, and what the host keeps of it.

  The kernel walks 16 blocks of 512 rows and adds each block's product to a buffer of 512 channels against 2048 columns
  (window 2), written back once at the end. A channel belongs to one of two bands; of the 4096 states (real parts, then
  imaginary parts) its row holds those of its own band. The host then keeps the 64 states of the channel's own group.
-/
module

public import proofs.«01_k».proof.Proof.Gen.DbbIdeal.Frame
public import Idealize.ShloMosaic.Lib.Pipeline.ValueKit
public import proofs.«01_k».proof.Proof.Bands
public import Idealize.ShloMosaic.Lib.StableHlo.RunRead

@[expose] public section

noncomputable section

namespace Cert.DbbIdeal.Value

open Idealize.ShloMosaic Idealize.ShloMosaic.TcCoe Idealize.SL.Sem
open Idealize.ShloMosaic.Pipeline (Dat)
open Cert.DbbIdeal Cert.DbbIdeal.Gen
open Cert.Diagonal

variable (m : (ℓ : Loc nD τ sig) → Buf (Elt Ideal) ℓ)

/-- What a block of 512 rows adds to entry `j`. -/
def block (x : FVec Ideal S512x512 .f32) (y : FVec Ideal S512x4096 .bf16) (j : S512x2048.Idx) : EReal :=
  ∑ r : Fin 512, x (ix2 r (j 0)) * y (ix2 r (col (j 0) (j 1)))

/-- The four quarters that a grid point stores add its block to what the buffer `a` held. -/
theorem canon_tiles (x : FVec Ideal S512x512 .f32) (y : FVec Ideal S512x4096 .bf16) (a : FVec Ideal S512x2048 .f32)
    (L : List (View.Piece (Elt Ideal) S512x2048 .f32)) (j : S512x2048.Idx) :
    View.canon (quarters
      (k0_pay4 (View.ld (Val := Elt Ideal) (e' := .f32) x (Rect.unit ![0, 0] ![512, 256] inb_S512x512_S512x256_0_0))
        (View.ld (Val := Elt Ideal) (e' := .f32) a (Rect.unit ![0, 0] ![256, 1024] inb_S512x2048_S256x1024_0_0))
        (View.ld (Val := Elt Ideal) (e' := .bf16) y (Rect.unit ![0, 0] ![512, 1024] inb_S512x4096_S512x1024_0_0)))
      (k0_pay5 (View.ld (Val := Elt Ideal) (e' := .f32) x (Rect.unit ![0, 0] ![512, 256] inb_S512x512_S512x256_0_0))
        (View.ld (Val := Elt Ideal) (e' := .f32) a (Rect.unit ![0, 1024] ![256, 1024] inb_S512x2048_S256x1024_0_1024))
        (View.ld (Val := Elt Ideal) (e' := .bf16) y (Rect.unit ![0, 2048] ![512, 1024] inb_S512x4096_S512x1024_0_2048)))
      (k0_pay7 (View.ld (Val := Elt Ideal) (e' := .f32) x (Rect.unit ![0, 256] ![512, 256] inb_S512x512_S512x256_0_256))
        (View.ld (Val := Elt Ideal) (e' := .f32) a (Rect.unit ![256, 0] ![256, 1024] inb_S512x2048_S256x1024_256_0))
        (View.ld (Val := Elt Ideal) (e' := .bf16) y (Rect.unit ![0, 1024] ![512, 1024] inb_S512x4096_S512x1024_0_1024)))
      (k0_pay1 (k0_pay6 (View.ld (Val := Elt Ideal) (e' := .f32) x (Rect.unit ![0, 256] ![512, 256] inb_S512x512_S512x256_0_256)))
        (View.ld (Val := Elt Ideal) (e' := .f32) a (Rect.unit ![256, 1024] ![256, 1024] inb_S512x2048_S256x1024_256_1024))
        (View.ld (Val := Elt Ideal) (e' := .bf16) y (Rect.unit ![0, 3072] ![512, 1024] inb_S512x4096_S512x1024_0_3072))) ++ L) j
      = a j + block x y j := by
  refine canon_quarters (fun j => a j + block x y j) L _ _ _ _ (fun p q => ?_) (fun p q => ?_) (fun p q => ?_) (fun p q => ?_) j
  all_goals
    have := p.isLt
    have := q.isLt
    rw [part_emb]
    pointwise [k0_pay1, k0_pay4, k0_pay5, k0_pay6, k0_pay7, k0_pay3, block, col]
    refine congrArg _ (Finset.sum_congr rfl fun r _ => congrArg (x _ * y ·) (congrArg (ix2 r) (Fin.ext ?_)))
    simp only
    omega

theorem outB (c : Dev nD) (t : Fin cfg0.N) (h : ¬ t.val % 16 = 0) (j : S512x2048.Idx) :
    outsAt0 m c t.val t.isLt j = outsAt0 m c (t.val - 1) (by have := t.isLt; omega) j + block (iblk m c 0 t) (iblk m c 1 t) j := by
  rw [outsAt0_B m c t h]; frame_out
  exact canon_tiles (iblk m c 0 t) (iblk m c 1 t) (outsAt0 m c (t.val - 1) (by have := t.isLt; omega)) [] j

theorem outA (c : Dev nD) (t : Fin cfg0.N) (h : t.val % 16 = 0) (j : S512x2048.Idx) :
    outsAt0 m c t.val t.isLt j = 0 + block (iblk m c 0 t) (iblk m c 1 t) j := by
  rw [outsAt0_A m c t h]; frame_out
  simp (disch := decide) only [↓View.readCov_skip, ↓View.readCov_fill]
  refine (canon_tiles (iblk m c 0 t) (iblk m c 1 t) (k0_pay2 (F := Ideal)) [_] j).trans ?_
  refine congrArg (· + _) ?_
  pointwise [k0_pay2]

/-- The block of each window at grid point `t`. -/
theorem index_eq : ∀ t : Fin grid0.N, win0_0.index t = ![t.val, 2] ∧ win0_1.index t = ![t.val, 0] ∧ win0_2.index t = ![0, 0] := by
  decide +kernel

theorem N_eq : cfg0.N = 16 := by decide

/-- The last grid point. -/
def last : Fin cfg0.N := ⟨15, by decide⟩

/-- The band product: row `i` of the left factor's columns 1024 to 1535 against its band of the right factor. -/
def band (x : FVec Ideal S8192x1536 .f32) (y : FVec Ideal S8192x4096 .bf16) : FVec Ideal S512x2048 .f32 :=
  fun j => ∑ n : Fin 8192, x (ix2 n ⟨1024 + (j 0).val, by have h : (j 0).val < 512 := (j 0).isLt; omega⟩) * y (ix2 n (col (j 0) (j 1)))

theorem block_sum (c : Dev nD) (j : S512x2048.Idx) :
    ∑ t : Fin cfg0.N, block (iblk m c 0 t) (iblk m c 1 t) j = band (V m c main_v0) (V m c main_v1) j := by
  unfold band
  rw [Fin.sum_univ_tiles 16 512 rfl]
  refine Finset.sum_congr rfl fun t _ => Finset.sum_congr rfl fun r _ => congrArg₂ (fun a b : EReal => a * b) ?_ ?_
  all_goals
    blk_point [iblk, index_eq t]

theorem outs (c : Dev nD) : outsAt0 m c last.val last.isLt = band (V m c main_v0) (V m c main_v1) := by
  funext j
  refine (Pipeline.eq_sum_fin_of_reset_step_last (fun n h => outsAt0 m c n h j) 16 0 (fun t => block (iblk m c 0 t) (iblk m c 1 t) j)
    (fun t h => outA m c t h j) (fun t h => outB m c t h j) (by decide) last rfl).trans ?_
  rw [zero_add, block_sum]

theorem final2 (c : Dev nD) : (dats m 0 c).arrAt 2 cfg0.N = band (V m c main_v0) (V m c main_v1) := by
  refine (dats m 0 c).arrAt_eq_of_after_last 2 last (by decide +kernel) _ fun j => ?_
  rw [after0_2, outs]
  blk_simp
  rfl

/-- The lines after the region leave each half's own columns in the results. -/
theorem tail (c : Dev nD) (a : FVec Ideal S512x2048 .f32) (ha : (dats m 0 c).arrAt 2 cfg0.N = a) :
    Pipeline.afterTail₀ cfgs (dats m) 0 (V0 m)
      [hostOps1, hostOps1_1, hostOps1_2, hostOps1_3, hostOps1_4, hostOps1_5, hostOps1_6, hostOps1_7, hostOps1_8] c main_v33 = half0 a
    ∧ Pipeline.afterTail₀ cfgs (dats m) 0 (V0 m)
      [hostOps1, hostOps1_1, hostOps1_2, hostOps1_3, hostOps1_4, hostOps1_5, hostOps1_6, hostOps1_7, hostOps1_8] c main_v64 = half1 a := by
  have e := (Pipeline.withArrays_arr spec0 (by decide) c (V0 m c) (fun w => (dats m 0 c).arrAt w cfg0.N) 2).trans ha
  unfold Pipeline.afterTail₀
  refine ⟨Eq.trans ?_ (congrArg half0 e), Eq.trans ?_ (congrArg half1 e)⟩
  all_goals
    simp only [hostOps1, hostOps1_1, hostOps1_2, hostOps1_3, hostOps1_4, hostOps1_5, hostOps1_6, hostOps1_7, hostOps1_8, List.flatten_cons,
      List.flatten_nil, List.cons_append, List.nil_append, List.append_nil]
    after_reads_simp
    rfl

end Cert.DbbIdeal.Value

end
-- ==== Proof.DbbReference.lean ====
/-
  `DbbRefIdeal`: the reference's two results.
-/
module

public import proofs.«01_k».proof.Proof.Gen.DbbRefIdeal.Run
public import proofs.«01_k».proof.Proof.Gen.DbbRefIdeal.Read
public import Idealize.ShloMosaic.Lib.Pipeline.ValueKit

@[expose] public section

noncomputable section

namespace Cert.DbbRefIdeal.Value

open Idealize.ShloMosaic Idealize.ShloMosaic.TcCoe Idealize.SL.Sem
open Cert.DbbRefIdeal Cert.DbbRefIdeal.Gen Cert.DbbRefIdeal.Read

variable (x : FVec Ideal S2x4096x1536 .f32) (y : FVec Ideal S2x4096x4096 .bf16) (i : Fin 512) (p : Fin 64)

/-- Channel `i`'s input against column `k` of the gradient of the states, summed over the rows. -/
def against (x : FVec Ideal S2x4096x1536 .f32) (y : FVec Ideal S2x4096x4096 .bf16) (i : Fin 512) (k : Fin 4096) : EReal :=
  ∑ b : Fin 2, ∑ s : Fin 4096, x (ix3 b s ⟨1024 + i.val, by have := i.isLt; omega⟩) * y (ix3 b s k)

theorem results :
    val_main_v18 (F := Ideal) x y (ix2 i p) = against x y i ⟨i.val / 16 * 64 + p.val, by have := i.isLt; have := p.isLt; omega⟩
    ∧ val_main_v20 (F := Ideal) x y (ix2 i p) = against x y i ⟨2048 + (i.val / 16 * 64 + p.val), by have := i.isLt; have := p.isLt; omega⟩ := by
  constructor
  all_goals
    pointwise [val_main_v20, val_main_v19, val_main_v18, val_main_v17, val_main_v16, val_main_v15, val_main_v14, val_main_v13, val_main_v7,
      val_main_v6, val_main_v5, val_main_v4, val_main_v3, val_main_v2, val_main_v1, val_main_v0]
    exact Finset.sum_congr rfl fun b _ => Finset.sum_congr rfl fun s _ => mul_comm _ _

end Cert.DbbRefIdeal.Value

end
-- ==== Proof.Dbb.lean ====
/-
  The gradient of S5's input matrix: kernel and reference leave the same two results.

  A channel's gradient against a state is a sum over the rows. The kernel's sum runs over the 8192 rows and over all the
  states of the channel's band; the reference's over the two sequences and the states of the channel's own group. No
  precondition: the sums are the same terms, and the mask's zeros and ones drop the rest whatever the arguments hold.
-/
module

public import proofs.«01_k».proof.Defs
public import proofs.«01_k».proof.Proof.DbbKernel
public import proofs.«01_k».proof.Proof.DbbReference

@[expose] public section

noncomputable section

namespace Cert.DbbProof

open Idealize.ShloMosaic Idealize.ShloMosaic.TcCoe Idealize.SL.Sem
open Cert.DbbIdeal Cert.DbbIdeal.Gen Cert.DbbIdeal.Value
open Cert.DbbRefIdeal.Value (against results)
open Cert.DbbRefIdeal.Read
open Cert.Diagonal (col half0 half1 half_at)

variable (m : (ℓ : Loc nD τ sig) → Buf (Elt Ideal) ℓ) (ρ : Dev nD → PrngReg) (c : Dev nD)

/-- The arguments on a device. -/
abbrev argX : FVec Ideal S2x4096x1536 .f32 := m ((c : Thread nD τ).loc main_arg0)

abbrev argY : FVec Ideal S2x4096x4096 .bf16 := m ((c : Thread nD τ).loc main_arg1)

/-- The band product over the rows of the two sequences. -/
theorem band_at (i : Fin 512) (j : Fin 2048) : band (V m c main_v0) (V m c main_v1) (ix2 i j) = against (argX m c) (argY m c) i (col i j) := by
  unfold band against
  rw [Fin.sum_univ_tiles 2 4096 rfl]
  refine Finset.sum_congr rfl fun b _ => Finset.sum_congr rfl fun s _ => congrArg₂ (fun u v : EReal => u * v) ?_ ?_
  · change StableHlo.after hostOps0 (fun b => m (c, b)) (Proc.devRef .tc main_v0) _ = _
    entry_read
    pointwise []
  · change StableHlo.after hostOps0 (fun b => m (c, b)) (Proc.devRef .tc main_v1) _ = _
    entry_read
    pointwise []

theorem re_eq : half0 (band (V m c main_v0) (V m c main_v1)) = val_main_v18 (F := Ideal) (argX m c) (argY m c) := by
  funext j
  obtain ⟨i, p, rfl⟩ : ∃ (i : Fin 512) (p : Fin 64), j = ix2 i p := ⟨_, _, eq_ix2 j⟩
  rw [(half_at _ i p).1, band_at, (results _ _ i p).1]
  refine congrArg (against _ _ i) (Fin.ext ?_)
  have := i.isLt
  have := p.isLt
  simp only [col]
  omega

theorem im_eq : half1 (band (V m c main_v0) (V m c main_v1)) = val_main_v20 (F := Ideal) (argX m c) (argY m c) := by
  funext j
  obtain ⟨i, p, rfl⟩ : ∃ (i : Fin 512) (p : Fin 64), j = ix2 i p := ⟨_, _, eq_ix2 j⟩
  rw [(half_at _ i p).2, band_at, (results _ _ i p).2]
  refine congrArg (against _ _ i) (Fin.ext ?_)
  have := i.isLt
  have := p.isLt
  simp only [col]
  omega

/-- The kernel's program ends with its two halves, the arguments unchanged. -/
theorem run : θ_run defs (onTc (τ := τ) (main (F := Ideal))) ⟨m, fun _ => 0, ρ⟩ (fun r => ∀ c : Dev nD,
    r.2.mem ((c.tc : Thread nD τ).loc main_v33) = half0 (band (V m c main_v0) (V m c main_v1))
    ∧ r.2.mem ((c.tc : Thread nD τ).loc main_v64) = half1 (band (V m c main_v0) (V m c main_v1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h.1 c).2 main_v33 (Pipeline.mem_restRefs_of main_v33 (by decide) (by decide))).trans (tail m c _ (final2 m c)).1,
      ((h.1 c).2 main_v64 (Pipeline.mem_restRefs_of main_v64 (by decide) (by decide))).trans (tail m c _ (final2 m c)).2, h.2 c⟩)
    (θ_run_and (run_main m ρ) (unchanged m ρ))

theorem algebraic : Cert.algebraic_DbbIdeal_DbbRefIdeal := by
  intro m ρ m' ρ' _ hagree
  refine ⟨fun c => half0 (band (V m c main_v0) (V m c main_v1)), fun c => half1 (band (V m c main_v0) (V m c main_v1)), run m ρ, ?_⟩
  refine (θ_run Cert.DbbRefIdeal.defs _ _).mono (fun r h c => ?_) (Cert.DbbRefIdeal.Value.run (F := Ideal) m' ρ')
  obtain ⟨r0, r1, hkeep⟩ := h c
  obtain ⟨e0, e1⟩ := hagree c
  refine ⟨r0.trans ?_, r1.trans ?_, hkeep⟩
  · refine (val_main_v18_eq (F := Ideal) _ _).trans ?_
    rw [e0, e1]
    exact (re_eq m c).symm
  · refine (val_main_v20_eq (F := Ideal) _ _).trans ?_
    rw [e0, e1]
    exact (im_eq m c).symm

theorem quiescent_reference : Cert.quiescent_DbbRefIdeal := fun m ρ _ =>
  (θ_run Cert.DbbRefIdeal.defs _ _).mono (fun r h => ⟨fun c => (h c).2.2, sem_eq_zero_of_no_sems (by decide) r.2⟩)
    (Cert.DbbRefIdeal.Value.run (F := Ideal) m ρ)

end Cert.DbbProof

end
-- ==== Proof.DcKernel.lean ====
/-
  `DcIdeal`: what the kernel of the gradient of S5's output matrix leaves in its result, and what the host keeps of it.

  The kernel walks 16 blocks of 512 rows and adds each block's product to a buffer of 512 channels against 2048 columns
  (window 2), written back once at the end. A channel belongs to one of two bands; of the 4096 states (real parts, then
  imaginary parts) its row holds those of its own band. The host then keeps the 64 states of the channel's own group.
-/
module

public import proofs.«01_k».proof.Proof.Gen.DcIdeal.Frame
public import Idealize.ShloMosaic.Lib.Pipeline.ValueKit
public import proofs.«01_k».proof.Proof.Bands
public import Idealize.ShloMosaic.Lib.StableHlo.RunRead

@[expose] public section

noncomputable section

namespace Cert.DcIdeal.Value

open Idealize.ShloMosaic Idealize.ShloMosaic.TcCoe Idealize.SL.Sem
open Idealize.ShloMosaic.Pipeline (Dat)
open Cert.DcIdeal Cert.DcIdeal.Gen
open Cert.Diagonal

variable (m : (ℓ : Loc nD τ sig) → Buf (Elt Ideal) ℓ)

/-- What a block of 512 rows adds to entry `j`. -/
def block (x : FVec Ideal S512x512 .bf16) (y : FVec Ideal S512x4096 .bf16) (j : S512x2048.Idx) : EReal :=
  ∑ r : Fin 512, x (ix2 r (j 0)) * y (ix2 r (col (j 0) (j 1)))

/-- The four quarters that a grid point stores add its block to what the buffer `a` held. -/
theorem canon_tiles (x : FVec Ideal S512x512 .bf16) (y : FVec Ideal S512x4096 .bf16) (a : FVec Ideal S512x2048 .f32)
    (L : List (View.Piece (Elt Ideal) S512x2048 .f32)) (j : S512x2048.Idx) :
    View.canon (quarters
      (k0_pay4 (View.ld (Val := Elt Ideal) (e' := .bf16) x (Rect.unit ![0, 0] ![512, 256] inb_S512x512_S512x256_0_0))
        (View.ld (Val := Elt Ideal) (e' := .f32) a (Rect.unit ![0, 0] ![256, 1024] inb_S512x2048_S256x1024_0_0))
        (View.ld (Val := Elt Ideal) (e' := .bf16) y (Rect.unit ![0, 0] ![512, 1024] inb_S512x4096_S512x1024_0_0)))
      (k0_pay5 (View.ld (Val := Elt Ideal) (e' := .bf16) x (Rect.unit ![0, 0] ![512, 256] inb_S512x512_S512x256_0_0))
        (View.ld (Val := Elt Ideal) (e' := .f32) a (Rect.unit ![0, 1024] ![256, 1024] inb_S512x2048_S256x1024_0_1024))
        (View.ld (Val := Elt Ideal) (e' := .bf16) y (Rect.unit ![0, 2048] ![512, 1024] inb_S512x4096_S512x1024_0_2048)))
      (k0_pay7 (View.ld (Val := Elt Ideal) (e' := .bf16) x (Rect.unit ![0, 256] ![512, 256] inb_S512x512_S512x256_0_256))
        (View.ld (Val := Elt Ideal) (e' := .f32) a (Rect.unit ![256, 0] ![256, 1024] inb_S512x2048_S256x1024_256_0))
        (View.ld (Val := Elt Ideal) (e' := .bf16) y (Rect.unit ![0, 1024] ![512, 1024] inb_S512x4096_S512x1024_0_1024)))
      (k0_pay1 (k0_pay6 (View.ld (Val := Elt Ideal) (e' := .bf16) x (Rect.unit ![0, 256] ![512, 256] inb_S512x512_S512x256_0_256)))
        (View.ld (Val := Elt Ideal) (e' := .f32) a (Rect.unit ![256, 1024] ![256, 1024] inb_S512x2048_S256x1024_256_1024))
        (View.ld (Val := Elt Ideal) (e' := .bf16) y (Rect.unit ![0, 3072] ![512, 1024] inb_S512x4096_S512x1024_0_3072))) ++ L) j
      = a j + block x y j := by
  refine canon_quarters (fun j => a j + block x y j) L _ _ _ _ (fun p q => ?_) (fun p q => ?_) (fun p q => ?_) (fun p q => ?_) j
  all_goals
    have := p.isLt
    have := q.isLt
    rw [part_emb]
    pointwise [k0_pay1, k0_pay4, k0_pay5, k0_pay6, k0_pay7, k0_pay3, block, col]
    refine congrArg _ (Finset.sum_congr rfl fun r _ => congrArg (x _ * y ·) (congrArg (ix2 r) (Fin.ext ?_)))
    simp only
    omega

theorem outB (c : Dev nD) (t : Fin cfg0.N) (h : ¬ t.val % 16 = 0) (j : S512x2048.Idx) :
    outsAt0 m c t.val t.isLt j = outsAt0 m c (t.val - 1) (by have := t.isLt; omega) j + block (iblk m c 0 t) (iblk m c 1 t) j := by
  rw [outsAt0_B m c t h]; frame_out
  exact canon_tiles (iblk m c 0 t) (iblk m c 1 t) (outsAt0 m c (t.val - 1) (by have := t.isLt; omega)) [] j

theorem outA (c : Dev nD) (t : Fin cfg0.N) (h : t.val % 16 = 0) (j : S512x2048.Idx) :
    outsAt0 m c t.val t.isLt j = 0 + block (iblk m c 0 t) (iblk m c 1 t) j := by
  rw [outsAt0_A m c t h]; frame_out
  simp (disch := decide) only [↓View.readCov_skip, ↓View.readCov_fill]
  refine (canon_tiles (iblk m c 0 t) (iblk m c 1 t) (k0_pay2 (F := Ideal)) [_] j).trans ?_
  refine congrArg (· + _) ?_
  pointwise [k0_pay2]

/-- The block of each window at grid point `t`. -/
theorem index_eq : ∀ t : Fin grid0.N, win0_0.index t = ![t.val, 0] ∧ win0_1.index t = ![t.val, 0] ∧ win0_2.index t = ![0, 0] := by
  decide +kernel

theorem N_eq : cfg0.N = 16 := by decide

/-- The last grid point. -/
def last : Fin cfg0.N := ⟨15, by decide⟩

/-- The band product: row `i` of the left factor against its band of the right factor. -/
def band (x : FVec Ideal S8192x512 .bf16) (y : FVec Ideal S8192x4096 .bf16) : FVec Ideal S512x2048 .f32 :=
  fun j => ∑ n : Fin 8192, x (ix2 n (j 0)) * y (ix2 n (col (j 0) (j 1)))

theorem block_sum (c : Dev nD) (j : S512x2048.Idx) :
    ∑ t : Fin cfg0.N, block (iblk m c 0 t) (iblk m c 1 t) j = band (V m c main_v0) (V m c main_v1) j := by
  unfold band
  rw [Fin.sum_univ_tiles 16 512 rfl]
  refine Finset.sum_congr rfl fun t _ => Finset.sum_congr rfl fun r _ => congrArg₂ (fun a b : EReal => a * b) ?_ ?_
  all_goals
    blk_point [iblk, index_eq t]

theorem outs (c : Dev nD) : outsAt0 m c last.val last.isLt = band (V m c main_v0) (V m c main_v1) := by
  funext j
  refine (Pipeline.eq_sum_fin_of_reset_step_last (fun n h => outsAt0 m c n h j) 16 0 (fun t => block (iblk m c 0 t) (iblk m c 1 t) j)
    (fun t h => outA m c t h j) (fun t h => outB m c t h j) (by decide) last rfl).trans ?_
  rw [zero_add, block_sum]

theorem final2 (c : Dev nD) : (dats m 0 c).arrAt 2 cfg0.N = band (V m c main_v0) (V m c main_v1) := by
  refine (dats m 0 c).arrAt_eq_of_after_last 2 last (by decide +kernel) _ fun j => ?_
  rw [after0_2, outs]
  blk_simp
  rfl

/-- The lines after the region leave the first half's own columns, and the second's negated, in the results. -/
theorem tail (c : Dev nD) (a : FVec Ideal S512x2048 .f32) (ha : (dats m 0 c).arrAt 2 cfg0.N = a) :
    Pipeline.afterTail₀ cfgs (dats m) 0 (V0 m)
      [hostOps1, hostOps1_1, hostOps1_2, hostOps1_3, hostOps1_4, hostOps1_5, hostOps1_6, hostOps1_7, hostOps1_8] c main_v33 = half0 a
    ∧ Pipeline.afterTail₀ cfgs (dats m) 0 (V0 m)
      [hostOps1, hostOps1_1, hostOps1_2, hostOps1_3, hostOps1_4, hostOps1_5, hostOps1_6, hostOps1_7, hostOps1_8] c main_v65 = Host.negf (F := Ideal) (half1 a) := by
  have e := (Pipeline.withArrays_arr spec0 (by decide) c (V0 m c) (fun w => (dats m 0 c).arrAt w cfg0.N) 2).trans ha
  unfold Pipeline.afterTail₀
  refine ⟨Eq.trans ?_ (congrArg half0 e), Eq.trans ?_ (congrArg (fun a => Host.negf (F := Ideal) (half1 a)) e)⟩
  all_goals
    simp only [hostOps1, hostOps1_1, hostOps1_2, hostOps1_3, hostOps1_4, hostOps1_5, hostOps1_6, hostOps1_7, hostOps1_8, List.flatten_cons,
      List.flatten_nil, List.cons_append, List.nil_append, List.append_nil]
    after_reads_simp
    rfl

end Cert.DcIdeal.Value

end
-- ==== Proof.DcReference.lean ====
/-
  `DcRefIdeal`: the reference's two results.
-/
module

public import proofs.«01_k».proof.Proof.Gen.DcRefIdeal.Run
public import proofs.«01_k».proof.Proof.Gen.DcRefIdeal.Read
public import Idealize.ShloMosaic.Lib.Pipeline.ValueKit

@[expose] public section

noncomputable section

namespace Cert.DcRefIdeal.Value

open Idealize.ShloMosaic Idealize.ShloMosaic.TcCoe Idealize.SL.Sem
open Cert.DcRefIdeal Cert.DcRefIdeal.Gen Cert.DcRefIdeal.Read

variable (x : FVec Ideal S2x4096x512 .bf16) (y : FVec Ideal S2x4096x4096 .bf16) (i : Fin 512) (p : Fin 64)

/-- The gradient of channel `i`'s output against column `k` of the states, summed over the rows. -/
def against (x : FVec Ideal S2x4096x512 .bf16) (y : FVec Ideal S2x4096x4096 .bf16) (i : Fin 512) (k : Fin 4096) : EReal :=
  ∑ b : Fin 2, ∑ s : Fin 4096, x (ix3 b s i) * y (ix3 b s k)

/-- The real parts enter the output with the sign plus. -/
theorem result0 : val_main_v19 (F := Ideal) x y (ix2 i p) = against x y i ⟨i.val / 16 * 64 + p.val, by have := i.isLt; have := p.isLt; omega⟩ := by
  pointwise [val_main_v19, val_main_v18, val_main_v17, val_main_v13, val_main_v12, val_main_v2, val_main_v1, val_main_v0]
  rfl

/-- The imaginary parts enter it with the sign minus. -/
theorem result1 : val_main_v20 (F := Ideal) x y (ix2 i p)
    = against (fun j => -x j) y i ⟨2048 + (i.val / 16 * 64 + p.val), by have := i.isLt; have := p.isLt; omega⟩ := by
  pointwise [val_main_v20, val_main_v16, val_main_v15, val_main_v14, val_main_v13, val_main_v12, val_main_v5, val_main_v4, val_main_v3]
  rfl

end Cert.DcRefIdeal.Value

end
-- ==== Proof.Dc.lean ====
/-
  The gradient of S5's output matrix: kernel and reference leave the same two results.

  The kernel sums over the 8192 rows, the reference over the two sequences. For the imaginary parts the kernel negates the
  sum and the reference every factor in it; where the terms reach both infinities the two differ, hence the precondition.
-/
module

public import proofs.«01_k».proof.Defs
public import proofs.«01_k».proof.Proof.DcKernel
public import proofs.«01_k».proof.Proof.DcReference
public import proofs.«01_k».proof.Proof.Reals

@[expose] public section

noncomputable section

namespace Cert.DcProof

open Idealize.ShloMosaic Idealize.ShloMosaic.TcCoe Idealize.SL.Sem
/-! ## The precondition -/

instance preFacts : Cert.Pre_dc_finite.Facts :=
  ⟨by decide, by decide, by decide, by decide, by decide, by decide⟩

open Cert.Pre_dc_finite in
/-- Under the precondition both arguments are arrays of real numbers. -/
theorem reals {x : FVec Ideal S2x4096x512 .bf16} {y : FVec Ideal S2x4096x4096 .bf16} (h : fn (F := Ideal) x y = fun _ => 1#1) :
    (∃ X : S2x4096x512.Idx → ℝ, x = fun i => (X i : EReal)) ∧ (∃ X : S2x4096x4096.Idx → ℝ, y = fun i => (X i : EReal)) := by
  have h0 := congrFun h ix0
  exact ⟨Reals.exists_real (s := S2x4096x512) x _ _ _ _ _ _ (Reals.one_of_andi_left h0),
    Reals.exists_real (s := S2x4096x4096) y _ _ _ _ _ _ (Reals.one_of_andi_right h0)⟩

/-! ## The two programs -/

open Cert.DcIdeal Cert.DcIdeal.Gen Cert.DcIdeal.Value
open Cert.DcRefIdeal.Value (against result0 result1)
open Cert.DcRefIdeal.Read
open Cert.Diagonal (col half0 half1 half_at)

variable (m : (ℓ : Loc nD τ sig) → Buf (Elt Ideal) ℓ) (ρ : Dev nD → PrngReg) (c : Dev nD)

/-- The arguments on a device. -/
abbrev argX : FVec Ideal S2x4096x512 .bf16 := m ((c : Thread nD τ).loc main_arg0)

abbrev argY : FVec Ideal S2x4096x4096 .bf16 := m ((c : Thread nD τ).loc main_arg1)

/-- The band product over the rows of the two sequences. -/
theorem band_at (i : Fin 512) (j : Fin 2048) : band (V m c main_v0) (V m c main_v1) (ix2 i j) = against (argX m c) (argY m c) i (col i j) := by
  unfold band against
  rw [Fin.sum_univ_tiles 2 4096 rfl]
  refine Finset.sum_congr rfl fun b _ => Finset.sum_congr rfl fun s _ => congrArg₂ (fun u v : EReal => u * v) ?_ ?_
  · change StableHlo.after hostOps0 (fun b => m (c, b)) (Proc.devRef .tc main_v0) _ = _
    entry_read
    pointwise []
  · change StableHlo.after hostOps0 (fun b => m (c, b)) (Proc.devRef .tc main_v1) _ = _
    entry_read
    pointwise []

theorem re_eq : half0 (band (V m c main_v0) (V m c main_v1)) = val_main_v19 (F := Ideal) (argX m c) (argY m c) := by
  funext j
  obtain ⟨i, p, rfl⟩ : ∃ (i : Fin 512) (p : Fin 64), j = ix2 i p := ⟨_, _, eq_ix2 j⟩
  rw [(half_at _ i p).1, band_at, result0]
  refine congrArg (against _ _ i) (Fin.ext ?_)
  have := i.isLt
  have := p.isLt
  simp only [col]
  omega

/-- The negated sum is the sum of the negated terms. -/
theorem neg_against {x : FVec Ideal S2x4096x512 .bf16} {y : FVec Ideal S2x4096x4096 .bf16} (hx : ∃ X : S2x4096x512.Idx → ℝ, x = fun i => (X i : EReal))
    (hy : ∃ X : S2x4096x4096.Idx → ℝ, y = fun i => (X i : EReal)) (i : Fin 512) (k : Fin 4096) :
    -against x y i k = against (fun j => -x j) y i k := by
  obtain ⟨X, rfl⟩ := hx
  obtain ⟨Y, rfl⟩ := hy
  unfold against
  simp only [← EReal.coe_neg, ← EReal.coe_mul, ← Reals.coe_sum, neg_mul, Finset.sum_neg_distrib]

theorem im_eq (hx : ∃ X : S2x4096x512.Idx → ℝ, argX m c = fun i => (X i : EReal)) (hy : ∃ X : S2x4096x4096.Idx → ℝ, argY m c = fun i => (X i : EReal)) :
    Host.negf (F := Ideal) (half1 (band (V m c main_v0) (V m c main_v1))) = val_main_v20 (F := Ideal) (argX m c) (argY m c) := by
  funext j
  obtain ⟨i, p, rfl⟩ : ∃ (i : Fin 512) (p : Fin 64), j = ix2 i p := ⟨_, _, eq_ix2 j⟩
  rw [result1, ← neg_against hx hy]
  refine congrArg (fun z : EReal => -z) ?_
  rw [(half_at _ i p).2, band_at]
  refine congrArg (against _ _ i) (Fin.ext ?_)
  have := i.isLt
  have := p.isLt
  simp only [col]
  omega

/-- The kernel's program ends with its two halves, the arguments unchanged. -/
theorem run : θ_run defs (onTc (τ := τ) (main (F := Ideal))) ⟨m, fun _ => 0, ρ⟩ (fun r => ∀ c : Dev nD,
    r.2.mem ((c.tc : Thread nD τ).loc main_v33) = half0 (band (V m c main_v0) (V m c main_v1))
    ∧ r.2.mem ((c.tc : Thread nD τ).loc main_v65) = Host.negf (F := Ideal) (half1 (band (V m c main_v0) (V m c main_v1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h.1 c).2 main_v33 (Pipeline.mem_restRefs_of main_v33 (by decide) (by decide))).trans (tail m c _ (final2 m c)).1,
      ((h.1 c).2 main_v65 (Pipeline.mem_restRefs_of main_v65 (by decide) (by decide))).trans (tail m c _ (final2 m c)).2, h.2 c⟩)
    (θ_run_and (run_main m ρ) (unchanged m ρ))

theorem algebraic : Cert.algebraic_DcIdeal_DcRefIdeal_pre_dc_finite := by
  intro m ρ m' ρ' hpre hagree
  refine ⟨fun c => half0 (band (V m c main_v0) (V m c main_v1)), fun c => Host.negf (F := Ideal) (half1 (band (V m c main_v0) (V m c main_v1))), run m ρ, ?_⟩
  refine (θ_run Cert.DcRefIdeal.defs _ _).mono (fun r h c => ?_) (Cert.DcRefIdeal.Value.run (F := Ideal) m' ρ')
  obtain ⟨r0, r1, hkeep⟩ := h c
  obtain ⟨e0, e1⟩ := hagree c
  refine ⟨r0.trans ?_, r1.trans ?_, hkeep⟩
  · refine (val_main_v19_eq (F := Ideal) _ _).trans ?_
    rw [e0, e1]
    exact (re_eq m c).symm
  · refine (val_main_v20_eq (F := Ideal) _ _).trans ?_
    rw [e0, e1]
    exact (im_eq m c (reals (hpre c)).1 (reals (hpre c)).2).symm

theorem quiescent_reference : Cert.quiescent_DcRefIdeal := fun m ρ _ =>
  (θ_run Cert.DcRefIdeal.defs _ _).mono (fun r h => ⟨fun c => (h c).2.2, sem_eq_zero_of_no_sems (by decide) r.2⟩)
    (Cert.DcRefIdeal.Value.run (F := Ideal) m ρ)

end Cert.DcProof

end
-- ==== Proof.MixFwdKernel.lean ====
/-
  `MixFwdIdeal`: what the kernel of the mixer's input projection leaves in its two results.

  The kernel walks eight blocks of 1024 rows. Each point writes its normed rows (window 4) and their projection (window 3).
-/
module

public import proofs.«01_k».proof.Proof.Gen.MixFwdIdeal.Value
public import proofs.«01_k».proof.Proof.RmsNorm
public import Idealize.ShloMosaic.Lib.Pipeline.ValueKit

@[expose] public section

noncomputable section

namespace Cert.MixFwdIdeal.Value

open Idealize.ShloMosaic Idealize.ShloMosaic.TcCoe Idealize.SL.Sem
open Idealize.ShloMosaic.Pipeline (Dat)
open Cert.MixFwdIdeal Cert.MixFwdIdeal.Gen

variable (m : (ℓ : Loc nD τ sig) → Buf (Elt Ideal) ℓ) (c : Dev nD)

/-- The block of each window at grid point `t`: row block `t`, or the one block there is. -/
theorem index_eq : ∀ t : Fin grid0.N, win0_0.index t = ![t.val, 0] ∧ win0_1.index t = ![0, 0] ∧
    win0_2.index t = ![0, 0] ∧ win0_3.index t = ![t.val, 0] ∧ win0_4.index t = ![t.val, 0] := by
  decide +kernel

/-- The normed rows, scaled by the norm's weights. -/
def normed (x : FVec Ideal S8192x1024 .f32) (g : FVec Ideal S1x1024 .f32) : FVec Ideal S8192x1024 .bf16 :=
  fun j => x j * RmsNorm.scaleE (fun l => x (ix2 (j 0) l)) * g (ix2 0 (j 1))

/-- The projection of the normed rows. -/
def proj (x : FVec Ideal S8192x1024 .f32) (g : FVec Ideal S1x1024 .f32) (w : FVec Ideal S1536x1024 .bf16) :
    FVec Ideal S8192x1536 .f32 :=
  fun j => ∑ l, normed x g (ix2 (j 0) l) * w (ix2 (j 1) l)

theorem final4 : (dats m 0 c).arrAt 4 cfg0.N = normed (V m c main_v0) (V m c main_arg1) := by
  refine (dats m 0 c).arrAt_eq_of_covers 4 _ (by decide +kernel) fun t hf y => ?_
  blk_simp
  rw [after0_4]
  unfold outsAt0
  frame_out
  pointwise [k0_pay1, normed, RmsNorm.scaleE]
  blk_point [iblk, index_eq t]

theorem final3 : (dats m 0 c).arrAt 3 cfg0.N = proj (V m c main_v0) (V m c main_arg1) (V m c main_v3) := by
  refine (dats m 0 c).arrAt_eq_of_covers 3 _ (by decide +kernel) fun t hf y => ?_
  blk_simp
  rw [after0_3]
  unfold outsAt0
  frame_out
  pointwise [k0_pay2, k0_pay1, proj, normed, RmsNorm.scaleE]
  blk_point [iblk, index_eq t]

end Cert.MixFwdIdeal.Value

end
-- ==== Proof.MixFwdReference.lean ====
/-
  `MixFwdRefIdeal`: the reference's two results.
-/
module

public import proofs.«01_k».proof.Proof.Gen.MixFwdRefIdeal.Run
public import proofs.«01_k».proof.Proof.Gen.MixFwdRefIdeal.Read
public import proofs.«01_k».proof.Proof.RmsNorm
public import proofs.«01_k».proof.Proof.Rows

@[expose] public section

noncomputable section

namespace Cert.MixFwdRefIdeal.Value

open Idealize.ShloMosaic Idealize.ShloMosaic.TcCoe Idealize.SL.Sem
open Cert.MixFwdRefIdeal Cert.MixFwdRefIdeal.Gen Cert.MixFwdRefIdeal.Read Cert.Rows

variable (x : FVec Ideal S2x4096x1024 .f32) (g : FVec Ideal S1x1024 .f32) (w : FVec Ideal S1x1024x1536 .f32)
  (b : Fin 2) (s : Fin 4096) (l : Fin 1024) (n : Fin 8192) (k : Fin 1536)

/-- Entry `l` of the normed row `(b, s)`. -/
def normed : EReal := x (ix3 b s l) * RmsNorm.scaleE (fun l => x (ix3 b s l)) * g (ix2 0 l)

theorem v8_at : val_main_v8 (F := Ideal) x (ix3 b s 0) = RmsNorm.scaleE fun l => x (ix3 b s l) := by
  pointwise [val_main_v8, val_main_v7, val_main_v6, val_main_v5, val_main_v4, val_main_v3, val_main_v2, val_main_v1, val_main_cst,
    val_main_cst_0, val_main_cst_1, RmsNorm.scaleE]

theorem v13_at : val_main_v13 (F := Ideal) x g (ix3 b s l) = normed x g b s l := by
  pointwise [val_main_v13, val_main_v12, val_main_v11, val_main_v10, val_main_v9, val_main_v0, normed]
  rw [v8_at]

theorem v18_at : val_main_v18 (F := Ideal) x g (ix2 n l) = normed x g (batch n) (pos n) l := by
  refine Eq.trans ?_ (v13_at x g (batch n) (pos n) l)
  pointwise [val_main_v18, val_main_v17, batch, pos]

theorem v16_at : val_main_v16 (F := Ideal) x g w (ix2 n k) = ∑ l, normed x g (batch n) (pos n) l * w (ix3 0 l k) := by
  refine Eq.trans ?_ (Finset.sum_congr rfl fun l _ => congrArg (fun a : EReal => a * w (ix3 0 l k)) (v13_at x g (batch n) (pos n) l))
  pointwise [val_main_v16, val_main_v15, val_main_v14, batch, pos]

end Cert.MixFwdRefIdeal.Value

end
-- ==== Proof.MixFwd.lean ====
/-
  The mixer's input projection and the normed rows it saves: the kernel's results are the reference's, for any arguments.
-/
module

public import proofs.«01_k».proof.Defs
public import proofs.«01_k».proof.Proof.MixFwdKernel
public import proofs.«01_k».proof.Proof.MixFwdReference

@[expose] public section

noncomputable section

namespace Cert.MixFwdProof

open Idealize.ShloMosaic Idealize.ShloMosaic.TcCoe Idealize.SL.Sem

open Cert.MixFwdIdeal Cert.MixFwdIdeal.Gen Cert.MixFwdIdeal.Value Cert.Rows Cert.MixFwdRefIdeal.Read

variable (m : (ℓ : Loc nD τ sig) → Buf (Elt Ideal) ℓ) (c : Dev nD) (n : Fin 8192) (l : Fin 1024)

theorem x_at : V m c main_v0 (ix2 n l) = m ((c : Thread nD τ).loc main_arg0) (ix3 (batch n) (pos n) l) := by
  entry_read
  pointwise [batch, pos]

theorem w_at (k : Fin 1536) : V m c main_v3 (ix2 k l) = m ((c : Thread nD τ).loc main_arg2) (ix3 0 l k) := by
  entry_read
  pointwise

theorem normed_at : normed (V m c main_v0) (V m c main_arg1) (ix2 n l)
    = Cert.MixFwdRefIdeal.Value.normed (m ((c : Thread nD τ).loc main_arg0)) (m ((c : Thread nD τ).loc main_arg1)) (batch n) (pos n) l := by
  unfold normed Cert.MixFwdRefIdeal.Value.normed
  rw [V_main_arg1]
  exact congrArg₂ (fun a b : EReal => a * b * _) (x_at m c n l) (congrArg RmsNorm.scaleE (funext fun l => x_at m c n l))

theorem h_eq : (dats m 0 c).arrAt 4 cfg0.N
    = val_main_v18 (F := Ideal) (m ((c : Thread nD τ).loc main_arg0)) (m ((c : Thread nD τ).loc main_arg1)) := by
  refine (final4 m c).trans ?_
  funext j
  obtain ⟨n, l, rfl⟩ : ∃ n l, j = ix2 n l := ⟨_, _, eq_ix2 j⟩
  exact (normed_at m c n l).trans (Cert.MixFwdRefIdeal.Value.v18_at _ _ l n).symm

theorem proj_eq : (dats m 0 c).arrAt 3 cfg0.N = val_main_v16 (F := Ideal) (m ((c : Thread nD τ).loc main_arg0))
    (m ((c : Thread nD τ).loc main_arg1)) (m ((c : Thread nD τ).loc main_arg2)) := by
  refine (final3 m c).trans ?_
  funext j
  obtain ⟨n, k, rfl⟩ : ∃ n k, j = ix2 n k := ⟨_, _, eq_ix2 j⟩
  refine Eq.trans ?_ (Cert.MixFwdRefIdeal.Value.v16_at _ _ _ n k).symm
  exact Finset.sum_congr rfl fun l _ => congrArg₂ (fun a b : EReal => a * b) (normed_at m c n l) (w_at m c l k)

theorem algebraic : Cert.algebraic_MixFwdIdeal_MixFwdRefIdeal := by
  intro m ρ m' ρ' _ hagree
  refine ⟨fun c => (dats m 0 c).arrAt 3 cfg0.N, fun c => (dats m 0 c).arrAt 4 cfg0.N, run_blocks m ρ, ?_⟩
  refine (θ_run Cert.MixFwdRefIdeal.defs _ _).mono (fun r h c => ?_) (Cert.MixFwdRefIdeal.Value.run (F := Ideal) m' ρ')
  obtain ⟨r0, r1, hkeep⟩ := h c
  obtain ⟨e0, e1, e2⟩ := hagree c
  refine ⟨r0.trans ?_, r1.trans ?_, hkeep⟩
  · refine (val_main_v16_eq (F := Ideal) _ _ _).trans ?_
    rw [e0, e1, e2]
    exact (proj_eq m c).symm
  · refine (val_main_v18_eq (F := Ideal) _ _).trans ?_
    rw [e0, e1]
    exact (h_eq m c).symm

theorem quiescent_reference : Cert.quiescent_MixFwdRefIdeal := fun m ρ _ =>
  (θ_run Cert.MixFwdRefIdeal.defs _ _).mono (fun r h => ⟨fun c => (h c).2.2, sem_eq_zero_of_no_sems (by decide) r.2⟩)
    (Cert.MixFwdRefIdeal.Value.run (F := Ideal) m ρ)

end Cert.MixFwdProof

end
-- ==== Proof.Powers.lean ====
/-
  The powers of a discrete pole, over real numbers: each is the one before times the pole, and in polar form its angle and
  the logarithm of its length are the multiples of the pole's.
-/
module

public import proofs.«01_k».proof.Proof.Reals

@[expose] public section

noncomputable section

namespace Cert.Powers

open Idealize.ShloMosaic

variable (x y : ℝ) (k : ℕ)

/-- The real part of power `1 + k` of the pole `exp (x + i y)`. -/
def powR : ℝ := Real.exp ((1 + k) * x) * Real.cos ((1 + k) * y)

/-- The imaginary part of power `1 + k` of the pole `exp (x + i y)`. -/
def powI : ℝ := Real.exp ((1 + k) * x) * Real.sin ((1 + k) * y)

theorem powR_zero : powR x y 0 = Real.exp x * Real.cos y := by simp [powR]

theorem powI_zero : powI x y 0 = Real.exp x * Real.sin y := by simp [powI]

theorem next_exp : Real.exp ((1 + (k + 1 : ℕ)) * x) = Real.exp ((1 + k) * x) * Real.exp x := by
  rw [← Real.exp_add]; congr 1; push_cast; ring

theorem next_angle : (1 + (k + 1 : ℕ)) * y = (1 + k) * y + y := by push_cast; ring

theorem powR_succ : powR x y (k + 1) = powR x y k * powR x y 0 - powI x y k * powI x y 0 := by
  rw [powR_zero, powI_zero, powR, next_exp, next_angle, Real.cos_add, powR, powI]; ring

theorem powI_succ : powI x y (k + 1) = powR x y k * powI x y 0 + powI x y k * powR x y 0 := by
  rw [powR_zero, powI_zero, powI, next_exp, next_angle, Real.sin_add, powR, powI]; ring

/-- One multiplication by the pole, real part, as the kernels compute it. -/
theorem stepR {u v a b : EReal} (hu : u = (powR x y k : EReal)) (hv : v = (powI x y k : EReal)) (ha : a = (powR x y 0 : EReal))
    (hb : b = (powI x y 0 : EReal)) : u * a - v * b = (powR x y (k + 1) : EReal) := by
  rw [hu, hv, ha, hb, powR_succ, EReal.coe_sub, EReal.coe_mul, EReal.coe_mul]

/-- One multiplication by the pole, imaginary part, as the kernels compute it. -/
theorem stepI {u v a b : EReal} (hu : u = (powR x y k : EReal)) (hv : v = (powI x y k : EReal)) (ha : a = (powR x y 0 : EReal))
    (hb : b = (powI x y 0 : EReal)) : u * b + v * a = (powI x y (k + 1) : EReal) := by
  rw [hu, hv, ha, hb, powI_succ, EReal.coe_add, EReal.coe_mul, EReal.coe_mul]

/-! ## The input coefficient over extended reals -/

/-- The discrete pole, real part, from the pole and the logarithm of the step. -/
def discR (lr li ld : EReal) : EReal := Ideal.exp (lr * Ideal.exp ld) * Ideal.cos (li * Ideal.exp ld)

/-- The discrete pole, imaginary part. -/
def discI (lr li ld : EReal) : EReal := Ideal.exp (lr * Ideal.exp ld) * Ideal.sin (li * Ideal.exp ld)

/-- The input coefficient, real part. -/
def coefR (lr li ld : EReal) : EReal := Ideal.div ((discR lr li ld - 1) * lr + discI lr li ld * li) (lr * lr + li * li)

/-- The input coefficient, imaginary part. -/
def coefI (lr li ld : EReal) : EReal := Ideal.div (discI lr li ld * lr - (discR lr li ld - 1) * li) (lr * lr + li * li)

/-- An entry of the discrete input matrix, real part. -/
def inR (lr li ld br bi : EReal) : EReal := coefR lr li ld * br - coefI lr li ld * bi

/-- An entry of the discrete input matrix, imaginary part. -/
def inI (lr li ld br bi : EReal) : EReal := coefR lr li ld * bi + coefI lr li ld * br

theorem discR_coe (lr li ld : ℝ) : discR lr li ld = (powR (lr * Real.exp ld) (li * Real.exp ld) 0 : EReal) := by
  simp only [discR, Ideal.exp_coe, Ideal.cos_coe, ← EReal.coe_mul, powR_zero]

theorem discI_coe (lr li ld : ℝ) : discI lr li ld = (powI (lr * Real.exp ld) (li * Real.exp ld) 0 : EReal) := by
  simp only [discI, Ideal.exp_coe, Ideal.sin_coe, ← EReal.coe_mul, powI_zero]

end Cert.Powers

end
-- ==== Proof.PrepKernel.lean ====
/-
  `PrepIdeal`: what the kernel that prepares S5's arrays leaves in its four results.

  The kernel has one grid point, which takes every operand whole. It multiplies a pole's powers up one after the other.
-/
module

public import proofs.«01_k».proof.Proof.Gen.PrepIdeal.Value
public import proofs.«01_k».proof.Proof.Powers
public import Idealize.ShloMosaic.Lib.Pipeline.ValueKit

@[expose] public section

noncomputable section

namespace Cert.PrepIdeal.Value

open Idealize.ShloMosaic Idealize.ShloMosaic.TcCoe Idealize.SL.Sem
open Idealize.ShloMosaic.Pipeline (Dat)
open Cert.PrepIdeal Cert.PrepIdeal.Gen Cert.Powers

/-- Every window has one block. -/
theorem index_eq : ∀ t : Fin grid0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0, 0] ∧ win0_9.index t = ![0, 0, 0] ∧ win0_10.index t = ![0, 0] ∧
    win0_11.index t = ![0, 0] := by
  decide +kernel

section Operands

variable (m : (ℓ : Loc nD τ sig) → Buf (Elt Ideal) ℓ) (c : Dev nD)

/-! ## The input matrix -/

/-- The discrete input matrix, real part, one row to a channel. -/
def inputRe (lr li ld br bi : FVec Ideal S512x64 .f32) : FVec Ideal S512x64 .f32 := fun j => inR (lr j) (li j) (ld j) (br j) (bi j)

/-- The discrete input matrix, imaginary part. -/
def inputIm (lr li ld br bi : FVec Ideal S512x64 .f32) : FVec Ideal S512x64 .f32 := fun j => inI (lr j) (li j) (ld j) (br j) (bi j)

theorem final10 : (dats m 0 c).arrAt 10 cfg0.N
    = inputRe (V m c main_v11) (V m c main_v13) (V m c main_v16) (V m c main_v6) (V m c main_v9) := by
  refine (dats m 0 c).arrAt_eq_of_covers 10 _ (by decide +kernel) fun t hf y => ?_
  blk_simp
  rw [after0_10]
  unfold_out out0_10
  frame_out
  pointwise [k0_pay26, k0_pay25, k0_pay24, k0_pay23, k0_pay22, k0_pay21, k0_pay20, k0_pay19, k0_pay18, k0_pay12, k0_pay11, k0_pay10,
    k0_pay9, inputRe, inR, coefR, coefI, discR, discI]
  blk_point [iblk, index_eq t]

theorem final11 : (dats m 0 c).arrAt 11 cfg0.N
    = inputIm (V m c main_v11) (V m c main_v13) (V m c main_v16) (V m c main_v6) (V m c main_v9) := by
  refine (dats m 0 c).arrAt_eq_of_covers 11 _ (by decide +kernel) fun t hf y => ?_
  blk_simp
  rw [after0_11]
  unfold_out out0_11
  frame_out
  pointwise [k0_pay27, k0_pay25, k0_pay24, k0_pay23, k0_pay22, k0_pay21, k0_pay20, k0_pay19, k0_pay18, k0_pay12, k0_pay11, k0_pay10,
    k0_pay9, inputIm, inI, coefR, coefI, discR, discI]
  blk_point [iblk, index_eq t]

end Operands

/-! ## The powers -/

/-- The tables `u` and `v` hold power `1 + k` of the poles with logarithms `x + i y`. -/
def IsPower (x y : Fin 32 → Fin 64 → ℝ) (k : ℕ) (u v : FVec Ideal S32x64 .f32) : Prop :=
  ∀ g p, u (ix2 g p) = (powR (x g p) (y g p) k : EReal) ∧ v (ix2 g p) = (powI (x g p) (y g p) k : EReal)

section Steps

variable {x y : Fin 32 → Fin 64 → ℝ} {k : ℕ} {a b u v : FVec Ideal S32x64 .f32}

/-- One multiplication by the poles. -/
theorem next (h : IsPower x y k u v) (h0 : IsPower x y 0 a b) : IsPower x y (k + 1) (subf (mulf u a) (mulf v b)) (addf (mulf u b) (mulf v a)) :=
  fun g p => ⟨stepR _ _ k (h g p).1 (h g p).2 (h0 g p).1 (h0 g p).2, stepI _ _ k (h g p).1 (h g p).2 (h0 g p).1 (h0 g p).2⟩

variable (h0 : IsPower x y 0 a b)

include h0

theorem power1 : IsPower x y 1 (k0_pay30 a b) (k0_pay31 a b) := next h0 h0

theorem power2 : IsPower x y 2 (k0_pay34 a b) (k0_pay35 a b) := next (power1 h0) h0

theorem power3 (h : IsPower x y 2 u v) : IsPower x y 3 (k0_pay38 a b u v) (k0_pay39 a b u v) := next h h0

theorem power4 (h : IsPower x y 2 u v) : IsPower x y 4 (k0_pay42 a b u v) (k0_pay43 a b u v) := next (power3 h0 h) h0

theorem power5 (h : IsPower x y 2 u v) : IsPower x y 5 (k0_pay46 a b u v) (k0_pay47 a b u v) := next (power4 h0 h) h0

theorem power6 (h : IsPower x y 5 u v) : IsPower x y 6 (k0_pay3 a b u v) (k0_pay4 a b u v) := next h h0

end Steps

variable {x0 x1 : FVec Ideal S32x64 .f32} {x2 : FVec Ideal S32x1 .f32} {x3 x4 x5 x6 x7 : FVec Ideal S512x64 .f32}
  {LR LI : Fin 32 → Fin 64 → ℝ} {LD : Fin 32 → ℝ} (k : Fin 8) (g : Fin 32) (p : Fin 64)

section Point

variable (h0 : ∀ g p, x0 (ix2 g p) = (LR g p : EReal)) (h1 : ∀ g p, x1 (ix2 g p) = (LI g p : EReal))
  (h2 : ∀ g, x2 (ix2 g 0) = (LD g : EReal))

/-- The logarithm of a discrete pole's length. -/
abbrev logLen (LR : Fin 32 → Fin 64 → ℝ) (LD : Fin 32 → ℝ) (g : Fin 32) (p : Fin 64) : ℝ := LR g p * Real.exp (LD g)

/-- The eight powers of the discrete poles, real part. -/
def tableR (LR LI : Fin 32 → Fin 64 → ℝ) (LD : Fin 32 → ℝ) : FVec Ideal S8x32x64 .f32 :=
  fun j => (powR (logLen LR LD (j 1) (j 2)) (logLen LI LD (j 1) (j 2)) (j 0).val : EReal)

/-- The eight powers of the discrete poles, imaginary part. -/
def tableI (LR LI : Fin 32 → Fin 64 → ℝ) (LD : Fin 32 → ℝ) : FVec Ideal S8x32x64 .f32 :=
  fun j => (powI (logLen LR LD (j 1) (j 2)) (logLen LI LD (j 1) (j 2)) (j 0).val : EReal)

include h0 h1 h2

theorem power0 : IsPower (logLen LR LD) (logLen LI LD) 0 (k0_pay52 (F := Ideal) x0 x1 x2 x3 x4 x5 x6 x7)
    (k0_pay53 (F := Ideal) x0 x1 x2 x3 x4 x5 x6 x7) := by
  intro g p
  rw [← discR_coe, ← discI_coe, ← h0, ← h1, ← h2]
  constructor
  · unfold k0_pay52
    frame_out
    pointwise [k0_pay16, k0_pay15, k0_pay14, k0_pay13, discR]
  · unfold k0_pay53
    frame_out
    pointwise [k0_pay17, k0_pay15, k0_pay14, k0_pay13, discI]

end Point

/-- A table stored as slice `j` of a result, read at an index of the slice. -/
theorem piece {f : FVec Ideal S32x64 .f32} {e : ℕ → ℝ} {j : ℕ} (hf : f (ix2 g p) = (e j : EReal)) (y : S1x32x64.Idx)
    (hk : k.val = j) (hg : g.val = (y 1).val) (hp : p.val = (y 2).val) :
    shapeCast S1x32x64 f shapeCasts_S32x64_S1x32x64 y = (e k.val : EReal) := by
  obtain ⟨q, g', p', rfl⟩ : ∃ (q : Fin 1) (g' : Fin 32) (p' : Fin 64), y = ix3 q g' p' := ⟨_, _, _, eq_ix3 y⟩
  obtain rfl : g = g' := Fin.ext hg
  obtain rfl : p = p' := Fin.ext hp
  rw [hk, ← hf]
  pointwise

section Results

variable (h0 : ∀ g p, x0 (ix2 g p) = (LR g p : EReal)) (h1 : ∀ g p, x1 (ix2 g p) = (LI g p : EReal))
  (h2 : ∀ g, x2 (ix2 g 0) = (LD g : EReal))

include h0 h1 h2

theorem out8_at : out0_8 (F := Ideal) x0 x1 x2 x3 x4 x5 x6 x7 (ix3 k g p) = (powR (logLen LR LD g p) (logLen LI LD g p) k.val : EReal) := by
  have hp0 := power0 (x3 := x3) (x4 := x4) (x5 := x5) (x6 := x6) (x7 := x7) h0 h1 h2
  have hp2 : IsPower _ _ 2 (k0_pay58 (F := Ideal) x0 x1 x2 x3 x4 x5 x6 x7) (k0_pay59 (F := Ideal) x0 x1 x2 x3 x4 x5 x6 x7) := power2 hp0
  have hp5 : IsPower _ _ 5 (k0_pay60 (F := Ideal) x0 x1 x2 x3 x4 x5 x6 x7) (k0_pay61 (F := Ideal) x0 x1 x2 x3 x4 x5 x6 x7) := power5 hp0 hp2
  unfold out0_8
  canon_tiles y h
  all_goals change k.val = _ at h0
  · exact piece k g p (next (power6 hp0 hp5) hp0 g p).1 y (by omega) h1 h2
  · exact piece k g p (power6 hp0 hp5 g p).1 y (by omega) h1 h2
  · exact piece k g p (hp5 g p).1 y (by omega) h1 h2
  · exact piece k g p (power4 hp0 hp2 g p).1 y (by omega) h1 h2
  · exact piece k g p (power3 hp0 hp2 g p).1 y (by omega) h1 h2
  · exact piece k g p (hp2 g p).1 y (by omega) h1 h2
  · exact piece k g p (power1 hp0 g p).1 y (by omega) h1 h2
  · exact piece k g p (hp0 g p).1 y (by omega) h1 h2

theorem out9_at : out0_9 (F := Ideal) x0 x1 x2 x3 x4 x5 x6 x7 (ix3 k g p) = (powI (logLen LR LD g p) (logLen LI LD g p) k.val : EReal) := by
  have hp0 := power0 (x3 := x3) (x4 := x4) (x5 := x5) (x6 := x6) (x7 := x7) h0 h1 h2
  have hp2 : IsPower _ _ 2 (k0_pay58 (F := Ideal) x0 x1 x2 x3 x4 x5 x6 x7) (k0_pay59 (F := Ideal) x0 x1 x2 x3 x4 x5 x6 x7) := power2 hp0
  have hp5 : IsPower _ _ 5 (k0_pay60 (F := Ideal) x0 x1 x2 x3 x4 x5 x6 x7) (k0_pay61 (F := Ideal) x0 x1 x2 x3 x4 x5 x6 x7) := power5 hp0 hp2
  unfold out0_9
  canon_tiles y h
  all_goals change k.val = _ at h0
  · exact piece k g p (next (power6 hp0 hp5) hp0 g p).2 y (by omega) h1 h2
  · exact piece k g p (power6 hp0 hp5 g p).2 y (by omega) h1 h2
  · exact piece k g p (hp5 g p).2 y (by omega) h1 h2
  · exact piece k g p (power4 hp0 hp2 g p).2 y (by omega) h1 h2
  · exact piece k g p (power3 hp0 hp2 g p).2 y (by omega) h1 h2
  · exact piece k g p (hp2 g p).2 y (by omega) h1 h2
  · exact piece k g p (power1 hp0 g p).2 y (by omega) h1 h2
  · exact piece k g p (hp0 g p).2 y (by omega) h1 h2

end Results

section Finals

variable (m : (ℓ : Loc nD τ sig) → Buf (Elt Ideal) ℓ) (c : Dev nD)
  (h0 : ∀ g p, V m c main_v0 (ix2 g p) = (LR g p : EReal)) (h1 : ∀ g p, V m c main_v1 (ix2 g p) = (LI g p : EReal))
  (h2 : ∀ g, V m c main_v3 (ix2 g 0) = (LD g : EReal))

include h0 h1 h2

theorem final8 : (dats m 0 c).arrAt 8 cfg0.N
    = tableR LR LI LD := by
  refine (dats m 0 c).arrAt_eq_of_covers 8 _ (by decide +kernel) fun t hf y => ?_
  blk_simp
  rw [after0_8]
  obtain ⟨k, g, p, rfl⟩ : ∃ (k : Fin 8) (g : Fin 32) (p : Fin 64), y = ix3 k g p := ⟨_, _, _, eq_ix3 y⟩
  have e : (win0_8.blk t).view.emb (ix3 k g p) = ix3 k g p := by
    blk_ext [index_eq t]
  rw [e]
  change _ = ((powR (logLen LR LD g p) (logLen LI LD g p) k.val : ℝ) : EReal)
  refine out8_at k g p (fun g p => Eq.trans ?_ (h0 g p)) (fun g p => Eq.trans ?_ (h1 g p)) (fun g => Eq.trans ?_ (h2 g))
  all_goals blk_point [iblk, index_eq t]

theorem final9 : (dats m 0 c).arrAt 9 cfg0.N
    = tableI LR LI LD := by
  refine (dats m 0 c).arrAt_eq_of_covers 9 _ (by decide +kernel) fun t hf y => ?_
  blk_simp
  rw [after0_9]
  obtain ⟨k, g, p, rfl⟩ : ∃ (k : Fin 8) (g : Fin 32) (p : Fin 64), y = ix3 k g p := ⟨_, _, _, eq_ix3 y⟩
  have e : (win0_9.blk t).view.emb (ix3 k g p) = ix3 k g p := by
    blk_ext [index_eq t]
  rw [e]
  change _ = ((powI (logLen LR LD g p) (logLen LI LD g p) k.val : ℝ) : EReal)
  refine out9_at k g p (fun g p => Eq.trans ?_ (h0 g p)) (fun g p => Eq.trans ?_ (h1 g p)) (fun g => Eq.trans ?_ (h2 g))
  all_goals blk_point [iblk, index_eq t]

end Finals

end Cert.PrepIdeal.Value

end
-- ==== Proof.PrepReference.lean ====
/-
  `PrepRefIdeal`: the reference's four results.
-/
module

public import proofs.«01_k».proof.Proof.Gen.PrepRefIdeal.Run
public import proofs.«01_k».proof.Proof.Gen.PrepRefIdeal.Read
public import proofs.«01_k».proof.Proof.Discretise
public import proofs.«01_k».proof.Proof.Powers

@[expose] public section

noncomputable section

namespace Cert.PrepRefIdeal.Value

open Idealize.ShloMosaic Idealize.ShloMosaic.TcCoe Idealize.SL.Sem
open Cert.PrepRefIdeal Cert.PrepRefIdeal.Gen Cert.PrepRefIdeal.Read Cert.Discretise Cert.Powers

section Inputs

variable (x0 x1 : FVec Ideal S1x32x64 .f32) (x2 : FVec Ideal S1x32 .f32) (x3 x4 : FVec Ideal S1x32x64x16 .f32) (g : Fin 32)
  (p : Fin 64) (h : Fin 16) (i : Fin 512)

theorem v24_at : val_main_v24 (F := Ideal) x0 x1 x2 (ix2 g p) = coefR (x0 (ix3 0 g p)) (x1 (ix3 0 g p)) (x2 (ix2 0 g)) := by
  pointwise [val_main_v24, val_main_v23, val_main_v22, val_main_v21, val_main_v20, val_main_v19, val_main_cst, val_main_v18, val_main_v17,
    val_main_v16, val_main_v15, val_main_v14, val_main_v13, val_main_v12, val_main_v11, val_main_v10, val_main_v9, val_main_v8,
    val_main_v7, val_main_v6, val_main_v5, val_main_v2, val_main_v1, val_main_v0, coefR, discR, discI]

theorem v28_at : val_main_v28 (F := Ideal) x0 x1 x2 (ix2 g p) = coefI (x0 (ix3 0 g p)) (x1 (ix3 0 g p)) (x2 (ix2 0 g)) := by
  pointwise [val_main_v28, val_main_v27, val_main_v26, val_main_v25, val_main_v20, val_main_v19, val_main_cst, val_main_v18, val_main_v17,
    val_main_v16, val_main_v15, val_main_v14, val_main_v13, val_main_v12, val_main_v11, val_main_v10, val_main_v9, val_main_v8,
    val_main_v7, val_main_v6, val_main_v5, val_main_v2, val_main_v1, val_main_v0, coefI, discR, discI]

theorem v35_at : val_main_v35 (F := Ideal) x0 x1 x2 x3 x4 (ix3 g p h)
    = inR (x0 (ix3 0 g p)) (x1 (ix3 0 g p)) (x2 (ix2 0 g)) (x3 (ix4 0 g p h)) (x4 (ix4 0 g p h)) := by
  unfold inR
  rw [← v24_at, ← v28_at]
  pointwise [val_main_v35, val_main_v34, val_main_v33, val_main_v32, val_main_v31, val_main_v30, val_main_v29, val_main_v3, val_main_v4]

theorem v42_at : val_main_v42 (F := Ideal) x0 x1 x2 x3 x4 (ix3 g p h)
    = inI (x0 (ix3 0 g p)) (x1 (ix3 0 g p)) (x2 (ix2 0 g)) (x3 (ix4 0 g p h)) (x4 (ix4 0 g p h)) := by
  unfold inI
  rw [← v24_at, ← v28_at]
  pointwise [val_main_v42, val_main_v41, val_main_v40, val_main_v39, val_main_v38, val_main_v37, val_main_v36, val_main_v3, val_main_v4]

theorem v70_at : val_main_v70 (F := Ideal) x0 x1 x2 x3 x4 (ix2 i p) = inR (x0 (ix3 0 (group i) p)) (x1 (ix3 0 (group i) p))
    (x2 (ix2 0 (group i))) (x3 (ix4 0 (group i) p (place i))) (x4 (ix4 0 (group i) p (place i))) := by
  refine Eq.trans ?_ (v35_at x0 x1 x2 x3 x4 (group i) p (place i))
  pointwise [val_main_v70, val_main_v69, group, place]

theorem v72_at : val_main_v72 (F := Ideal) x0 x1 x2 x3 x4 (ix2 i p) = inI (x0 (ix3 0 (group i) p)) (x1 (ix3 0 (group i) p))
    (x2 (ix2 0 (group i))) (x3 (ix4 0 (group i) p (place i))) (x4 (ix4 0 (group i) p (place i))) := by
  refine Eq.trans ?_ (v42_at x0 x1 x2 x3 x4 (group i) p (place i))
  pointwise [val_main_v72, val_main_v71, group, place]

end Inputs

section Powers

/-- An array of real numbers as an array of the program. -/
abbrev ofReal {t : Shape} (y : t.Idx → ℝ) : FVec Ideal t .f32 := fun i => (y i : EReal)

variable (a0 a1 : S1x32x64.Idx → ℝ) (a2 : S1x32.Idx → ℝ) (k : Fin 8) (g : Fin 32) (p : Fin 64)

/-- The multiples of a pole's angle: one to eight. -/
theorem v48_at : val_main_v48 (F := Ideal) (ix1 k) = ((1 + (k.val : ℕ) : ℝ) : EReal) := by
  pointwise [val_main_v48, val_main_v47, val_main_cst_0, val_main_v46]
  have e : ∀ b : BitVec 32, FloatOps.sitofp (F := Ideal) FTy.f32 b = ((b.toInt : ℝ) : EReal) := fun _ => rfl
  fin_cases k <;> simp [e]

theorem v66_at : val_main_v66 (F := Ideal) (ofReal a0) (ofReal a1) (ofReal a2) (ix3 k g p)
    = (powR (a0 (ix3 0 g p) * Real.exp (a2 (ix2 0 g))) (a1 (ix3 0 g p) * Real.exp (a2 (ix2 0 g))) k.val : EReal) := by
  pointwise [val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_v45, val_main_v44, val_main_v43]
  rw [v48_at]
  simp only [Ideal.exp_coe, Ideal.cos_coe, ← EReal.coe_mul, powR]

theorem v68_at : val_main_v68 (F := Ideal) (ofReal a0) (ofReal a1) (ofReal a2) (ix3 k g p)
    = (powI (a0 (ix3 0 g p) * Real.exp (a2 (ix2 0 g))) (a1 (ix3 0 g p) * Real.exp (a2 (ix2 0 g))) k.val : EReal) := by
  pointwise [val_main_v68, val_main_v67, val_main_v64, val_main_v63, val_main_v62, val_main_v61, val_main_v60, val_main_v59, val_main_v58,
    val_main_v57, val_main_v56, val_main_v55, val_main_v54, val_main_v53, val_main_v52, val_main_v51, val_main_v50, val_main_v49,
    val_main_v45, val_main_v44, val_main_v43]
  rw [v48_at]
  simp only [Ideal.exp_coe, Ideal.sin_coe, ← EReal.coe_mul, powI]

end Powers

end Cert.PrepRefIdeal.Value

end
-- ==== Proof.Prep.lean ====
/-
  The preparation of S5's arrays, the powers of the discrete poles and the discrete input matrix: the kernel's results are the
  reference's.
-/
module

public import proofs.«01_k».proof.Defs
public import proofs.«01_k».proof.Proof.PrepKernel
public import proofs.«01_k».proof.Proof.PrepReference

@[expose] public section

noncomputable section

namespace Cert.PrepProof

open Idealize.ShloMosaic Idealize.ShloMosaic.TcCoe Idealize.SL.Sem

/-! ## The precondition -/

instance preFacts : Cert.Pre_prep_finite.Facts := ⟨by decide, by decide, by decide, by decide, by decide⟩

open Cert.Pre_prep_finite in
/-- Under the precondition the poles and the logarithms of the steps are real numbers. -/
theorem reals {x0 x1 : FVec Ideal S1x32x64 .f32} {x2 : FVec Ideal S1x32 .f32} {x3 x4 : FVec Ideal S1x32x64x16 .f32}
    (h : fn (F := Ideal) x0 x1 x2 x3 x4 = fun _ => 1#1) :
    (∃ X : S1x32x64.Idx → ℝ, x0 = fun i => (X i : EReal)) ∧ (∃ X : S1x32x64.Idx → ℝ, x1 = fun i => (X i : EReal)) ∧
    (∃ X : S1x32.Idx → ℝ, x2 = fun i => (X i : EReal)) := by
  have h0 := congrFun h ix0
  have h1 := Reals.one_of_andi_left h0
  exact ⟨Reals.exists_real x0 _ _ _ _ _ _ (Reals.one_of_andi_left h1), Reals.exists_real x1 _ _ _ _ _ _ (Reals.one_of_andi_right h1),
    Reals.exists_real x2 _ _ _ _ _ _ (Reals.one_of_andi_right h0)⟩

/-! ## The kernel's operands read from the arguments -/

open Cert.PrepIdeal Cert.PrepIdeal.Gen Cert.PrepIdeal.Value Cert.Discretise Cert.Powers
open Cert.PrepRefIdeal.Value (ofReal)
open Cert.PrepRefIdeal.Read

variable (m : (ℓ : Loc nD τ sig) → Buf (Elt Ideal) ℓ) (c : Dev nD) (i : Fin 512) (g : Fin 32) (p : Fin 64)

theorem re_at : V m c main_v0 (ix2 g p) = m ((c : Thread nD τ).loc main_arg0) (ix3 0 g p) := by
  entry_read
  pointwise

theorem im_at : V m c main_v1 (ix2 g p) = m ((c : Thread nD τ).loc main_arg1) (ix3 0 g p) := by
  entry_read
  pointwise

theorem ldt_at : V m c main_v3 (ix2 g 0) = m ((c : Thread nD τ).loc main_arg2) (ix2 0 g) := by
  entry_read
  pointwise

theorem reRep_at : V m c main_v11 (ix2 i p) = m ((c : Thread nD τ).loc main_arg0) (ix3 0 (group i) p) := by
  entry_read
  pointwise [group]

theorem imRep_at : V m c main_v13 (ix2 i p) = m ((c : Thread nD τ).loc main_arg1) (ix3 0 (group i) p) := by
  entry_read
  pointwise [group]

theorem ldtRep_at : V m c main_v16 (ix2 i p) = m ((c : Thread nD τ).loc main_arg2) (ix2 0 (group i)) := by
  entry_read
  pointwise [group]

theorem bRe_at : V m c main_v6 (ix2 i p) = m ((c : Thread nD τ).loc main_arg3) (ix4 0 (group i) p (place i)) := by
  entry_read
  pointwise [group, place]

theorem bIm_at : V m c main_v9 (ix2 i p) = m ((c : Thread nD τ).loc main_arg4) (ix4 0 (group i) p (place i)) := by
  entry_read
  pointwise [group, place]

/-! ## The results -/

theorem bbRe_eq : (dats m 0 c).arrAt 10 cfg0.N = val_main_v70 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (final10 m c).trans ?_
  funext j
  obtain ⟨i, p, rfl⟩ : ∃ (i : Fin 512) (p : Fin 64), j = ix2 i p := ⟨_, _, eq_ix2 j⟩
  refine Eq.trans ?_ (Cert.PrepRefIdeal.Value.v70_at _ _ _ _ _ p i).symm
  rw [← reRep_at m c i p, ← imRep_at m c i p, ← ldtRep_at m c i p, ← bRe_at m c i p, ← bIm_at m c i p]
  rfl

theorem bbIm_eq : (dats m 0 c).arrAt 11 cfg0.N = val_main_v72 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (final11 m c).trans ?_
  funext j
  obtain ⟨i, p, rfl⟩ : ∃ (i : Fin 512) (p : Fin 64), j = ix2 i p := ⟨_, _, eq_ix2 j⟩
  refine Eq.trans ?_ (Cert.PrepRefIdeal.Value.v72_at _ _ _ _ _ p i).symm
  rw [← reRep_at m c i p, ← imRep_at m c i p, ← ldtRep_at m c i p, ← bRe_at m c i p, ← bIm_at m c i p]
  rfl

section Powers

variable {a0 a1 : S1x32x64.Idx → ℝ} {a2 : S1x32.Idx → ℝ} (h0 : m ((c : Thread nD τ).loc main_arg0) = ofReal a0)
  (h1 : m ((c : Thread nD τ).loc main_arg1) = ofReal a1) (h2 : m ((c : Thread nD τ).loc main_arg2) = ofReal a2)

include h0 h1 h2

theorem pwRe_eq : (dats m 0 c).arrAt 8 cfg0.N = val_main_v66 (F := Ideal) (ofReal a0) (ofReal a1) (ofReal a2) := by
  refine (final8 m c (fun g p => (re_at m c g p).trans (congrFun h0 _)) (fun g p => (im_at m c g p).trans (congrFun h1 _))
    (fun g => (ldt_at m c g).trans (congrFun h2 _))).trans ?_
  funext j
  obtain ⟨k, g, p, rfl⟩ : ∃ (k : Fin 8) (g : Fin 32) (p : Fin 64), j = ix3 k g p := ⟨_, _, _, eq_ix3 j⟩
  exact (Cert.PrepRefIdeal.Value.v66_at a0 a1 a2 k g p).symm

theorem pwIm_eq : (dats m 0 c).arrAt 9 cfg0.N = val_main_v68 (F := Ideal) (ofReal a0) (ofReal a1) (ofReal a2) := by
  refine (final9 m c (fun g p => (re_at m c g p).trans (congrFun h0 _)) (fun g p => (im_at m c g p).trans (congrFun h1 _))
    (fun g => (ldt_at m c g).trans (congrFun h2 _))).trans ?_
  funext j
  obtain ⟨k, g, p, rfl⟩ : ∃ (k : Fin 8) (g : Fin 32) (p : Fin 64), j = ix3 k g p := ⟨_, _, _, eq_ix3 j⟩
  exact (Cert.PrepRefIdeal.Value.v68_at a0 a1 a2 k g p).symm

end Powers

theorem algebraic : Cert.algebraic_PrepIdeal_PrepRefIdeal_pre_prep_finite := by
  intro m ρ m' ρ' hpre hagree
  refine ⟨fun c => (dats m 0 c).arrAt 8 cfg0.N, fun c => (dats m 0 c).arrAt 9 cfg0.N, fun c => (dats m 0 c).arrAt 10 cfg0.N,
    fun c => (dats m 0 c).arrAt 11 cfg0.N, run_blocks m ρ, ?_⟩
  refine (θ_run Cert.PrepRefIdeal.defs _ _).mono (fun r h c => ?_) (Cert.PrepRefIdeal.Value.run (F := Ideal) m' ρ')
  obtain ⟨r0, r1, r2, r3, hkeep⟩ := h c
  obtain ⟨e0, e1, e2, e3, e4⟩ := hagree c
  obtain ⟨⟨a0, h0⟩, ⟨a1, h1⟩, ⟨a2, h2⟩⟩ := reals (hpre c)
  refine ⟨r0.trans ?_, r1.trans ?_, r2.trans ?_, r3.trans ?_, hkeep⟩
  · refine (val_main_v66_eq (F := Ideal) _ _ _).trans ?_
    rw [e0, e1, e2, h0, h1, h2]
    exact (pwRe_eq m c h0 h1 h2).symm
  · refine (val_main_v68_eq (F := Ideal) _ _ _).trans ?_
    rw [e0, e1, e2, h0, h1, h2]
    exact (pwIm_eq m c h0 h1 h2).symm
  · refine (val_main_v70_eq m' c).trans ?_
    rw [e0, e1, e2, e3, e4]
    exact (bbRe_eq m c).symm
  · refine (val_main_v72_eq m' c).trans ?_
    rw [e0, e1, e2, e3, e4]
    exact (bbIm_eq m c).symm

theorem quiescent_reference : Cert.quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

end Cert.PrepProof

end
-- ==== Proof.ConvForward.lean ====
/-
  The convolution module of a conformer, forward, at one row: the gate, the taps and the two norms after them.
-/
module

public import proofs.«01_k».proof.Proof.RmsNorm
public import proofs.«01_k».proof.Proof.Activations

@[expose] public section

noncomputable section

namespace Cert.ConvForward

open Idealize.ShloMosaic Cert.Activations

/-! ## The logistic function -/

/-- The logistic function, on the extended reals. -/
def sigE (z : EReal) : EReal := Ideal.div 1 (1 + Ideal.exp (-z))

theorem sigE_coe (z : ℝ) : sigE z = (sigmoid z : EReal) := by
  rw [sigE, ← EReal.coe_neg, Ideal.exp_coe, ← EReal.coe_one, ← EReal.coe_add, Reals.div_coe_coe _ (one_add_exp_pos _).ne', one_div]
  rfl

/-- The logistic function through the hyperbolic tangent, at the infinities too. -/
theorem half_tanhE (z : EReal) :
    Ideal.ofBits .f32 0x3F000000#32 * Ideal.tanh (Ideal.ofBits .f32 0x3F000000#32 * z) + Ideal.ofBits .f32 0x3F000000#32 = sigE z := by
  rw [ofBits_half]
  induction z using EReal.rec with
  | bot =>
    rw [EReal.coe_mul_bot_of_pos (by norm_num), show Ideal.tanh ⊥ = ((-1 : ℝ) : EReal) from rfl, ← EReal.coe_mul, ← EReal.coe_add, sigE,
      ← EReal.coe_one, EReal.neg_bot, show Ideal.exp ⊤ = ⊤ from rfl, EReal.coe_add_top, Ideal.div, if_neg EReal.top_ne_zero, EReal.inv_top, mul_zero]
    norm_num
  | top =>
    rw [EReal.coe_mul_top_of_pos (by norm_num), show Ideal.tanh ⊤ = ((1 : ℝ) : EReal) from rfl, ← EReal.coe_mul, ← EReal.coe_add, sigE,
      ← EReal.coe_one, EReal.neg_top, show Ideal.exp ⊥ = ((0 : ℝ) : EReal) from rfl, ← EReal.coe_add, Reals.div_coe_coe _ (by norm_num)]
    norm_num
  | coe z =>
    rw [sigE_coe, ← half_tanh, ← EReal.coe_mul, show Ideal.tanh ((1 / 2 * z : ℝ) : EReal) = ((Real.tanh (1 / 2 * z) : ℝ) : EReal) from rfl,
      ← EReal.coe_mul, ← EReal.coe_add]

/-! ## The taps -/

/-- A gated sequence behind 32 zeros. -/
def padded (a : ℕ → EReal) (s : ℕ) : EReal := if s < 32 then 0 else a (s - 32)

/-- The taps at position `s`: tap `k` meets the entry `30 - k` positions earlier. -/
def taps (a : ℕ → EReal) (w : ℕ → EReal) (s : ℕ) : EReal := ∑ k ∈ Finset.range 31, padded a (k + s + 2) * w k

/-- The taps, summed by the remainder of their distance modulo 8. -/
theorem grouped (f : ℕ → EReal) :
    ∑ k ∈ Finset.range 31, f k = f 6 + f 14 + f 22 + f 30 + (f 7 + f 15 + f 23) + (f 0 + f 8 + f 16 + f 24) + (f 1 + f 9 + f 17 + f 25)
      + (f 2 + f 10 + f 18 + f 26) + (f 3 + f 11 + f 19 + f 27) + (f 4 + f 12 + f 20 + f 28) + (f 5 + f 13 + f 21 + f 29) := by
  simp only [Finset.sum_range_succ, Finset.sum_range_zero, zero_add]
  abel

/-! ## The arrays -/

section Arrays

variable (x : FVec Ideal ⟨3, ![2, 4096, 1536]⟩ .f32) (w : FVec Ideal ⟨3, ![1, 31, 512]⟩ .f32) (cb : FVec Ideal ⟨2, ![1, 512]⟩ .f32)

/-- The gated sequence of one batch and channel: the channel's value times the logistic function of its gate. -/
def gated (b : Fin 2) (k : Fin 512) (s : ℕ) : EReal :=
  if h : s < 4096 then x (ix3 b ⟨s, h⟩ ⟨k.val, by omega⟩) * sigE (x (ix3 b ⟨s, h⟩ ⟨512 + k.val, by omega⟩)) else 0

theorem gated_of_lt (b : Fin 2) (k : Fin 512) (s : Fin 4096) :
    gated x b k s = x (ix3 b s ⟨k.val, by omega⟩) * sigE (x (ix3 b s ⟨512 + k.val, by omega⟩)) := dif_pos s.isLt

/-- The weights of one channel. -/
def weight (k : Fin 512) (n : ℕ) : EReal := if h : n < 31 then w (ix3 0 ⟨n, h⟩ k) else 0

/-- The taps of a row, and the bias. -/
def mixed (b : Fin 2) (s : ℕ) (k : Fin 512) : EReal := taps (gated x b k) (weight w k) s + cb (ix2 0 k)

/-- The one row of an array. -/
def row (k : Fin 512) : EReal := cb (ix2 0 k)

end Arrays

/-! ## The norms -/

section Row

variable (c lg lb og : Fin 512 → EReal)

/-- The mean of a row. -/
def mean : EReal := Ideal.div (∑ k, c k) (Ideal.ofBits .f32 0x44000000#32)

/-- The reciprocal root of a row's mean square. -/
def invRoot : EReal := Ideal.rsqrt (Ideal.div (∑ k, c k * c k) (Ideal.ofBits .f32 0x44000000#32) + Ideal.ofBits .f32 0x358637BD#32)

/-- The row after the layer norm. -/
def layer (k : Fin 512) : EReal := (c k - mean c) * invRoot (fun l => c l - mean c) * lg k + lb k

/-- The normed row through its activation. -/
def act (k : Fin 512) : EReal := layer c lg lb k * sigE (layer c lg lb k)

/-- The module's output: the activation's row, scaled by the reciprocal root of its mean square and by the weights. -/
def out (k : Fin 512) : EReal := act c lg lb k * invRoot (act c lg lb) * og k

end Row

end Cert.ConvForward

end
-- ==== Proof.ConvFwdKernel.lean ====
/-
  `ConvFwdIdeal`: what the kernel of the convolution module leaves in its two results.

  The kernel walks sixteen tiles of 256 rows in each of two batches. A point puts the gated rows of its tile, behind the
  last 32 of the tile before, into a scratch buffer. It adds the 31 taps up in eight groups.
-/
module

public import proofs.«01_k».proof.Proof.Gen.ConvFwdIdeal.Value
public import proofs.«01_k».proof.Proof.ConvForward
public import Idealize.ShloMosaic.Lib.Pipeline.ValueKit
public import Idealize.ShloMosaic.Lib.Pipeline.ReadBack

@[expose] public section

noncomputable section

namespace Cert.ConvFwdIdeal.Value

open Idealize.ShloMosaic Idealize.ShloMosaic.TcCoe Idealize.SL.Sem
open Idealize.ShloMosaic.Pipeline (Dat)
open Cert.ConvFwdIdeal Cert.ConvFwdIdeal.Gen Cert.ConvForward

variable (m : (ℓ : Loc nD τ sig) → Buf (Elt Ideal) ℓ) (c : Dev nD)

/-- The block of each window at grid point `t`: tile `t % 16` of batch `t / 16`, or the one block there is. -/
theorem index_eq : ∀ t : Fin grid0.N, win0_0.index t = ![t.val / 16, t.val % 16, 0] ∧ win0_1.index t = ![t.val / 16, t.val % 16, 1] ∧
    win0_2.index t = ![t.val / 16, 8 * (t.val % 16) - 1, 0] ∧ win0_3.index t = ![t.val / 16, 8 * (t.val % 16) - 1, 1] ∧
    win0_4.index t = ![0, 0] ∧ win0_5.index t = ![0, 0] ∧ win0_6.index t = ![0, 0] ∧ win0_7.index t = ![0, 0] ∧
    win0_8.index t = ![0, 0] ∧ win0_9.index t = ![t.val / 16, t.val % 16, 0] ∧ win0_10.index t = ![t.val / 16, t.val % 16, 0] := by
  decide +kernel

/-- The batch of a grid point. -/
def batch (t : Fin grid0.N) : Fin 2 := ⟨t.val / 16, by have := t.isLt; have e : grid0.N = 32 := by decide
                                                       omega⟩

theorem tile_at (t : Fin grid0.N) (p : Fin 256) (k : Fin 512) :
    HMul.hMul (α := EReal) (β := EReal) (iblk m c 0 t (ix3 0 p k)) (sigE (iblk m c 1 t (ix3 0 p k)))
      = gated (V m c main_arg0) (batch t) k (256 * (t.val % 16) + p) := by
  have hp := p.isLt
  refine Eq.trans ?_ (gated_of_lt _ (batch t) k ⟨256 * (t.val % 16) + p, by omega⟩).symm
  congr 1
  · blk_point [iblk, index_eq t, batch]
  · refine congrArg sigE ?_
    blk_point [iblk, index_eq t, batch]

theorem halo_at (t : Fin grid0.N) (h : t.val % 16 ≠ 0) (p : Fin 32) (k : Fin 512) :
    HMul.hMul (α := EReal) (β := EReal) (iblk m c 2 t (ix3 0 p k)) (sigE (iblk m c 3 t (ix3 0 p k)))
      = gated (V m c main_arg0) (batch t) k (256 * (t.val % 16) - 32 + p) := by
  have hp := p.isLt
  refine Eq.trans ?_ (gated_of_lt _ (batch t) k ⟨256 * (t.val % 16) - 32 + p, by omega⟩).symm
  congr 1
  · blk_point [iblk, index_eq t, batch]
  · refine congrArg sigE ?_
    blk_point [iblk, index_eq t, batch]

/-- The factor that clears the halo of a batch's first tile. -/
theorem keep_eq : ∀ t : Fin grid0.N, (Scalar.extui (Scalar.cmpi .sgt (BitVec.ofNat 32 (grid0.coords t 1).val) 0#32) : BitVec 32).toInt
    = if t.val % 16 = 0 then 0 else 1 := by decide +kernel

/-- What the scratch buffer holds at point `t`. -/
def rows (t : Fin grid0.N) : FVec Ideal S288x512 .f32 :=
  fun j => padded (gated (V m c main_arg0) (batch t) (j 1)) (256 * (t.val % 16) + j 0)

theorem scratch_cover (u : FVec Ideal S256x512 .f32) (v : FVec Ideal S32x512 .f32) (i : S288x512.Idx) :
    ∃ p ∈ ([⟨Rect.unit ![32, 0] ![256, 512] inb_S288x512_S256x512_32_0, u⟩, ⟨Rect.unit ![0, 0] ![32, 512] inb_S288x512_S32x512_0_0, v⟩] :
      List (View.Piece (Elt Ideal) S288x512 .f32)), i ∈ p.1.set := by
  have h0 : (i 0).val < 288 := (i 0).isLt
  have h1 : (i 1).val < 512 := (i 1).isLt
  by_cases h : (i 0).val < 32
  · refine ⟨_, List.mem_cons_of_mem _ (List.mem_singleton_self _), (Rect.mem_set_unit (inb := inb_S288x512_S32x512_0_0)).mpr fun a => ?_⟩
    match a with
    | ⟨0, _⟩ => exact ⟨Nat.zero_le _, h⟩
    | ⟨1, _⟩ => exact ⟨Nat.zero_le _, h1⟩
  · refine ⟨_, List.mem_cons_self, (Rect.mem_set_unit (inb := inb_S288x512_S256x512_32_0)).mpr fun a => ?_⟩
    match a with
    | ⟨0, _⟩ => exact ⟨Nat.le_of_not_lt h, h0⟩
    | ⟨1, _⟩ => exact ⟨Nat.zero_le _, h1⟩

theorem scratch_eq (t : Fin grid0.N) :
    View.canon (Val := Elt Ideal) (s := S288x512) (e := .f32) [⟨Rect.unit ![32, 0] ![256, 512] inb_S288x512_S256x512_32_0, k0_pay4 (k0_pay3 (iblk m c 0 t) (iblk m c 1 t))⟩,
      ⟨Rect.unit ![0, 0] ![32, 512] inb_S288x512_S32x512_0_0, k0_pay2 (grid0.coords t) (iblk m c 2 t) (iblk m c 3 t)⟩]
      = rows m c t := by
  funext i
  canon_tiles y h using scratch_cover _ _ i
  · pointwise [k0_pay4, k0_pay3, half_tanhE]
    refine (tile_at m c t (y 0) (y 1)).trans ?_
    unfold rows padded
    rw [if_neg (by omega)]
    exact congrArg₂ _ (Fin.ext h1.symm) (by omega)
  · pointwise [k0_pay2, half_tanhE]
    rw [keep_eq]
    unfold rows padded
    split
    · rw [if_pos (by omega), Int.cast_zero, EReal.coe_zero, zero_mul, zero_mul]
    · rename_i ht
      rw [Int.cast_one, EReal.coe_one, one_mul, if_neg (by omega)]
      refine (halo_at m c t ht (y 0) (y 1)).trans ?_
      exact congrArg₂ _ (Fin.ext h1.symm) (by omega)

/-- The weights of one channel, of which the last is never read. -/
def tap (w : FVec Ideal S32x512 .f32) (k : Fin 512) (n : ℕ) : EReal := if h : n < 32 then w (ix2 ⟨n, h⟩ k) else 0

/-- The rows before the norms, in both batches. -/
def conv (x : FVec Ideal S2x4096x1536 .f32) (w : FVec Ideal S32x512 .f32) (cb : FVec Ideal S1x512 .f32) : FVec Ideal S2x4096x512 .f32 :=
  fun j => taps (gated x (j 0) (j 2)) (tap w (j 2)) (j 1) + cb (ix2 0 (j 2))

theorem tap_at (t : Fin grid0.N) (p : ℕ) (k : Fin 512) (n : Fin 32) (e : Fin 288) (h : e.val = n + p + 2) :
    HMul.hMul (α := EReal) (β := EReal) (iblk m c 4 t (ix2 n k)) (rows m c t (ix2 e k))
      = padded (gated (V m c main_arg0) (batch t) k) (n + (256 * (t.val % 16) + p) + 2) * tap (V m c main_v1) k n := by
  rw [mul_comm]
  refine congrArg₂ HMul.hMul (congrArg (padded _) ?_) ?_
  · show 256 * (t.val % 16) + e.val = _
    omega
  · refine Eq.trans ?_ (dif_pos n.isLt).symm
    blk_point [iblk, index_eq t]

theorem tile10 (t : Fin grid0.N) (p : Fin 256) (k : Fin 512) : (outsAt0 m c t).2 (ix3 0 p k)
    = taps (gated (V m c main_arg0) (batch t) k) (tap (V m c main_v1) k) (256 * (t.val % 16) + p) + V m c main_arg2 (ix2 0 k) := by
  unfold outsAt0
  frame_out
  simp (disch := decide) only [↓View.readCov_fill]
  simp only [View.readCov_eq_canon', scratch_eq]
  pointwise [k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay27, k0_pay26]
  rw [taps, grouped]
  refine congrArg₂ HAdd.hAdd ?_ ?_
  · repeat' refine congrArg₂ HAdd.hAdd ?_ ?_
    all_goals
      refine tap_at m c t p k _ _ ?_
      simp
      omega
  · blk_point [iblk, index_eq t]

/-- Row `p` of point `t`'s tile, in its batch. -/
def tileRow (t : Fin grid0.N) (p : Fin 256) : Fin 4096 := ⟨256 * (t.val % 16) + p, by omega⟩

theorem final10 : (dats m 0 c).arrAt 10 cfg0.N = conv (V m c main_arg0) (V m c main_v1) (V m c main_arg2) := by
  refine (dats m 0 c).arrAt_eq_of_covers 10 _ (by decide +kernel) fun t hf y => ?_
  blk_simp
  rw [after0_10]
  obtain ⟨q, p, k, rfl⟩ : ∃ (q : Fin 1) (p : Fin 256) (k : Fin 512), y = ix3 q p k := ⟨_, _, _, eq_ix3 y⟩
  obtain rfl : q = 0 := Subsingleton.elim _ _
  have hn : (win0_10.blk t).view.emb (ix3 0 p k) = ix3 (batch t) (tileRow t p) k := by
    blk_ext [index_eq t, batch, tileRow]
  rw [hn]
  exact tile10 m c t p k

/-- The two norms and the activation of a tile, from its rows before them. -/
theorem post_at (u v : FVec Ideal S256x512 .f32) (cb lg lb og : FVec Ideal S1x512 .f32) (R : Fin 256 → Fin 512 → EReal)
    (h : ∀ p k, k0_pay27 u v cb (ix3 0 p k) = R p k) (p : Fin 256) (k : Fin 512) :
    k0_pay1 og (k0_pay28 u v cb lg lb) (ix3 0 p k) = out (R p) (row lg) (row lb) (row og) k := by
  have e : ∀ p k, u (ix2 p k) + v (ix2 p k) + cb (ix2 0 k) = R p k := fun p k => by
    rw [← h]
    pointwise [k0_pay27, k0_pay26]
  pointwise [k0_pay1, k0_pay28, k0_pay26, half_tanhE, e]
  rfl

/-- The rows after the norms, in both batches. -/
def normed (x : FVec Ideal S2x4096x1536 .f32) (w : FVec Ideal S32x512 .f32) (cb lg lb og : FVec Ideal S1x512 .f32) : FVec Ideal S2x4096x512 .bf16 :=
  fun j => out (fun k => conv x w cb (ix3 (j 0) (j 1) k)) (row lg) (row lb) (row og) (j 2)

theorem final9 : (dats m 0 c).arrAt 9 cfg0.N
    = normed (V m c main_arg0) (V m c main_v1) (V m c main_arg2) (V m c main_arg3) (V m c main_arg4) (V m c main_arg5) := by
  refine (dats m 0 c).arrAt_eq_of_covers 9 _ (by decide +kernel) fun t hf y => ?_
  blk_simp
  rw [after0_9]
  obtain ⟨q, p, k, rfl⟩ : ∃ (q : Fin 1) (p : Fin 256) (k : Fin 512), y = ix3 q p k := ⟨_, _, _, eq_ix3 y⟩
  obtain rfl : q = 0 := Subsingleton.elim _ _
  have hn : (win0_9.blk t).view.emb (ix3 0 p k) = ix3 (batch t) (tileRow t p) k := by
    blk_ext [index_eq t, batch, tileRow]
  rw [hn]
  have h := tile10 m c t
  revert h
  unfold outsAt0
  frame_out
  intro h
  refine (post_at _ _ _ _ _ _ _ h p k).trans ?_
  have e6 : row (iblk m c 6 t) = row (V m c main_arg3) := funext fun l => by
    unfold row
    blk_point [iblk, index_eq t]
  have e7 : row (iblk m c 7 t) = row (V m c main_arg4) := funext fun l => by
    unfold row
    blk_point [iblk, index_eq t]
  have e8 : row (iblk m c 8 t) = row (V m c main_arg5) := funext fun l => by
    unfold row
    blk_point [iblk, index_eq t]
  refine (congrArg₂ (fun a b => out _ a b _ k) e6 e7).trans ?_
  exact congrArg (fun a => out _ _ _ a k) e8

end Cert.ConvFwdIdeal.Value

end
-- ==== Proof.ConvFwdReference.lean ====
/-
  `ConvFwdRefIdeal`: the reference's two results.
-/
module

public import proofs.«01_k».proof.Proof.Gen.ConvFwdRefIdeal.Run
public import proofs.«01_k».proof.Proof.Gen.ConvFwdRefIdeal.Read
public import proofs.«01_k».proof.Proof.ConvForward

@[expose] public section

noncomputable section

namespace Cert.ConvFwdRefIdeal.Value

open Idealize.ShloMosaic Idealize.ShloMosaic.TcCoe Idealize.SL.Sem
open Cert.ConvFwdRefIdeal Cert.ConvFwdRefIdeal.Gen Cert.ConvFwdRefIdeal.Read Cert.ConvForward

variable (x : FVec Ideal S2x4096x1536 .f32) (w : FVec Ideal S1x31x512 .f32) (cb lg lb og : FVec Ideal S1x512 .f32)
  (b : Fin 2) (s : Fin 4096) (k : Fin 512)

theorem v8_at : val_main_v8 (F := Ideal) x (ix3 b s k) = gated x b k s := by
  pointwise [val_main_v8, val_main_v7, val_main_v6, val_main_v5, val_main_v4, val_main_v3, val_main_v2, val_main_v1, val_main_v0,
    val_main_cst, val_main_cst_0]
  rw [gated_of_lt]
  rfl

theorem v10_at (p : Fin 4126) : val_main_v10 (F := Ideal) x (ix3 b p k) = padded (gated x b k) (p + 2) := by
  pointwise [val_main_v10, v8_at]
  unfold padded
  split
  · rw [if_pos (by omega)]
    pointwise [val_main_v9, val_main_cst_1]
  · rw [if_neg (by omega)]
    congr 1

theorem v259_at : val_main_v259 (F := Ideal) x w (ix3 b s k) = taps (gated x b k) (weight w k) s := by
  pointwise [val_main_cst_2, val_main_v11, val_main_v12, val_main_v13, val_main_v14, val_main_v15, val_main_v16, val_main_v17, val_main_v18, val_main_v19,
    val_main_v20, val_main_v21, val_main_v22, val_main_v23, val_main_v24, val_main_v25, val_main_v26, val_main_v27, val_main_v28, val_main_v29,
    val_main_v30, val_main_v31, val_main_v32, val_main_v33, val_main_v34, val_main_v35, val_main_v36, val_main_v37, val_main_v38, val_main_v39,
    val_main_v40, val_main_v41, val_main_v42, val_main_v43, val_main_v44, val_main_v45, val_main_v46, val_main_v47, val_main_v48, val_main_v49,
    val_main_v50, val_main_v51, val_main_v52, val_main_v53, val_main_v54, val_main_v55, val_main_v56, val_main_v57, val_main_v58, val_main_v59,
    val_main_v60, val_main_v61, val_main_v62, val_main_v63, val_main_v64, val_main_v65, val_main_v66, val_main_v67, val_main_v68, val_main_v69,
    val_main_v70, val_main_v71, val_main_v72, val_main_v73, val_main_v74, val_main_v75, val_main_v76, val_main_v77, val_main_v78, val_main_v79,
    val_main_v80, val_main_v81, val_main_v82, val_main_v83, val_main_v84, val_main_v85, val_main_v86, val_main_v87, val_main_v88, val_main_v89,
    val_main_v90, val_main_v91, val_main_v92, val_main_v93, val_main_v94, val_main_v95, val_main_v96, val_main_v97, val_main_v98, val_main_v99,
    val_main_v100, val_main_v101, val_main_v102, val_main_v103, val_main_v104, val_main_v105, val_main_v106, val_main_v107, val_main_v108,
    val_main_v109, val_main_v110, val_main_v111, val_main_v112, val_main_v113, val_main_v114, val_main_v115, val_main_v116, val_main_v117,
    val_main_v118, val_main_v119, val_main_v120, val_main_v121, val_main_v122, val_main_v123, val_main_v124, val_main_v125, val_main_v126,
    val_main_v127, val_main_v128, val_main_v129, val_main_v130, val_main_v131, val_main_v132, val_main_v133, val_main_v134, val_main_v135,
    val_main_v136, val_main_v137, val_main_v138, val_main_v139, val_main_v140, val_main_v141, val_main_v142, val_main_v143, val_main_v144,
    val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162,
    val_main_v163, val_main_v164, val_main_v165, val_main_v166, val_main_v167, val_main_v168, val_main_v169, val_main_v170, val_main_v171,
    val_main_v172, val_main_v173, val_main_v174, val_main_v175, val_main_v176, val_main_v177, val_main_v178, val_main_v179, val_main_v180,
    val_main_v181, val_main_v182, val_main_v183, val_main_v184, val_main_v185, val_main_v186, val_main_v187, val_main_v188, val_main_v189,
    val_main_v190, val_main_v191, val_main_v192, val_main_v193, val_main_v194, val_main_v195, val_main_v196, val_main_v197, val_main_v198,
    val_main_v199, val_main_v200, val_main_v201, val_main_v202, val_main_v203, val_main_v204, val_main_v205, val_main_v206, val_main_v207,
    val_main_v208, val_main_v209, val_main_v210, val_main_v211, val_main_v212, val_main_v213, val_main_v214, val_main_v215, val_main_v216,
    val_main_v217, val_main_v218, val_main_v219, val_main_v220, val_main_v221, val_main_v222, val_main_v223, val_main_v224, val_main_v225,
    val_main_v226, val_main_v227, val_main_v228, val_main_v229, val_main_v230, val_main_v231, val_main_v232, val_main_v233, val_main_v234,
    val_main_v235, val_main_v236, val_main_v237, val_main_v238, val_main_v239, val_main_v240, val_main_v241, val_main_v242, val_main_v243,
    val_main_v244, val_main_v245, val_main_v246, val_main_v247, val_main_v248, val_main_v249, val_main_v250, val_main_v251, val_main_v252,
    val_main_v253, val_main_v254, val_main_v255, val_main_v256, val_main_v257, val_main_v258, val_main_v259]
  simp only [v10_at, taps, Finset.sum_range_succ, Finset.sum_range_zero, Finset.sum_empty, zero_add]
  rfl

/-- The taps and the bias at row `s`. -/
theorem v263_at : val_main_v263 (F := Ideal) x w cb (ix3 b s k) = mixed x w cb b s k := by
  pointwise [val_main_v263, val_main_v262, val_main_v261, val_main_v260, v259_at]
  rfl

theorem v287_at : val_main_v287 (F := Ideal) x w cb lg lb (ix3 b s k) = layer (mixed x w cb b s) (row lg) (row lb) k := by
  pointwise [val_main_v287, val_main_v286, val_main_v285, val_main_v284, val_main_v283, val_main_v282, val_main_v281, val_main_v280,
    val_main_v279, val_main_v278, val_main_v277, val_main_v276, val_main_v275, val_main_v274, val_main_v273, val_main_v272, val_main_v271,
    val_main_v270, val_main_v269, val_main_v268, val_main_v267, val_main_v266, val_main_v265, val_main_v264, val_main_cst_3,
    val_main_cst_4, val_main_cst_5, val_main_cst_6, val_main_cst_7, v263_at]
  rfl

theorem v288_at : val_main_v288 (F := Ideal) x w cb lg lb (ix3 b s k) = act (mixed x w cb b s) (row lg) (row lb) k := by
  pointwise [val_main_v288, val_main_call0_v0, val_main_call0_v1, val_main_call0_v2, val_main_call0_v3, val_main_call0_v4,
    val_main_call0_v5, val_main_call0_cst, val_main_call0_cst_0, v287_at]
  rfl

theorem v303_at : val_main_v303 (F := Ideal) x w cb lg lb og (ix3 b s k) = out (mixed x w cb b s) (row lg) (row lb) (row og) k := by
  pointwise [val_main_v303, val_main_v302, val_main_v301, val_main_v300, val_main_v299, val_main_v298, val_main_v297, val_main_v296,
    val_main_v295, val_main_v294, val_main_v293, val_main_v292, val_main_v291, val_main_v290, val_main_v289, val_main_cst_8,
    val_main_cst_9, val_main_cst_10, v288_at]
  rfl

end Cert.ConvFwdRefIdeal.Value

end
-- ==== Proof.ConvFwd.lean ====
/-
  The forward pass of the convolution module: the kernel's results are the reference's, for any arguments.
-/
module

public import proofs.«01_k».proof.Defs
public import proofs.«01_k».proof.Proof.ConvFwdKernel
public import proofs.«01_k».proof.Proof.ConvFwdReference
public import Idealize.ShloMosaic.Lib.StableHlo.RunRead
public import Idealize.ShloMosaic.Lib.KernelVsHost

@[expose] public section

noncomputable section

namespace Cert.ConvFwdProof

open Idealize.ShloMosaic Idealize.ShloMosaic.TcCoe Idealize.SL.Sem

open Cert.ConvFwdIdeal Cert.ConvFwdIdeal.Gen Cert.ConvFwdIdeal.Value Cert.ConvForward Cert.ConvFwdRefIdeal.Read

variable (m : (ℓ : Loc nD τ sig) → Buf (Elt Ideal) ℓ) (c : Dev nD)

theorem flat_at (x : FVec Ideal S1x31x512 .f32) (n : Fin 31) (k : Fin 512) :
    shapeCast S31x512 x shapeCasts_S1x31x512_S31x512 (ix2 n k) = x (ix3 0 n k) := by
  pointwise

theorem w_at (n : Fin 31) (k : Fin 512) : V m c main_v1 (ix2 ⟨n.val, by omega⟩ k) = m ((c : Thread nD τ).loc main_arg1) (ix3 0 n k) := by
  change StableHlo.after (List.flatten [hostOps0, hostOps0_1]) (fun b => m (c, b)) (Proc.devRef .tc main_v1) _ = _
  simp only [hostOps0, hostOps0_1, List.flatten_cons, List.flatten_nil, List.append_nil, List.cons_append, List.nil_append]
  after_reads_simp
  refine (pad_apply_of_inside ![0, 0] ![1, 0] ![0, 0] (shapeCast S31x512 (m ((c : Thread nD τ).loc main_arg1)) shapeCasts_S1x31x512_S31x512)
    _ pads_S31x512_S32x512_010_000 h_S_ _ (ix2 n k) fun a => ?_).trans ?_
  · fin_cases a <;> (change _ = 0 + _ * (0 + 1); rw [Nat.zero_add, Nat.zero_add, Nat.mul_one]; rfl)
  · exact flat_at _ n k

theorem taps_eq (a : ℕ → EReal) (k : Fin 512) (s : ℕ) :
    taps a (tap (V m c main_v1) k) s = taps a (weight (m ((c : Thread nD τ).loc main_arg1)) k) s := by
  refine Finset.sum_congr rfl fun n hn => congrArg (padded a _ * ·) ?_
  have h := Finset.mem_range.mp hn
  refine (dif_pos (show n < 32 by omega)).trans (Eq.trans ?_ (dif_pos h).symm)
  exact w_at m c ⟨n, h⟩ k

theorem conv_at (b : Fin 2) (s : Fin 4096) (k : Fin 512) : conv (V m c main_arg0) (V m c main_v1) (V m c main_arg2) (ix3 b s k)
    = mixed (m ((c : Thread nD τ).loc main_arg0)) (m ((c : Thread nD τ).loc main_arg1)) (m ((c : Thread nD τ).loc main_arg2)) b s k := by
  rw [V_main_arg0, V_main_arg2]
  exact congrArg (· + _) (taps_eq m c _ k s)

theorem cv_eq : (dats m 0 c).arrAt 10 cfg0.N = val_main_v263 (F := Ideal) (m ((c : Thread nD τ).loc main_arg0))
    (m ((c : Thread nD τ).loc main_arg1)) (m ((c : Thread nD τ).loc main_arg2)) := by
  refine (final10 m c).trans ?_
  funext j
  obtain ⟨b, s, k, rfl⟩ : ∃ b s k, j = ix3 b s k := ⟨_, _, _, eq_ix3 j⟩
  exact (conv_at m c b s k).trans (Cert.ConvFwdRefIdeal.Value.v263_at _ _ _ b s k).symm

theorem out_eq : (dats m 0 c).arrAt 9 cfg0.N = val_main_v303 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (final9 m c).trans ?_
  funext j
  obtain ⟨b, s, k, rfl⟩ : ∃ b s k, j = ix3 b s k := ⟨_, _, _, eq_ix3 j⟩
  refine Eq.trans ?_ (Cert.ConvFwdRefIdeal.Value.v303_at _ _ _ _ _ _ b s k).symm
  rw [V_main_arg3, V_main_arg4, V_main_arg5]
  exact congrArg (fun r => out r _ _ _ k) (funext fun k => conv_at m c b s k)

theorem algebraic : Cert.algebraic_ConvFwdIdeal_ConvFwdRefIdeal := by
  intro m ρ m' ρ' _ hagree
  refine ⟨fun c => (dats m 0 c).arrAt 9 cfg0.N, fun c => (dats m 0 c).arrAt 10 cfg0.N, run_blocks m ρ, ?_⟩
  refine (θ_run Cert.ConvFwdRefIdeal.defs _ _).mono (fun r h c => ?_) (Cert.ConvFwdRefIdeal.Value.run (F := Ideal) m' ρ')
  obtain ⟨r0, r1, hkeep⟩ := h c
  obtain ⟨e0, e1, e2, e3, e4, e5⟩ := hagree c
  refine ⟨r0.trans ?_, r1.trans ?_, hkeep⟩
  · refine Eq.trans ?_ (out_eq m c).symm
    rw [← e0, ← e1, ← e2, ← e3, ← e4, ← e5]
    exact val_main_v303_eq (F := Ideal) _
  · refine Eq.trans ?_ (cv_eq m c).symm
    rw [← e0, ← e1, ← e2]
    exact val_main_v263_eq (F := Ideal) _

theorem quiescent_reference : Cert.quiescent_ConvFwdRefIdeal := fun m ρ _ =>
  (θ_run Cert.ConvFwdRefIdeal.defs _ _).mono (fun r h => ⟨fun c => (h c).2.2, sem_eq_zero_of_no_sems (by decide) r.2⟩)
    (Cert.ConvFwdRefIdeal.Value.run (F := Ideal) m ρ)

end Cert.ConvFwdProof

end
-- ==== Proof.WeightGradKernel.lean ====
/-
  `WeightGradIdeal`: what the kernel of the gradient of an FFN's up-projection leaves in its result.

  The kernel walks eight blocks of 1024 rows and adds each block's product to the result (window 2).
-/
module

public import proofs.«01_k».proof.Proof.Gen.WeightGradIdeal.Value
public import Idealize.ShloMosaic.Lib.Pipeline.ValueKit

@[expose] public section

noncomputable section

namespace Cert.WeightGradIdeal.Value

open Idealize.ShloMosaic Idealize.ShloMosaic.TcCoe Idealize.SL.Sem
open Idealize.ShloMosaic.Pipeline (Dat)
open Cert.WeightGradIdeal Cert.WeightGradIdeal.Gen

variable (m : (ℓ : Loc nD τ sig) → Buf (Elt Ideal) ℓ) (c : Dev nD)

/-- The block of each window at grid point `t`. -/
theorem index_eq : ∀ t : Fin grid0.N, win0_0.index t = ![t.val, 0] ∧ win0_1.index t = ![t.val, 0] ∧ win0_2.index t = ![0, 0] := by
  decide +kernel

/-- What a block of 1024 rows adds to entry `j`. -/
def block (x : FVec Ideal S1024x2816 .bf16) (y : FVec Ideal S1024x1024 .bf16) (j : S2816x1024.Idx) : EReal :=
  ∑ r : Fin 1024, x (ix2 r (j 0)) * y (ix2 r (j 1))

/-- The product over all the rows. -/
def product (x : FVec Ideal S8192x2816 .bf16) (y : FVec Ideal S8192x1024 .bf16) : FVec Ideal S2816x1024 .f32 :=
  fun j => ∑ n : Fin 8192, x (ix2 n (j 0)) * y (ix2 n (j 1))

/-- The last grid point. -/
def last : Fin cfg0.N := ⟨7, by decide⟩

theorem outA (t : Fin cfg0.N) (h : t.val % 8 = 0) (j : S2816x1024.Idx) :
    outsAt0 m c t.val t.isLt j = 0 + block (iblk m c 0 t) (iblk m c 1 t) j := by
  refine (congrFun ((outsAt0_A m c t h).trans (out_A_2_eq ..)) j).trans ?_
  pointwise [k0_pay1, k0_pay2, block]

theorem outB (t : Fin cfg0.N) (h : ¬ t.val % 8 = 0) (j : S2816x1024.Idx) :
    outsAt0 m c t.val t.isLt j = outsAt0 m c (t.val - 1) (by have := t.isLt; omega) j + block (iblk m c 0 t) (iblk m c 1 t) j := by
  refine (congrFun ((outsAt0_B m c t h).trans (out_B_2_eq ..)) j).trans ?_
  pointwise [k0_pay2, block]

theorem block_sum (j : S2816x1024.Idx) :
    ∑ t : Fin cfg0.N, block (iblk m c 0 t) (iblk m c 1 t) j = product (V m c main_arg0) (V m c main_arg1) j := by
  unfold product
  rw [Fin.sum_univ_tiles 8 1024 rfl]
  refine Finset.sum_congr rfl fun t _ => Finset.sum_congr rfl fun r _ => congrArg₂ (fun a b : EReal => a * b) ?_ ?_
  all_goals
    blk_point [iblk, index_eq t]

theorem outs : outsAt0 m c last.val last.isLt = product (V m c main_arg0) (V m c main_arg1) := by
  funext j
  refine (Pipeline.eq_sum_fin_of_reset_step_last (fun n h => outsAt0 m c n h j) 8 0 (fun t => block (iblk m c 0 t) (iblk m c 1 t) j)
    (fun t h => outA m c t h j) (fun t h => outB m c t h j) (by decide) last rfl).trans ?_
  rw [zero_add, block_sum]

theorem result : (dats m 0 c).arrAt 2 cfg0.N = product (V m c main_arg0) (V m c main_arg1) := by
  refine (dats m 0 c).arrAt_eq_of_after_last 2 last (by decide +kernel) _ fun j => ?_
  rw [after0_2, outs]
  blk_simp
  rfl

end Cert.WeightGradIdeal.Value

end
-- ==== Proof.WeightGradReference.lean ====
/-
  `WeightGradRefIdeal`: the reference's result.
-/
module

public import proofs.«01_k».proof.Proof.Gen.WeightGradRefIdeal.Run
public import proofs.«01_k».proof.Proof.Gen.WeightGradRefIdeal.Read
public import Idealize.ShloMosaic.Lib.Pipeline.ValueKit

@[expose] public section

noncomputable section

namespace Cert.WeightGradRefIdeal.Value

open Idealize.ShloMosaic Idealize.ShloMosaic.TcCoe Idealize.SL.Sem
open Cert.WeightGradRefIdeal Cert.WeightGradRefIdeal.Gen Cert.WeightGradRefIdeal.Read

theorem v7_at (x : FVec Ideal S8192x2816 .bf16) (y : FVec Ideal S8192x1024 .bf16) (i : Fin 2816) (k : Fin 1024) :
    val_main_v7 (F := Ideal) x y (ix2 i k) = ∑ n : Fin 8192, x (ix2 n i) * y (ix2 n k) := by
  pointwise [val_main_v7, val_main_v6, val_main_v5, val_main_v4, val_main_v1]

end Cert.WeightGradRefIdeal.Value

end
-- ==== Proof.WeightGrad.lean ====
/-
  The gradient of an FFN's up-projection: the kernel's result is the reference's, for any arguments.
-/
module

public import proofs.«01_k».proof.Defs
public import proofs.«01_k».proof.Proof.WeightGradKernel
public import proofs.«01_k».proof.Proof.WeightGradReference

@[expose] public section

noncomputable section

namespace Cert.WeightGradProof

open Idealize.ShloMosaic Idealize.ShloMosaic.TcCoe Idealize.SL.Sem

open Cert.WeightGradIdeal Cert.WeightGradIdeal.Gen Cert.WeightGradIdeal.Value Cert.WeightGradRefIdeal.Read

variable (m : (ℓ : Loc nD τ sig) → Buf (Elt Ideal) ℓ) (c : Dev nD)

theorem product_eq : (dats m 0 c).arrAt 2 cfg0.N
    = val_main_v7 (F := Ideal) (m ((c : Thread nD τ).loc main_arg0)) (m ((c : Thread nD τ).loc main_arg1)) := by
  refine (result m c).trans ?_
  funext j
  obtain ⟨i, k, rfl⟩ : ∃ i k, j = ix2 i k := ⟨_, _, eq_ix2 j⟩
  exact (Cert.WeightGradRefIdeal.Value.v7_at _ _ i k).symm

theorem algebraic : Cert.algebraic_WeightGradIdeal_WeightGradRefIdeal := by
  intro m ρ m' ρ' _ hagree
  refine ⟨fun c => (dats m 0 c).arrAt 2 cfg0.N, run_blocks m ρ, ?_⟩
  refine (θ_run Cert.WeightGradRefIdeal.defs _ _).mono (fun r h c => ?_) (Cert.WeightGradRefIdeal.Value.run (F := Ideal) m' ρ')
  obtain ⟨r0, hkeep⟩ := h c
  obtain ⟨e0, e1⟩ := hagree c
  refine ⟨r0.trans ?_, hkeep⟩
  refine (val_main_v7_eq (F := Ideal) _ _).trans ?_
  rw [e0, e1]
  exact (product_eq m c).symm

theorem quiescent_reference : Cert.quiescent_WeightGradRefIdeal := fun m ρ _ =>
  (θ_run Cert.WeightGradRefIdeal.defs _ _).mono (fun r h => ⟨fun c => (h c).2, sem_eq_zero_of_no_sems (by decide) r.2⟩)
    (Cert.WeightGradRefIdeal.Value.run (F := Ideal) m ρ)

end Cert.WeightGradProof

end
-- ==== Proof.MixOutKernel.lean ====
/-
  `MixOutIdeal`: what the kernel of the gradient of the mixer's output rows leaves in its result.

  The kernel walks eight blocks of 1024 rows. Each point writes its rows' products with the rows of the weights (window 2).
-/
module

public import proofs.«01_k».proof.Proof.Gen.MixOutIdeal.Value
public import Idealize.ShloMosaic.Lib.Pipeline.ValueKit

@[expose] public section

noncomputable section

namespace Cert.MixOutIdeal.Value

open Idealize.ShloMosaic Idealize.ShloMosaic.TcCoe Idealize.SL.Sem
open Idealize.ShloMosaic.Pipeline (Dat)
open Cert.MixOutIdeal Cert.MixOutIdeal.Gen

variable (m : (ℓ : Loc nD τ sig) → Buf (Elt Ideal) ℓ) (c : Dev nD)

/-- The block of each window at grid point `t`: row block `t`, or the one block there is. -/
theorem index_eq : ∀ t : Fin grid0.N, win0_0.index t = ![t.val, 0] ∧ win0_1.index t = ![0, 0] ∧ win0_2.index t = ![t.val, 0] := by
  decide +kernel

/-- The product of rows with the weights' rows. -/
def product (x : FVec Ideal S8192x1024 .f32) (w : FVec Ideal S1024x1024 .bf16) : FVec Ideal S8192x1024 .f32 :=
  fun j => ∑ l, x (ix2 (j 0) l) * w (ix2 (j 1) l)

theorem result : (dats m 0 c).arrAt 2 cfg0.N = product (V m c main_v0) (V m c main_v2) := by
  refine (dats m 0 c).arrAt_eq_of_covers 2 _ (by decide +kernel) fun t hf y => ?_
  blk_simp
  rw [after0_2]
  frame_out
  pointwise [k0_pay1, product]
  blk_point [iblk, index_eq t]

end Cert.MixOutIdeal.Value

end
-- ==== Proof.MixOutReference.lean ====
/-
  `MixOutRefIdeal`: the reference's result.
-/
module

public import proofs.«01_k».proof.Proof.Gen.MixOutRefIdeal.Run
public import proofs.«01_k».proof.Proof.Gen.MixOutRefIdeal.Read
public import proofs.«01_k».proof.Proof.Rows

@[expose] public section

noncomputable section

namespace Cert.MixOutRefIdeal.Value

open Idealize.ShloMosaic Idealize.ShloMosaic.TcCoe Idealize.SL.Sem
open Cert.MixOutRefIdeal Cert.MixOutRefIdeal.Gen Cert.MixOutRefIdeal.Read Cert.Rows

theorem v4_at (x : FVec Ideal S2x4096x1024 .f32) (w : FVec Ideal S1x1024x1024 .f32) (n : Fin 8192) (k : Fin 1024) :
    val_main_v4 (F := Ideal) x w (ix2 n k) = ∑ l, x (ix3 (batch n) (pos n) l) * w (ix3 0 k l) := by
  pointwise [val_main_v4, val_main_v3, val_main_v1, batch, pos]

end Cert.MixOutRefIdeal.Value

end
-- ==== Proof.MixOut.lean ====
/-
  The gradient of the mixer's output rows: the kernel's result is the reference's, for any arguments.
-/
module

public import proofs.«01_k».proof.Defs
public import proofs.«01_k».proof.Proof.MixOutKernel
public import proofs.«01_k».proof.Proof.MixOutReference

@[expose] public section

noncomputable section

namespace Cert.MixOutProof

open Idealize.ShloMosaic Idealize.ShloMosaic.TcCoe Idealize.SL.Sem

open Cert.MixOutIdeal Cert.MixOutIdeal.Gen Cert.MixOutIdeal.Value Cert.Rows Cert.MixOutRefIdeal.Read

variable (m : (ℓ : Loc nD τ sig) → Buf (Elt Ideal) ℓ) (c : Dev nD) (n : Fin 8192) (k l : Fin 1024)

theorem x_at : V m c main_v0 (ix2 n l) = m ((c : Thread nD τ).loc main_arg0) (ix3 (batch n) (pos n) l) := by
  entry_read
  pointwise [batch, pos]

theorem w_at : V m c main_v2 (ix2 k l) = m ((c : Thread nD τ).loc main_arg1) (ix3 0 k l) := by
  entry_read
  pointwise

theorem product_eq : (dats m 0 c).arrAt 2 cfg0.N
    = val_main_v4 (F := Ideal) (m ((c : Thread nD τ).loc main_arg0)) (m ((c : Thread nD τ).loc main_arg1)) := by
  refine (result m c).trans ?_
  funext j
  obtain ⟨n, k, rfl⟩ : ∃ n k, j = ix2 n k := ⟨_, _, eq_ix2 j⟩
  refine Eq.trans ?_ (Cert.MixOutRefIdeal.Value.v4_at _ _ n k).symm
  exact Finset.sum_congr rfl fun l _ => congrArg₂ (fun a b : EReal => a * b) (x_at m c n l) (w_at m c k l)

theorem algebraic : Cert.algebraic_MixOutIdeal_MixOutRefIdeal := by
  intro m ρ m' ρ' _ hagree
  refine ⟨fun c => (dats m 0 c).arrAt 2 cfg0.N, run_blocks m ρ, ?_⟩
  refine (θ_run Cert.MixOutRefIdeal.defs _ _).mono (fun r h c => ?_) (Cert.MixOutRefIdeal.Value.run (F := Ideal) m' ρ')
  obtain ⟨r0, hkeep⟩ := h c
  obtain ⟨e0, e1⟩ := hagree c
  refine ⟨r0.trans ?_, hkeep⟩
  refine (val_main_v4_eq (F := Ideal) _ _).trans ?_
  rw [e0, e1]
  exact (product_eq m c).symm

theorem quiescent_reference : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

end Cert.MixOutProof

end
-- ==== Proof.AdamwStep.lean ====
/-
  The optimiser's step on one weight: the two new moments and the weight's change, over the extended reals.
-/
module

public import Idealize.ShloMosaic.Lib.Pointwise

@[expose] public section

noncomputable section

namespace Cert.AdamwStep

open Idealize.ShloMosaic

/-- The new first moment: nine tenths of the old one and a tenth of the gradient. -/
def moment1 (g m : EReal) : EReal := Ideal.ofBits .f32 0x3F666666#32 * m + Ideal.ofBits .f32 0x3DCCCCCD#32 * g

/-- The new second moment, of the gradient's square. -/
def moment2 (g v : EReal) : EReal := Ideal.ofBits .f32 0x3F7FBE77#32 * v + Ideal.ofBits .f32 0x3A83126F#32 * (g * g)

/-- The weight's change, from the moments with their bias taken out and from the weight's decay. -/
def change (g w m v : EReal) : EReal :=
  Ideal.ofBits .f32 0xBA83126F#32 * (Ideal.div (Ideal.div (moment1 g m) (Ideal.ofBits .f32 0x3F26BD02#32))
    (Ideal.sqrt (Ideal.div (moment2 g v) (Ideal.ofBits .f32 0x3C231ACC#32)) + Ideal.ofBits .f32 0x322BCC77#32)
    + Ideal.ofBits .f32 0x3C23D70A#32 * w)

end Cert.AdamwStep

end
-- ==== Proof.AdamwKernel.lean ====
/-
  `AdamwIdeal`: what the optimiser's kernel leaves in its four results.

  The kernel walks two blocks of 176 rows. Each point adds up the four parts of the gradient (window 4) and writes the
  weights' change (window 5) and the two new moments (windows 6 and 7).
-/
module

public import proofs.«01_k».proof.Proof.Gen.AdamwIdeal.Value
public import proofs.«01_k».proof.Proof.AdamwStep
public import Idealize.ShloMosaic.Lib.Pipeline.ValueKit

@[expose] public section

noncomputable section

namespace Cert.AdamwIdeal.Value

open Idealize.ShloMosaic Idealize.ShloMosaic.TcCoe Idealize.SL.Sem
open Idealize.ShloMosaic.Pipeline (Dat)
open Cert.AdamwIdeal Cert.AdamwIdeal.Gen
open Cert.AdamwStep

variable (m : (ℓ : Loc nD τ sig) → Buf (Elt Ideal) ℓ) (c : Dev nD)

/-- The block of each window at grid point `t`. -/
theorem index_eq : ∀ t : Fin grid0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] ∧ win0_7.index t = ![0, t.val, 0] := by
  decide +kernel

/-- The sum of the four parts of the gradient. -/
def grad (p : FVec Ideal S4x352x1024 .bf16) : FVec Ideal S1x352x1024 .f32 :=
  fun j => p (ix3 0 (j 1) (j 2)) + p (ix3 1 (j 1) (j 2)) + p (ix3 2 (j 1) (j 2)) + p (ix3 3 (j 1) (j 2))

theorem final4 : (dats m 0 c).arrAt 4 cfg0.N = grad (V m c main_arg0) := by
  refine (dats m 0 c).arrAt_eq_of_covers 4 _ (by decide +kernel) fun t hf y => ?_
  blk_simp
  rw [after0_4]
  frame_out
  pointwise [k0_pay1, k0_pay5, grad]
  blk_point [iblk, index_eq t]

theorem final5 : (dats m 0 c).arrAt 5 cfg0.N
    = fun j => change (grad (V m c main_arg0) j) (V m c main_arg1 j) (V m c main_arg2 j) (V m c main_arg3 j) := by
  refine (dats m 0 c).arrAt_eq_of_covers 5 _ (by decide +kernel) fun t hf y => ?_
  blk_simp
  rw [after0_5]
  frame_out
  pointwise [k0_pay4, k0_pay6, k0_pay10, k0_pay11, k0_pay7, k0_pay8, k0_pay9, k0_pay5, grad, change, moment1, moment2]
  blk_point [iblk, index_eq t]

theorem final6 : (dats m 0 c).arrAt 6 cfg0.N = fun j => moment1 (grad (V m c main_arg0) j) (V m c main_arg2 j) := by
  refine (dats m 0 c).arrAt_eq_of_covers 6 _ (by decide +kernel) fun t hf y => ?_
  blk_simp
  rw [after0_6]
  frame_out
  pointwise [k0_pay2, k0_pay10, k0_pay7, k0_pay5, grad, moment1]
  blk_point [iblk, index_eq t]

theorem final7 : (dats m 0 c).arrAt 7 cfg0.N = fun j => moment2 (grad (V m c main_arg0) j) (V m c main_arg3 j) := by
  refine (dats m 0 c).arrAt_eq_of_covers 7 _ (by decide +kernel) fun t hf y => ?_
  blk_simp
  rw [after0_7]
  frame_out
  pointwise [k0_pay3, k0_pay11, k0_pay8, k0_pay5, grad, moment2]
  blk_point [iblk, index_eq t]

end Cert.AdamwIdeal.Value

end
-- ==== Proof.AdamwReference.lean ====
/-
  `AdamwRefIdeal`: the reference's four results.
-/
module

public import proofs.«01_k».proof.Proof.Gen.AdamwRefIdeal.Run
public import proofs.«01_k».proof.Proof.Gen.AdamwRefIdeal.Read
public import proofs.«01_k».proof.Proof.AdamwStep
public import Idealize.ShloMosaic.Lib.Pipeline.ValueKit

@[expose] public section

noncomputable section

namespace Cert.AdamwRefIdeal.Value

open Idealize.ShloMosaic Idealize.ShloMosaic.TcCoe Idealize.SL.Sem
open Cert.AdamwRefIdeal Cert.AdamwRefIdeal.Gen Cert.AdamwRefIdeal.Read

variable (p : FVec Ideal S4x352x1024 .bf16) (w m v : FVec Ideal S1x352x1024 .f32) (i : Fin 352) (k : Fin 1024)

theorem v2_at : val_main_v2 (F := Ideal) p (ix3 0 i k) = ∑ n, p (ix3 n i k) := by
  pointwise [val_main_v2, val_main_v1, val_main_v0, val_main_cst]

theorem v7_at : val_main_v7 (F := Ideal) p m (ix3 0 i k) = AdamwStep.moment1 (∑ n, p (ix3 n i k)) (m (ix3 0 i k)) := by
  rw [← v2_at]
  pointwise [val_main_v7, val_main_v6, val_main_v5, val_main_cst_1, val_main_v4, val_main_v3, val_main_cst_0, AdamwStep.moment1]

theorem v13_at : val_main_v13 (F := Ideal) p v (ix3 0 i k) = AdamwStep.moment2 (∑ n, p (ix3 n i k)) (v (ix3 0 i k)) := by
  rw [← v2_at]
  pointwise [val_main_v13, val_main_v12, val_main_v11, val_main_cst_3, val_main_v10, val_main_v9, val_main_v8, val_main_cst_2,
    AdamwStep.moment2]

theorem v26_at : val_main_v26 (F := Ideal) p w m v (ix3 0 i k)
    = AdamwStep.change (∑ n, p (ix3 n i k)) (w (ix3 0 i k)) (m (ix3 0 i k)) (v (ix3 0 i k)) := by
  unfold AdamwStep.change
  rw [← v7_at, ← v13_at]
  pointwise [val_main_v26, val_main_v25, val_main_cst_8, val_main_v24, val_main_v23, val_main_v22, val_main_cst_7, val_main_v21,
    val_main_v20, val_main_v19, val_main_cst_6, val_main_v18, val_main_v17, val_main_v16, val_main_cst_5, val_main_v15, val_main_v14,
    val_main_cst_4]

end Cert.AdamwRefIdeal.Value

end
-- ==== Proof.Adamw.lean ====
/-
  The optimiser's step on a sharded weight: the kernel's four results are the reference's, for any arguments.
-/
module

public import proofs.«01_k».proof.Defs
public import proofs.«01_k».proof.Proof.AdamwKernel
public import proofs.«01_k».proof.Proof.AdamwReference

@[expose] public section

noncomputable section

namespace Cert.AdamwProof

open Idealize.ShloMosaic Idealize.ShloMosaic.TcCoe Idealize.SL.Sem

open Cert.AdamwIdeal Cert.AdamwIdeal.Gen Cert.AdamwIdeal.Value Cert.AdamwRefIdeal.Read

variable (m : (ℓ : Loc nD τ sig) → Buf (Elt Ideal) ℓ) (c : Dev nD)

/-- The weight has one leading entry. -/
theorem ix_eq (j : S1x352x1024.Idx) : ∃ i k, j = ix3 0 i k :=
  ⟨j 1, j 2, (eq_ix3 j).trans (congrArg (fun a => ix3 a (j 1) (j 2)) (Subsingleton.elim (α := Fin 1) _ _))⟩

theorem grad_at (p : FVec Ideal S4x352x1024 .bf16) (i : Fin 352) (k : Fin 1024) : grad p (ix3 0 i k) = ∑ n, p (ix3 n i k) :=
  (Fin.sum_univ_four fun n => p (ix3 n i k)).symm

theorem grad_eq : (dats m 0 c).arrAt 4 cfg0.N = val_main_v2 (F := Ideal) (m ((c : Thread nD τ).loc main_arg0)) := by
  refine (final4 m c).trans ?_
  funext j
  obtain ⟨i, k, rfl⟩ := ix_eq j
  exact (grad_at _ i k).trans (Cert.AdamwRefIdeal.Value.v2_at _ i k).symm

theorem change_eq : (dats m 0 c).arrAt 5 cfg0.N = val_main_v26 (F := Ideal) (m ((c : Thread nD τ).loc main_arg0))
    (m ((c : Thread nD τ).loc main_arg1)) (m ((c : Thread nD τ).loc main_arg2)) (m ((c : Thread nD τ).loc main_arg3)) := by
  refine (final5 m c).trans ?_
  funext j
  obtain ⟨i, k, rfl⟩ := ix_eq j
  exact (congrArg (fun g => AdamwStep.change g _ _ _) (grad_at _ i k)).trans (Cert.AdamwRefIdeal.Value.v26_at _ _ _ _ i k).symm

theorem moment1_eq : (dats m 0 c).arrAt 6 cfg0.N
    = val_main_v7 (F := Ideal) (m ((c : Thread nD τ).loc main_arg0)) (m ((c : Thread nD τ).loc main_arg2)) := by
  refine (final6 m c).trans ?_
  funext j
  obtain ⟨i, k, rfl⟩ := ix_eq j
  exact (congrArg (fun g => AdamwStep.moment1 g _) (grad_at _ i k)).trans (Cert.AdamwRefIdeal.Value.v7_at _ _ i k).symm

theorem moment2_eq : (dats m 0 c).arrAt 7 cfg0.N
    = val_main_v13 (F := Ideal) (m ((c : Thread nD τ).loc main_arg0)) (m ((c : Thread nD τ).loc main_arg3)) := by
  refine (final7 m c).trans ?_
  funext j
  obtain ⟨i, k, rfl⟩ := ix_eq j
  exact (congrArg (fun g => AdamwStep.moment2 g _) (grad_at _ i k)).trans (Cert.AdamwRefIdeal.Value.v13_at _ _ i k).symm

theorem algebraic : Cert.algebraic_AdamwIdeal_AdamwRefIdeal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run Cert.AdamwRefIdeal.defs _ _).mono (fun r h c => ?_) (Cert.AdamwRefIdeal.Value.run (F := Ideal) m' ρ')
  obtain ⟨r0, r1, r2, r3, hkeep⟩ := h c
  obtain ⟨e0, e1, e2, e3⟩ := hagree c
  refine ⟨r0.trans ?_, r1.trans ?_, r2.trans ?_, r3.trans ?_, hkeep⟩
  · refine (val_main_v2_eq (F := Ideal) _).trans ?_
    rw [e0]
    exact (grad_eq m c).symm
  · refine (val_main_v26_eq (F := Ideal) _ _ _ _).trans ?_
    rw [e0, e1, e2, e3]
    exact (change_eq m c).symm
  · refine (val_main_v7_eq (F := Ideal) _ _).trans ?_
    rw [e0, e2]
    exact (moment1_eq m c).symm
  · refine (val_main_v13_eq (F := Ideal) _ _).trans ?_
    rw [e0, e3]
    exact (moment2_eq m c).symm

theorem quiescent_reference : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

end Cert.AdamwProof

end
-- ==== Proof.lean ====
/-
  The certificate's claim, assembled from the modules of each call of the backward pass.
-/
module

public import proofs.«01_k».proof.Defs
public import proofs.«01_k».proof.Proof.Gen.FfnDx.Frame
public import proofs.«01_k».proof.Proof.FfnDx
public import proofs.«01_k».proof.Proof.Gen.MixDx.Frame
public import proofs.«01_k».proof.Proof.MixDx
public import proofs.«01_k».proof.Proof.Gen.SsmOut.Frame
public import proofs.«01_k».proof.Proof.SsmOut
public import proofs.«01_k».proof.Proof.Gen.Hidden.Frame
public import proofs.«01_k».proof.Proof.Hidden
public import proofs.«01_k».proof.Proof.Gen.LossHead.Frame
public import proofs.«01_k».proof.Proof.LossHead
public import proofs.«01_k».proof.Proof.Gen.Conv.Frame
public import proofs.«01_k».proof.Proof.Gen.ConvIdeal.Frame
public import proofs.«01_k».proof.Proof.Gen.ConvRefIdeal.Run
public import proofs.«01_k».proof.Proof.Gen.Param.Frame
public import proofs.«01_k».proof.Proof.Param
public import proofs.«01_k».proof.Proof.Gen.Dbb.Frame
public import proofs.«01_k».proof.Proof.Dbb
public import proofs.«01_k».proof.Proof.Gen.Dc.Frame
public import proofs.«01_k».proof.Proof.Dc
public import proofs.«01_k».proof.Proof.Gen.MixFwd.Frame
public import proofs.«01_k».proof.Proof.MixFwd
public import proofs.«01_k».proof.Proof.Gen.Prep.Frame
public import proofs.«01_k».proof.Proof.Prep
public import proofs.«01_k».proof.Proof.Gen.ConvFwd.Frame
public import proofs.«01_k».proof.Proof.ConvFwd
public import proofs.«01_k».proof.Proof.Gen.WeightGrad.Frame
public import proofs.«01_k».proof.Proof.WeightGrad
public import proofs.«01_k».proof.Proof.Gen.MixOut.Frame
public import proofs.«01_k».proof.Proof.MixOut
public import proofs.«01_k».proof.Proof.Gen.Adamw.Frame
public import proofs.«01_k».proof.Proof.Adamw

@[expose] public section

noncomputable section

namespace Cert.Proof

open Idealize.ShloMosaic Idealize.SL.Sem

theorem claim : Cert.Claim :=
  ⟨Cert.FfnDx.Gen.facts, Cert.FfnDxIdeal.Gen.facts, Cert.FfnDxRefIdeal.Gen.facts,
    Cert.MixDx.Gen.facts, Cert.MixDxIdeal.Gen.facts, Cert.MixDxRefIdeal.Gen.facts,
    Cert.SsmOut.Gen.facts, Cert.SsmOutIdeal.Gen.facts, Cert.SsmOutRefIdeal.Gen.facts,
    Cert.Hidden.Gen.facts, Cert.HiddenIdeal.Gen.facts, Cert.HiddenRefIdeal.Gen.facts,
    Cert.LossHead.Gen.facts, Cert.LossHeadIdeal.Gen.facts, Cert.LossHeadRefIdeal.Gen.facts,
    Cert.Conv.Gen.facts, Cert.ConvIdeal.Gen.facts, Cert.ConvRefIdeal.Gen.facts,
    Cert.Param.Gen.facts, Cert.ParamIdeal.Gen.facts, Cert.ParamRefIdeal.Gen.facts,
    Cert.Dbb.Gen.facts, Cert.DbbIdeal.Gen.facts, Cert.DbbRefIdeal.Gen.facts,
    Cert.Dc.Gen.facts, Cert.DcIdeal.Gen.facts, Cert.DcRefIdeal.Gen.facts,
    Cert.MixFwd.Gen.facts, Cert.MixFwdIdeal.Gen.facts, Cert.MixFwdRefIdeal.Gen.facts,
    Cert.Prep.Gen.facts, Cert.PrepIdeal.Gen.facts, Cert.PrepRefIdeal.Gen.facts,
    Cert.ConvFwd.Gen.facts, Cert.ConvFwdIdeal.Gen.facts, Cert.ConvFwdRefIdeal.Gen.facts,
    Cert.WeightGrad.Gen.facts, Cert.WeightGradIdeal.Gen.facts, Cert.WeightGradRefIdeal.Gen.facts,
    Cert.MixOut.Gen.facts, Cert.MixOutIdeal.Gen.facts, Cert.MixOutRefIdeal.Gen.facts,
    Cert.Adamw.Gen.facts, Cert.AdamwIdeal.Gen.facts, Cert.AdamwRefIdeal.Gen.facts,
    Cert.FfnDxProof.preFacts, Cert.MixDxProof.preFacts, Cert.SsmOutProof.preFacts, Cert.HiddenProof.preFacts, Cert.LossHeadProof.preFacts, Cert.ParamProof.preFacts, Cert.DcProof.preFacts, Cert.PrepProof.preFacts,
    fun m ρ _ => Cert.FfnDx.Gen.frame m ρ,
    fun m ρ _ => Cert.FfnDxIdeal.Gen.frame m ρ,
    fun m ρ _ => Cert.FfnDxIdeal.Gen.frame m ρ,
    Cert.FfnDxProof.quiescent_reference,
    fun m ρ _ => Cert.FfnDxProof.quiescent_reference m ρ trivial,
    fun m ρ _ => Cert.MixDx.Gen.frame m ρ,
    fun m ρ _ => Cert.MixDxIdeal.Gen.frame m ρ,
    fun m ρ _ => Cert.MixDxIdeal.Gen.frame m ρ,
    Cert.MixDxProof.quiescent_reference,
    fun m ρ _ => Cert.MixDxProof.quiescent_reference m ρ trivial,
    fun m ρ _ => Cert.SsmOut.Gen.frame m ρ,
    fun m ρ _ => Cert.SsmOutIdeal.Gen.frame m ρ,
    fun m ρ _ => Cert.SsmOutIdeal.Gen.frame m ρ,
    Cert.SsmOutProof.quiescent_reference,
    fun m ρ _ => Cert.SsmOutProof.quiescent_reference m ρ trivial,
    fun m ρ _ => Cert.Hidden.Gen.frame m ρ,
    fun m ρ _ => Cert.HiddenIdeal.Gen.frame m ρ,
    fun m ρ _ => Cert.HiddenIdeal.Gen.frame m ρ,
    Cert.HiddenProof.quiescent_reference,
    fun m ρ _ => Cert.HiddenProof.quiescent_reference m ρ trivial,
    fun m ρ _ => Cert.LossHead.Gen.frame m ρ,
    fun m ρ _ => Cert.LossHeadIdeal.Gen.frame m ρ,
    fun m ρ _ => Cert.LossHeadIdeal.Gen.frame m ρ,
    Cert.LossHeadProof.quiescent_reference,
    fun m ρ _ => Cert.LossHeadProof.quiescent_reference m ρ trivial,
    fun m ρ _ => Cert.Conv.Gen.frame m ρ,
    fun m ρ _ => Cert.ConvIdeal.Gen.frame m ρ,
    fun m ρ _ => (θ_run Cert.ConvRefIdeal.defs _ _).mono (fun r h => ⟨fun c => (h c).2.2.2.2.2.2, sem_eq_zero_of_no_sems (by decide) r.2⟩)
      (Cert.ConvRefIdeal.Value.run (F := Ideal) m ρ),
    fun m ρ _ => Cert.Param.Gen.frame m ρ,
    fun m ρ _ => Cert.ParamIdeal.Gen.frame m ρ,
    fun m ρ _ => Cert.ParamIdeal.Gen.frame m ρ,
    Cert.ParamProof.quiescent_reference,
    fun m ρ _ => Cert.ParamProof.quiescent_reference m ρ trivial,
    fun m ρ _ => Cert.Dbb.Gen.frame m ρ,
    fun m ρ _ => Cert.DbbIdeal.Gen.frame m ρ,
    Cert.DbbProof.quiescent_reference,
    fun m ρ _ => Cert.Dc.Gen.frame m ρ,
    fun m ρ _ => Cert.DcIdeal.Gen.frame m ρ,
    fun m ρ _ => Cert.DcIdeal.Gen.frame m ρ,
    Cert.DcProof.quiescent_reference,
    fun m ρ _ => Cert.DcProof.quiescent_reference m ρ trivial,
    fun m ρ _ => Cert.MixFwd.Gen.frame m ρ,
    fun m ρ _ => Cert.MixFwdIdeal.Gen.frame m ρ,
    Cert.MixFwdProof.quiescent_reference,
    fun m ρ _ => Cert.Prep.Gen.frame m ρ,
    fun m ρ _ => Cert.PrepIdeal.Gen.frame m ρ,
    fun m ρ _ => Cert.PrepIdeal.Gen.frame m ρ,
    Cert.PrepProof.quiescent_reference,
    fun m ρ _ => Cert.PrepProof.quiescent_reference m ρ trivial,
    fun m ρ _ => Cert.ConvFwd.Gen.frame m ρ,
    fun m ρ _ => Cert.ConvFwdIdeal.Gen.frame m ρ,
    Cert.ConvFwdProof.quiescent_reference,
    fun m ρ _ => Cert.WeightGrad.Gen.frame m ρ,
    fun m ρ _ => Cert.WeightGradIdeal.Gen.frame m ρ,
    Cert.WeightGradProof.quiescent_reference,
    fun m ρ _ => Cert.MixOut.Gen.frame m ρ,
    fun m ρ _ => Cert.MixOutIdeal.Gen.frame m ρ,
    Cert.MixOutProof.quiescent_reference,
    fun m ρ _ => Cert.Adamw.Gen.frame m ρ,
    fun m ρ _ => Cert.AdamwIdeal.Gen.frame m ρ,
    Cert.AdamwProof.quiescent_reference,
    trivial,
    Cert.FfnDxProof.algebraic,
    trivial,
    Cert.MixDxProof.algebraic,
    ⟨IdealRules.named_const.statement Cert.SsmOutIdeal.κ "gelu_c" .f32 0x3D372713#32 _ rfl,
      IdealRules.named_const.statement Cert.SsmOutIdeal.κ "gelu_3c" .f32 0x3E095D4F#32 _ rfl⟩,
    Cert.SsmOutProof.algebraic,
    trivial,
    Cert.HiddenProof.algebraic,
    trivial,
    Cert.LossHeadProof.algebraic,
    trivial,
    trivial,
    Cert.ParamProof.algebraic,
    trivial,
    Cert.DbbProof.algebraic,
    trivial,
    Cert.DcProof.algebraic,
    trivial,
    Cert.MixFwdProof.algebraic,
    trivial,
    Cert.PrepProof.algebraic,
    trivial,
    Cert.ConvFwdProof.algebraic,
    trivial,
    Cert.WeightGradProof.algebraic,
    trivial,
    Cert.MixOutProof.algebraic,
    trivial,
    Cert.AdamwProof.algebraic⟩

end Cert.Proof

end
